-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42_1)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v49)) (v3 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_1) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_v54) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "cubic" .f32 0x3D372713#32 ((8943 / 200000 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v13)) (v1 : (c : Dev Cert.Kernel6Ideal.nD) → Buf (Elt Ideal) ((c.tc : Thread Cert.Kernel6Ideal.nD Cert.Kernel6Ideal.τ).loc Cert.Kernel6Ideal.main_v16)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_v16) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v46) = v2 c
          ∧ r.2.mem ((c.tc : Thread Cert.Reference6Ideal.nD Cert.Reference6Ideal.τ).loc Cert.Reference6Ideal.main_v48) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v63) = v0 c
          ∧ r.2.mem ((c.tc : Thread Cert.Reference9Ideal.nD Cert.Reference9Ideal.τ).loc Cert.Reference9Ideal.main_v64) = v1 c
          ∧ r.2.mem ((c.tc : Thread Cert.Reference9Ideal.nD Cert.Reference9Ideal.τ).loc Cert.Reference9Ideal.main_v65) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "cubic" .f32 0x3D372713#32 ((8943 / 200000 : ℝ) : EReal)
  ∧ IdealRules.named_const.Statement Cert.Kernel10Ideal.κ "cubic3" .f32 0x3E095D4F#32 ((26829 / 200000 : ℝ) : EReal)

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)) (v4 : (c : Dev Cert.Kernel10Ideal.nD) → Buf (Elt Ideal) ((c.tc : Thread Cert.Kernel10Ideal.nD Cert.Kernel10Ideal.τ).loc Cert.Kernel10Ideal.main_v3_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_v3_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v58) = v0 c
          ∧ r.2.mem ((c.tc : Thread Cert.Reference10Ideal.nD Cert.Reference10Ideal.τ).loc Cert.Reference10Ideal.main_v63) = v1 c
          ∧ r.2.mem ((c.tc : Thread Cert.Reference10Ideal.nD Cert.Reference10Ideal.τ).loc Cert.Reference10Ideal.main_v68) = v2 c
          ∧ r.2.mem ((c.tc : Thread Cert.Reference10Ideal.nD Cert.Reference10Ideal.τ).loc Cert.Reference10Ideal.main_v44) = v3 c
          ∧ r.2.mem ((c.tc : Thread Cert.Reference10Ideal.nD Cert.Reference10Ideal.τ).loc Cert.Reference10Ideal.main_v69) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)) (v4 : (c : Dev Cert.Kernel11Ideal.nD) → Buf (Elt Ideal) ((c.tc : Thread Cert.Kernel11Ideal.nD Cert.Kernel11Ideal.τ).loc Cert.Kernel11Ideal.main_v3_4)) (v5 : (c : Dev Cert.Kernel11Ideal.nD) → Buf (Elt Ideal) ((c.tc : Thread Cert.Kernel11Ideal.nD Cert.Kernel11Ideal.τ).loc Cert.Kernel11Ideal.main_v3_5)) (v6 : (c : Dev Cert.Kernel11Ideal.nD) → Buf (Elt Ideal) ((c.tc : Thread Cert.Kernel11Ideal.nD Cert.Kernel11Ideal.τ).loc Cert.Kernel11Ideal.main_v3_6)) (v7 : (c : Dev Cert.Kernel11Ideal.nD) → Buf (Elt Ideal) ((c.tc : Thread Cert.Kernel11Ideal.nD Cert.Kernel11Ideal.τ).loc Cert.Kernel11Ideal.main_v3_7)) (v8 : (c : Dev Cert.Kernel11Ideal.nD) → Buf (Elt Ideal) ((c.tc : Thread Cert.Kernel11Ideal.nD Cert.Kernel11Ideal.τ).loc Cert.Kernel11Ideal.main_v3_8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_v3_4) = v4 c
          ∧ r.2.mem ((c.tc : Thread Cert.Kernel11Ideal.nD Cert.Kernel11Ideal.τ).loc Cert.Kernel11Ideal.main_v3_5) = v5 c
          ∧ r.2.mem ((c.tc : Thread Cert.Kernel11Ideal.nD Cert.Kernel11Ideal.τ).loc Cert.Kernel11Ideal.main_v3_6) = v6 c
          ∧ r.2.mem ((c.tc : Thread Cert.Kernel11Ideal.nD Cert.Kernel11Ideal.τ).loc Cert.Kernel11Ideal.main_v3_7) = v7 c
          ∧ r.2.mem ((c.tc : Thread Cert.Kernel11Ideal.nD Cert.Kernel11Ideal.τ).loc Cert.Kernel11Ideal.main_v3_8) = v8 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v63) = v0 c
          ∧ r.2.mem ((c.tc : Thread Cert.Reference11Ideal.nD Cert.Reference11Ideal.τ).loc Cert.Reference11Ideal.main_v188) = v1 c
          ∧ r.2.mem ((c.tc : Thread Cert.Reference11Ideal.nD Cert.Reference11Ideal.τ).loc Cert.Reference11Ideal.main_v189) = v2 c
          ∧ r.2.mem ((c.tc : Thread Cert.Reference11Ideal.nD Cert.Reference11Ideal.τ).loc Cert.Reference11Ideal.main_v183) = v3 c
          ∧ r.2.mem ((c.tc : Thread Cert.Reference11Ideal.nD Cert.Reference11Ideal.τ).loc Cert.Reference11Ideal.main_v186) = v4 c
          ∧ r.2.mem ((c.tc : Thread Cert.Reference11Ideal.nD Cert.Reference11Ideal.τ).loc Cert.Reference11Ideal.main_v187) = v5 c
          ∧ r.2.mem ((c.tc : Thread Cert.Reference11Ideal.nD Cert.Reference11Ideal.τ).loc Cert.Reference11Ideal.main_v163) = v6 c
          ∧ r.2.mem ((c.tc : Thread Cert.Reference11Ideal.nD Cert.Reference11Ideal.τ).loc Cert.Reference11Ideal.main_v144) = v7 c
          ∧ r.2.mem ((c.tc : Thread Cert.Reference11Ideal.nD Cert.Reference11Ideal.τ).loc Cert.Reference11Ideal.main_v190) = v8 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v21_0)) (v1 : (c : Dev Cert.Kernel12Ideal.nD) → Buf (Elt Ideal) ((c.tc : Thread Cert.Kernel12Ideal.nD Cert.Kernel12Ideal.τ).loc Cert.Kernel12Ideal.main_v21_1)) (v2 : (c : Dev Cert.Kernel12Ideal.nD) → Buf (Elt Ideal) ((c.tc : Thread Cert.Kernel12Ideal.nD Cert.Kernel12Ideal.τ).loc Cert.Kernel12Ideal.main_v21_2)) (v3 : (c : Dev Cert.Kernel12Ideal.nD) → Buf (Elt Ideal) ((c.tc : Thread Cert.Kernel12Ideal.nD Cert.Kernel12Ideal.τ).loc Cert.Kernel12Ideal.main_v21_3)) (v4 : (c : Dev Cert.Kernel12Ideal.nD) → Buf (Elt Ideal) ((c.tc : Thread Cert.Kernel12Ideal.nD Cert.Kernel12Ideal.τ).loc Cert.Kernel12Ideal.main_v21_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v21_0) = v0 c
          ∧ r.2.mem ((c.tc : Thread Cert.Kernel12Ideal.nD Cert.Kernel12Ideal.τ).loc Cert.Kernel12Ideal.main_v21_1) = v1 c
          ∧ r.2.mem ((c.tc : Thread Cert.Kernel12Ideal.nD Cert.Kernel12Ideal.τ).loc Cert.Kernel12Ideal.main_v21_2) = v2 c
          ∧ r.2.mem ((c.tc : Thread Cert.Kernel12Ideal.nD Cert.Kernel12Ideal.τ).loc Cert.Kernel12Ideal.main_v21_3) = v3 c
          ∧ r.2.mem ((c.tc : Thread Cert.Kernel12Ideal.nD Cert.Kernel12Ideal.τ).loc Cert.Kernel12Ideal.main_v21_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v73) = v1 c
          ∧ r.2.mem ((c.tc : Thread Cert.Reference12Ideal.nD Cert.Reference12Ideal.τ).loc Cert.Reference12Ideal.main_v74) = v2 c
          ∧ r.2.mem ((c.tc : Thread Cert.Reference12Ideal.nD Cert.Reference12Ideal.τ).loc Cert.Reference12Ideal.main_v75) = v3 c
          ∧ r.2.mem ((c.tc : Thread Cert.Reference12Ideal.nD Cert.Reference12Ideal.τ).loc Cert.Reference12Ideal.main_v77) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  IdealRules.named_const.Statement Cert.Kernel13Ideal.κ "cubic" .f32 0x3D372713#32 ((8943 / 200000 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v29) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)) (v6 : (c : Dev Cert.Kernel14Ideal.nD) → Buf (Elt Ideal) ((c.tc : Thread Cert.Kernel14Ideal.nD Cert.Kernel14Ideal.τ).loc Cert.Kernel14Ideal.main_v0_6)) (v7 : (c : Dev Cert.Kernel14Ideal.nD) → Buf (Elt Ideal) ((c.tc : Thread Cert.Kernel14Ideal.nD Cert.Kernel14Ideal.τ).loc Cert.Kernel14Ideal.main_v0_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_v0_6) = v6 c
          ∧ r.2.mem ((c.tc : Thread Cert.Kernel14Ideal.nD Cert.Kernel14Ideal.τ).loc Cert.Kernel14Ideal.main_v0_7) = v7 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v5) = v1 c
          ∧ r.2.mem ((c.tc : Thread Cert.Reference14Ideal.nD Cert.Reference14Ideal.τ).loc Cert.Reference14Ideal.main_v29) = v2 c
          ∧ r.2.mem ((c.tc : Thread Cert.Reference14Ideal.nD Cert.Reference14Ideal.τ).loc Cert.Reference14Ideal.main_v53) = v3 c
          ∧ r.2.mem ((c.tc : Thread Cert.Reference14Ideal.nD Cert.Reference14Ideal.τ).loc Cert.Reference14Ideal.main_v10) = v4 c
          ∧ r.2.mem ((c.tc : Thread Cert.Reference14Ideal.nD Cert.Reference14Ideal.τ).loc Cert.Reference14Ideal.main_v34) = v5 c
          ∧ r.2.mem ((c.tc : Thread Cert.Reference14Ideal.nD Cert.Reference14Ideal.τ).loc Cert.Reference14Ideal.main_v16) = v6 c
          ∧ r.2.mem ((c.tc : Thread Cert.Reference14Ideal.nD Cert.Reference14Ideal.τ).loc Cert.Reference14Ideal.main_v40) = v7 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v42) = v1 c
          ∧ r.2.mem ((c.tc : Thread Cert.Reference15Ideal.nD Cert.Reference15Ideal.τ).loc Cert.Reference15Ideal.main_v43) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite9 : Cert.Pre_finite9.Facts) (hPre_finite10 : Cert.Pre_finite10.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4096x1024 : Shape := ⟨2, ![4096, 1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S3x6144 : S_.BroadcastsInDim S3x6144 (![] : Fin 0 → Fin S3x6144.rank)
  reducesTo_S3x6144_S_d0_1 : S3x6144.ReducesTo [0, 1] S_
  bcast_S_S6144 : S_.BroadcastsInDim S6144 (![] : Fin 0 → Fin S6144.rank)
  reducesTo_S6144_S_d0 : S6144.ReducesTo [0] S_
  bcast_S_S3072x1024 : S_.BroadcastsInDim S3072x1024 (![] : Fin 0 → Fin S3072x1024.rank)
  reducesTo_S3072x1024_S_d0_1 : S3072x1024.ReducesTo [0, 1] S_

variable [Facts]

def fn_part1 {F : FTy → Type} [FloatOps F] (main_arg4 : FVec F S3072x1024 .f32) (main_arg5 : FVec F S4096x1024 .f32) (main_v13 : IVec S_ 1) (main_v16 : IVec S6144 1) : IVec S_ 1 :=
  let main_c_5 : IVec S_ 1 := constantI S_ 1 1#1
  let main_v17 : IVec S_ 1 := (fun x v => Host.reduce IntOp.andi x v reducesTo_S6144_S_d0 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024x6144 .f32) (main_arg2 : FVec F S3x6144 .f32) (main_arg3 : FVec F S6144 .f32) (main_arg4 : FVec F S3072x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  let main_v9 : FVec F S3x6144 .f32 := Host.absf main_arg2
  let main_cst_2 : FVec F S_ .f32 := constant S_ .f32 0x7F800000#32
  let main_v10 : FVec F S3x6144 .f32 := broadcastInDim S3x6144 ![] bcast_S_S3x6144 main_cst_2
  let main_v11 : IVec S3x6144 1 := cmpf .olt main_v9 main_v10
  let main_c_3 : IVec S_ 1 := constantI S_ 1 1#1
  let main_v12 : IVec S_ 1 := (fun x v => Host.reduce IntOp.andi x v reducesTo_S3x6144_S_d0_1 h_S_) main_v11 main_c_3
  let main_v13 : IVec S_ 1 := andi main_v8 main_v12
  let main_v14 : FVec F S6144 .f32 := Host.absf main_arg3
  let main_cst_4 : FVec F S_ .f32 := constant S_ .f32 0x7F800000#32
  let main_v15 : FVec F S6144 .f32 := broadcastInDim S6144 ![] bcast_S_S6144 main_cst_4
  let main_v16 : IVec S6144 1 := cmpf .olt main_v14 main_v15
  fn_part1 (F := F) main_arg4 main_arg5 main_v13 main_v16
-- ==== Pre_finite10.lean ====
abbrev S4096x2176 : Shape := ⟨2, ![4096, 2176]⟩
abbrev S4096x256 : Shape := ⟨2, ![4096, 256]⟩
abbrev S256 : Shape := ⟨1, ![256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x2176 .f32) (main_arg1 : FVec F S4096x256 .f32) (main_arg2 : FVec F S4096x256 .f32) (main_arg3 : FVec F S256 .f32) (main_arg4 : FVec F S256x256 .f32) (main_arg5 : FVec F S256 .f32) : IVec S_ 1 :=
  let main_v0 : FVec F S4096x256 .f32 := Host.absf main_arg1
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg2
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Pre_finite11.lean ====
abbrev S4096x1024 : Shape := ⟨2, ![4096, 1024]⟩
abbrev S1024 : Shape := ⟨1, ![1024]⟩
abbrev S1024x1024 : Shape := ⟨2, ![1024, 1024]⟩
abbrev S4096x384 : Shape := ⟨2, ![4096, 384]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S1024 .f32) (main_arg3 : FVec F S1024x1024 .f32) (main_arg4 : FVec F S4096x384 .f32) (main_arg5 : FVec F S4096x384 .f32) (main_arg6 : FVec F S4096x256 .f32) (main_arg7 : FVec F S1024 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite9.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S1024 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S4096x1024 : Shape := ⟨2, ![4096, 1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S4096x6144 : Shape := ⟨2, ![4096, 6144]⟩
abbrev S_ : Shape := ⟨0, ![]⟩
abbrev S2x6144 : Shape := ⟨2, ![2, 6144]⟩
abbrev S4098x6144 : Shape := ⟨2, ![4098, 6144]⟩
abbrev S1x6144 : Shape := ⟨2, ![1, 6144]⟩
abbrev S1024x8x768 : Shape := ⟨3, ![1024, 8, 768]⟩
abbrev S8x1024x768 : Shape := ⟨3, ![8, 1024, 768]⟩
abbrev S4096x2x4x768 : Shape := ⟨4, ![4096, 2, 4, 768]⟩
abbrev S4096x4x2x768 : Shape := ⟨4, ![4096, 4, 2, 768]⟩
abbrev S3x2x4x768 : Shape := ⟨4, ![3, 2, 4, 768]⟩
abbrev S3x4x2x768 : Shape := ⟨4, ![3, 4, 2, 768]⟩
abbrev S8x3x6144 : Shape := ⟨3, ![8, 3, 6144]⟩
abbrev S8x1x6144 : Shape := ⟨3, ![8, 1, 6144]⟩
abbrev S512x1536 : Shape := ⟨2, ![512, 1536]⟩
abbrev S512x1024 : Shape := ⟨2, ![512, 1024]⟩
abbrev S768x1024 : Shape := ⟨2, ![768, 1024]⟩
abbrev S1x1024x768 : Shape := ⟨3, ![1, 1024, 768]⟩
abbrev S3x1536 : Shape := ⟨2, ![3, 1536]⟩
abbrev S1x3x1536 : Shape := ⟨3, ![1, 3, 1536]⟩
abbrev S1x1x1536 : Shape := ⟨3, ![1, 1, 1536]⟩
abbrev S4x8x1536 : Shape := ⟨3, ![4, 8, 1536]⟩
abbrev S8x1536 : Shape := ⟨2, ![8, 1536]⟩
abbrev S1x8x1536 : Shape := ⟨3, ![1, 8, 1536]⟩
abbrev S512x768 : Shape := ⟨2, ![512, 768]⟩
abbrev S1x1536 : Shape := ⟨2, ![1, 1536]⟩
abbrev S1536 : Shape := ⟨1, ![1536]⟩
abbrev S504x1536 : Shape := ⟨2, ![504, 1536]⟩
abbrev S1024x768 : Shape := ⟨2, ![1024, 768]⟩
abbrev S1x4x2x768 : Shape := ⟨4, ![1, 4, 2, 768]⟩
abbrev S1x2x4x768 : Shape := ⟨4, ![1, 2, 4, 768]⟩

abbrev nBuf : Space → Nat
  | .hbm => 68
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S3x6144, .f32⟩
  | .hbm, ⟨3, _⟩ => ⟨S6144, .f32⟩
  | .hbm, ⟨4, _⟩ => ⟨S3072x1024, .f32⟩
  | .hbm, ⟨5, _⟩ => ⟨S4096x1024, .f32⟩
  | .hbm, ⟨6, _⟩ => ⟨S4096x6144, .f32⟩
  | .hbm, ⟨7, _⟩ => ⟨S_, .f32⟩
  | .hbm, ⟨8, _⟩ => ⟨S2x6144, .f32⟩
  | .hbm, ⟨9, _⟩ => ⟨S4098x6144, .f32⟩
  | .hbm, ⟨10, _⟩ => ⟨S1x6144, .f32⟩
  | .hbm, ⟨11, _⟩ => ⟨S6144, .f32⟩
  | .hbm, ⟨12, _⟩ => ⟨S4096x6144, .f32⟩
  | .hbm, ⟨13, _⟩ => ⟨S1x6144, .f32⟩
  | .hbm, ⟨14, _⟩ => ⟨S4096x6144, .f32⟩
  | .hbm, ⟨15, _⟩ => ⟨S4096x6144, .f32⟩
  | .hbm, ⟨16, _⟩ => ⟨S_, .f32⟩
  | .hbm, ⟨17, _⟩ => ⟨S4096x6144, .f32⟩
  | .hbm, ⟨18, _⟩ => ⟨S4096x6144, .f32⟩
  | .hbm, ⟨19, _⟩ => ⟨S1x6144, .f32⟩
  | .hbm, ⟨20, _⟩ => ⟨S6144, .f32⟩
  | .hbm, ⟨21, _⟩ => ⟨S4096x6144, .f32⟩
  | .hbm, ⟨22, _⟩ => ⟨S1x6144, .f32⟩
  | .hbm, ⟨23, _⟩ => ⟨S4096x6144, .f32⟩
  | .hbm, ⟨24, _⟩ => ⟨S4096x6144, .f32⟩
  | .hbm, ⟨25, _⟩ => ⟨S4096x6144, .f32⟩
  | .hbm, ⟨26, _⟩ => ⟨S1x6144, .f32⟩
  | .hbm, ⟨27, _⟩ => ⟨S6144, .f32⟩
  | .hbm, ⟨28, _⟩ => ⟨S4096x6144, .f32⟩
  | .hbm, ⟨29, _⟩ => ⟨S1x6144, .f32⟩
  | .hbm, ⟨30, _⟩ => ⟨S4096x6144, .f32⟩
  | .hbm, ⟨31, _⟩ => ⟨S4096x6144, .f32⟩
  | .hbm, ⟨32, _⟩ => ⟨S4096x6144, .f32⟩
  | .hbm, ⟨33, _⟩ => ⟨S1x6144, .f32⟩
  | .hbm, ⟨34, _⟩ => ⟨S4096x6144, .f32⟩
  | .hbm, ⟨35, _⟩ => ⟨S4096x6144, .f32⟩
  | .hbm, ⟨36, _⟩ => ⟨S1024x8x768, .f32⟩
  | .hbm, ⟨37, _⟩ => ⟨S8x1024x768, .f32⟩
  | .hbm, ⟨38, _⟩ => ⟨S8x1024x768, .bf16⟩
  | .hbm, ⟨39, _⟩ => ⟨S4096x2x4x768, .f32⟩
  | .hbm, ⟨40, _⟩ => ⟨S4096x4x2x768, .f32⟩
  | .hbm, ⟨41, _⟩ => ⟨S4096x6144, .f32⟩
  | .hbm, ⟨42, _⟩ => ⟨S4096x6144, .bf16⟩
  | .hbm, ⟨43, _⟩ => ⟨S4096x2x4x768, .f32⟩
  | .hbm, ⟨44, _⟩ => ⟨S4096x4x2x768, .f32⟩
  | .hbm, ⟨45, _⟩ => ⟨S4096x6144, .f32⟩
  | .hbm, ⟨46, _⟩ => ⟨S3072x1024, .bf16⟩
  | .hbm, ⟨47, _⟩ => ⟨S3x2x4x768, .f32⟩
  | .hbm, ⟨48, _⟩ => ⟨S3x4x2x768, .f32⟩
  | .hbm, ⟨49, _⟩ => ⟨S3x6144, .f32⟩
  | .hbm, ⟨50, _⟩ => ⟨S4096x6144, .bf16⟩
  | .hbm, ⟨51, _⟩ => ⟨S4096x1024, .f32⟩
  | .hbm, ⟨52, _⟩ => ⟨S8x3x6144, .f32⟩
  | .hbm, ⟨53, _⟩ => ⟨S8x1x6144, .f32⟩
  | .hbm, ⟨54, _⟩ => ⟨S4096x4x2x768, .bf16⟩
  | .hbm, ⟨55, _⟩ => ⟨S4096x2x4x768, .bf16⟩
  | .hbm, ⟨56, _⟩ => ⟨S4096x6144, .bf16⟩
  | .hbm, ⟨57, _⟩ => ⟨S_, .f32⟩
  | .hbm, ⟨58, _⟩ => ⟨S3x6144, .f32⟩
  | .hbm, ⟨59, _⟩ => ⟨S3x4x2x768, .f32⟩
  | .hbm, ⟨60, _⟩ => ⟨S3x2x4x768, .f32⟩
  | .hbm, ⟨61, _⟩ => ⟨S3x6144, .f32⟩
  | .hbm, ⟨62, _⟩ => ⟨S_, .f32⟩
  | .hbm, ⟨63, _⟩ => ⟨S1x6144, .f32⟩
  | .hbm, ⟨64, _⟩ => ⟨S1x4x2x768, .f32⟩
  | .hbm, ⟨65, _⟩ => ⟨S1x2x4x768, .f32⟩
  | .hbm, ⟨66, _⟩ => ⟨S1x6144, .f32⟩
  | .hbm, ⟨67, _⟩ => ⟨S6144, .f32⟩
  | .local _ .vmem, ⟨0, _⟩ => ⟨S512x1536, .bf16⟩
  | .local _ .vmem, ⟨1, _⟩ => ⟨S512x1536, .bf16⟩
  | .local _ .vmem, ⟨2, _⟩ => ⟨S512x1536, .f32⟩
  | .local _ .vmem, ⟨3, _⟩ => ⟨S512x1536, .f32⟩
  | .local _ .vmem, ⟨4, _⟩ => ⟨S512x1024, .f32⟩
  | .local _ .vmem, ⟨5, _⟩ => ⟨S512x1024, .f32⟩
  | .local _ .vmem, ⟨6, _⟩ => ⟨S768x1024, .bf16⟩
  | .local _ .vmem, ⟨7, _⟩ => ⟨S768x1024, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | .local _ .vmem, ⟨12, _⟩ => ⟨S3x1536, .f32⟩
  | .local _ .vmem, ⟨13, _⟩ => ⟨S3x1536, .f32⟩
  | .local _ .vmem, ⟨14, _⟩ => ⟨S512x1536, .bf16⟩
  | .local _ .vmem, ⟨15, _⟩ => ⟨S512x1536, .bf16⟩
  | .local _ .vmem, ⟨16, _⟩ => ⟨S512x1024, .f32⟩
  | .local _ .vmem, ⟨17, _⟩ => ⟨S512x1024, .f32⟩
  | .local _ .vmem, ⟨18, _⟩ => ⟨S1x3x1536, .f32⟩
  | .local _ .vmem, ⟨19, _⟩ => ⟨S1x3x1536, .f32⟩
  | .local _ .vmem, ⟨20, _⟩ => ⟨S1x1x1536, .f32⟩
  | .local _ .vmem, ⟨21, _⟩ => ⟨S1x1x1536, .f32⟩
  | .local _ .vmem, ⟨22, _⟩ => ⟨S4x8x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42_0 : Ref sig .tc := ⟨.hbm, 50, rfl⟩
abbrev main_v42_1 : Ref sig .tc := ⟨.hbm, 51, rfl⟩
abbrev main_v42_2 : Ref sig .tc := ⟨.hbm, 52, rfl⟩
abbrev main_v42_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_1 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v134 : Index := Scalar.indexCast arg1
  let c0_59 : Index := 0#32
  let c0_60 : Index := 0#32
  ![v134.toNat, 0, 0]
def k0_off2 (i : grid0.Coords) : Fin 3 → Nat :=
  let arg1 : BitVec 32 := BitVec.ofNat 32 (i 1).val
  let v62 : Index := Scalar.indexCast arg1
  let c0_26 : Index := 0#32
  let c0_27 : Index := 0#32
  ![v62.toNat, 0, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x3x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S4096x1024 : Shape := ⟨2, ![4096, 1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S4096x6144 : Shape := ⟨2, ![4096, 6144]⟩
abbrev S_ : Shape := ⟨0, ![]⟩
abbrev S2x6144 : Shape := ⟨2, ![2, 6144]⟩
abbrev S4098x6144 : Shape := ⟨2, ![4098, 6144]⟩
abbrev S1x6144 : Shape := ⟨2, ![1, 6144]⟩
abbrev S4096x3072 : Shape := ⟨2, ![4096, 3072]⟩

abbrev nBuf : Space → Nat
  | .hbm => 146
  | .vmem => 0
  | .smem => 0
  | _ => 0

abbrev hbmTy0_0 (i : Nat) : BufTy := match i % 128 with
  | 0 => ⟨S4096x1024, .f32⟩
  | 1 => ⟨S1024x6144, .f32⟩
  | 2 => ⟨S3x6144, .f32⟩
  | 3 => ⟨S6144, .f32⟩
  | 4 => ⟨S3072x1024, .f32⟩
  | 5 => ⟨S4096x1024, .f32⟩
  | 6 => ⟨S4096x6144, .f32⟩
  | 7 => ⟨S_, .f32⟩
  | 8 => ⟨S2x6144, .f32⟩
  | 9 => ⟨S4098x6144, .f32⟩
  | 10 => ⟨S_, .f32⟩
  | 11 => ⟨S2x6144, .f32⟩
  | 12 => ⟨S1x6144, .f32⟩
  | 13 => ⟨S6144, .f32⟩
  | 14 => ⟨S4096x6144, .f32⟩
  | 15 => ⟨S1x6144, .f32⟩
  | 16 => ⟨S4096x6144, .f32⟩
  | 17 => ⟨S4096x6144, .f32⟩
  | 18 => ⟨S_, .f32⟩
  | 19 => ⟨S4096x6144, .f32⟩
  | 20 => ⟨S4096x6144, .f32⟩
  | 21 => ⟨S1x6144, .f32⟩
  | 22 => ⟨S6144, .f32⟩
  | 23 => ⟨S4096x6144, .f32⟩
  | 24 => ⟨S1x6144, .f32⟩
  | 25 => ⟨S4096x6144, .f32⟩
  | 26 => ⟨S4096x6144, .f32⟩
  | 27 => ⟨S4096x6144, .f32⟩
  | 28 => ⟨S1x6144, .f32⟩
  | 29 => ⟨S6144, .f32⟩
  | 30 => ⟨S4096x6144, .f32⟩
  | 31 => ⟨S1x6144, .f32⟩
  | 32 => ⟨S4096x6144, .f32⟩
  | 33 => ⟨S4096x6144, .f32⟩
  | 34 => ⟨S4096x6144, .f32⟩
  | 35 => ⟨S1x6144, .f32⟩
  | 36 => ⟨S4096x6144, .f32⟩
  | 37 => ⟨S4096x6144, .f32⟩
  | 38 => ⟨S4096x3072, .f32⟩
  | 39 => ⟨S4096x3072, .f32⟩
  | 40 => ⟨S_, .f32⟩
  | 41 => ⟨S_, .f32⟩
  | 42 => ⟨S_, .f32⟩
  | 43 => ⟨S4096x3072, .f32⟩
  | 44 => ⟨S4096x3072, .f32⟩
  | 45 => ⟨S4096x3072, .f32⟩
  | 46 => ⟨S_, .f32⟩
  | 47 => ⟨S4096x3072, .f32⟩
  | 48 => ⟨S4096x3072, .f32⟩
  | 49 => ⟨S4096x3072, .f32⟩
  | 50 => ⟨S4096x3072, .f32⟩
  | 51 => ⟨S4096x3072, .f32⟩
  | 52 => ⟨S_, .f32⟩
  | 53 => ⟨S4096x3072, .f32⟩
  | 54 => ⟨S4096x3072, .f32⟩
  | 55 => ⟨S4096x3072, .f32⟩
  | 56 => ⟨S_, .f32⟩
  | 57 => ⟨S4096x3072, .f32⟩
  | 58 => ⟨S4096x3072, .f32⟩
  | 59 => ⟨S_, .f32⟩
  | 60 => ⟨S4096x3072, .f32⟩
  | 61 => ⟨S4096x3072, .f32⟩
  | 62 => ⟨S4096x3072, .f32⟩
  | 63 => ⟨S_, .f32⟩
  | 64 => ⟨S4096x3072, .f32⟩
  | 65 => ⟨S4096x3072, .f32⟩
  | 66 => ⟨S_, .f32⟩
  | 67 => ⟨S4096x3072, .f32⟩
  | 68 => ⟨S4096x3072, .f32⟩
  | 69 => ⟨S4096x3072, .f32⟩
  | 70 => ⟨S4096x3072, .f32⟩
  | 71 => ⟨S4096x1024, .f32⟩
  | 72 => ⟨S4096x3072, .f32⟩
  | 73 => ⟨S4096x3072, .f32⟩
  | 74 => ⟨S4096x3072, .f32⟩
  | 75 => ⟨S4096x3072, .f32⟩
  | 76 => ⟨S4096x3072, .f32⟩
  | 77 => ⟨S_, .f32⟩
  | 78 => ⟨S4096x3072, .f32⟩
  | 79 => ⟨S4096x3072, .f32⟩
  | 80 => ⟨S4096x3072, .f32⟩
  | 81 => ⟨S_, .f32⟩
  | 82 => ⟨S4096x3072, .f32⟩
  | 83 => ⟨S4096x3072, .f32⟩
  | 84 => ⟨S4096x3072, .f32⟩
  | 85 => ⟨S4096x3072, .f32⟩
  | 86 => ⟨S4096x3072, .f32⟩
  | 87 => ⟨S4096x3072, .f32⟩
  | 88 => ⟨S4096x3072, .f32⟩
  | 89 => ⟨S4096x6144, .f32⟩
  | 90 => ⟨S_, .f32⟩
  | 91 => ⟨S6144, .f32⟩
  | 92 => ⟨S1x6144, .f32⟩
  | 93 => ⟨S_, .f32⟩
  | 94 => ⟨S6144, .f32⟩
  | 95 => ⟨S4096x6144, .f32⟩
  | 96 => ⟨S4096x6144, .f32⟩
  | 97 => ⟨S4096x6144, .f32⟩
  | 98 => ⟨S_, .f32⟩
  | 99 => ⟨S6144, .f32⟩
  | 100 => ⟨S1x6144, .f32⟩
  | 101 => ⟨S_, .f32⟩
  | 102 => ⟨S6144, .f32⟩
  | 103 => ⟨S_, .f32⟩
  | 104 => ⟨S4098x6144, .f32⟩
  | 105 => ⟨S1x6144, .f32⟩
  | 106 => ⟨S_, .f32⟩
  | 107 => ⟨S3x6144, .f32⟩
  | 108 => ⟨S4096x6144, .f32⟩
  | 109 => ⟨S4096x6144, .f32⟩
  | 110 => ⟨S4096x6144, .f32⟩
  | 111 => ⟨S_, .f32⟩
  | 112 => ⟨S6144, .f32⟩
  | 113 => ⟨S1x6144, .f32⟩
  | 114 => ⟨S_, .f32⟩
  | 115 => ⟨S6144, .f32⟩
  | 116 => ⟨S_, .f32⟩
  | 117 => ⟨S4098x6144, .f32⟩
  | 118 => ⟨S4098x6144, .f32⟩
  | 119 => ⟨S1x6144, .f32⟩
  | 120 => ⟨S_, .f32⟩
  | 121 => ⟨S3x6144, .f32⟩
  | 122 => ⟨S3x6144, .f32⟩
  | 123 => ⟨S4096x6144, .f32⟩
  | 124 => ⟨S4096x6144, .f32⟩
  | 125 => ⟨S4096x6144, .f32⟩
  | 126 => ⟨S_, .f32⟩
  | 127 => ⟨S6144, .f32⟩
  | _ => ⟨S4096x1024, .f32⟩

abbrev hbmTy0_1 (i : Nat) : BufTy := match i % 128 with
  | 0 => ⟨S1x6144, .f32⟩
  | 1 => ⟨S_, .f32⟩
  | 2 => ⟨S6144, .f32⟩
  | 3 => ⟨S_, .f32⟩
  | 4 => ⟨S4098x6144, .f32⟩
  | 5 => ⟨S4098x6144, .f32⟩
  | 6 => ⟨S1x6144, .f32⟩
  | 7 => ⟨S_, .f32⟩
  | 8 => ⟨S3x6144, .f32⟩
  | 9 => ⟨S3x6144, .f32⟩
  | 10 => ⟨S2x6144, .f32⟩
  | 11 => ⟨S4096x6144, .f32⟩
  | 12 => ⟨S_, .f32⟩
  | 13 => ⟨S4096x1024, .f32⟩
  | 14 => ⟨S4096x1024, .f32⟩
  | 15 => ⟨S4096x1024, .f32⟩
  | 16 => ⟨S4096x1024, .f32⟩
  | 17 => ⟨S4096x6144, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_14 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_21 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_22 : Ref sig .tc := ⟨.hbm, 126, rfl⟩
abbrev main_v97 : Ref sig .tc := ⟨.hbm, 127, rfl⟩
abbrev main_v98 : Ref sig .tc := ⟨.hbm, 128, rfl⟩
abbrev main_cst_23 : Ref sig .tc := ⟨.hbm, 129, rfl⟩
abbrev main_v99 : Ref sig .tc := ⟨.hbm, 130, rfl⟩
abbrev main_cst_24 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_25 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_26 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩

abbrev nD : Nat := 1
abbrev τ : Topo := Topo.v7x

variable {F : FTy → Type} [FloatOps F]
-- ==== Kernel2.lean ====
abbrev S4096x1024 : Shape := ⟨2, ![4096, 1024]⟩
abbrev S4096x6144 : Shape := ⟨2, ![4096, 6144]⟩
abbrev S1024x4096 : Shape := ⟨2, ![1024, 4096]⟩
abbrev S4096x2x4x768 : Shape := ⟨4, ![4096, 2, 4, 768]⟩
abbrev S4096x4x2x768 : Shape := ⟨4, ![4096, 4, 2, 768]⟩
abbrev S8x1024x768 : Shape := ⟨3, ![8, 1024, 768]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 9
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S1024x4096, .f32⟩
  | .hbm, ⟨3, _⟩ => ⟨S1024x4096, .bf16⟩
  | .hbm, ⟨4, _⟩ => ⟨S4096x2x4x768, .f32⟩
  | .hbm, ⟨5, _⟩ => ⟨S4096x4x2x768, .f32⟩
  | .hbm, ⟨6, _⟩ => ⟨S4096x6144, .f32⟩
  | .hbm, ⟨7, _⟩ => ⟨S4096x6144, .bf16⟩
  | .hbm, ⟨8, _⟩ => ⟨S8x1024x768, .f32⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .f32⟩
  | .local _ .vmem, ⟨4, _⟩ => ⟨S1x1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli c4_i32 v26
  let v28 : BitVec 32 := Scalar.addi v16 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x768 : Shape := ⟨2, ![1024, 768]⟩
abbrev S1x1024x768 : Shape := ⟨3, ![1, 1024, 768]⟩
abbrev S8x1024x768 : Shape := ⟨3, ![8, 1024, 768]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S1x1024x768, .f32⟩
  | .hbm, ⟨23, _⟩ => ⟨S8x1024x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Kernel3.lean ====
abbrev S4096x3072 : Shape := ⟨2, ![4096, 3072]⟩
abbrev S4096x1024 : Shape := ⟨2, ![4096, 1024]⟩
abbrev S3072x4096 : Shape := ⟨2, ![3072, 4096]⟩
abbrev S3072x1024 : Shape := ⟨2, ![3072, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S3072x4096, .f32⟩
  | .hbm, ⟨3, _⟩ => ⟨S3072x4096, .bf16⟩
  | .hbm, ⟨4, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S_, .f32⟩
  | .hbm, ⟨3, _⟩ => ⟨S3072x1024, .f32⟩
  | .hbm, ⟨4, _⟩ => ⟨S4096x1024, .f32⟩
  | .hbm, ⟨5, _⟩ => ⟨S1024x3072, .f32⟩
  | .hbm, ⟨6, _⟩ => ⟨S3072x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S1x1024 : Shape := ⟨2, ![1, 1024]⟩
abbrev S1024x4096 : Shape := ⟨2, ![1024, 4096]⟩
abbrev S512x3072 : Shape := ⟨2, ![512, 3072]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x3072, .bf16⟩
  | .hbm, ⟨6, _⟩ => ⟨S3072x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1024x4096, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x512, .bf16⟩
  | .local _ .vmem, ⟨12, _⟩ => ⟨S1024x512, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1024x4096, .f32⟩
  | .hbm, ⟨40, _⟩ => ⟨S1024x4096, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel5.lean ====
abbrev S4096x2176 : Shape := ⟨2, ![4096, 2176]⟩
abbrev S1024x2176 : Shape := ⟨2, ![1024, 2176]⟩
abbrev S4096x1024 : Shape := ⟨2, ![4096, 1024]⟩
abbrev S512x2176 : Shape := ⟨2, ![512, 2176]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2176, .f32⟩
  | .hbm, ⟨1, _⟩ => ⟨S1024x2176, .f32⟩
  | .hbm, ⟨2, _⟩ => ⟨S4096x1024, .f32⟩
  | .hbm, ⟨3, _⟩ => ⟨S4096x2176, .bf16⟩
  | .hbm, ⟨4, _⟩ => ⟨S1024x2176, .bf16⟩
  | .hbm, ⟨5, _⟩ => ⟨S4096x1024, .f32⟩
  | .local _ .vmem, ⟨0, _⟩ => ⟨S512x2176, .bf16⟩
  | .local _ .vmem, ⟨1, _⟩ => ⟨S512x2176, .bf16⟩
  | .local _ .vmem, ⟨2, _⟩ => ⟨S1024x2176, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4096x2176 : Shape := ⟨2, ![4096, 2176]⟩
abbrev S1024x2176 : Shape := ⟨2, ![1024, 2176]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S1024x2176, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2176, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel6.lean ====
abbrev S4096x1024 : Shape := ⟨2, ![4096, 1024]⟩
abbrev S1024x6144 : Shape := ⟨2, ![1024, 6144]⟩
abbrev S3x6144 : Shape := ⟨2, ![3, 6144]⟩
abbrev S6144 : Shape := ⟨1, ![6144]⟩
abbrev S1024x8x768 : Shape := ⟨3, ![1024, 8, 768]⟩
abbrev S8x1024x768 : Shape := ⟨3, ![8, 1024, 768]⟩
abbrev S3x2x4x768 : Shape := ⟨4, ![3, 2, 4, 768]⟩
abbrev S3x4x2x768 : Shape := ⟨4, ![3, 4, 2, 768]⟩
abbrev S2x4x768 : Shape := ⟨3, ![2, 4, 768]⟩
abbrev S4x2x768 : Shape := ⟨3, ![4, 2, 768]⟩
abbrev S1x6144 : Shape := ⟨2, ![1, 6144]⟩
abbrev S4096x6144 : Shape := ⟨2, ![4096, 6144]⟩
abbrev S4096x3072 : Shape := ⟨2, ![4096, 3072]⟩
abbrev S3072x4096 : Shape := ⟨2, ![3072, 4096]⟩
abbrev S512x1024 : Shape := ⟨2, ![512, 1024]⟩
abbrev S1x1024x768 : Shape := ⟨3, ![1, 1024, 768]⟩
abbrev S3x1536 : Shape := ⟨2, ![3, 1536]⟩
abbrev S1x1536 : Shape := ⟨2, ![1, 1536]⟩
abbrev S512x1536 : Shape := ⟨2, ![512, 1536]⟩
abbrev S512x768 : Shape := ⟨2, ![512, 768]⟩
abbrev S768x512 : Shape := ⟨2, ![768, 512]⟩
abbrev S8x1536 : Shape := ⟨2, ![8, 1536]⟩
abbrev S1024x768 : Shape := ⟨2, ![1024, 768]⟩
abbrev S504x1536 : Shape := ⟨2, ![504, 1536]⟩
abbrev S4096x4x2x768 : Shape := ⟨4, ![4096, 4, 2, 768]⟩
abbrev S4096x2x4x768 : Shape := ⟨4, ![4096, 2, 4, 768]⟩

abbrev nBuf : Space → Nat
  | .hbm => 24
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S3x6144, .f32⟩
  | .hbm, ⟨3, _⟩ => ⟨S6144, .f32⟩
  | .hbm, ⟨4, _⟩ => ⟨S1024x8x768, .f32⟩
  | .hbm, ⟨5, _⟩ => ⟨S8x1024x768, .f32⟩
  | .hbm, ⟨6, _⟩ => ⟨S8x1024x768, .bf16⟩
  | .hbm, ⟨7, _⟩ => ⟨S3x2x4x768, .f32⟩
  | .hbm, ⟨8, _⟩ => ⟨S3x4x2x768, .f32⟩
  | .hbm, ⟨9, _⟩ => ⟨S3x6144, .f32⟩
  | .hbm, ⟨10, _⟩ => ⟨S2x4x768, .f32⟩
  | .hbm, ⟨11, _⟩ => ⟨S4x2x768, .f32⟩
  | .hbm, ⟨12, _⟩ => ⟨S6144, .f32⟩
  | .hbm, ⟨13, _⟩ => ⟨S1x6144, .f32⟩
  | .hbm, ⟨14, _⟩ => ⟨S4096x6144, .bf16⟩
  | .hbm, ⟨15, _⟩ => ⟨S4096x6144, .f32⟩
  | .hbm, ⟨16, _⟩ => ⟨S4096x3072, .bf16⟩
  | .hbm, ⟨17, _⟩ => ⟨S3072x4096, .bf16⟩
  | .hbm, ⟨18, _⟩ => ⟨S4096x4x2x768, .bf16⟩
  | .hbm, ⟨19, _⟩ => ⟨S4096x2x4x768, .bf16⟩
  | .hbm, ⟨20, _⟩ => ⟨S4096x6144, .bf16⟩
  | .hbm, ⟨21, _⟩ => ⟨S4096x4x2x768, .f32⟩
  | .hbm, ⟨22, _⟩ => ⟨S4096x2x4x768, .f32⟩
  | .hbm, ⟨23, _⟩ => ⟨S4096x6144, .f32⟩
  | .local _ .vmem, ⟨0, _⟩ => ⟨S512x1024, .f32⟩
  | .local _ .vmem, ⟨1, _⟩ => ⟨S512x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S3x1536, .f32⟩
  | .local _ .vmem, ⟨7, _⟩ => ⟨S3x1536, .f32⟩
  | .local _ .vmem, ⟨8, _⟩ => ⟨S1x1536, .f32⟩
  | .local _ .vmem, ⟨9, _⟩ => ⟨S1x1536, .f32⟩
  | .local _ .vmem, ⟨10, _⟩ => ⟨S512x1536, .bf16⟩
  | .local _ .vmem, ⟨11, _⟩ => ⟨S512x1536, .bf16⟩
  | .local _ .vmem, ⟨12, _⟩ => ⟨S512x1536, .f32⟩
  | .local _ .vmem, ⟨13, _⟩ => ⟨S512x1536, .f32⟩
  | .local _ .vmem, ⟨14, _⟩ => ⟨S512x768, .bf16⟩
  | .local _ .vmem, ⟨15, _⟩ => ⟨S512x768, .bf16⟩
  | .local _ .vmem, ⟨16, _⟩ => ⟨S768x512, .bf16⟩
  | .local _ .vmem, ⟨17, _⟩ => ⟨S768x512, .bf16⟩
  | .local _ .vmem, ⟨18, _⟩ => ⟨S8x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel6Ideal.lean ====
variable {F : FTy → Type} [FloatOps F] [Named F]
def κ : String → Option EReal := fun
  | "cubic" => some ((8943 / 200000 : ℝ) : EReal)
  | _ => none
-- ==== Reference6Ideal.lean ====
abbrev S4096x1024 : Shape := ⟨2, ![4096, 1024]⟩
abbrev S1024x6144 : Shape := ⟨2, ![1024, 6144]⟩
abbrev S3x6144 : Shape := ⟨2, ![3, 6144]⟩
abbrev S6144 : Shape := ⟨1, ![6144]⟩
abbrev S4096x6144 : Shape := ⟨2, ![4096, 6144]⟩
abbrev S_ : Shape := ⟨0, ![]⟩
abbrev S2x6144 : Shape := ⟨2, ![2, 6144]⟩
abbrev S4098x6144 : Shape := ⟨2, ![4098, 6144]⟩
abbrev S1x6144 : Shape := ⟨2, ![1, 6144]⟩
abbrev S4096x3072 : Shape := ⟨2, ![4096, 3072]⟩
abbrev S3072x4096 : Shape := ⟨2, ![3072, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S3x6144, .f32⟩
  | .hbm, ⟨3, _⟩ => ⟨S6144, .f32⟩
  | .hbm, ⟨4, _⟩ => ⟨S4096x6144, .f32⟩
  | .hbm, ⟨5, _⟩ => ⟨S_, .f32⟩
  | .hbm, ⟨6, _⟩ => ⟨S2x6144, .f32⟩
  | .hbm, ⟨7, _⟩ => ⟨S4098x6144, .f32⟩
  | .hbm, ⟨8, _⟩ => ⟨S1x6144, .f32⟩
  | .hbm, ⟨9, _⟩ => ⟨S6144, .f32⟩
  | .hbm, ⟨10, _⟩ => ⟨S4096x6144, .f32⟩
  | .hbm, ⟨11, _⟩ => ⟨S1x6144, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S1x6144, .f32⟩
  | .hbm, ⟨18, _⟩ => ⟨S6144, .f32⟩
  | .hbm, ⟨19, _⟩ => ⟨S4096x6144, .f32⟩
  | .hbm, ⟨20, _⟩ => ⟨S1x6144, .f32⟩
  | .hbm, ⟨21, _⟩ => ⟨S4096x6144, .f32⟩
  | .hbm, ⟨22, _⟩ => ⟨S4096x6144, .f32⟩
  | .hbm, ⟨23, _⟩ => ⟨S4096x6144, .f32⟩
  | .hbm, ⟨24, _⟩ => ⟨S1x6144, .f32⟩
  | .hbm, ⟨25, _⟩ => ⟨S6144, .f32⟩
  | .hbm, ⟨26, _⟩ => ⟨S4096x6144, .f32⟩
  | .hbm, ⟨27, _⟩ => ⟨S1x6144, .f32⟩
  | .hbm, ⟨28, _⟩ => ⟨S4096x6144, .f32⟩
  | .hbm, ⟨29, _⟩ => ⟨S4096x6144, .f32⟩
  | .hbm, ⟨30, _⟩ => ⟨S4096x6144, .f32⟩
  | .hbm, ⟨31, _⟩ => ⟨S1x6144, .f32⟩
  | .hbm, ⟨32, _⟩ => ⟨S4096x6144, .f32⟩
  | .hbm, ⟨33, _⟩ => ⟨S4096x6144, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S_, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x6144, .bf16⟩
  | .hbm, ⟨57, _⟩ => ⟨S4096x3072, .bf16⟩
  | .hbm, ⟨58, _⟩ => ⟨S3072x4096, .f32⟩
  | .hbm, ⟨59, _⟩ => ⟨S3072x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Kernel7.lean ====
abbrev S4096x1024 : Shape := ⟨2, ![4096, 1024]⟩
abbrev S4096x2176 : Shape := ⟨2, ![4096, 2176]⟩
abbrev S1024x4096 : Shape := ⟨2, ![1024, 4096]⟩
abbrev S1024x2176 : Shape := ⟨2, ![1024, 2176]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2176, .f32⟩
  | .hbm, ⟨2, _⟩ => ⟨S1024x4096, .f32⟩
  | .hbm, ⟨3, _⟩ => ⟨S1024x4096, .bf16⟩
  | .hbm, ⟨4, _⟩ => ⟨S4096x2176, .bf16⟩
  | .hbm, ⟨5, _⟩ => ⟨S1024x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x2176 : Shape := ⟨2, ![4096, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2176, .f32⟩
  | .hbm, ⟨2, _⟩ => ⟨S_, .f32⟩
  | .hbm, ⟨3, _⟩ => ⟨S1024x2176, .f32⟩
  | .hbm, ⟨4, _⟩ => ⟨S4096x2176, .f32⟩
  | .hbm, ⟨5, _⟩ => ⟨S2176x1024, .f32⟩
  | .hbm, ⟨6, _⟩ => ⟨S1024x2176, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel10.lean ====
abbrev S4096x2176 : Shape := ⟨2, ![4096, 2176]⟩
abbrev S4096x256 : Shape := ⟨2, ![4096, 256]⟩
abbrev S256 : Shape := ⟨1, ![256]⟩
abbrev S256x256 : Shape := ⟨2, ![256, 256]⟩
abbrev S1x256 : Shape := ⟨2, ![1, 256]⟩
abbrev S512x128 : Shape := ⟨2, ![512, 128]⟩
abbrev S512x256 : Shape := ⟨2, ![512, 256]⟩

abbrev nBuf : Space → Nat
  | .hbm => 14
  | .vmem => 18
  | .smem => 0
  | _ => 0

abbrev bufTy : (tb : Table) → Fin (tcTables nBuf tb) → BufTy
  | .hbm, ⟨0, _⟩ => ⟨S4096x2176, .f32⟩
  | .hbm, ⟨1, _⟩ => ⟨S4096x256, .f32⟩
  | .hbm, ⟨2, _⟩ => ⟨S4096x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S256x256, .bf16⟩
  | .hbm, ⟨8, _⟩ => ⟨S1x256, .f32⟩
  | .hbm, ⟨9, _⟩ => ⟨S4096x256, .f32⟩
  | .hbm, ⟨10, _⟩ => ⟨S4096x256, .f32⟩
  | .hbm, ⟨11, _⟩ => ⟨S1x256, .f32⟩
  | .hbm, ⟨12, _⟩ => ⟨S256x256, .f32⟩
  | .hbm, ⟨13, _⟩ => ⟨S1x256, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel10Ideal.lean ====
variable {F : FTy → Type} [FloatOps F] [Named F]
def κ : String → Option EReal := fun
  | "cubic" => some ((8943 / 200000 : ℝ) : EReal)
  | "cubic3" => some ((26829 / 200000 : ℝ) : EReal)
  | _ => none
-- ==== Reference10Ideal.lean ====
abbrev S4096x2176 : Shape := ⟨2, ![4096, 2176]⟩
abbrev S4096x256 : Shape := ⟨2, ![4096, 256]⟩
abbrev S256 : Shape := ⟨1, ![256]⟩
abbrev S256x256 : Shape := ⟨2, ![256, 256]⟩
abbrev S_ : Shape := ⟨0, ![]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S4096x256, .f32⟩
  | .hbm, ⟨2, _⟩ => ⟨S4096x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S4096x256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S_, .f32⟩
  | .hbm, ⟨44, _⟩ => ⟨S4096x256, .f32⟩
  | .hbm, ⟨45, _⟩ => ⟨S4096x256, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S4096x256, .f32⟩
  | .hbm, ⟨57, _⟩ => ⟨S_, .f32⟩
  | .hbm, ⟨58, _⟩ => ⟨S256, .f32⟩
  | .hbm, ⟨59, _⟩ => ⟨S1x256, .f32⟩
  | .hbm, ⟨60, _⟩ => ⟨S_, .f32⟩
  | .hbm, ⟨61, _⟩ => ⟨S256, .f32⟩
  | .hbm, ⟨62, _⟩ => ⟨S256x256, .f32⟩
  | .hbm, ⟨63, _⟩ => ⟨S256x256, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S4096x256, .f32⟩
  | .hbm, ⟨70, _⟩ => ⟨S4096x256, .f32⟩
  | .hbm, ⟨71, _⟩ => ⟨S4096x256, .f32⟩
  | .hbm, ⟨72, _⟩ => ⟨S_, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S1x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S_, .f32⟩
  | .hbm, ⟨87, _⟩ => ⟨S256, .f32⟩
  | .hbm, ⟨88, _⟩ => ⟨S1x256, .f32⟩
  | .hbm, ⟨89, _⟩ => ⟨S_, .f32⟩
  | .hbm, ⟨90, _⟩ => ⟨S256, .f32⟩
  | .hbm, ⟨91, _⟩ => ⟨S1x256, .f32⟩
  | .hbm, ⟨92, _⟩ => ⟨S1x256, .f32⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x1024 : Shape := ⟨2, ![1024, 1024]⟩
abbrev S4096x384 : Shape := ⟨2, ![4096, 384]⟩
abbrev S4096x256 : Shape := ⟨2, ![4096, 256]⟩
abbrev S1x1024 : Shape := ⟨2, ![1, 1024]⟩
abbrev S1024x1536 : Shape := ⟨2, ![1024, 1536]⟩
abbrev S256x6144 : Shape := ⟨2, ![256, 6144]⟩
abbrev S512x1024 : Shape := ⟨2, ![512, 1024]⟩
abbrev S512x384 : Shape := ⟨2, ![512, 384]⟩
abbrev S512x256 : Shape := ⟨2, ![512, 256]⟩
abbrev S128x1536 : Shape := ⟨2, ![128, 1536]⟩
abbrev S32x6144 : Shape := ⟨2, ![32, 6144]⟩
abbrev S3x512x128 : Shape := ⟨3, ![3, 512, 128]⟩
abbrev S512 : Shape := ⟨1, ![512]⟩
abbrev S512x1 : Shape := ⟨2, ![512, 1]⟩
abbrev S1x384 : Shape := ⟨2, ![1, 384]⟩
abbrev S512x128 : Shape := ⟨2, ![512, 128]⟩
abbrev S1x512x128 : Shape := ⟨3, ![1, 512, 128]⟩
abbrev S128x128 : Shape := ⟨2, ![128, 128]⟩
abbrev S32x128 : Shape := ⟨2, ![32, 128]⟩
abbrev S384 : Shape := ⟨1, ![384]⟩
abbrev S1x256 : Shape := ⟨2, ![1, 256]⟩
abbrev S256 : Shape := ⟨1, ![256]⟩

abbrev nBuf : Space → Nat
  | .hbm => 20
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S4096x384, .f32⟩
  | .hbm, ⟨5, _⟩ => ⟨S4096x384, .f32⟩
  | .hbm, ⟨6, _⟩ => ⟨S4096x256, .f32⟩
  | .hbm, ⟨7, _⟩ => ⟨S1024, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S4096x384, .f32⟩
  | .hbm, ⟨15, _⟩ => ⟨S1024x1536, .f32⟩
  | .hbm, ⟨16, _⟩ => ⟨S256x6144, .f32⟩
  | .hbm, ⟨17, _⟩ => ⟨S4096x384, .f32⟩
  | .hbm, ⟨18, _⟩ => ⟨S4096x256, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x256, .f32⟩
  | .local _ .vmem, ⟨11, _⟩ => ⟨S512x256, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S512x384, .f32⟩
  | .local _ .vmem, ⟨18, _⟩ => ⟨S512x384, .f32⟩
  | .local _ .vmem, ⟨19, _⟩ => ⟨S128x1536, .f32⟩
  | .local _ .vmem, ⟨20, _⟩ => ⟨S128x1536, .f32⟩
  | .local _ .vmem, ⟨21, _⟩ => ⟨S32x6144, .f32⟩
  | .local _ .vmem, ⟨22, _⟩ => ⟨S32x6144, .f32⟩
  | .local _ .vmem, ⟨23, _⟩ => ⟨S512x384, .f32⟩
  | .local _ .vmem, ⟨24, _⟩ => ⟨S512x384, .f32⟩
  | .local _ .vmem, ⟨25, _⟩ => ⟨S512x256, .f32⟩
  | .local _ .vmem, ⟨26, _⟩ => ⟨S512x256, .f32⟩
  | .local _ .vmem, ⟨27, _⟩ => ⟨S1x1024, .f32⟩
  | .local _ .vmem, ⟨28, _⟩ => ⟨S3x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x6144 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference11Ideal.lean ====
abbrev S4096x1024 : Shape := ⟨2, ![4096, 1024]⟩
abbrev S1024 : Shape := ⟨1, ![1024]⟩
abbrev S1024x1024 : Shape := ⟨2, ![1024, 1024]⟩
abbrev S4096x384 : Shape := ⟨2, ![4096, 384]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S384 : Shape := ⟨1, ![384]⟩
abbrev S1x384 : Shape := ⟨2, ![1, 384]⟩
abbrev S256 : Shape := ⟨1, ![256]⟩
abbrev S1x256 : Shape := ⟨2, ![1, 256]⟩
abbrev S1024x1536 : Shape := ⟨2, ![1024, 1536]⟩
abbrev S256x6144 : Shape := ⟨2, ![256, 6144]⟩

abbrev nBuf : Space → Nat
  | .hbm => 251
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024x1024, .f32⟩
  | 4 => ⟨S4096x384, .f32⟩
  | 5 => ⟨S4096x384, .f32⟩
  | 6 => ⟨S4096x256, .f32⟩
  | 7 => ⟨S1024, .f32⟩
  | 8 => ⟨S_, .f32⟩
  | 9 => ⟨S1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S1x1024, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S_, .f32⟩
  | 48 => ⟨S1024, .f32⟩
  | 49 => ⟨S1x1024, .f32⟩
  | 50 => ⟨S_, .f32⟩
  | 51 => ⟨S1024, .f32⟩
  | 52 => ⟨S4096x1024, .f32⟩
  | 53 => ⟨S_, .f32⟩
  | 54 => ⟨S1024, .f32⟩
  | 55 => ⟨S1x1024, .f32⟩
  | 56 => ⟨S4096x1024, .f32⟩
  | 57 => ⟨S4096x1024, .f32⟩
  | 58 => ⟨S_, .f32⟩
  | 59 => ⟨S1024, .f32⟩
  | 60 => ⟨S4096x1024, .f32⟩
  | 61 => ⟨S_, .f32⟩
  | 62 => ⟨S4096, .f32⟩
  | 63 => ⟨S4096x1, .f32⟩
  | 64 => ⟨S4096x1024, .f32⟩
  | 65 => ⟨S4096x1024, .f32⟩
  | 66 => ⟨S4096x1, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x1024, .f32⟩
  | 77 => ⟨S4096x1024, .f32⟩
  | 78 => ⟨S4096x1024, .f32⟩
  | 79 => ⟨S_, .f32⟩
  | 80 => ⟨S4096, .f32⟩
  | 81 => ⟨S4096x1, .f32⟩
  | 82 => ⟨S4096x1024, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096, .f32⟩
  | 89 => ⟨S4096x1024, .f32⟩
  | 90 => ⟨S4096x1024, .f32⟩
  | 91 => ⟨S384, .f32⟩
  | 92 => ⟨S4096x384, .f32⟩
  | 93 => ⟨S_, .f32⟩
  | 94 => ⟨S4096x384, .f32⟩
  | 95 => ⟨S4096x384, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x384, .f32⟩
  | 111 => ⟨S4096x384, .f32⟩
  | 112 => ⟨S1x384, .f32⟩
  | 113 => ⟨S4096x384, .f32⟩
  | 114 => ⟨S4096x384, .f32⟩
  | 115 => ⟨S384, .f32⟩
  | 116 => ⟨S4096x384, .f32⟩
  | 117 => ⟨S_, .f32⟩
  | 118 => ⟨S4096x384, .f32⟩
  | 119 => ⟨S4096x384, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S4096x1, .f32⟩
  | 2 => ⟨S4096x1, .f32⟩
  | 3 => ⟨S_, .f32⟩
  | 4 => ⟨S4096x1, .f32⟩
  | 5 => ⟨S4096x1, .f32⟩
  | 6 => ⟨S4096x384, .f32⟩
  | 7 => ⟨S4096x384, .f32⟩
  | 8 => ⟨S1x384, .f32⟩
  | 9 => ⟨S4096x384, .f32⟩
  | 10 => ⟨S4096x384, .f32⟩
  | 11 => ⟨S256, .f32⟩
  | 12 => ⟨S4096x256, .f32⟩
  | 13 => ⟨S_, .f32⟩
  | 14 => ⟨S4096x256, .f32⟩
  | 15 => ⟨S4096x256, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x256, .f32⟩
  | 31 => ⟨S4096x256, .f32⟩
  | 32 => ⟨S1x256, .f32⟩
  | 33 => ⟨S4096x256, .f32⟩
  | 34 => ⟨S4096x256, .f32⟩
  | 35 => ⟨S4096x1024, .f32⟩
  | 36 => ⟨S4096x1024, .f32⟩
  | 37 => ⟨S4096x1024, .f32⟩
  | 38 => ⟨S4096x384, .f32⟩
  | 39 => ⟨S4096x384, .f32⟩
  | 40 => ⟨S4096x256, .f32⟩
  | 41 => ⟨S4096x256, .f32⟩
  | 42 => ⟨S_, .f32⟩
  | 43 => ⟨S256, .f32⟩
  | 44 => ⟨S1x256, .f32⟩
  | 45 => ⟨S4096x256, .f32⟩
  | 46 => ⟨S4096x256, .f32⟩
  | 47 => ⟨S_, .f32⟩
  | 48 => ⟨S256, .f32⟩
  | 49 => ⟨S4096x256, .f32⟩
  | 50 => ⟨S_, .f32⟩
  | 51 => ⟨S4096, .f32⟩
  | 52 => ⟨S4096x1, .f32⟩
  | 53 => ⟨S4096x256, .f32⟩
  | 54 => ⟨S4096x256, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096, .f32⟩
  | 61 => ⟨S4096x256, .f32⟩
  | 62 => ⟨S4096x256, .f32⟩
  | 63 => ⟨S4096x256, .f32⟩
  | 64 => ⟨S_, .f32⟩
  | 65 => ⟨S1024, .f32⟩
  | 66 => ⟨S4096x384, .f32⟩
  | 67 => ⟨S_, .f32⟩
  | 68 => ⟨S384, .f32⟩
  | 69 => ⟨S1x384, .f32⟩
  | 70 => ⟨S4096x384, .f32⟩
  | 71 => ⟨S4096x384, .f32⟩
  | 72 => ⟨S_, .f32⟩
  | 73 => ⟨S384, .f32⟩
  | 74 => ⟨S4096x384, .f32⟩
  | 75 => ⟨S_, .f32⟩
  | 76 => ⟨S4096, .f32⟩
  | 77 => ⟨S4096x1, .f32⟩
  | 78 => ⟨S4096x384, .f32⟩
  | 79 => ⟨S4096x384, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x384, .f32⟩
  | 87 => ⟨S4096x384, .f32⟩
  | 88 => ⟨S4096x384, .f32⟩
  | 89 => ⟨S_, .f32⟩
  | 90 => ⟨S1024, .f32⟩
  | 91 => ⟨S1024, .f32⟩
  | 92 => ⟨S4096x384, .f32⟩
  | 93 => ⟨S_, .f32⟩
  | 94 => ⟨S384, .f32⟩
  | 95 => ⟨S1x384, .f32⟩
  | 96 => ⟨S4096x384, .f32⟩
  | 97 => ⟨S4096x384, .f32⟩
  | 98 => ⟨S_, .f32⟩
  | 99 => ⟨S384, .f32⟩
  | 100 => ⟨S4096x384, .f32⟩
  | 101 => ⟨S_, .f32⟩
  | 102 => ⟨S4096, .f32⟩
  | 103 => ⟨S4096x1, .f32⟩
  | 104 => ⟨S4096x384, .f32⟩
  | 105 => ⟨S4096x384, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x384, .f32⟩
  | 113 => ⟨S4096x384, .f32⟩
  | 114 => ⟨S4096x384, .f32⟩
  | 115 => ⟨S_, .f32⟩
  | 116 => ⟨S1024, .f32⟩
  | 117 => ⟨S1024, .f32⟩
  | 118 => ⟨S1024x1536, .f32⟩
  | 119 => ⟨S256x6144, .f32⟩
  | 120 => ⟨S1x1024, .f32⟩
  | 121 => ⟨S1x1024, .f32⟩
  | 122 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_23 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_cst_25 : Ref sig .tc := ⟨.hbm, 123, rfl⟩
abbrev main_v89 : Ref sig .tc := ⟨.hbm, 124, rfl⟩
abbrev main_v90 : Ref sig .tc := ⟨.hbm, 125, rfl⟩
abbrev main_cst_26 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_27 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_28 : Ref sig .tc := ⟨.hbm, 141, rfl⟩
abbrev main_v104 : Ref sig .tc := ⟨.hbm, 142, rfl⟩
abbrev main_v105 : Ref sig .tc := ⟨.hbm, 143, rfl⟩
abbrev main_cst_29 : Ref sig .tc := ⟨.hbm, 144, rfl⟩
abbrev main_v106 : Ref sig .tc := ⟨.hbm, 145, rfl⟩
abbrev main_v107 : Ref sig .tc := ⟨.hbm, 146, rfl⟩
abbrev main_cst_30 : Ref sig .tc := ⟨.hbm, 147, rfl⟩
abbrev main_v108 : Ref sig .tc := ⟨.hbm, 148, rfl⟩
abbrev main_v109 : Ref sig .tc := ⟨.hbm, 149, rfl⟩
abbrev main_cst_31 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_32 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_33 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_34 : Ref sig .tc := ⟨.hbm, 175, rfl⟩
abbrev main_v132 : Ref sig .tc := ⟨.hbm, 176, rfl⟩
abbrev main_v133 : Ref sig .tc := ⟨.hbm, 177, rfl⟩
abbrev main_cst_35 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_36 : Ref sig .tc := ⟨.hbm, 184, rfl⟩
abbrev main_v139 : Ref sig .tc := ⟨.hbm, 185, rfl⟩
abbrev main_v140 : Ref sig .tc := ⟨.hbm, 186, rfl⟩
abbrev main_cst_37 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_38 : Ref sig .tc := ⟨.hbm, 192, rfl⟩
abbrev main_v145 : Ref sig .tc := ⟨.hbm, 193, rfl⟩
abbrev main_v146 : Ref sig .tc := ⟨.hbm, 194, rfl⟩
abbrev main_cst_39 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_40 : Ref sig .tc := ⟨.hbm, 200, rfl⟩
abbrev main_v151 : Ref sig .tc := ⟨.hbm, 201, rfl⟩
abbrev main_v152 : Ref sig .tc := ⟨.hbm, 202, rfl⟩
abbrev main_cst_41 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_42 : Ref sig .tc := ⟨.hbm, 209, rfl⟩
abbrev main_v158 : Ref sig .tc := ⟨.hbm, 210, rfl⟩
abbrev main_v159 : Ref sig .tc := ⟨.hbm, 211, rfl⟩
abbrev main_cst_43 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_44 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_cst_45 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_46 : Ref sig .tc := ⟨.hbm, 226, rfl⟩
abbrev main_v171 : Ref sig .tc := ⟨.hbm, 227, rfl⟩
abbrev main_v172 : Ref sig .tc := ⟨.hbm, 228, rfl⟩
abbrev main_cst_47 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_cst_48 : Ref sig .tc := ⟨.hbm, 235, rfl⟩
abbrev main_v178 : Ref sig .tc := ⟨.hbm, 236, rfl⟩
abbrev main_v179 : Ref sig .tc := ⟨.hbm, 237, rfl⟩
abbrev main_cst_49 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_50 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩

abbrev nD : Nat := 1
abbrev τ : Topo := Topo.v7x

variable {F : FTy → Type} [FloatOps F]
-- ==== Kernel12.lean ====
abbrev S4096x1024 : Shape := ⟨2, ![4096, 1024]⟩
abbrev S1024x2176 : Shape := ⟨2, ![1024, 2176]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x2176 : Shape := ⟨2, ![4096, 2176]⟩
abbrev S4096x1152 : Shape := ⟨2, ![4096, 1152]⟩
abbrev S1024x4608 : Shape := ⟨2, ![1024, 4608]⟩
abbrev S256x18432 : Shape := ⟨2, ![256, 18432]⟩
abbrev S1024x4096 : Shape := ⟨2, ![1024, 4096]⟩
abbrev S512x1024 : Shape := ⟨2, ![512, 1024]⟩
abbrev S512x128 : Shape := ⟨2, ![512, 128]⟩
abbrev S512x2176 : Shape := ⟨2, ![512, 2176]⟩
abbrev S512x1152 : Shape := ⟨2, ![512, 1152]⟩
abbrev S128x4608 : Shape := ⟨2, ![128, 4608]⟩
abbrev S32x18432 : Shape := ⟨2, ![32, 18432]⟩
abbrev S1024x512 : Shape := ⟨2, ![1024, 512]⟩
abbrev S9x512x128 : Shape := ⟨3, ![9, 512, 128]⟩
abbrev S1x512x128 : Shape := ⟨3, ![1, 512, 128]⟩
abbrev S128x128 : Shape := ⟨2, ![128, 128]⟩
abbrev S32x128 : Shape := ⟨2, ![32, 128]⟩

abbrev nBuf : Space → Nat
  | .hbm => 31
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x2176, .f32⟩
  | .hbm, ⟨2, _⟩ => ⟨S4096, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x128, .f32⟩
  | .hbm, ⟨22, _⟩ => ⟨S4096x32, .f32⟩
  | .hbm, ⟨23, _⟩ => ⟨S4096x32, .f32⟩
  | .hbm, ⟨24, _⟩ => ⟨S4096x128, .f32⟩
  | .hbm, ⟨25, _⟩ => ⟨S1024x2176, .bf16⟩
  | .hbm, ⟨26, _⟩ => ⟨S4096x2176, .f32⟩
  | .hbm, ⟨27, _⟩ => ⟨S4096x1152, .bf16⟩
  | .hbm, ⟨28, _⟩ => ⟨S1024x4608, .bf16⟩
  | .hbm, ⟨29, _⟩ => ⟨S256x18432, .bf16⟩
  | .hbm, ⟨30, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1024x2176, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x2176, .f32⟩
  | .local _ .vmem, ⟨8, _⟩ => ⟨S512x2176, .f32⟩
  | .local _ .vmem, ⟨9, _⟩ => ⟨S512x1152, .bf16⟩
  | .local _ .vmem, ⟨10, _⟩ => ⟨S512x1152, .bf16⟩
  | .local _ .vmem, ⟨11, _⟩ => ⟨S128x4608, .bf16⟩
  | .local _ .vmem, ⟨12, _⟩ => ⟨S128x4608, .bf16⟩
  | .local _ .vmem, ⟨13, _⟩ => ⟨S32x18432, .bf16⟩
  | .local _ .vmem, ⟨14, _⟩ => ⟨S32x18432, .bf16⟩
  | .local _ .vmem, ⟨15, _⟩ => ⟨S1024x512, .bf16⟩
  | .local _ .vmem, ⟨16, _⟩ => ⟨S1024x512, .bf16⟩
  | .local _ .vmem, ⟨17, _⟩ => ⟨S9x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev main_v21_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x18432 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1024 : Shape := ⟨2, ![4096, 1024]⟩
abbrev S1024x2176 : Shape := ⟨2, ![1024, 2176]⟩
abbrev S4096x2176 : Shape := ⟨2, ![4096, 2176]⟩
abbrev S4096x384 : Shape := ⟨2, ![4096, 384]⟩
abbrev S4096x6x64 : Shape := ⟨3, ![4096, 6, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x6x32 : Shape := ⟨3, ![4096, 6, 32]⟩
abbrev S4096x1152 : Shape := ⟨2, ![4096, 1152]⟩
abbrev S1024x4608 : Shape := ⟨2, ![1024, 4608]⟩
abbrev S256x18432 : Shape := ⟨2, ![256, 18432]⟩
abbrev S1024x4096 : Shape := ⟨2, ![1024, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2176, .f32⟩
  | .hbm, ⟨2, _⟩ => ⟨S4096x2176, .f32⟩
  | .hbm, ⟨3, _⟩ => ⟨S4096x384, .f32⟩
  | .hbm, ⟨4, _⟩ => ⟨S4096x6x64, .f32⟩
  | .hbm, ⟨5, _⟩ => ⟨S4096, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x1x32, .f32⟩
  | .hbm, ⟨24, _⟩ => ⟨S4096x32, .f32⟩
  | .hbm, ⟨25, _⟩ => ⟨S4096x1x32, .f32⟩
  | .hbm, ⟨26, _⟩ => ⟨S4096x6x32, .f32⟩
  | .hbm, ⟨27, _⟩ => ⟨S4096x6x32, .f32⟩
  | .hbm, ⟨28, _⟩ => ⟨S4096x6x32, .f32⟩
  | .hbm, ⟨29, _⟩ => ⟨S4096x6x32, .f32⟩
  | .hbm, ⟨30, _⟩ => ⟨S4096x6x32, .f32⟩
  | .hbm, ⟨31, _⟩ => ⟨S4096x6x32, .f32⟩
  | .hbm, ⟨32, _⟩ => ⟨S4096x6x32, .f32⟩
  | .hbm, ⟨33, _⟩ => ⟨S4096x6x32, .f32⟩
  | .hbm, ⟨34, _⟩ => ⟨S4096x6x32, .f32⟩
  | .hbm, ⟨35, _⟩ => ⟨S4096x6x32, .f32⟩
  | .hbm, ⟨36, _⟩ => ⟨S4096x6x32, .f32⟩
  | .hbm, ⟨37, _⟩ => ⟨S4096x6x32, .f32⟩
  | .hbm, ⟨38, _⟩ => ⟨S4096x6x64, .f32⟩
  | .hbm, ⟨39, _⟩ => ⟨S4096x384, .f32⟩
  | .hbm, ⟨40, _⟩ => ⟨S4096x6x64, .f32⟩
  | .hbm, ⟨41, _⟩ => ⟨S4096, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S4096x1, .f32⟩
  | .hbm, ⟨54, _⟩ => ⟨S1x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x1x32, .f32⟩
  | .hbm, ⟨60, _⟩ => ⟨S4096x32, .f32⟩
  | .hbm, ⟨61, _⟩ => ⟨S4096x1x32, .f32⟩
  | .hbm, ⟨62, _⟩ => ⟨S4096x6x32, .f32⟩
  | .hbm, ⟨63, _⟩ => ⟨S4096x6x32, .f32⟩
  | .hbm, ⟨64, _⟩ => ⟨S4096x6x32, .f32⟩
  | .hbm, ⟨65, _⟩ => ⟨S4096x6x32, .f32⟩
  | .hbm, ⟨66, _⟩ => ⟨S4096x6x32, .f32⟩
  | .hbm, ⟨67, _⟩ => ⟨S4096x6x32, .f32⟩
  | .hbm, ⟨68, _⟩ => ⟨S4096x6x32, .f32⟩
  | .hbm, ⟨69, _⟩ => ⟨S4096x6x32, .f32⟩
  | .hbm, ⟨70, _⟩ => ⟨S4096x6x32, .f32⟩
  | .hbm, ⟨71, _⟩ => ⟨S4096x6x32, .f32⟩
  | .hbm, ⟨72, _⟩ => ⟨S4096x6x32, .f32⟩
  | .hbm, ⟨73, _⟩ => ⟨S4096x6x32, .f32⟩
  | .hbm, ⟨74, _⟩ => ⟨S4096x6x64, .f32⟩
  | .hbm, ⟨75, _⟩ => ⟨S4096x384, .f32⟩
  | .hbm, ⟨76, _⟩ => ⟨S4096x6x64, .f32⟩
  | .hbm, ⟨77, _⟩ => ⟨S4096x384, .f32⟩
  | .hbm, ⟨78, _⟩ => ⟨S4096x384, .f32⟩
  | .hbm, ⟨79, _⟩ => ⟨S4096x384, .f32⟩
  | .hbm, ⟨80, _⟩ => ⟨S4096x1152, .f32⟩
  | .hbm, ⟨81, _⟩ => ⟨S4096x1152, .bf16⟩
  | .hbm, ⟨82, _⟩ => ⟨S1024x4608, .bf16⟩
  | .hbm, ⟨83, _⟩ => ⟨S256x18432, .bf16⟩
  | .hbm, ⟨84, _⟩ => ⟨S1024x4096, .f32⟩
  | .hbm, ⟨85, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩

abbrev nD : Nat := 1
abbrev τ : Topo := Topo.v7x

variable {F : FTy → Type} [FloatOps F]
-- ==== Kernel13.lean ====
abbrev S4096x2176 : Shape := ⟨2, ![4096, 2176]⟩
abbrev S4096x256 : Shape := ⟨2, ![4096, 256]⟩
abbrev S256 : Shape := ⟨1, ![256]⟩
abbrev S256x256 : Shape := ⟨2, ![256, 256]⟩
abbrev S1x256 : Shape := ⟨2, ![1, 256]⟩
abbrev S512x128 : Shape := ⟨2, ![512, 128]⟩
abbrev S512x256 : Shape := ⟨2, ![512, 256]⟩

abbrev nBuf : Space → Nat
  | .hbm => 10
  | .vmem => 13
  | .smem => 0
  | _ => 0

abbrev bufTy : (tb : Table) → Fin (tcTables nBuf tb) → BufTy
  | .hbm, ⟨0, _⟩ => ⟨S4096x2176, .f32⟩
  | .hbm, ⟨1, _⟩ => ⟨S4096x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S256x256, .bf16⟩
  | .hbm, ⟨7, _⟩ => ⟨S1x256, .f32⟩
  | .hbm, ⟨8, _⟩ => ⟨S4096x256, .f32⟩
  | .hbm, ⟨9, _⟩ => ⟨S4096x256, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "cubic" => some ((8943 / 200000 : ℝ) : EReal)
  | _ => none
-- ==== Reference13Ideal.lean ====
abbrev S4096x2176 : Shape := ⟨2, ![4096, 2176]⟩
abbrev S4096x256 : Shape := ⟨2, ![4096, 256]⟩
abbrev S256 : Shape := ⟨1, ![256]⟩
abbrev S256x256 : Shape := ⟨2, ![256, 256]⟩
abbrev S1x256 : Shape := ⟨2, ![1, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S4096x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S4096x256, .f32⟩
  | .hbm, ⟨6, _⟩ => ⟨S1x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S1x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .f32⟩
  | .hbm, ⟨38, _⟩ => ⟨S_, .f32⟩
  | .hbm, ⟨39, _⟩ => ⟨S4096x256, .f32⟩
  | .hbm, ⟨40, _⟩ => ⟨S4096x256, .f32⟩
  | .hbm, ⟨41, _⟩ => ⟨S4096x256, .f32⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel14.lean ====
abbrev S8x1x16x64x16 : Shape := ⟨5, ![8, 1, 16, 64, 16]⟩
abbrev S2x16x64x16 : Shape := ⟨4, ![2, 16, 64, 16]⟩
abbrev S1x1x16x64x16 : Shape := ⟨5, ![1, 1, 16, 64, 16]⟩
abbrev S1x16x64x16 : Shape := ⟨4, ![1, 16, 64, 16]⟩

abbrev nBuf : Space → Nat
  | .hbm => 18
  | .vmem => 18
  | .smem => 0
  | _ => 0

abbrev bufTy : (tb : Table) → Fin (tcTables nBuf tb) → BufTy
  | .hbm, ⟨0, _⟩ => ⟨S8x1x16x64x16, .f32⟩
  | .hbm, ⟨1, _⟩ => ⟨S8x1x16x64x16, .f32⟩
  | .hbm, ⟨2, _⟩ => ⟨S8x1x16x64x16, .f32⟩
  | .hbm, ⟨3, _⟩ => ⟨S8x1x16x64x16, .f32⟩
  | .hbm, ⟨4, _⟩ => ⟨S2x16x64x16, .f32⟩
  | .hbm, ⟨5, _⟩ => ⟨S2x16x64x16, .f32⟩
  | .hbm, ⟨6, _⟩ => ⟨S2x16x64x16, .f32⟩
  | .hbm, ⟨7, _⟩ => ⟨S2x16x64x16, .f32⟩
  | .hbm, ⟨8, _⟩ => ⟨S2x16x64x16, .f32⟩
  | .hbm, ⟨9, _⟩ => ⟨S2x16x64x16, .f32⟩
  | .hbm, ⟨10, _⟩ => ⟨S2x16x64x16, .f32⟩
  | .hbm, ⟨11, _⟩ => ⟨S2x16x64x16, .f32⟩
  | .hbm, ⟨12, _⟩ => ⟨S2x16x64x16, .f32⟩
  | .hbm, ⟨13, _⟩ => ⟨S2x16x64x16, .f32⟩
  | .hbm, ⟨14, _⟩ => ⟨S2x16x64x16, .f32⟩
  | .hbm, ⟨15, _⟩ => ⟨S2x16x64x16, .f32⟩
  | .hbm, ⟨16, _⟩ => ⟨S2x16x64x16, .f32⟩
  | .hbm, ⟨17, _⟩ => ⟨S2x16x64x16, .f32⟩
  | .local _ .vmem, ⟨0, _⟩ => ⟨S8x1x16x64x16, .f32⟩
  | .local _ .vmem, ⟨1, _⟩ => ⟨S8x1x16x64x16, .f32⟩
  | .local _ .vmem, ⟨2, _⟩ => ⟨S8x1x16x64x16, .f32⟩
  | .local _ .vmem, ⟨3, _⟩ => ⟨S8x1x16x64x16, .f32⟩
  | .local _ .vmem, ⟨4, _⟩ => ⟨S2x16x64x16, .f32⟩
  | .local _ .vmem, ⟨5, _⟩ => ⟨S2x16x64x16, .f32⟩
  | .local _ .vmem, ⟨6, _⟩ => ⟨S2x16x64x16, .f32⟩
  | .local _ .vmem, ⟨7, _⟩ => ⟨S2x16x64x16, .f32⟩
  | .local _ .vmem, ⟨8, _⟩ => ⟨S2x16x64x16, .f32⟩
  | .local _ .vmem, ⟨9, _⟩ => ⟨S2x16x64x16, .f32⟩
  | .local _ .vmem, ⟨10, _⟩ => ⟨S2x16x64x16, .f32⟩
  | .local _ .vmem, ⟨11, _⟩ => ⟨S2x16x64x16, .f32⟩
  | .local _ .vmem, ⟨12, _⟩ => ⟨S2x16x64x16, .f32⟩
  | .local _ .vmem, ⟨13, _⟩ => ⟨S2x16x64x16, .f32⟩
  | .local _ .vmem, ⟨14, _⟩ => ⟨S2x16x64x16, .f32⟩
  | .local _ .vmem, ⟨15, _⟩ => ⟨S2x16x64x16, .f32⟩
  | .local _ .vmem, ⟨16, _⟩ => ⟨S2x16x64x16, .f32⟩
  | .local _ .vmem, ⟨17, _⟩ => ⟨S2x16x64x16, .f32⟩
  | _, _ => ⟨S8x1x16x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S8x1x16x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x16x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x16x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x16x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16x64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16x64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16x64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x16x64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x16x64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16x64x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x16x64x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x16x64x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x16x64x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x16x64x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x16x64x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Reference14Ideal.lean ====
abbrev S8x1x16x64x16 : Shape := ⟨5, ![8, 1, 16, 64, 16]⟩
abbrev S2x16x64x16 : Shape := ⟨4, ![2, 16, 64, 16]⟩
abbrev S_ : Shape := ⟨0, ![]⟩
abbrev S1x16x64x16 : Shape := ⟨4, ![1, 16, 64, 16]⟩

abbrev nBuf : Space → Nat
  | .hbm => 86
  | .vmem => 0
  | .smem => 0
  | _ => 0

abbrev bufTy : (tb : Table) → Fin (tcTables nBuf tb) → BufTy
  | .hbm, ⟨0, _⟩ => ⟨S8x1x16x64x16, .f32⟩
  | .hbm, ⟨1, _⟩ => ⟨S8x1x16x64x16, .f32⟩
  | .hbm, ⟨2, _⟩ => ⟨S8x1x16x64x16, .f32⟩
  | .hbm, ⟨3, _⟩ => ⟨S8x1x16x64x16, .f32⟩
  | .hbm, ⟨4, _⟩ => ⟨S2x16x64x16, .f32⟩
  | .hbm, ⟨5, _⟩ => ⟨S2x16x64x16, .f32⟩
  | .hbm, ⟨6, _⟩ => ⟨S2x16x64x16, .f32⟩
  | .hbm, ⟨7, _⟩ => ⟨S2x16x64x16, .f32⟩
  | .hbm, ⟨8, _⟩ => ⟨S2x16x64x16, .f32⟩
  | .hbm, ⟨9, _⟩ => ⟨S2x16x64x16, .f32⟩
  | .hbm, ⟨10, _⟩ => ⟨S_, .f32⟩
  | .hbm, ⟨11, _⟩ => ⟨S1x16x64x16, .f32⟩
  | .hbm, ⟨12, _⟩ => ⟨S_, .f32⟩
  | .hbm, ⟨13, _⟩ => ⟨S1x16x64x16, .f32⟩
  | .hbm, ⟨14, _⟩ => ⟨S2x16x64x16, .f32⟩
  | .hbm, ⟨15, _⟩ => ⟨S_, .f32⟩
  | .hbm, ⟨16, _⟩ => ⟨S1x16x64x16, .f32⟩
  | .hbm, ⟨17, _⟩ => ⟨S_, .f32⟩
  | .hbm, ⟨18, _⟩ => ⟨S1x16x64x16, .f32⟩
  | .hbm, ⟨19, _⟩ => ⟨S2x16x64x16, .f32⟩
  | .hbm, ⟨20, _⟩ => ⟨S_, .f32⟩
  | .hbm, ⟨21, _⟩ => ⟨S2x16x64x16, .f32⟩
  | .hbm, ⟨22, _⟩ => ⟨S2x16x64x16, .f32⟩
  | .hbm, ⟨23, _⟩ => ⟨S_, .f32⟩
  | .hbm, ⟨24, _⟩ => ⟨S2x16x64x16, .f32⟩
  | .hbm, ⟨25, _⟩ => ⟨S2x16x64x16, .f32⟩
  | .hbm, ⟨26, _⟩ => ⟨S2x16x64x16, .f32⟩
  | .hbm, ⟨27, _⟩ => ⟨S_, .f32⟩
  | .hbm, ⟨28, _⟩ => ⟨S2x16x64x16, .f32⟩
  | .hbm, ⟨29, _⟩ => ⟨S2x16x64x16, .f32⟩
  | .hbm, ⟨30, _⟩ => ⟨S2x16x64x16, .f32⟩
  | .hbm, ⟨31, _⟩ => ⟨S_, .f32⟩
  | .hbm, ⟨32, _⟩ => ⟨S2x16x64x16, .f32⟩
  | .hbm, ⟨33, _⟩ => ⟨S2x16x64x16, .f32⟩
  | .hbm, ⟨34, _⟩ => ⟨S2x16x64x16, .f32⟩
  | .hbm, ⟨35, _⟩ => ⟨S_, .f32⟩
  | .hbm, ⟨36, _⟩ => ⟨S2x16x64x16, .f32⟩
  | .hbm, ⟨37, _⟩ => ⟨S2x16x64x16, .f32⟩
  | .hbm, ⟨38, _⟩ => ⟨S_, .f32⟩
  | .hbm, ⟨39, _⟩ => ⟨S2x16x64x16, .f32⟩
  | .hbm, ⟨40, _⟩ => ⟨S2x16x64x16, .f32⟩
  | .hbm, ⟨41, _⟩ => ⟨S2x16x64x16, .f32⟩
  | .hbm, ⟨42, _⟩ => ⟨S_, .f32⟩
  | .hbm, ⟨43, _⟩ => ⟨S2x16x64x16, .f32⟩
  | .hbm, ⟨44, _⟩ => ⟨S2x16x64x16, .f32⟩
  | .hbm, ⟨45, _⟩ => ⟨S2x16x64x16, .f32⟩
  | .hbm, ⟨46, _⟩ => ⟨S_, .f32⟩
  | .hbm, ⟨47, _⟩ => ⟨S2x16x64x16, .f32⟩
  | .hbm, ⟨48, _⟩ => ⟨S2x16x64x16, .f32⟩
  | .hbm, ⟨49, _⟩ => ⟨S2x16x64x16, .f32⟩
  | .hbm, ⟨50, _⟩ => ⟨S_, .f32⟩
  | .hbm, ⟨51, _⟩ => ⟨S2x16x64x16, .f32⟩
  | .hbm, ⟨52, _⟩ => ⟨S2x16x64x16, .f32⟩
  | .hbm, ⟨53, _⟩ => ⟨S_, .f32⟩
  | .hbm, ⟨54, _⟩ => ⟨S2x16x64x16, .f32⟩
  | .hbm, ⟨55, _⟩ => ⟨S2x16x64x16, .f32⟩
  | .hbm, ⟨56, _⟩ => ⟨S_, .f32⟩
  | .hbm, ⟨57, _⟩ => ⟨S2x16x64x16, .f32⟩
  | .hbm, ⟨58, _⟩ => ⟨S2x16x64x16, .f32⟩
  | .hbm, ⟨59, _⟩ => ⟨S2x16x64x16, .f32⟩
  | .hbm, ⟨60, _⟩ => ⟨S_, .f32⟩
  | .hbm, ⟨61, _⟩ => ⟨S2x16x64x16, .f32⟩
  | .hbm, ⟨62, _⟩ => ⟨S2x16x64x16, .f32⟩
  | .hbm, ⟨63, _⟩ => ⟨S2x16x64x16, .f32⟩
  | .hbm, ⟨64, _⟩ => ⟨S_, .f32⟩
  | .hbm, ⟨65, _⟩ => ⟨S2x16x64x16, .f32⟩
  | .hbm, ⟨66, _⟩ => ⟨S2x16x64x16, .f32⟩
  | .hbm, ⟨67, _⟩ => ⟨S2x16x64x16, .f32⟩
  | .hbm, ⟨68, _⟩ => ⟨S_, .f32⟩
  | .hbm, ⟨69, _⟩ => ⟨S2x16x64x16, .f32⟩
  | .hbm, ⟨70, _⟩ => ⟨S2x16x64x16, .f32⟩
  | .hbm, ⟨71, _⟩ => ⟨S_, .f32⟩
  | .hbm, ⟨72, _⟩ => ⟨S2x16x64x16, .f32⟩
  | .hbm, ⟨73, _⟩ => ⟨S2x16x64x16, .f32⟩
  | .hbm, ⟨74, _⟩ => ⟨S2x16x64x16, .f32⟩
  | .hbm, ⟨75, _⟩ => ⟨S_, .f32⟩
  | .hbm, ⟨76, _⟩ => ⟨S2x16x64x16, .f32⟩
  | .hbm, ⟨77, _⟩ => ⟨S2x16x64x16, .f32⟩
  | .hbm, ⟨78, _⟩ => ⟨S2x16x64x16, .f32⟩
  | .hbm, ⟨79, _⟩ => ⟨S_, .f32⟩
  | .hbm, ⟨80, _⟩ => ⟨S2x16x64x16, .f32⟩
  | .hbm, ⟨81, _⟩ => ⟨S2x16x64x16, .f32⟩
  | .hbm, ⟨82, _⟩ => ⟨S2x16x64x16, .f32⟩
  | .hbm, ⟨83, _⟩ => ⟨S_, .f32⟩
  | .hbm, ⟨84, _⟩ => ⟨S2x16x64x16, .f32⟩
  | .hbm, ⟨85, _⟩ => ⟨S2x16x64x16, .f32⟩
  | _, _ => ⟨S8x1x16x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_cst_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_7 : Ref sig .tc := ⟨.hbm, 35, rfl⟩
abbrev main_v17 : Ref sig .tc := ⟨.hbm, 36, rfl⟩
abbrev main_v18 : Ref sig .tc := ⟨.hbm, 37, rfl⟩
abbrev main_cst_8 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_9 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_10 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_11 : Ref sig .tc := ⟨.hbm, 50, rfl⟩
abbrev main_v28 : Ref sig .tc := ⟨.hbm, 51, rfl⟩
abbrev main_v29 : Ref sig .tc := ⟨.hbm, 52, rfl⟩
abbrev main_cst_12 : Ref sig .tc := ⟨.hbm, 53, rfl⟩
abbrev main_v30 : Ref sig .tc := ⟨.hbm, 54, rfl⟩
abbrev main_v31 : Ref sig .tc := ⟨.hbm, 55, rfl⟩
abbrev main_cst_13 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_14 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_15 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_16 : Ref sig .tc := ⟨.hbm, 68, rfl⟩
abbrev main_v41 : Ref sig .tc := ⟨.hbm, 69, rfl⟩
abbrev main_v42 : Ref sig .tc := ⟨.hbm, 70, rfl⟩
abbrev main_cst_17 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_18 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_19 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_20 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]
-- ==== Kernel15.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x3072, .bf16⟩
  | .hbm, ⟨7, _⟩ => ⟨S3072x1024, .bf16⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1x128, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference15Ideal.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S1x128, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.Ffn.Base.lean ====
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the points before point 4 — by arithmetic of the point. -/
theorem hcond0_0 : ∀ t : Fin cfg0.N, cond0_0 (grid0.coords t) ↔ t.val < 4 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- One staging buffer of output window 7, through which its contents are stated (`View.read_writes_of_cover`: the
    choice does not matter). -/
abbrev VO0_7 : View sig .tc .vmem S512x1536 .bf16 := (Memref.whole cc0_stg7_0 : Memref sig .tc .vmem S512x1536 .bf16).view
/-- One staging buffer of output window 8, through which its contents are stated (`View.read_writes_of_cover`: the
    choice does not matter). -/
abbrev VO0_8 : View sig .tc .vmem S512x1024 .f32 := (Memref.whole cc0_stg8_0 : Memref sig .tc .vmem S512x1024 .f32).view
/-- One staging buffer of output window 9, through which its contents are stated (`View.read_writes_of_cover`: the
    choice does not matter). -/
abbrev VO0_9 : View sig .tc .vmem S1x3x1536 .f32 := (Memref.whole cc0_stg9_0 : Memref sig .tc .vmem S1x3x1536 .f32).view
/-- One staging buffer of output window 10, through which its contents are stated (`View.read_writes_of_cover`: the
    choice does not matter). -/
abbrev VO0_10 : View sig .tc .vmem S1x1x1536 .f32 := (Memref.whole cc0_stg10_0 : Memref sig .tc .vmem S1x1x1536 .f32).view
/-- Each window's current staging memref at point `t`, spelled as the pipeline passes it (`bodyAt0`), and its wholeness. -/
abbrev ms0_0 (t : Fin cfg0.N) : Memref sig .tc .vmem S512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1536 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S4x8x1536 .f32 := Memref.whole cc0_scratch0
/-- The scratch `arg13` the kernel carries between points, as a view: what it holds is stated through it. -/
abbrev VS0_0 : View sig .tc .vmem S4x8x1536 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Ffn

end
-- ==== Proof.Ffn.Val.lean ====
module

public import proofs.«01_k».proof.Proof.Ffn.Base
public import Idealize.ShloMosaic.Lib.VecWindow

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## What the body computes of one point's blocks

The blocks are named as the kernel's operands: `x0` the tile of the gated input before the convolution, `x1` of its
output, `x2` of the incoming gradient, `x3` of the down projection, `x4` and `x5` of the two halves of the up
projection, `x6` of the convolution's taps; `nx` is the first eight rows of the tile below, as carried. -/

/-- The gate's half of a tile of the convolution's output. -/
def lo (x1 : Vec F S512x1536 .f32) : Vec F S512x768 .f32 := VecWindow.window x1 ![0, 0] S512x768.size inb_S512x1536_S512x768_0_0
/-- The value's half. -/
def hi (x1 : Vec F S512x1536 .f32) : Vec F S512x768 .f32 := VecWindow.window x1 ![0, 768] S512x768.size inb_S512x1536_S512x768_0_768

/-- The gradient at the convolution's output. -/
def kdy (x1 : Vec F S512x1536 .f32) (x2 : Vec F S512x1024 .f32) (x3 : Vec F S768x1024 .bf16) : FVec F S512x1536 .f32 :=
  k0_pay15 (k0_pay8 x2 x3) (k0_pay9 (lo x1)) (k0_pay10 x2 x3 (hi x1)) (k0_pay11 (lo x1)) (k0_pay12 (lo x1)) (k0_pay13 (lo x1)) (k0_pay14 (lo x1))

/-- Its first eight rows, as the point leaves them for the tile above. -/
def khead (x1 : Vec F S512x1536 .f32) (x2 : Vec F S512x1024 .f32) (x3 : Vec F S768x1024 .bf16) : FVec F S1x8x1536 .f32 :=
  k0_pay17 (k0_pay8 x2 x3) (k0_pay9 (lo x1)) (k0_pay10 x2 x3 (hi x1)) (k0_pay11 (lo x1)) (k0_pay12 (lo x1)) (k0_pay13 (lo x1)) (k0_pay14 (lo x1))

/-- The tap that meets the gradient in place, times it. -/
def kt2 (x1 : Vec F S512x1536 .f32) (x2 : Vec F S512x1024 .f32) (x3 : Vec F S768x1024 .bf16) (x6 : Vec F S3x1536 .f32) : FVec F S512x1536 .f32 :=
  k0_pay18 (k0_pay6 x6) (k0_pay8 x2 x3) (k0_pay9 (lo x1)) (k0_pay10 x2 x3 (hi x1)) (k0_pay11 (lo x1)) (k0_pay12 (lo x1)) (k0_pay13 (lo x1)) (k0_pay14 (lo x1))

/-- The gradient turned up by two rows. -/
def krot (x1 : Vec F S512x1536 .f32) (x2 : Vec F S512x1024 .f32) (x3 : Vec F S768x1024 .bf16) : FVec F S512x1536 .f32 :=
  k0_pay20 (k0_pay8 x2 x3) (k0_pay9 (lo x1)) (k0_pay10 x2 x3 (hi x1)) (k0_pay11 (lo x1)) (k0_pay12 (lo x1)) (k0_pay13 (lo x1)) (k0_pay14 (lo x1))

/-- The tile of the gradient at the convolution's input. -/
def k7 (x1 : Vec F S512x1536 .f32) (x2 : Vec F S512x1024 .f32) (x3 : Vec F S768x1024 .bf16) (x6 : Vec F S3x1536 .f32) (nx : Vec F S1x8x1536 .f32) : FVec F S512x1536 .bf16 :=
  k0_pay25 (k0_pay6 x6) (kdy x1 x2 x3) (k0_pay16 nx) (kt2 x1 x2 x3 x6) (krot x1 x2 x3) 6#32

/-- The block of the gradient of the layer's input, the sum so far being `acc`. -/
def k8 (acc : Vec F S512x1024 .f32) (x1 : Vec F S512x1536 .f32) (x2 : Vec F S512x1024 .f32) (x3 : Vec F S768x1024 .bf16) (x4 : Vec F S1x1024x768 .bf16) (x5 : Vec F S1x1024x768 .bf16) (x6 : Vec F S3x1536 .f32) (nx : Vec F S1x8x1536 .f32) : FVec F S512x1024 .f32 :=
  k0_pay1 (k0_pay26 acc)
    (k0_pay27 (k0_pay6 x6) (kdy x1 x2 x3) (k0_pay16 nx) (kt2 x1 x2 x3 x6) (krot x1 x2 x3) 6#32 x4)
    (k0_pay28 (k0_pay6 x6) (kdy x1 x2 x3) (k0_pay16 nx) (kt2 x1 x2 x3 x6) (krot x1 x2 x3) 6#32) x5

/-- The tile's part of the gradient of the taps. -/
def k9 (x0 : Vec F S512x1536 .bf16) (x1 : Vec F S512x1536 .f32) (x2 : Vec F S512x1024 .f32) (x3 : Vec F S768x1024 .bf16) (nx : Vec F S1x8x1536 .f32) : FVec F S1x3x1536 .f32 :=
  k0_pay2 (k0_pay19 (k0_pay7 x0) (k0_pay8 x2 x3) (k0_pay9 (lo x1)) (k0_pay10 x2 x3 (hi x1)) (k0_pay11 (lo x1)) (k0_pay12 (lo x1)) (k0_pay13 (lo x1)) (k0_pay14 (lo x1)))
    (k0_pay22 (k0_pay7 x0) (k0_pay16 nx) (krot x1 x2 x3) 6#32)
    (k0_pay24 (k0_pay7 x0) (kdy x1 x2 x3) (k0_pay16 nx))

/-- The tile's part of the gradient of the convolution's bias. -/
def k10 (x1 : Vec F S512x1536 .f32) (x2 : Vec F S512x1024 .f32) (x3 : Vec F S768x1024 .bf16) : FVec F S1x1x1536 .f32 :=
  k0_pay3 (kdy x1 x2 x3)

/-- A slice of the carried rows. -/
def ksl (xs : Vec F S4x8x1536 .f32) (i : grid0.Coords) : Vec F S1x8x1536 .f32 :=
  VecWindow.window xs (k0_off2 i) S1x8x1536.size (k0_off2_inb i)

/-- The carried rows with one slice replaced. -/
def kput (xs : Vec F S4x8x1536 .f32) (i : grid0.Coords) (w : Vec F S1x8x1536 .f32) : Vec F S4x8x1536 .f32 :=
  VecWindow.put xs (k0_off2 i) S1x8x1536.size w

end Cert.KernelIdeal.Ffn

end
-- ==== Proof.Ffn.Spec.lean ====
/- The gradients of the convolutional feed-forward layer as functions of indices, at the extended reals. Both programs
   are read as these. -/
module

public import Idealize.ShloMosaic.PureOps.Ideal
public import Idealize.ShloMosaic.Lib.Pointwise

@[expose] public section

noncomputable section

namespace Cert.Ffn

open Idealize.ShloMosaic

/-- The one half, -/
abbrev half : EReal := Ideal.ofBits .f32 0x3F000000#32
/-- the root of 2/π as its word denotes it, -/
abbrev rt : EReal := Ideal.ofBits .f32 0x3F4C422A#32
/-- the cubic coefficient, -/
abbrev cub : EReal := ((8943 / 200000 : ℝ) : EReal)
/-- three times it, -/
abbrev cub3 : EReal := ((26829 / 200000 : ℝ) : EReal)
/-- and the residual's weight. -/
abbrev alpha : EReal := Ideal.ofBits .f32 0x3FB504F3#32

/-- The hyperbolic tangent inside the tanh form of the GELU. -/
def th (g : EReal) : EReal := Ideal.tanh (rt * (g + cub * (g * g * g)))

/-- The gradient at a gate `g` whose value is `v`, where `d` comes in from the product: `d v` times the GELU's derivative. -/
def dgate (d v g : EReal) : EReal :=
  d * v * (half * (1 + th g) + half * g * (1 - th g * th g) * (rt * (1 + cub3 * (g * g))))

/-- The gradient at the value: `d` times the GELU of the gate. -/
def dval (d g : EReal) : EReal := d * (half * g * (1 + th g))

/-- The gradient at the convolution's output: gates first, then values. -/
def dyS (da : Fin 4096 → Fin 3072 → EReal) (y : Fin 4096 → Fin 6144 → EReal) (r : Fin 4096) (j : Fin 6144) : EReal :=
  if h : j.val < 3072 then dgate (da r ⟨j.val, h⟩) (y r ⟨3072 + j.val, by omega⟩) (y r ⟨j.val, by omega⟩)
  else dval (da r ⟨j.val - 3072, by omega⟩) (y r ⟨j.val - 3072, by omega⟩)

/-- A column read `k` rows below row `r`, zero past its end. -/
def ahead (k : ℕ) (f : Fin 4096 → EReal) (r : ℕ) : EReal := if h : r + k < 4096 then f ⟨r + k, h⟩ else 0

/-- The gradient at the convolution's input. -/
def dupS (cw : Fin 3 → Fin 6144 → EReal) (dy : Fin 4096 → Fin 6144 → EReal) (r : Fin 4096) (j : Fin 6144) : EReal :=
  cw 2 j * dy r j + cw 0 j * ahead 2 (fun r => dy r j) r.val + cw 1 j * ahead 1 (fun r => dy r j) r.val

/-- The gradient of the layer's input: the residual's share and the product with the up projection's transpose. -/
def dhS (dr : Fin 4096 → Fin 1024 → EReal) (wup : Fin 1024 → Fin 6144 → EReal) (dup : Fin 4096 → Fin 6144 → EReal)
    (r : Fin 4096) (d : Fin 1024) : EReal := alpha * dr r d + ∑ j : Fin 6144, dup r j * wup d j

/-- The gradient of the convolution's taps. -/
def dcwS (up dy : Fin 4096 → Fin 6144 → EReal) (k : Fin 3) (j : Fin 6144) : EReal :=
  ∑ r : Fin 4096, ahead (2 - k.val) (fun r => dy r j) r.val * up r j

/-- The gradient of its bias. -/
def dcbS (dy : Fin 4096 → Fin 6144 → EReal) (j : Fin 6144) : EReal := ∑ r : Fin 4096, dy r j

/-! ## The columns' order

The kernel works on the columns in blocks of 1536, each of 768 gates followed by their 768 values. -/

/-- Column `q` of block `t` in the layer's own order. -/
def il (t : Fin 4) (q : Fin 1536) : Fin 6144 :=
  if h : q.val < 768 then ⟨768 * t.val + q.val, by omega⟩ else ⟨3072 + 768 * t.val + (q.val - 768), by omega⟩

/-- Column `j` of the blocked order in the layer's own. -/
def deil (j : Fin 6144) : Fin 6144 := il ⟨j.val / 1536, by omega⟩ ⟨j.val % 1536, by omega⟩

/-- Column `j` of the layer's order in the blocked one. -/
def inter (j : Fin 6144) : Fin 6144 := ⟨1536 * (j.val % 3072 / 768) + 768 * (j.val / 3072) + j.val % 768, by omega⟩

theorem il_val (t : Fin 4) (q : Fin 1536) : (il t q).val = 3072 * (q.val / 768) + 768 * t.val + q.val % 768 := by
  unfold il; split <;> dsimp only <;> omega

theorem deil_val (j : Fin 6144) : (deil j).val = 3072 * (j.val % 1536 / 768) + 768 * (j.val / 1536) + j.val % 768 := by
  unfold deil; rw [il_val]; dsimp only; omega

theorem deil_inter (j : Fin 6144) : deil (inter j) = j := by
  apply Fin.ext; rw [deil_val]; unfold inter; dsimp only; omega

theorem deil_block (t : Fin 4) (q : Fin 1536) (j : Fin 6144) (h : j.val = 1536 * t.val + q.val) : deil j = il t q := by
  apply Fin.ext; rw [deil_val, il_val]; omega

/-- A sum over the columns, block by block and half by half. -/
theorem sum_cols (f : Fin 6144 → EReal) :
    ∑ t : Fin 4, (∑ u : Fin 768, f (il t ⟨u.val, by omega⟩) + ∑ u : Fin 768, f (il t ⟨768 + u.val, by omega⟩)) = ∑ j : Fin 6144, f j := by
  rw [Finset.sum_add_distrib]
  rw [Fin.sum_univ_two_halves 3072 3072 rfl f]
  congr 1
  · rw [Fin.sum_univ_tiles 4 768 rfl (fun k : Fin 3072 => f ⟨k.val, by omega⟩)]
    refine Finset.sum_congr rfl fun t _ => Finset.sum_congr rfl fun u _ => congrArg f (Fin.ext ?_)
    rw [il_val]; dsimp only; omega
  · rw [Fin.sum_univ_tiles 4 768 rfl (fun k : Fin 3072 => f ⟨3072 + k.val, by omega⟩)]
    refine Finset.sum_congr rfl fun t _ => Finset.sum_congr rfl fun u _ => congrArg f (Fin.ext ?_)
    rw [il_val]; dsimp only; omega

/-- A sum over the rows, block by block. -/
theorem sum_rows (f : Fin 4096 → EReal) : ∑ b : Fin 8, ∑ p : Fin 512, f ⟨512 * b.val + p.val, by omega⟩ = ∑ r : Fin 4096, f r := by
  rw [Fin.sum_univ_tiles 8 512 rfl f]
  exact Finset.sum_congr rfl fun t _ => Finset.sum_congr rfl fun u _ => congrArg f (Fin.ext (by dsimp only; omega))

/-- A sum of products with a column read ahead, without the rows past the end. -/
theorem sum_ahead (k n : ℕ) (hn : n + k = 4096) (f g : Fin 4096 → EReal) :
    ∑ r : Fin 4096, ahead k f r.val * g r = ∑ x : Fin n, f ⟨k + x.val, by omega⟩ * g ⟨x.val, by omega⟩ := by
  rw [Fin.sum_univ_two_halves n k hn]
  rw [Finset.sum_eq_zero (s := (Finset.univ : Finset (Fin k))) fun x _ => ?_, add_zero]
  · refine Finset.sum_congr rfl fun x _ => ?_
    unfold ahead
    rw [dif_pos (by dsimp only; omega)]
    exact congrArg (fun z => f z * _) (Fin.ext (by dsimp only; omega))
  · unfold ahead
    rw [dif_neg (by dsimp only; omega), zero_mul]

/-- Rows ahead of a block's row: within the block, or from the rows of the block below. -/
theorem ahead_block (k : ℕ) (hk : k ≤ 8) (f : Fin 4096 → EReal) (dyb : Fin 512 → EReal) (nx : Fin 8 → EReal) (b : ℕ) (hb : b < 8)
    (hdy : ∀ p : Fin 512, dyb p = f ⟨512 * b + p.val, by omega⟩) (hnx : ∀ s : Fin 8, nx s = ahead (512 + s.val) f (512 * b)) (p : Fin 512) :
    (if h : p.val + k < 512 then dyb ⟨p.val + k, h⟩ else nx ⟨p.val + k - 512, by omega⟩) = ahead k f (512 * b + p.val) := by
  by_cases h : p.val + k < 512
  · rw [dif_pos h, hdy, ahead, dif_pos (by omega)]
    exact congrArg f (Fin.ext (by dsimp only; omega))
  · rw [dif_neg h, hnx]
    unfold ahead
    by_cases h2 : 512 * b + p.val + k < 4096
    · rw [dif_pos (by dsimp only; omega), dif_pos h2]
      exact congrArg f (Fin.ext (by dsimp only; omega))
    · rw [dif_neg (by dsimp only; omega), dif_neg h2]

end Cert.Ffn

end
-- ==== Proof.Ffn.Pure.lean ====
module

public import proofs.«01_k».proof.Proof.Ffn.Val
public import proofs.«01_k».proof.Proof.Ffn.Spec
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Ffn

open Idealize.ShloMosaic Idealize.ShloMosaic.TcCoe Idealize.SL.Sem
open Cert.KernelIdeal Cert.KernelIdeal.Gen

theorem lo_at (x1 : FVec Ideal S512x1536 .f32) (p : Fin 512) (u : Fin 768) :
    lo (F := Ideal) x1 (ix2 p u) = x1 (ix2 p ⟨u.val, by omega⟩) := by
  unfold lo VecWindow.window
  congr 1
  blk_ext

theorem hi_at (x1 : FVec Ideal S512x1536 .f32) (p : Fin 512) (u : Fin 768) :
    hi (F := Ideal) x1 (ix2 p u) = x1 (ix2 p ⟨768 + u.val, by omega⟩) := by
  unfold hi VecWindow.window
  congr 1
  blk_ext

/-- The named coefficients are the rationals they stand for. -/
theorem named_cubic : (Named.named (F := Ideal) (φ := .f32) κ "cubic" 0x3D372713#32 : EReal) = Ffn.cub :=
  IdealRules.named_const.ideal_named_scalar _ _ _ _ rfl
theorem named_cubic3 : (Named.named (F := Ideal) (φ := .f32) κ "cubic3" 0x3E095D4F#32 : EReal) = Ffn.cub3 :=
  IdealRules.named_const.ideal_named_scalar _ _ _ _ rfl

theorem kdy_at (x1 : FVec Ideal S512x1536 .f32) (x2 : FVec Ideal S512x1024 .f32) (x3 : FVec Ideal S768x1024 .bf16) (p : Fin 512) (q : Fin 1536) :
    kdy (F := Ideal) x1 x2 x3 (ix2 p q) =
      if h : q.val < 768 then Ffn.dgate (∑ k : Fin 1024, x2 (ix2 p k) * x3 (ix2 ⟨q.val, h⟩ k)) (x1 (ix2 p ⟨768 + q.val, by omega⟩)) (x1 (ix2 p ⟨q.val, q.isLt⟩))
      else Ffn.dval (∑ k : Fin 1024, x2 (ix2 p k) * x3 (ix2 ⟨q.val - 768, by omega⟩ k)) (x1 (ix2 p ⟨q.val - 768, by omega⟩)) := by
  pointwise [kdy, k0_pay15, k0_pay8, k0_pay9, k0_pay10, k0_pay11, k0_pay12, k0_pay13, k0_pay14]
  split <;> simp only [lo_at, hi_at, named_cubic, named_cubic3, Ffn.dgate, Ffn.dval, Ffn.th]

theorem sge_true (p n : ℕ) (hp : p < 512) (hn : n < 512) (h : n ≤ p) : IntOp.cmpi .sge (BitVec.ofNat 32 p) (BitVec.ofNat 32 n) = 1#1 := by
  rw [WordCmp.cmpi_sge_ofNat (by omega) (by omega), decide_eq_true h]; rfl
theorem sge_false (p n : ℕ) (hp : p < 512) (hn : n < 512) (h : ¬n ≤ p) : IntOp.cmpi .sge (BitVec.ofNat 32 p) (BitVec.ofNat 32 n) = 0#1 := by
  rw [WordCmp.cmpi_sge_ofNat (by omega) (by omega), decide_eq_false h]; rfl

theorem ahead2_at (nx : FVec Ideal S1x8x1536 .f32) (x1 : FVec Ideal S512x1536 .f32) (x2 : FVec Ideal S512x1024 .f32) (x3 : FVec Ideal S768x1024 .bf16) (p : Fin 512) (q : Fin 1536) :
    k0_pay21 (F := Ideal) (k0_pay16 nx) (krot x1 x2 x3) 6#32 (ix2 p q)
      = if h : p.val + 2 < 512 then kdy (F := Ideal) x1 x2 x3 (ix2 ⟨p.val + 2, h⟩ q) else nx (ix3 0 ⟨p.val + 2 - 512, by omega⟩ q) := by
  have e : ∀ r : Fin 512, krot (F := Ideal) x1 x2 x3 (ix2 r q) = kdy (F := Ideal) x1 x2 x3 (ix2 ⟨(r.val + 512 - 510) % 512, Nat.mod_lt _ (by decide)⟩ q) := by
    intro r
    pointwise [krot, k0_pay20]
    rfl
  pointwise [k0_pay21, k0_pay16]
  rw [e]
  by_cases h : p.val + 2 < 512
  · rw [sge_false p.val 510 p.isLt (by decide) (by omega), dif_pos h]
    exact congrArg (fun z => kdy (F := Ideal) x1 x2 x3 (ix2 z q)) (Fin.ext (by dsimp only; omega))
  · rw [sge_true p.val 510 p.isLt (by decide) (by omega), dif_neg h, dif_neg (by omega)]
    exact congrArg (fun z => nx (ix3 0 z q)) (Fin.ext (by dsimp only; omega))

theorem ahead1_at (nx : FVec Ideal S1x8x1536 .f32) (y : FVec Ideal S512x1536 .f32) (p : Fin 512) (q : Fin 1536) :
    k0_pay23 (F := Ideal) y (k0_pay16 nx) (ix2 p q)
      = if h : p.val + 1 < 512 then y (ix2 ⟨p.val + 1, h⟩ q) else nx (ix3 0 ⟨p.val + 1 - 512, by omega⟩ q) := by
  pointwise [k0_pay23, k0_pay16]
  by_cases h : p.val + 1 < 512
  · rw [sge_false p.val 511 p.isLt (by decide) (by omega), dif_pos h]
    exact congrArg (fun z => y (ix2 z q)) (Fin.ext (by dsimp only; omega))
  · rw [sge_true p.val 511 p.isLt (by decide) (by omega), dif_neg h, dif_neg (by omega)]
    exact congrArg (fun z => nx (ix3 0 z q)) (Fin.ext (by dsimp only; omega))

/-- A row of a tile's gradient `k` rows ahead. -/
def aheadB (k : ℕ) (y : FVec Ideal S512x1536 .f32) (nx : FVec Ideal S1x8x1536 .f32) (hk : k ≤ 8) (p : Fin 512) (q : Fin 1536) : EReal :=
  if h : p.val + k < 512 then y (ix2 ⟨p.val + k, h⟩ q) else nx (ix3 0 ⟨p.val + k - 512, by omega⟩ q)

theorem k7_at (x1 : FVec Ideal S512x1536 .f32) (x2 : FVec Ideal S512x1024 .f32) (x3 : FVec Ideal S768x1024 .bf16) (x6 : FVec Ideal S3x1536 .f32) (nx : FVec Ideal S1x8x1536 .f32) (p : Fin 512) (q : Fin 1536) :
    k7 (F := Ideal) x1 x2 x3 x6 nx (ix2 p q) = x6 (ix2 2 q) * kdy (F := Ideal) x1 x2 x3 (ix2 p q)
      + x6 (ix2 0 q) * aheadB 2 (kdy (F := Ideal) x1 x2 x3) nx (by omega) p q
      + x6 (ix2 1 q) * aheadB 1 (kdy (F := Ideal) x1 x2 x3) nx (by omega) p q := by
  unfold aheadB
  rw [← ahead2_at, ← ahead1_at]
  pointwise [k7, k0_pay25, k0_pay6, kt2, k0_pay18]
  rfl

theorem k8_at (acc : FVec Ideal S512x1024 .f32) (x1 : FVec Ideal S512x1536 .f32) (x2 : FVec Ideal S512x1024 .f32) (x3 : FVec Ideal S768x1024 .bf16) (x4 x5 : FVec Ideal S1x1024x768 .bf16) (x6 : FVec Ideal S3x1536 .f32) (nx : FVec Ideal S1x8x1536 .f32) (p : Fin 512) (d : Fin 1024) :
    k8 (F := Ideal) acc x1 x2 x3 x4 x5 x6 nx (ix2 p d) = acc (ix2 p d)
      + (∑ u : Fin 768, k7 (F := Ideal) x1 x2 x3 x6 nx (ix2 p ⟨u.val, by omega⟩) * x4 (ix3 0 d u)
        + ∑ u : Fin 768, k7 (F := Ideal) x1 x2 x3 x6 nx (ix2 p ⟨768 + u.val, by omega⟩) * x5 (ix3 0 d u)) := by
  pointwise [k8, k0_pay1, k0_pay26, k0_pay27, k0_pay28]
  rfl

theorem k10_at (x1 : FVec Ideal S512x1536 .f32) (x2 : FVec Ideal S512x1024 .f32) (x3 : FVec Ideal S768x1024 .bf16) (q : Fin 1536) :
    k10 (F := Ideal) x1 x2 x3 (ix3 0 0 q) = ∑ p : Fin 512, kdy (F := Ideal) x1 x2 x3 (ix2 p q) := by
  pointwise [k10, k0_pay3]

theorem k9_at (x0 : FVec Ideal S512x1536 .bf16) (x1 : FVec Ideal S512x1536 .f32) (x2 : FVec Ideal S512x1024 .f32) (x3 : FVec Ideal S768x1024 .bf16) (nx : FVec Ideal S1x8x1536 .f32) (k : Fin 3) (q : Fin 1536) :
    k9 (F := Ideal) x0 x1 x2 x3 nx (ix3 0 k q) = ∑ p : Fin 512, aheadB (2 - k.val) (kdy (F := Ideal) x1 x2 x3) nx (by omega) p q * x0 (ix2 p q) := by
  have e : k9 (F := Ideal) x0 x1 x2 x3 nx (ix3 0 k q) = if k.val < 1 then ∑ p : Fin 512, k0_pay21 (F := Ideal) (k0_pay16 nx) (krot x1 x2 x3) 6#32 (ix2 p q) * x0 (ix2 p q)
      else if k.val - 1 < 1 then ∑ p : Fin 512, k0_pay23 (F := Ideal) (kdy (F := Ideal) x1 x2 x3) (k0_pay16 nx) (ix2 p q) * x0 (ix2 p q)
      else ∑ p : Fin 512, kdy (F := Ideal) x1 x2 x3 (ix2 p q) * x0 (ix2 p q) := by
    pointwise [k9, k0_pay2, k0_pay19, k0_pay22, k0_pay24, k0_pay7]
    rfl
  rw [e]
  simp only [ahead2_at, ahead1_at]
  obtain ⟨k, hk⟩ := k
  interval_cases k
  · rw [if_pos (by simp)]; rfl
  · rw [if_neg (by simp), if_pos (by simp)]; rfl
  · rw [if_neg (by simp), if_neg (by simp)]
    refine Finset.sum_congr rfl fun p _ => ?_
    unfold aheadB
    rw [dif_pos (by dsimp only; omega)]
    rfl

theorem khead_at (x1 : FVec Ideal S512x1536 .f32) (x2 : FVec Ideal S512x1024 .f32) (x3 : FVec Ideal S768x1024 .bf16) (s : Fin 8) (q : Fin 1536) :
    khead (F := Ideal) x1 x2 x3 (ix3 0 s q) = kdy (F := Ideal) x1 x2 x3 (ix2 ⟨s.val, by omega⟩ q) := by
  pointwise [khead, k0_pay17]
  rfl

theorem zero_at (s : Fin 8) (q : Fin 1536) : k0_pay4 (F := Ideal) (ix3 0 s q) = 0 := by
  pointwise [k0_pay4]

theorem start_at (x2 : FVec Ideal S512x1024 .f32) (p : Fin 512) (d : Fin 1024) : k0_pay5 (F := Ideal) x2 (ix2 p d) = Ffn.alpha * x2 (ix2 p d) := by
  pointwise [k0_pay5]

end Cert.KernelIdeal.Ffn

end
-- ==== Proof.Ffn.RunA.lean ====
module

public import proofs.«01_k».proof.Proof.Ffn.Base

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body run at a point with the first condition true and the second true: the stores each output and the carried rows receive, found by running it. -/
def runA (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) :
    Σ' (L7 : List (View.Piece (Elt F) S512x1536 .bf16)), Σ' (L8 : List (View.Piece (Elt F) S512x1024 .f32)), Σ' (L9 : List (View.Piece (Elt F) S1x3x1536 .f32)), Σ' (L10 : List (View.Piece (Elt F) S1x1x1536 .f32)), { LS0 : List (View.Piece (Elt F) S4x8x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xs) LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexact HS0

end Cert.KernelIdeal.Ffn

end
-- ==== Proof.Ffn.RunB.lean ====
module

public import proofs.«01_k».proof.Proof.Ffn.RunA

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body run at a point with the first condition true and the second false: the stores each output and the carried rows receive, found by running it. -/
def runB (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) :
    Σ' (L7 : List (View.Piece (Elt F) S512x1536 .bf16)), Σ' (L8 : List (View.Piece (Elt F) S512x1024 .f32)), Σ' (L9 : List (View.Piece (Elt F) S1x3x1536 .f32)), Σ' (L10 : List (View.Piece (Elt F) S1x1x1536 .f32)), { LS0 : List (View.Piece (Elt F) S4x8x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xs) LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexact HS0

end Cert.KernelIdeal.Ffn

end
-- ==== Proof.Ffn.RunC.lean ====
module

public import proofs.«01_k».proof.Proof.Ffn.RunB

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body run at a point with the first condition false and the second true: the stores each output and the carried rows receive, found by running it. -/
def runC (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) :
    Σ' (L7 : List (View.Piece (Elt F) S512x1536 .bf16)), Σ' (L8 : List (View.Piece (Elt F) S512x1024 .f32)), Σ' (L9 : List (View.Piece (Elt F) S1x3x1536 .f32)), Σ' (L10 : List (View.Piece (Elt F) S1x1x1536 .f32)), { LS0 : List (View.Piece (Elt F) S4x8x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xs) LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexact HS0

end Cert.KernelIdeal.Ffn

end
-- ==== Proof.Ffn.RunD.lean ====
module

public import proofs.«01_k».proof.Proof.Ffn.RunC

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body run at a point with the first condition false and the second false: the stores each output and the carried rows receive, found by running it. -/
def runD (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) :
    Σ' (L7 : List (View.Piece (Elt F) S512x1536 .bf16)), Σ' (L8 : List (View.Piece (Elt F) S512x1024 .f32)), Σ' (L9 : List (View.Piece (Elt F) S1x3x1536 .f32)), Σ' (L10 : List (View.Piece (Elt F) S1x1x1536 .f32)), { LS0 : List (View.Piece (Elt F) S4x8x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xs) LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexact HS0

end Cert.KernelIdeal.Ffn

end
-- ==== Proof.Ffn.Reads.lean ====
module

public import proofs.«01_k».proof.Proof.Ffn.RunD
public import proofs.«01_k».proof.Proof.Ffn.Val

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

theorem readW0 {sp : Space} (a : Memref sig .tc sp S3x1536 .f32) (h : a.IsWhole) (x : Vec F S3x1536 .f32) :
    View.readAt (Elt F) a.view (Rect.unit (s := S3x1536) ![0, 0] (no_index S3x1536.size) inb_S3x1536_S3x1536_0_0).toLoadRect (h.unread x) = x :=
  (View.readAt_full _ _ _).trans (h.read_unread x)

theorem readW1 {sp : Space} (a : Memref sig .tc sp S512x1536 .bf16) (h : a.IsWhole) (x : Vec F S512x1536 .bf16) :
    View.readAt (Elt F) a.view (Rect.unit (s := S512x1536) ![0, 0] (no_index S512x1536.size) inb_S512x1536_S512x1536_0_0).toLoadRect (h.unread x) = x :=
  (View.readAt_full _ _ _).trans (h.read_unread x)

theorem readW2 {sp : Space} (a : Memref sig .tc sp S512x1024 .f32) (h : a.IsWhole) (x : Vec F S512x1024 .f32) :
    View.readAt (Elt F) a.view (Rect.unit (s := S512x1024) ![0, 0] (no_index S512x1024.size) inb_S512x1024_S512x1024_0_0).toLoadRect (h.unread x) = x :=
  (View.readAt_full _ _ _).trans (h.read_unread x)

theorem readW3 {sp : Space} (a : Memref sig .tc sp S768x1024 .bf16) (h : a.IsWhole) (x : Vec F S768x1024 .bf16) :
    View.readAt (Elt F) a.view (Rect.unit (s := S768x1024) ![0, 0] (no_index S768x1024.size) inb_S768x1024_S768x1024_0_0).toLoadRect (h.unread x) = x :=
  (View.readAt_full _ _ _).trans (h.read_unread x)

theorem readW4 {sp : Space} (a : Memref sig .tc sp S1x1024x768 .bf16) (h : a.IsWhole) (x : Vec F S1x1024x768 .bf16) :
    View.readAt (Elt F) a.view (Rect.unit (s := S1x1024x768) ![0, 0, 0] (no_index S1x1024x768.size) inb_S1x1024x768_S1x1024x768_0_0_0).toLoadRect (h.unread x) = x :=
  (View.readAt_full _ _ _).trans (h.read_unread x)

theorem readLo {sp : Space} (a : Memref sig .tc sp S512x1536 .f32) (h : a.IsWhole) (x1 : Vec F S512x1536 .f32) :
    View.readAt (Elt F) a.view (Rect.unit (s := S512x1536) ![0, 0] (no_index S512x768.size) inb_S512x1536_S512x768_0_0).toLoadRect (h.unread x1) = lo x1 := by
  exact congrArg lo (h.read_unread x1)

theorem readHi {sp : Space} (a : Memref sig .tc sp S512x1536 .f32) (h : a.IsWhole) (x1 : Vec F S512x1536 .f32) :
    View.readAt (Elt F) a.view (Rect.unit (s := S512x1536) ![0, 768] (no_index S512x768.size) inb_S512x1536_S512x768_0_768).toLoadRect (h.unread x1) = hi x1 := by
  exact congrArg hi (h.read_unread x1)

theorem readSl {sp : Space} (a : Memref sig .tc sp S4x8x1536 .f32) (h : a.IsWhole) (xs : Vec F S4x8x1536 .f32) (i : grid0.Coords) :
    View.readAt (Elt F) a.view (Rect.unit (s := S4x8x1536) (k0_off2 i) (no_index S1x8x1536.size) (k0_off2_inb i)).toLoadRect (h.unread xs) = ksl xs i := by
  exact congrArg (fun z => ksl z i) (h.read_unread xs)

/-- The slice read back after it was cleared. -/
theorem readZ {sp : Space} (a : Memref sig .tc sp S4x8x1536 .f32) (i : grid0.Coords) (hc0 : k0_cond1 i = 1#1) :
    a.view.readCov [(⟨Rect.unit (s := S4x8x1536) (k0_off1 i) (no_index S1x8x1536.size) (k0_off1_inb i hc0), (k0_pay4 : FVec F S1x8x1536 .f32)⟩ : View.Piece (Elt F) S4x8x1536 .f32)]
      (Rect.unit (s := S4x8x1536) (k0_off2 i) (no_index S1x8x1536.size) (k0_off2_inb i)).toLoadRect = (k0_pay4 : FVec F S1x8x1536 .f32) := by
  show View.readAt (Elt F) a.view _ (a.view.writes (Elt F) _ _) = _
  rw [View.readAt_unit _ _ _ rfl (k0_off2_inb i), View.read_writes_cons_put _ _ _ _ _ ((k0_off1_eq i).trans (k0_off2_eq i).symm)]
  exact VecWindow.window_put_same _ _ _ _ _

theorem readAcc {sp : Space} (a : Memref sig .tc sp S512x1024 .f32) (w : Vec F S512x1024 .f32) :
    a.view.readCov [(⟨Rect.unit (s := S512x1024) ![0, 0] (no_index S512x1024.size) inb_S512x1024_S512x1024_0_0, w⟩ : View.Piece (Elt F) S512x1024 .f32)]
      (Rect.unit (s := S512x1024) ![0, 0] (no_index S512x1024.size) inb_S512x1024_S512x1024_0_0).toLoadRect = w :=
  View.readCov_full _ _ _ _ _

/-! ## Case A -/

set_option maxHeartbeats 2000000 in
/-- The gradient at the convolution's input after the body, in case A. -/
theorem readA_7 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).1) = k7 x1 x2 x3 x6 k0_pay4 := by
  dsimp only [runA]
  rw [View.read_writes_full]
  have hZ : runA.sl.v63 c i arg13 hc0 = (k0_pay4 : FVec F S1x8x1536 .f32) := readZ arg13 i hc0
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, hZ]
  simp only [readW0, readW1, readW2, readW3, readW4, readLo, readHi, readSl]
  rfl

set_option maxHeartbeats 2000000 in
/-- The layer's input gradient after the body, in case A. -/
theorem readA_8 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).2.1) = k8 (k0_pay5 x2) x1 x2 x3 x4 x5 x6 k0_pay4 := by
  dsimp only [runA]
  rw [View.read_writes_full]
  have hZ : runA.sl.v63 c i arg13 hc0 = (k0_pay4 : FVec F S1x8x1536 .f32) := readZ arg13 i hc0
  have hA : runA.sl.v111 c arg4 harg4 arg10 x2 = k0_pay5 x2 :=
    (readAcc arg10 _).trans (congrArg k0_pay5 (readW2 arg4 harg4 x2))
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, hZ, hA]
  simp only [readW0, readW1, readW2, readW3, readW4, readLo, readHi, readSl]
  rfl

set_option maxHeartbeats 2000000 in
/-- The taps' part after the body, in case A. -/
theorem readA_9 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) (f : arg11.view.ty.Contents (Elt F)) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).2.2.1) = k9 x0 x1 x2 x3 k0_pay4 := by
  dsimp only [runA]
  rw [View.read_writes_full]
  have hZ : runA.sl.v63 c i arg13 hc0 = (k0_pay4 : FVec F S1x8x1536 .f32) := readZ arg13 i hc0
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, hZ]
  simp only [readW0, readW1, readW2, readW3, readW4, readLo, readHi, readSl]
  rfl

set_option maxHeartbeats 2000000 in
/-- The bias's part after the body, in case A. -/
theorem readA_10 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).2.2.2.1) = k10 x1 x2 x3 := by
  dsimp only [runA]
  rw [View.read_writes_full]
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18]
  simp only [readW0, readW1, readW2, readW3, readW4, readLo, readHi, readSl]
  rfl

set_option maxHeartbeats 2000000 in
/-- The carried rows after the body, in case A. -/
theorem readA_S (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) :
    arg13.view.read (Elt F) (arg13.view.writes (Elt F) (harg13.unread xs) (runA c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).2.2.2.2.1) = kput xs i (khead x1 x2 x3) := by
  dsimp only [runA]
  rw [View.read_writes_cons_put _ _ _ _ _ rfl, runA.sl.HS0_1, View.read_writes_cons_put _ _ _ _ _ ((k0_off1_eq i).trans (k0_off2_eq i).symm), View.writes_nil, Memref.IsWhole.read_unread]
  rw [VecWindow.put_put_same]
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18]
  simp only [readW0, readW1, readW2, readW3, readW4, readLo, readHi, readSl]
  rfl

/-! ## Case B -/

set_option maxHeartbeats 2000000 in
/-- The gradient at the convolution's input after the body, in case B. -/
theorem readB_7 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) (f : arg9.view.ty.Contents (Elt F)) :
    arg9.view.read (Elt F) (arg9.view.writes (Elt F) f (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).1) = k7 x1 x2 x3 x6 k0_pay4 := by
  dsimp only [runB]
  rw [View.read_writes_full]
  have hZ : runB.sl.v63 c i arg13 hc0 = (k0_pay4 : FVec F S1x8x1536 .f32) := readZ arg13 i hc0
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, hZ]
  simp only [readW0, readW1, readW2, readW3, readW4, readLo, readHi, readSl]
  rfl

set_option maxHeartbeats 2000000 in
/-- The layer's input gradient after the body, in case B. -/
theorem readB_8 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) (f : arg10.view.ty.Contents (Elt F)) :
    arg10.view.read (Elt F) (arg10.view.writes (Elt F) f (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).2.1) = k8 xo8 x1 x2 x3 x4 x5 x6 k0_pay4 := by
  dsimp only [runB]
  rw [View.read_writes_full]
  have hZ : runB.sl.v63 c i arg13 hc0 = (k0_pay4 : FVec F S1x8x1536 .f32) := readZ arg13 i hc0
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, hZ]
  simp only [readW0, readW1, readW2, readW3, readW4, readLo, readHi, readSl]
  rfl

set_option maxHeartbeats 2000000 in
/-- The taps' part after the body, in case B. -/
theorem readB_9 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) (f : arg11.view.ty.Contents (Elt F)) :
    arg11.view.read (Elt F) (arg11.view.writes (Elt F) f (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).2.2.1) = k9 x0 x1 x2 x3 k0_pay4 := by
  dsimp only [runB]
  rw [View.read_writes_full]
  have hZ : runB.sl.v63 c i arg13 hc0 = (k0_pay4 : FVec F S1x8x1536 .f32) := readZ arg13 i hc0
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, hZ]
  simp only [readW0, readW1, readW2, readW3, readW4, readLo, readHi, readSl]
  rfl

set_option maxHeartbeats 2000000 in
/-- The bias's part after the body, in case B. -/
theorem readB_10 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) (f : arg12.view.ty.Contents (Elt F)) :
    arg12.view.read (Elt F) (arg12.view.writes (Elt F) f (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).2.2.2.1) = k10 x1 x2 x3 := by
  dsimp only [runB]
  rw [View.read_writes_full]
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18]
  simp only [readW0, readW1, readW2, readW3, readW4, readLo, readHi, readSl]
  rfl

set_option maxHeartbeats 2000000 in
/-- The carried rows after the body, in case B. -/
theorem readB_S (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) :
    arg13.view.read (Elt F) (arg13.view.writes (Elt F) (harg13.unread xs) (runB c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).2.2.2.2.1) = kput xs i (khead x1 x2 x3) := by
  dsimp only [runB]
  rw [View.read_writes_cons_put _ _ _ _ _ rfl, runB.sl.HS0_1, View.read_writes_cons_put _ _ _ _ _ ((k0_off1_eq i).trans (k0_off2_eq i).symm), View.writes_nil, Memref.IsWhole.read_unread]
  rw [VecWindow.put_put_same]
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18]
  simp only [readW0, readW1, readW2, readW3, readW4, readLo, readHi, readSl]
  rfl

/-! ## Case C -/

set_option maxHeartbeats 2000000 in
/-- The gradient at the convolution's input after the body, in case C. -/
theorem readC_7 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) (f : arg9.view.ty.Contents (Elt F)) :
    arg9.view.read (Elt F) (arg9.view.writes (Elt F) f (runC c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).1) = k7 x1 x2 x3 x6 (ksl xs i) := by
  dsimp only [runC]
  rw [View.read_writes_full]
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18]
  simp only [readW0, readW1, readW2, readW3, readW4, readLo, readHi, readSl]
  rfl

set_option maxHeartbeats 2000000 in
/-- The layer's input gradient after the body, in case C. -/
theorem readC_8 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) (f : arg10.view.ty.Contents (Elt F)) :
    arg10.view.read (Elt F) (arg10.view.writes (Elt F) f (runC c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).2.1) = k8 (k0_pay5 x2) x1 x2 x3 x4 x5 x6 (ksl xs i) := by
  dsimp only [runC]
  rw [View.read_writes_full]
  have hA : runC.sl.v111 c arg4 harg4 arg10 x2 = k0_pay5 x2 :=
    (readAcc arg10 _).trans (congrArg k0_pay5 (readW2 arg4 harg4 x2))
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, hA]
  simp only [readW0, readW1, readW2, readW3, readW4, readLo, readHi, readSl]
  rfl

set_option maxHeartbeats 2000000 in
/-- The taps' part after the body, in case C. -/
theorem readC_9 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) (f : arg11.view.ty.Contents (Elt F)) :
    arg11.view.read (Elt F) (arg11.view.writes (Elt F) f (runC c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).2.2.1) = k9 x0 x1 x2 x3 (ksl xs i) := by
  dsimp only [runC]
  rw [View.read_writes_full]
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18]
  simp only [readW0, readW1, readW2, readW3, readW4, readLo, readHi, readSl]
  rfl

set_option maxHeartbeats 2000000 in
/-- The bias's part after the body, in case C. -/
theorem readC_10 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) (f : arg12.view.ty.Contents (Elt F)) :
    arg12.view.read (Elt F) (arg12.view.writes (Elt F) f (runC c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).2.2.2.1) = k10 x1 x2 x3 := by
  dsimp only [runC]
  rw [View.read_writes_full]
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18]
  simp only [readW0, readW1, readW2, readW3, readW4, readLo, readHi, readSl]
  rfl

set_option maxHeartbeats 2000000 in
/-- The carried rows after the body, in case C. -/
theorem readC_S (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xs : Vec F S4x8x1536 .f32) :
    arg13.view.read (Elt F) (arg13.view.writes (Elt F) (harg13.unread xs) (runC c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs).2.2.2.2.1) = kput xs i (khead x1 x2 x3) := by
  dsimp only [runC]
  rw [View.read_writes_cons_put _ _ _ _ _ rfl, View.writes_nil, Memref.IsWhole.read_unread]
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18]
  simp only [readW0, readW1, readW2, readW3, readW4, readLo, readHi, readSl]
  rfl

/-! ## Case D -/

set_option maxHeartbeats 2000000 in
/-- The gradient at the convolution's input after the body, in case D. -/
theorem readD_7 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) (f : arg9.view.ty.Contents (Elt F)) :
    arg9.view.read (Elt F) (arg9.view.writes (Elt F) f (runD c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).1) = k7 x1 x2 x3 x6 (ksl xs i) := by
  dsimp only [runD]
  rw [View.read_writes_full]
  simp only [runD.sl.r, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18]
  simp only [readW0, readW1, readW2, readW3, readW4, readLo, readHi, readSl]
  rfl

set_option maxHeartbeats 2000000 in
/-- The layer's input gradient after the body, in case D. -/
theorem readD_8 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) (f : arg10.view.ty.Contents (Elt F)) :
    arg10.view.read (Elt F) (arg10.view.writes (Elt F) f (runD c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).2.1) = k8 xo8 x1 x2 x3 x4 x5 x6 (ksl xs i) := by
  dsimp only [runD]
  rw [View.read_writes_full]
  simp only [runD.sl.r, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18]
  simp only [readW0, readW1, readW2, readW3, readW4, readLo, readHi, readSl]
  rfl

set_option maxHeartbeats 2000000 in
/-- The taps' part after the body, in case D. -/
theorem readD_9 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) (f : arg11.view.ty.Contents (Elt F)) :
    arg11.view.read (Elt F) (arg11.view.writes (Elt F) f (runD c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).2.2.1) = k9 x0 x1 x2 x3 (ksl xs i) := by
  dsimp only [runD]
  rw [View.read_writes_full]
  simp only [runD.sl.r, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18]
  simp only [readW0, readW1, readW2, readW3, readW4, readLo, readHi, readSl]
  rfl

set_option maxHeartbeats 2000000 in
/-- The bias's part after the body, in case D. -/
theorem readD_10 (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) (f : arg12.view.ty.Contents (Elt F)) :
    arg12.view.read (Elt F) (arg12.view.writes (Elt F) f (runD c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).2.2.2.1) = k10 x1 x2 x3 := by
  dsimp only [runD]
  rw [View.read_writes_full]
  simp only [runD.sl.r, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18]
  simp only [readW0, readW1, readW2, readW3, readW4, readLo, readHi, readSl]
  rfl

set_option maxHeartbeats 2000000 in
/-- The carried rows after the body, in case D. -/
theorem readD_S (c : Dev nD) (i : grid0.Coords) (arg2 : Memref sig .tc .vmem S512x1536 .bf16) (harg2 : arg2.IsWhole) (arg3 : Memref sig .tc .vmem S512x1536 .f32) (harg3 : arg3.IsWhole) (arg4 : Memref sig .tc .vmem S512x1024 .f32) (harg4 : arg4.IsWhole) (arg5 : Memref sig .tc .vmem S768x1024 .bf16) (harg5 : arg5.IsWhole) (arg6 : Memref sig .tc .vmem S1x1024x768 .bf16) (harg6 : arg6.IsWhole) (arg7 : Memref sig .tc .vmem S1x1024x768 .bf16) (harg7 : arg7.IsWhole) (arg8 : Memref sig .tc .vmem S3x1536 .f32) (harg8 : arg8.IsWhole) (arg9 : Memref sig .tc .vmem S512x1536 .bf16) (harg9 : arg9.IsWhole) (arg10 : Memref sig .tc .vmem S512x1024 .f32) (harg10 : arg10.IsWhole) (arg11 : Memref sig .tc .vmem S1x3x1536 .f32) (harg11 : arg11.IsWhole) (arg12 : Memref sig .tc .vmem S1x1x1536 .f32) (harg12 : arg12.IsWhole) (arg13 : Memref sig .tc .vmem S4x8x1536 .f32) (harg13 : arg13.IsWhole) (hc0 : ¬cond0_0 i) (hc1 : ¬cond0_1 i)
    (x0 : Vec F S512x1536 .bf16) (x1 : Vec F S512x1536 .f32) (x2 : Vec F S512x1024 .f32) (x3 : Vec F S768x1024 .bf16) (x4 : Vec F S1x1024x768 .bf16) (x5 : Vec F S1x1024x768 .bf16) (x6 : Vec F S3x1536 .f32) (xo8 : Vec F S512x1024 .f32) (xs : Vec F S4x8x1536 .f32) :
    arg13.view.read (Elt F) (arg13.view.writes (Elt F) (harg13.unread xs) (runD c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs).2.2.2.2.1) = kput xs i (khead x1 x2 x3) := by
  dsimp only [runD]
  rw [View.read_writes_cons_put _ _ _ _ _ rfl, View.writes_nil, Memref.IsWhole.read_unread]
  simp only [runD.sl.r, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18]
  simp only [readW0, readW1, readW2, readW3, readW4, readLo, readHi, readSl]
  rfl

end Cert.KernelIdeal.Ffn

end
-- ==== Proof.Ffn.Frame.lean ====
module

public import proofs.«01_k».proof.Proof.Ffn.Reads
public import Idealize.ShloMosaic.Lib.Claim

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each point leaves -/

/-- The gradient's first eight rows at point `t`. -/
def headAt (c : Dev nD) (t : Fin cfg0.N) : Vec F S1x8x1536 .f32 := khead (iblk m c 1 t) (iblk m c 2 t) (iblk m c 3 t)

/-- The eight rows below the tile of point `t`: zero under the lowest tiles, otherwise what the point four before left. -/
def nxAt (c : Dev nD) (t : Fin cfg0.N) : Vec F S1x8x1536 .f32 :=
  if t.val < 4 then k0_pay4 else headAt m c ⟨t.val - 4, Nat.lt_of_le_of_lt (Nat.sub_le _ _) t.isLt⟩

/-- What point `t` leaves in the gradient at the convolution's input, -/
def o7At (c : Dev nD) (t : Fin cfg0.N) : Vec F S512x1536 .bf16 :=
  k7 (iblk m c 1 t) (iblk m c 2 t) (iblk m c 3 t) (iblk m c 6 t) (nxAt m c t)
/-- in the taps' part, -/
def o9At (c : Dev nD) (t : Fin cfg0.N) : Vec F S1x3x1536 .f32 :=
  k9 (iblk m c 0 t) (iblk m c 1 t) (iblk m c 2 t) (iblk m c 3 t) (nxAt m c t)
/-- in the bias's part, -/
def o10At (c : Dev nD) (t : Fin cfg0.N) : Vec F S1x1x1536 .f32 := k10 (iblk m c 1 t) (iblk m c 2 t) (iblk m c 3 t)
/-- the input gradient's block after point `t`, the sum before it being `acc`, -/
def stepAt (c : Dev nD) (t : Fin cfg0.N) (acc : Vec F S512x1024 .f32) : Vec F S512x1024 .f32 :=
  k8 acc (iblk m c 1 t) (iblk m c 2 t) (iblk m c 3 t) (iblk m c 4 t) (iblk m c 5 t) (iblk m c 6 t) (nxAt m c t)
/-- and the input gradient's block, point by point: begun from the residual's share at each row of the grid. -/
def o8At (c : Dev nD) : (n : ℕ) → n < cfg0.N → Vec F S512x1024 .f32
  | 0, h => stepAt m c ⟨0, h⟩ (k0_pay5 (iblk m c 2 ⟨0, h⟩))
  | n + 1, h => stepAt m c ⟨n + 1, h⟩ (if (n + 1) % 4 = 0 then k0_pay5 (iblk m c 2 ⟨n + 1, h⟩) else o8At c n (Nat.lt_of_succ_lt h))

theorem o8At_start (c : Dev nD) (t : Fin cfg0.N) (h1 : t.val % 4 = 0) :
    o8At m c t.val t.isLt = stepAt m c t (k0_pay5 (iblk m c 2 t)) := by
  obtain ⟨n, hn⟩ := t
  cases n with
  | zero => rfl
  | succ n => dsimp only at h1 ⊢; rw [o8At, if_pos h1]

theorem o8At_next (c : Dev nD) (t : Fin cfg0.N) (h1 : ¬t.val % 4 = 0) :
    o8At m c t.val t.isLt = stepAt m c t (o8At m c (t.val - 1) (Nat.lt_of_le_of_lt (Nat.sub_le _ _) t.isLt)) := by
  obtain ⟨n, hn⟩ := t
  cases n with
  | zero => exact absurd rfl h1
  | succ n => dsimp only at h1 ⊢; rw [o8At, if_neg h1]; rfl

/-! ## The carried rows -/

/-- Before point `n` each slice holds the rows of the latest point that wrote it. -/
def Carry (c : Dev nD) (n : ℕ) (xs : Vec F S4x8x1536 .f32) : Prop :=
  ∀ k : Fin cfg0.N, k.val < n → n ≤ k.val + 4 → ksl xs (grid0.coords k) = headAt m c k

theorem off2_val (t : Fin cfg0.N) : k0_off2 (grid0.coords t) = ![t.val % 4, 0, 0] := by
  have e1 : (grid0.coords t 1).val = t.val / 1 % 4 := Pipeline.Grid.coords_val t 1 (by decide) rfl
  rw [k0_off2_eq, e1, Nat.div_one]

theorem ksl_congr (xs : Vec F S4x8x1536 .f32) {i j : grid0.Coords} (h : k0_off2 i = k0_off2 j) : ksl xs i = ksl xs j := by
  unfold ksl
  have key : ∀ (o o' : Fin 3 → ℕ) (e : o = o') (p) (q), VecWindow.window xs o S1x8x1536.size p = VecWindow.window xs o' S1x8x1536.size q := by
    intro o o' e p q; subst e; rfl
  exact key _ _ h _ _

theorem carry_zero (c : Dev nD) (xs : Vec F S4x8x1536 .f32) : Carry m c 0 xs := fun _ h => absurd h (Nat.not_lt_zero _)

theorem carry_step (c : Dev nD) (t : Fin cfg0.N) (xs : Vec F S4x8x1536 .f32) (h : Carry m c t.val xs) :
    Carry m c (t.val + 1) (kput xs (grid0.coords t) (khead (iblk m c 1 t) (iblk m c 2 t) (iblk m c 3 t))) := by
  intro k hk hk4
  by_cases e : k = t
  · subst e
    exact VecWindow.window_put_same _ _ _ _ _
  · have hne : k.val ≠ t.val := fun h => e (Fin.ext h)
    rw [← h k (by omega) (by omega)]
    refine VecWindow.window_put_of_disjoint _ _ _ _ _ _ _ (0 : Fin 3) ?_
    rw [off2_val, off2_val]
    show k.val % 4 + 1 ≤ t.val % 4 ∨ t.val % 4 + 1 ≤ k.val % 4
    omega

theorem carry_read (c : Dev nD) (t : Fin cfg0.N) (h0 : ¬t.val < 4) (xs : Vec F S4x8x1536 .f32) (h : Carry m c t.val xs) :
    ksl xs (grid0.coords t) = nxAt m c t := by
  rw [nxAt, if_neg h0, ← h ⟨t.val - 4, Nat.lt_of_le_of_lt (Nat.sub_le _ _) t.isLt⟩ (by dsimp only; omega) (by dsimp only; omega)]
  refine ksl_congr xs ?_
  rw [off2_val, off2_val]
  have : (t.val - 4) % 4 = t.val % 4 := by omega
  dsimp only; rw [this]

theorem nxAt_low (c : Dev nD) (t : Fin cfg0.N) (h0 : t.val < 4) : nxAt m c t = k0_pay4 := by rw [nxAt, if_pos h0]

/-- The region's invariant before position `n`: the carried rows as `Carry` says, the generator register at some state. -/
def PhiS (c : Dev nD) (n : ℕ) : sProp 𝕄 :=
  iprop((∃ xs : Vec F S4x8x1536 .f32, owns (c : Thread nD τ) scM0_0 fullShare xs ∗ ⌜Carry m c n xs⌝) ∗ (∃ r, prngReg c r))

/-- The proof data of the one pipeline on core `c`: the arrays as the region finds them; after the body at a point each
    input's buffer at its block and each output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => o7At m c t
    | ⟨8, _⟩ => o8At m c t.val t.isLt
    | ⟨9, _⟩ => o9At m c t
    | ⟨10, _⟩ => o10At m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = o7At m c t := by dsimp only [dats]
theorem after0_8 (c : Dev nD) (t : Fin cfg0.N) : (dats m 0 c).after 8 t = o8At m c t.val t.isLt := by dsimp only [dats]
theorem after0_9 (c : Dev nD) (t : Fin cfg0.N) : (dats m 0 c).after 9 t = o9At m c t := by dsimp only [dats]
theorem after0_10 (c : Dev nD) (t : Fin cfg0.N) : (dats m 0 c).after 10 t = o10At m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Within a row of the grid the input gradient's buffer holds what the point before left: it is written back only at the row's end. -/
theorem before0_8 (c : Dev nD) (t : Fin cfg0.N) (h1 : ¬t.val % 4 = 0) (d) :
    (dats m 0 c).before 8 t d = o8At m c (t.val - 1) (Nat.lt_of_le_of_lt (Nat.sub_le _ _) t.isLt) := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
/-- The body at any point: the two conditions say which of the four runs applies; each leaves what the point's values say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) from rfl, show (dats m 0 c).Φ t.castSucc = PhiS m c t.val from rfl]
  unfold PhiS
  by_cases h0 : t.val < 4
  · by_cases h1 : t.val % 4 = 0
    · iintro ⟨⟨⟨%xs, HS0, %hc⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) xs).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, HS0⟩
      isplitl [HS0 Hg]
      · isplitl [HS0]
        · iexists _
          isplitl [HS0]
          · unfold owns; iexists _; isplitr
            swap; · iexact HS0
            ipureintro; exact readA_S ..
          ipureintro; exact carry_step m c t xs hc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (readA_7 ..).trans (congrArg (fun z => k7 (iblk m c 1 t) (iblk m c 2 t) (iblk m c 3 t) (iblk m c 6 t) z) (nxAt_low m c t h0).symm)
      isplitl [H8]
      · unfold owns; iexists _; isplitr
        swap; · iexact H8
        ipureintro; exact (readA_8 ..).trans ((congrArg (fun z => k8 (k0_pay5 (iblk m c 2 t)) (iblk m c 1 t) (iblk m c 2 t) (iblk m c 3 t) (iblk m c 4 t) (iblk m c 5 t) (iblk m c 6 t) z) (nxAt_low m c t h0).symm).trans (o8At_start m c t h1).symm)
      isplitl [H9]
      · unfold owns; iexists _; isplitr
        swap; · iexact H9
        ipureintro; exact (readA_9 ..).trans (congrArg (fun z => k9 (iblk m c 0 t) (iblk m c 1 t) (iblk m c 2 t) (iblk m c 3 t) z) (nxAt_low m c t h0).symm)
      unfold owns; iexists _; isplitr
      swap; · iexact H10
      ipureintro; exact readA_10 ..
    · simp only [before0_8 m c t h1]
      iintro ⟨⟨⟨%xs, HS0, %hc⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _ xs).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, HS0⟩
      isplitl [HS0 Hg]
      · isplitl [HS0]
        · iexists _
          isplitl [HS0]
          · unfold owns; iexists _; isplitr
            swap; · iexact HS0
            ipureintro; exact readB_S ..
          ipureintro; exact carry_step m c t xs hc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (readB_7 ..).trans (congrArg (fun z => k7 (iblk m c 1 t) (iblk m c 2 t) (iblk m c 3 t) (iblk m c 6 t) z) (nxAt_low m c t h0).symm)
      isplitl [H8]
      · unfold owns; iexists _; isplitr
        swap; · iexact H8
        ipureintro; exact (readB_8 ..).trans ((congrArg (fun z => k8 (o8At m c (t.val - 1) (Nat.lt_of_le_of_lt (Nat.sub_le _ _) t.isLt)) (iblk m c 1 t) (iblk m c 2 t) (iblk m c 3 t) (iblk m c 4 t) (iblk m c 5 t) (iblk m c 6 t) z) (nxAt_low m c t h0).symm).trans (o8At_next m c t h1).symm)
      isplitl [H9]
      · unfold owns; iexists _; isplitr
        swap; · iexact H9
        ipureintro; exact (readB_9 ..).trans (congrArg (fun z => k9 (iblk m c 0 t) (iblk m c 1 t) (iblk m c 2 t) (iblk m c 3 t) z) (nxAt_low m c t h0).symm)
      unfold owns; iexists _; isplitr
      swap; · iexact H10
      ipureintro; exact readB_10 ..
  · by_cases h1 : t.val % 4 = 0
    · iintro ⟨⟨⟨%xs, HS0, %hc⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) xs).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, HS0⟩
      isplitl [HS0 Hg]
      · isplitl [HS0]
        · iexists _
          isplitl [HS0]
          · unfold owns; iexists _; isplitr
            swap; · iexact HS0
            ipureintro; exact readC_S ..
          ipureintro; exact carry_step m c t xs hc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (readC_7 ..).trans (congrArg (fun z => k7 (iblk m c 1 t) (iblk m c 2 t) (iblk m c 3 t) (iblk m c 6 t) z) (carry_read m c t h0 xs hc))
      isplitl [H8]
      · unfold owns; iexists _; isplitr
        swap; · iexact H8
        ipureintro; exact (readC_8 ..).trans ((congrArg (fun z => k8 (k0_pay5 (iblk m c 2 t)) (iblk m c 1 t) (iblk m c 2 t) (iblk m c 3 t) (iblk m c 4 t) (iblk m c 5 t) (iblk m c 6 t) z) (carry_read m c t h0 xs hc)).trans (o8At_start m c t h1).symm)
      isplitl [H9]
      · unfold owns; iexists _; isplitr
        swap; · iexact H9
        ipureintro; exact (readC_9 ..).trans (congrArg (fun z => k9 (iblk m c 0 t) (iblk m c 1 t) (iblk m c 2 t) (iblk m c 3 t) z) (carry_read m c t h0 xs hc))
      unfold owns; iexists _; isplitr
      swap; · iexact H10
      ipureintro; exact readC_10 ..
    · simp only [before0_8 m c t h1]
      iintro ⟨⟨⟨%xs, HS0, %hc⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runD c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ xs).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, HS0⟩
      isplitl [HS0 Hg]
      · isplitl [HS0]
        · iexists _
          isplitl [HS0]
          · unfold owns; iexists _; isplitr
            swap; · iexact HS0
            ipureintro; exact readD_S ..
          ipureintro; exact carry_step m c t xs hc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (readD_7 ..).trans (congrArg (fun z => k7 (iblk m c 1 t) (iblk m c 2 t) (iblk m c 3 t) (iblk m c 6 t) z) (carry_read m c t h0 xs hc))
      isplitl [H8]
      · unfold owns; iexists _; isplitr
        swap; · iexact H8
        ipureintro; exact (readD_8 ..).trans ((congrArg (fun z => k8 (o8At m c (t.val - 1) (Nat.lt_of_le_of_lt (Nat.sub_le _ _) t.isLt)) (iblk m c 1 t) (iblk m c 2 t) (iblk m c 3 t) (iblk m c 4 t) (iblk m c 5 t) (iblk m c 6 t) z) (carry_read m c t h0 xs hc)).trans (o8At_next m c t h1).symm)
      isplitl [H9]
      · unfold owns; iexists _; isplitr
        swap; · iexact H9
        ipureintro; exact (readD_9 ..).trans (congrArg (fun z => k9 (iblk m c 0 t) (iblk m c 1 t) (iblk m c 2 t) (iblk m c 3 t) z) (carry_read m c t h0 xs hc))
      unfold owns; iexists _; isplitr
      swap; · iexact H10
      ipureintro; exact readD_10 ..

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨%xs, HS0⟩, Hg⟩
  isplitl [HS0]
  · iexists xs
    isplitl [HS0]; · iexact HS0
    ipureintro; exact carry_zero m c xs
  iexact Hg

/-- After the last point the carried rows are given back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%xs, HS0, %hc⟩, Hg⟩
  isplitl [HS0]
  · iexists xs; iexact HS0
  iexact Hg

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the run ends, every argument array is unchanged, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Ffn

end
-- ==== Proof.Ffn.Host.lean ====
module

public import proofs.«01_k».proof.Proof.Ffn.Pure
public import proofs.«01_k».proof.Proof.Ffn.Frame
public import proofs.«01_k».proof.Proof.Gen.ReferenceIdeal.Read
public import Idealize.ShloMosaic.Lib.Claim

@[expose] public section

set_option maxRecDepth 16384

noncomputable section

namespace Cert.KernelIdeal.Ffn

open Idealize.ShloMosaic Idealize.ShloMosaic.TcCoe Idealize.SL.Sem
open Cert.KernelIdeal Cert.KernelIdeal.Gen
open Cert.Ffn (deil il)

variable (m : (ℓ : Loc nD τ sig) → Buf (Elt Ideal) ℓ) (c : Dev nD)

/-! ## The arguments, and the arrays the host prepares from them -/

abbrev a0 : FVec Ideal S4096x1024 .f32 := m (c.tc.loc main_arg0)
abbrev a1 : FVec Ideal S1024x6144 .f32 := m (c.tc.loc main_arg1)
abbrev a2 : FVec Ideal S3x6144 .f32 := m (c.tc.loc main_arg2)
abbrev a3 : FVec Ideal S6144 .f32 := m (c.tc.loc main_arg3)
abbrev a4 : FVec Ideal S3072x1024 .f32 := m (c.tc.loc main_arg4)
abbrev a5 : FVec Ideal S4096x1024 .f32 := m (c.tc.loc main_arg5)

/-- The up projection, -/
abbrev upv : FVec Ideal S4096x6144 .f32 := Cert.ReferenceIdeal.Read.val_main_v0 (F := Ideal) (a0 m c) (a1 m c)
/-- and the convolution of it. -/
abbrev yv : FVec Ideal S4096x6144 .f32 := Cert.ReferenceIdeal.Read.val_main_v28 (F := Ideal) (a0 m c) (a1 m c) (a2 m c) (a3 m c)

/-- The columns of a tall array in blocked order, -/
def interT (y : FVec Ideal S4096x6144 .f32) : FVec Ideal S4096x6144 .f32 :=
  shapeCast S4096x6144 (transpose S4096x4x2x768 [0, 2, 1, 3] (shapeCast S4096x2x4x768 y shapeCasts_S4096x6144_S4096x2x4x768) transposes_S4096x2x4x768_S4096x4x2x768_0_2_1_3) shapeCasts_S4096x4x2x768_S4096x6144
theorem interT_at (y : FVec Ideal S4096x6144 .f32) (r : Fin 4096) (j : Fin 6144) : interT y (ix2 r j) = y (ix2 r (deil j)) := by
  pointwise [interT]
  refine congrArg (fun z => y (ix2 r z)) (Fin.ext ?_)
  rw [Ffn.deil_val]; dsimp only; omega

/-- and of the taps. -/
def interC (y : FVec Ideal S3x6144 .f32) : FVec Ideal S3x6144 .f32 :=
  shapeCast S3x6144 (transpose S3x4x2x768 [0, 2, 1, 3] (shapeCast S3x2x4x768 y shapeCasts_S3x6144_S3x2x4x768) transposes_S3x2x4x768_S3x4x2x768_0_2_1_3) shapeCasts_S3x4x2x768_S3x6144
theorem interC_at (y : FVec Ideal S3x6144 .f32) (r : Fin 3) (j : Fin 6144) : interC y (ix2 r j) = y (ix2 r (deil j)) := by
  pointwise [interC]
  refine congrArg (fun z => y (ix2 r z)) (Fin.ext ?_)
  rw [Ffn.deil_val]; dsimp only; omega

theorem v34_at (r : Fin 4096) (j : Fin 6144) : V (F := Ideal) m c main_v34 (ix2 r j) = upv m c (ix2 r (deil j)) := by
  refine Eq.trans ?_ (interT_at (upv m c) r j)
  entry_read
  rfl
theorem v37_at (r : Fin 4096) (j : Fin 6144) : V (F := Ideal) m c main_v37 (ix2 r j) = yv m c (ix2 r (deil j)) := by
  refine Eq.trans ?_ (interT_at (yv m c) r j)
  entry_read
  rfl
theorem v38_at (r : Fin 3072) (j : Fin 1024) : V (F := Ideal) m c main_v38 (ix2 r j) = a4 m c (ix2 r j) := by
  entry_read
  rfl
theorem v41_at (r : Fin 3) (j : Fin 6144) : V (F := Ideal) m c main_v41 (ix2 r j) = a2 m c (ix2 r (deil j)) := by
  refine Eq.trans ?_ (interC_at (a2 m c) r j)
  entry_read
  rfl
/-- The up projection's columns as eight blocks. -/
def wupB (y : FVec Ideal S1024x6144 .f32) : FVec Ideal S8x1024x768 .f32 :=
  transpose S8x1024x768 [1, 0, 2] (shapeCast S1024x8x768 y shapeCasts_S1024x6144_S1024x8x768) transposes_S1024x8x768_S8x1024x768_1_0_2
theorem wupB_at (y : FVec Ideal S1024x6144 .f32) (b : Fin 8) (d : Fin 1024) (u : Fin 768) :
    wupB y (ix3 b d u) = y (ix2 d ⟨768 * b.val + u.val, by omega⟩) := by
  pointwise [wupB]
  refine congrArg (fun z => y (ix2 d z)) (Fin.ext ?_)
  dsimp only; omega
theorem v30_at (b : Fin 8) (d : Fin 1024) (u : Fin 768) : V (F := Ideal) m c main_v30 (ix3 b d u) = a1 m c (ix2 d ⟨768 * b.val + u.val, by omega⟩) := by
  refine Eq.trans ?_ (wupB_at (a1 m c) b d u)
  entry_read
  rfl
theorem arg5_at (r : Fin 4096) (j : Fin 1024) : V (F := Ideal) m c main_arg5 (ix2 r j) = a5 m c (ix2 r j) := by
  rw [V_main_arg5]

end Cert.KernelIdeal.Ffn

end
-- ==== Proof.Ffn.Blocks.lean ====
module

public import proofs.«01_k».proof.Proof.Ffn.Host

@[expose] public section

set_option maxRecDepth 16384

noncomputable section

namespace Cert.KernelIdeal.Ffn

open Idealize.ShloMosaic Idealize.ShloMosaic.TcCoe Idealize.SL.Sem
open Cert.KernelIdeal Cert.KernelIdeal.Gen
open Cert.Ffn (deil il)

variable (m : (ℓ : Loc nD τ sig) → Buf (Elt Ideal) ℓ) (c : Dev nD)

/-! ## The blocks of a point

Point `t` is at row block `7 - t / 4`, column block `t % 4`: the tiles are worked through from the last rows up. -/

theorem idx : ∀ t : Fin cfg0.N,
    win0_0.index t = ![7 - t.val / 4, t.val % 4] ∧ win0_1.index t = ![7 - t.val / 4, t.val % 4] ∧ win0_2.index t = ![7 - t.val / 4, 0]
    ∧ win0_3.index t = ![t.val % 4, 0] ∧ win0_4.index t = ![t.val % 4, 0, 0] ∧ win0_5.index t = ![t.val % 4 + 4, 0, 0]
    ∧ win0_6.index t = ![0, t.val % 4] ∧ win0_7.index t = ![7 - t.val / 4, t.val % 4] ∧ win0_8.index t = ![7 - t.val / 4, 0]
    ∧ win0_9.index t = ![7 - t.val / 4, 0, t.val % 4] ∧ win0_10.index t = ![7 - t.val / 4, 0, t.val % 4] ∧ t.val < 32 :=
  (by decide +kernel : ∀ t : Fin grid0.N, _)

/-- Row `p` of the tile of point `t`, -/
def row (t : Fin cfg0.N) (p : Fin 512) : Fin 4096 := ⟨512 * (7 - t.val / 4) + p.val, by omega⟩
/-- and its column block. -/
def colb (t : Fin cfg0.N) : Fin 4 := ⟨t.val % 4, Nat.mod_lt _ (by decide)⟩

/-- Column `q` of the point's columns in the blocked order. -/
def bcol (t : Fin cfg0.N) (q : Fin 1536) : Fin 6144 := ⟨1536 * (t.val % 4) + q.val, by omega⟩
theorem deil_bcol (t : Fin cfg0.N) (q : Fin 1536) : deil (bcol t q) = il (colb t) q := Ffn.deil_block _ _ _ rfl

theorem b0_at (t : Fin cfg0.N) (p : Fin 512) (q : Fin 1536) : iblk (F := Ideal) m c 0 t (ix2 p q) = upv m c (ix2 (row t p) (il (colb t) q)) := by
  rw [← deil_bcol, ← v34_at]
  blk_ext [iblk, row, bcol, idx t]
theorem b1_at (t : Fin cfg0.N) (p : Fin 512) (q : Fin 1536) : iblk (F := Ideal) m c 1 t (ix2 p q) = yv m c (ix2 (row t p) (il (colb t) q)) := by
  rw [← deil_bcol, ← v37_at]
  blk_ext [iblk, row, bcol, idx t]
theorem b2_at (t : Fin cfg0.N) (p : Fin 512) (d : Fin 1024) : iblk (F := Ideal) m c 2 t (ix2 p d) = a5 m c (ix2 (row t p) d) := by
  rw [← arg5_at]
  blk_ext [iblk, row, idx t]
theorem b3_at (t : Fin cfg0.N) (u : Fin 768) (d : Fin 1024) : iblk (F := Ideal) m c 3 t (ix2 u d) = a4 m c (ix2 ⟨768 * (t.val % 4) + u.val, by omega⟩ d) := by
  rw [← v38_at]
  blk_ext [iblk, idx t]
theorem b4_at (t : Fin cfg0.N) (d : Fin 1024) (u : Fin 768) : iblk (F := Ideal) m c 4 t (ix3 0 d u) = a1 m c (ix2 d (il (colb t) ⟨u.val, by omega⟩)) := by
  rw [show il (colb t) ⟨u.val, by omega⟩ = ⟨768 * (⟨t.val % 4, by omega⟩ : Fin 8).val + u.val, by dsimp only; omega⟩ from Fin.ext (by rw [Ffn.il_val]; dsimp only [colb]; omega), ← v30_at]
  blk_ext [iblk, idx t]
theorem b5_at (t : Fin cfg0.N) (d : Fin 1024) (u : Fin 768) : iblk (F := Ideal) m c 5 t (ix3 0 d u) = a1 m c (ix2 d (il (colb t) ⟨768 + u.val, by omega⟩)) := by
  rw [show il (colb t) ⟨768 + u.val, by omega⟩ = ⟨768 * (⟨t.val % 4 + 4, by omega⟩ : Fin 8).val + u.val, by dsimp only; omega⟩ from Fin.ext (by rw [Ffn.il_val]; dsimp only [colb]; omega), ← v30_at]
  blk_ext [iblk, idx t]
theorem b6_at (t : Fin cfg0.N) (k : Fin 3) (q : Fin 1536) : iblk (F := Ideal) m c 6 t (ix2 k q) = a2 m c (ix2 k (il (colb t) q)) := by
  rw [← deil_bcol, ← v41_at]
  blk_ext [iblk, bcol, idx t]

end Cert.KernelIdeal.Ffn

end
-- ==== Proof.Ffn.Tiles.lean ====
module

public import proofs.«01_k».proof.Proof.Ffn.Blocks

@[expose] public section

set_option maxRecDepth 16384

noncomputable section

namespace Cert.KernelIdeal.Ffn

open Idealize.ShloMosaic Idealize.ShloMosaic.TcCoe Idealize.SL.Sem
open Cert.KernelIdeal Cert.KernelIdeal.Gen
open Cert.Ffn (deil il)

variable (m : (ℓ : Loc nD τ sig) → Buf (Elt Ideal) ℓ) (c : Dev nD)

/-! ## The gradients at the launch's arguments -/

def da (r : Fin 4096) (k : Fin 3072) : EReal := ∑ d : Fin 1024, a5 m c (ix2 r d) * a4 m c (ix2 k d)
def yy (r : Fin 4096) (j : Fin 6144) : EReal := yv m c (ix2 r j)
def up (r : Fin 4096) (j : Fin 6144) : EReal := upv m c (ix2 r j)
def cw (k : Fin 3) (j : Fin 6144) : EReal := a2 m c (ix2 k j)
def wu (d : Fin 1024) (j : Fin 6144) : EReal := a1 m c (ix2 d j)
def dr (r : Fin 4096) (d : Fin 1024) : EReal := a5 m c (ix2 r d)
def dy : Fin 4096 → Fin 6144 → EReal := Ffn.dyS (da m c) (yy m c)
def dup : Fin 4096 → Fin 6144 → EReal := Ffn.dupS (cw m c) (dy m c)

/-! ## What the points leave, in those terms -/

theorem kdy_of (x1 : FVec Ideal S512x1536 .f32) (x2 : FVec Ideal S512x1024 .f32) (x3 : FVec Ideal S768x1024 .bf16) (r : Fin 4096) (b : Fin 4)
    (p : Fin 512) (q : Fin 1536) (Y : Fin 4096 → Fin 6144 → EReal) (g : Fin 4096 → Fin 1024 → EReal) (w : Fin 3072 → Fin 1024 → EReal)
    (h1 : ∀ q, x1 (ix2 p q) = Y r (il b q)) (h2 : ∀ d, x2 (ix2 p d) = g r d) (h3 : ∀ u d, x3 (ix2 u d) = w ⟨768 * b.val + u.val, by omega⟩ d) :
    kdy (F := Ideal) x1 x2 x3 (ix2 p q) = Ffn.dyS (fun r k => ∑ d : Fin 1024, g r d * w k d) Y r (il b q) := by
  refine (kdy_at _ _ _ p q).trans ?_
  simp only [h1, h2, h3]
  unfold Ffn.dyS
  by_cases h : q.val < 768
  · have e : (il b q).val = 768 * b.val + q.val := by rw [Ffn.il_val]; omega
    rw [dif_pos h, dif_pos (by omega)]
    simp only [e]
    refine congrArg₂ (fun z w => Ffn.dgate _ (Y r z) (Y r w)) (Fin.ext ?_) (Fin.ext ?_)
    · rw [Ffn.il_val]; dsimp only; omega
    · exact e
  · have e : (il b q).val = 3072 + 768 * b.val + (q.val - 768) := by rw [Ffn.il_val]; omega
    rw [dif_neg h, dif_neg (by omega)]
    have e2 : (⟨768 * b.val + (q.val - 768), by omega⟩ : Fin 3072) = ⟨(il b q).val - 3072, by omega⟩ := Fin.ext (by dsimp only; omega)
    simp only [e2]
    refine congrArg (fun w => Ffn.dval _ (Y r w)) (Fin.ext ?_)
    rw [Ffn.il_val]; dsimp only; omega

theorem kdy_pt (t : Fin cfg0.N) (p : Fin 512) (q : Fin 1536) :
    kdy (F := Ideal) (iblk m c 1 t) (iblk m c 2 t) (iblk m c 3 t) (ix2 p q) = dy m c (row t p) (il (colb t) q) :=
  kdy_of _ _ _ (row t p) (colb t) p q (yy m c) (fun r d => a5 m c (ix2 r d)) (fun k d => a4 m c (ix2 k d))
    (fun q => b1_at m c t p q) (fun d => b2_at m c t p d) (fun u d => b3_at m c t u d)

theorem nx_pt (t : Fin cfg0.N) (s : Fin 8) (q : Fin 1536) :
    nxAt (F := Ideal) m c t (ix3 0 s q) = Ffn.ahead (512 + s.val) (fun r => dy m c r (il (colb t) q)) (512 * (7 - t.val / 4)) := by
  have hN : t.val < 32 := (idx t).2.2.2.2.2.2.2.2.2.2.2
  unfold nxAt Ffn.ahead
  by_cases h : t.val < 4
  · rw [if_pos h, dif_neg (by omega)]
    exact zero_at s q
  · rw [if_neg h, dif_pos (by omega)]
    refine (khead_at _ _ _ s q).trans ((kdy_pt m c _ _ q).trans ?_)
    refine congrArg₂ (fun z w => dy m c z (il w q)) (Fin.ext ?_) (Fin.ext ?_)
    · dsimp only [row]; omega
    · dsimp only [colb]; omega

theorem ahead_pt (t : Fin cfg0.N) (k : ℕ) (hk : k ≤ 8) (p : Fin 512) (q : Fin 1536) :
    aheadB k (kdy (F := Ideal) (iblk m c 1 t) (iblk m c 2 t) (iblk m c 3 t)) (nxAt m c t) hk p q
      = Ffn.ahead k (fun r => dy m c r (il (colb t) q)) (row t p).val := by
  unfold aheadB
  exact Ffn.ahead_block k hk (fun r => dy m c r (il (colb t) q)) (fun p => kdy (F := Ideal) (iblk m c 1 t) (iblk m c 2 t) (iblk m c 3 t) (ix2 p q))
    (fun s => nxAt (F := Ideal) m c t (ix3 0 s q)) (7 - t.val / 4) (by omega) (fun p => kdy_pt m c t p q) (fun s => nx_pt m c t s q) p

theorem k7_pt (t : Fin cfg0.N) (p : Fin 512) (q : Fin 1536) :
    k7 (F := Ideal) (iblk m c 1 t) (iblk m c 2 t) (iblk m c 3 t) (iblk m c 6 t) (nxAt m c t) (ix2 p q) = dup m c (row t p) (il (colb t) q) := by
  refine (k7_at _ _ _ _ _ p q).trans ?_
  rw [ahead_pt, ahead_pt, kdy_pt, b6_at, b6_at, b6_at]
  rfl

theorem o7_pt (t : Fin cfg0.N) (p : Fin 512) (q : Fin 1536) : o7At (F := Ideal) m c t (ix2 p q) = dup m c (row t p) (il (colb t) q) :=
  k7_pt m c t p q

theorem o9_pt (t : Fin cfg0.N) (k : Fin 3) (q : Fin 1536) : o9At (F := Ideal) m c t (ix3 0 k q)
    = ∑ p : Fin 512, Ffn.ahead (2 - k.val) (fun r => dy m c r (il (colb t) q)) (row t p).val * up m c (row t p) (il (colb t) q) := by
  refine (k9_at _ _ _ _ _ k q).trans (Finset.sum_congr rfl fun p _ => ?_)
  rw [ahead_pt, b0_at]
  rfl

theorem o10_pt (t : Fin cfg0.N) (q : Fin 1536) : o10At (F := Ideal) m c t (ix3 0 0 q) = ∑ p : Fin 512, dy m c (row t p) (il (colb t) q) :=
  (k10_at _ _ _ q).trans (Finset.sum_congr rfl fun p _ => kdy_pt m c t p q)

/-- What one column block adds to the input gradient. -/
def part (r : Fin 4096) (d : Fin 1024) (j : Fin 4) : EReal :=
  ∑ u : Fin 768, dup m c r (il j ⟨u.val, by omega⟩) * wu m c d (il j ⟨u.val, by omega⟩)
    + ∑ u : Fin 768, dup m c r (il j ⟨768 + u.val, by omega⟩) * wu m c d (il j ⟨768 + u.val, by omega⟩)

theorem step_pt (t : Fin cfg0.N) (acc : FVec Ideal S512x1024 .f32) (p : Fin 512) (d : Fin 1024) :
    stepAt (F := Ideal) m c t acc (ix2 p d) = acc (ix2 p d) + part m c (row t p) d (colb t) := by
  refine (k8_at _ _ _ _ _ _ _ _ p d).trans (congrArg (acc (ix2 p d) + ·) ?_)
  unfold part
  refine congrArg₂ (· + ·) (Finset.sum_congr rfl fun u _ => ?_) (Finset.sum_congr rfl fun u _ => ?_)
  · rw [k7_pt, b4_at]; rfl
  · rw [k7_pt, b5_at]; rfl

theorem o8_pt (t : Fin cfg0.N) (h : t.val % 4 = 3) (p : Fin 512) (d : Fin 1024) :
    o8At (F := Ideal) m c t.val t.isLt (ix2 p d) = Ffn.dhS (dr m c) (wu m c) (dup m c) (row t p) d := by
  have hlt : ∀ k, t.val - k < cfg0.N := fun k => Nat.lt_of_le_of_lt (Nat.sub_le _ _) t.isLt
  have hr : ∀ k, k ≤ 3 → row ⟨t.val - k, hlt k⟩ p = row t p := fun k hk => Fin.ext (by dsimp only [row]; omega)
  have hc : ∀ k, k ≤ 3 → (colb ⟨t.val - k, hlt k⟩).val = 3 - k := fun k hk => by dsimp only [colb]; omega
  have e3 : o8At (F := Ideal) m c t.val t.isLt (ix2 p d)
      = o8At (F := Ideal) m c (t.val - 1) (hlt 1) (ix2 p d) + part m c (row t p) d 3 := by
    rw [o8At_next m c t (by omega)]
    refine (step_pt m c t _ p d).trans ?_
    rw [show colb t = 3 from Fin.ext (by dsimp only [colb]; exact h)]
  have e2 : o8At (F := Ideal) m c (t.val - 1) (hlt 1) (ix2 p d)
      = o8At (F := Ideal) m c (t.val - 1 - 1) (hlt 2) (ix2 p d) + part m c (row t p) d 2 := by
    have := o8At_next m c ⟨t.val - 1, hlt 1⟩ (by dsimp only; omega)
    dsimp only at this
    rw [this]
    refine (step_pt m c _ _ p d).trans ?_
    rw [hr 1 (by omega), show colb ⟨t.val - 1, hlt 1⟩ = 2 from Fin.ext (hc 1 (by omega))]
  have e1 : o8At (F := Ideal) m c (t.val - 1 - 1) (hlt 2) (ix2 p d)
      = o8At (F := Ideal) m c (t.val - 1 - 1 - 1) (hlt 3) (ix2 p d) + part m c (row t p) d 1 := by
    have := o8At_next m c ⟨t.val - 2, hlt 2⟩ (by dsimp only; omega)
    dsimp only at this
    refine (congrFun this (ix2 p d)).trans ?_
    refine (step_pt m c _ _ p d).trans ?_
    rw [hr 2 (by omega), show colb ⟨t.val - 2, hlt 2⟩ = 1 from Fin.ext (hc 2 (by omega))]
    rfl
  have e0 : o8At (F := Ideal) m c (t.val - 1 - 1 - 1) (hlt 3) (ix2 p d)
      = Ffn.alpha * dr m c (row t p) d + part m c (row t p) d 0 := by
    have := o8At_start m c ⟨t.val - 3, hlt 3⟩ (by dsimp only; omega)
    dsimp only at this
    refine (congrFun this (ix2 p d)).trans ?_
    refine (step_pt m c _ _ p d).trans ?_
    rw [hr 3 (by omega), show colb ⟨t.val - 3, hlt 3⟩ = 0 from Fin.ext (hc 3 (by omega))]
    refine congrArg (· + _) ((start_at _ p d).trans ?_)
    rw [b2_at, hr 3 (by omega)]
    rfl
  rw [e3, e2, e1, e0]
  unfold Ffn.dhS
  rw [← Ffn.sum_cols (fun j => dup m c (row t p) j * wu m c d j), Fin.sum_univ_four]
  change Ffn.alpha * dr m c (row t p) d + part m c (row t p) d 0 + part m c (row t p) d 1 + part m c (row t p) d 2 + part m c (row t p) d 3
    = Ffn.alpha * dr m c (row t p) d + (part m c (row t p) d 0 + part m c (row t p) d 1 + part m c (row t p) d 2 + part m c (row t p) d 3)
  simp only [add_assoc]

/-! ## The arrays after the run -/

/-- The gradient at the convolution's input, its columns blocked, -/
def w7 : S4096x6144.Idx → EReal := fun i => dup m c ⟨(i 0).val, (i 0).isLt⟩ (deil ⟨(i 1).val, (i 1).isLt⟩)
/-- the input gradient, -/
def w8 : S4096x1024.Idx → EReal := fun i => Ffn.dhS (dr m c) (wu m c) (dup m c) ⟨(i 0).val, (i 0).isLt⟩ ⟨(i 1).val, (i 1).isLt⟩
/-- the tiles' parts of the taps' gradient -/
def w9 : S8x3x6144.Idx → EReal := fun i => ∑ p : Fin 512,
  Ffn.ahead (2 - (i 1).val) (fun r => dy m c r (deil ⟨(i 2).val, (i 2).isLt⟩)) (512 * (i 0).val + p.val)
    * up m c ⟨512 * (i 0).val + p.val, by have : (i 0).val < 8 := (i 0).isLt; omega⟩ (deil ⟨(i 2).val, (i 2).isLt⟩)
/-- and of the bias's. -/
def w10 : S8x1x6144.Idx → EReal := fun i => ∑ p : Fin 512,
  dy m c ⟨512 * (i 0).val + p.val, by have : (i 0).val < 8 := (i 0).isLt; omega⟩ (deil ⟨(i 2).val, (i 2).isLt⟩)

theorem arr7 : (dats m 0 c).arrAt 7 cfg0.N = w7 m c := by
  refine (dats m 0 c).arrAt_eq_of_covers 7 (w7 m c) (by decide +kernel) fun t hf y => ?_
  blk_simp
  rw [after0_7]
  idx_vars y
  refine (o7_pt m c t y0 y1).trans ?_
  rw [← deil_bcol]
  refine (show _ = w7 m c (ix2 (row t y0) (bcol t y1)) from rfl).trans (congrArg (w7 m c) ?_)
  blk_ext [row, bcol, idx t]

theorem arr8 : (dats m 0 c).arrAt 8 cfg0.N = w8 m c := by
  refine (dats m 0 c).arrAt_eq_of_covers 8 (w8 m c) (by decide +kernel) fun t hf y => ?_
  blk_simp
  rw [after0_8]
  idx_vars y
  refine (o8_pt m c t ((flush0_8 t).mp hf) y0 y1).trans ?_
  refine (show _ = w8 m c (ix2 (row t y0) y1) from rfl).trans (congrArg (w8 m c) ?_)
  blk_ext [row, idx t]

theorem arr9 : (dats m 0 c).arrAt 9 cfg0.N = w9 m c := by
  refine (dats m 0 c).arrAt_eq_of_covers 9 (w9 m c) (by decide +kernel) fun t hf y => ?_
  blk_simp
  rw [after0_9]
  idx_vars y
  obtain rfl : y0 = 0 := Subsingleton.elim _ _
  refine (o9_pt m c t y1 y2).trans ?_
  rw [← deil_bcol]
  refine (show _ = w9 m c (ix3 (⟨7 - t.val / 4, by omega⟩ : Fin 8) y1 (bcol t y2)) from rfl).trans (congrArg (w9 m c) ?_)
  blk_ext [bcol, idx t]

theorem arr10 : (dats m 0 c).arrAt 10 cfg0.N = w10 m c := by
  refine (dats m 0 c).arrAt_eq_of_covers 10 (w10 m c) (by decide +kernel) fun t hf y => ?_
  blk_simp
  rw [after0_10]
  idx_vars y
  obtain rfl : y0 = 0 := Subsingleton.elim _ _
  obtain rfl : y1 = 0 := Subsingleton.elim _ _
  refine (o10_pt m c t y2).trans ?_
  rw [← deil_bcol]
  refine (show _ = w10 m c (ix3 (⟨7 - t.val / 4, by omega⟩ : Fin 8) (0 : Fin 1) (bcol t y2)) from rfl).trans (congrArg (w10 m c) ?_)
  blk_ext [bcol, idx t]

end Cert.KernelIdeal.Ffn

end
-- ==== Proof.Ffn.Results.lean ====
module

public import proofs.«01_k».proof.Proof.Ffn.Tiles

@[expose] public section

set_option maxRecDepth 16384

noncomputable section

namespace Cert.KernelIdeal.Ffn

open Idealize.ShloMosaic Idealize.ShloMosaic.TcCoe Idealize.SL.Sem
open Cert.KernelIdeal Cert.KernelIdeal.Gen
open Cert.Ffn (deil il inter deil_inter)

variable (m : (ℓ : Loc nD τ sig) → Buf (Elt Ideal) ℓ) (c : Dev nD)

/-! ## The host's work on the arrays -/

/-- The columns of a tall array put back in order, -/
def backT (y : FVec Ideal S4096x6144 .bf16) : FVec Ideal S4096x6144 .bf16 :=
  shapeCast S4096x6144 (transpose S4096x2x4x768 [0, 2, 1, 3] (shapeCast S4096x4x2x768 y shapeCasts_S4096x6144_S4096x4x2x768) transposes_S4096x4x2x768_S4096x2x4x768_0_2_1_3) shapeCasts_S4096x2x4x768_S4096x6144
theorem backT_at (y : FVec Ideal S4096x6144 .bf16) (r : Fin 4096) (j : Fin 6144) : backT y (ix2 r j) = y (ix2 r (inter j)) := by
  pointwise [backT]
  refine congrArg (fun z => y (ix2 r z)) (Fin.ext ?_)
  unfold Ffn.inter; dsimp only; omega

/-- the taps' parts summed and put back in order, -/
def backC (y : FVec Ideal S8x3x6144 .f32) : FVec Ideal S3x6144 .f32 :=
  shapeCast S3x6144 (transpose S3x2x4x768 [0, 2, 1, 3] (shapeCast S3x4x2x768 (Host.reduceAdd y (constant S_ .f32 0x00000000#32) reducesTo_S8x3x6144_S3x6144_d0 h_S_) shapeCasts_S3x6144_S3x4x2x768) transposes_S3x4x2x768_S3x2x4x768_0_2_1_3) shapeCasts_S3x2x4x768_S3x6144
theorem backC_at (y : FVec Ideal S8x3x6144 .f32) (k : Fin 3) (j : Fin 6144) : backC y (ix2 k j) = ∑ b : Fin 8, y (ix3 b k (inter j)) := by
  pointwise [backC]
  refine Finset.sum_congr rfl fun b _ => congrArg (fun z => y (ix3 b k z)) (Fin.ext ?_)
  unfold Ffn.inter; dsimp only; omega

/-- and the bias's. -/
def backB (y : FVec Ideal S8x1x6144 .f32) : FVec Ideal S6144 .f32 :=
  shapeCast S6144 (shapeCast S1x6144 (transpose S1x2x4x768 [0, 2, 1, 3] (shapeCast S1x4x2x768 (Host.reduceAdd y (constant S_ .f32 0x00000000#32) reducesTo_S8x1x6144_S1x6144_d0 h_S_) shapeCasts_S1x6144_S1x4x2x768) transposes_S1x4x2x768_S1x2x4x768_0_2_1_3) shapeCasts_S1x2x4x768_S1x6144) shapeCasts_S1x6144_S6144
theorem backB_at (y : FVec Ideal S8x1x6144 .f32) (j : Fin 6144) : backB y (ix1 j) = ∑ b : Fin 8, y (ix3 b 0 (inter j)) := by
  pointwise [backB]
  refine Finset.sum_congr rfl fun b _ => congrArg (fun z => y (ix3 b 0 z)) (Fin.ext ?_)
  unfold Ffn.inter; dsimp only; omega

/-! ## The four results -/

def r8 : FVec Ideal S4096x1024 .f32 := w8 m c
def r7 : FVec Ideal S4096x6144 .bf16 := fun i => dup m c ⟨(i 0).val, (i 0).isLt⟩ ⟨(i 1).val, (i 1).isLt⟩
def r9 : FVec Ideal S3x6144 .f32 := fun i => Ffn.dcwS (up m c) (dy m c) ⟨(i 0).val, (i 0).isLt⟩ ⟨(i 1).val, (i 1).isLt⟩
def r10 : FVec Ideal S6144 .f32 := fun i => Ffn.dcbS (dy m c) ⟨(i 0).val, (i 0).isLt⟩

theorem back7 : backT (w7 m c) = r7 m c := by
  funext i
  idx_vars i
  refine (backT_at _ i0 i1).trans ?_
  show dup m c i0 (deil (inter i1)) = dup m c i0 i1
  rw [deil_inter]
theorem back9 : backC (w9 m c) = r9 m c := by
  funext i
  idx_vars i
  refine (backC_at _ i0 i1).trans ?_
  refine Eq.trans ?_ (Ffn.sum_rows (fun r => Ffn.ahead (2 - i0.val) (fun r => dy m c r i1) r.val * up m c r i1))
  refine Finset.sum_congr rfl fun b _ => Finset.sum_congr rfl fun p _ => ?_
  show Ffn.ahead (2 - i0.val) (fun r => dy m c r (deil (inter i1))) (512 * b.val + p.val) * up m c ⟨512 * b.val + p.val, _⟩ (deil (inter i1)) = _
  rw [deil_inter]
theorem back10 : backB (w10 m c) = r10 m c := by
  funext i
  idx_vars i
  refine (backB_at _ i0).trans ?_
  refine Eq.trans ?_ (Ffn.sum_rows (fun r => dy m c r i0))
  refine Finset.sum_congr rfl fun b _ => Finset.sum_congr rfl fun p _ => ?_
  show dy m c ⟨512 * b.val + p.val, _⟩ (deil (inter i0)) = _
  rw [deil_inter]

end Cert.KernelIdeal.Ffn

end
-- ==== Proof.Ffn.Run.lean ====
module

public import proofs.«01_k».proof.Proof.Ffn.Results

@[expose] public section

set_option maxRecDepth 16384

noncomputable section

namespace Cert.KernelIdeal.Ffn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Only the two halves of the up projection are windows on one array, -/
theorem shared : ∀ w w' : Fin cfg0.W, w ≠ w' → Pipeline.arrRef spec0 w = Pipeline.arrRef spec0 w' → w = 4 ∨ w = 5 :=
  (by decide : ∀ w w' : Fin 11, w ≠ w' → Pipeline.arrRef spec0 w = Pipeline.arrRef spec0 w' → w = 4 ∨ w = 5)

/-- so each array is read after the region at what its window left. -/
theorem after_arr (w : Fin cfg0.W) : Pipeline.withArrays spec0 c (V0 m c) (fun w => (dats (F := Ideal) m 0 c).arrAt w cfg0.N) (Proc.devRef .tc (Pipeline.arrRef spec0 w))
    = (dats (F := Ideal) m 0 c).arrAt w cfg0.N := by
  refine Pipeline.withArrays_arr_shared spec0 c (V0 m c) _ (fun w w' hne he => ?_) w
  rcases shared w w' hne he with rfl | rfl
  · exact ((dats (F := Ideal) m 0 c).arrAt_in 4 rfl _).trans (A_eq m c 4)
  · exact ((dats (F := Ideal) m 0 c).arrAt_in 5 rfl _).trans (A_eq m c 5)

theorem end45 : Pipeline.afterTail₀ cfgs (dats (F := Ideal) m) 0 (V0 m) [hostOps1] c main_v45 = r7 m c := by
  refine Eq.trans ?_ (back7 m c)
  rw [← arr7, ← after_arr m c 7]
  unfold Pipeline.afterTail₀
  generalize Pipeline.withArrays _ _ _ _ = W
  after_results
  rfl
theorem end49 : Pipeline.afterTail₀ cfgs (dats (F := Ideal) m) 0 (V0 m) [hostOps1] c main_v49 = r9 m c := by
  refine Eq.trans ?_ (back9 m c)
  rw [← arr9, ← after_arr m c 9]
  unfold Pipeline.afterTail₀
  generalize Pipeline.withArrays _ _ _ _ = W
  after_results
  rfl
theorem end54 : Pipeline.afterTail₀ cfgs (dats (F := Ideal) m) 0 (V0 m) [hostOps1] c main_v54 = r10 m c := by
  refine Eq.trans ?_ (back10 m c)
  rw [← arr10, ← after_arr m c 10]
  unfold Pipeline.afterTail₀
  generalize Pipeline.withArrays _ _ _ _ = W
  after_results
  rfl

/-- The run: the four gradients, and the arguments as launched. -/
theorem value : θ_run defs (onTc (τ := τ) (main (F := Ideal))) ⟨m, fun _ => 0, ρ⟩ (fun r => ∀ c : Dev nD,
      r.2.mem ((c.tc : Thread nD τ).loc main_v42_1) = r8 m c
      ∧ r.2.mem ((c.tc : Thread nD τ).loc main_v45) = r7 m c
      ∧ r.2.mem ((c.tc : Thread nD τ).loc main_v49) = r9 m c
      ∧ r.2.mem ((c.tc : Thread nD τ).loc main_v54) = r10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 8).trans (arr8 m c),
    ((h.1 c).2 main_v45 (Pipeline.mem_restRefs_of main_v45 (by decide) (by decide))).trans (end45 m c),
    ((h.1 c).2 main_v49 (Pipeline.mem_restRefs_of main_v49 (by decide) (by decide))).trans (end49 m c),
    ((h.1 c).2 main_v54 (Pipeline.mem_restRefs_of main_v54 (by decide) (by decide))).trans (end54 m c),
    h.2 c⟩) (θ_run_and (run_main m ρ) (unchanged m ρ))

end Cert.KernelIdeal.Ffn

end
-- ==== Proof.Ffn.Consts.lean ====
/- The float words of the two programs as the extended reals they denote. -/
module

public import Idealize.ShloMosaic.PureOps.Ideal

@[expose] public section

noncomputable section

namespace Cert.Ffn

open Idealize.ShloMosaic

theorem ofBits_half : Ideal.ofBits .f32 0x3F000000#32 = ((1 / 2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_num : Ideal.ofBits .f32 0x472EAB00#32 = ((44715 : ℝ) : EReal) := by
  simp [Ideal.ofBits, Ideal.ieee, -EReal.coe_mul]; norm_num
theorem ofBits_den : Ideal.ofBits .f32 0x49742400#32 = ((1000000 : ℝ) : EReal) := by
  simp [Ideal.ofBits, Ideal.ieee, -EReal.coe_mul]; norm_num
theorem ofBits_root : ∃ r : ℝ, Ideal.ofBits .f32 0x3F4C422A#32 = (r : EReal) := by
  simp [Ideal.ofBits, Ideal.ieee, -EReal.coe_mul]
theorem ofBits_inf : Ideal.ofBits .f32 0x7F800000#32 = ⊤ := by
  simp [Ideal.ofBits, Ideal.ieee]

end Cert.Ffn

end
-- ==== Proof.Ffn.Scalar.lean ====
/- The GELU's derivative as the two programs spell it, equal at finite operands. -/
module

public import proofs.«01_k».proof.Proof.Ffn.Spec
public import proofs.«01_k».proof.Proof.Ffn.Consts

@[expose] public section

noncomputable section

namespace Cert.Ffn

open Idealize.ShloMosaic

/-- An extended real that is a real. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.zero : Fin' 0 := ⟨0, EReal.coe_zero.symm⟩
theorem Fin'.sum {ι : Type*} (s : Finset ι) (f : ι → EReal) (h : ∀ i, Fin' (f i)) : Fin' (∑ i ∈ s, f i) := by
  classical
  induction s using Finset.induction_on with
  | empty => rw [Finset.sum_empty]; exact Fin'.zero
  | insert a s ha ih => rw [Finset.sum_insert ha]; exact (h a).add ih

/-- The reference's cubic coefficient, the quotient it computes. -/
abbrev cubR : EReal := Ideal.div (Ideal.ofBits .f32 0x472EAB00#32) (Ideal.ofBits .f32 0x49742400#32)

theorem cubR_eq : cubR = cub := by
  unfold cubR
  rw [ofBits_num, ofBits_den, Ideal.div_coe (by norm_num), ← EReal.coe_mul]
  norm_num

/-- The gradient at a gate as differentiating the reference writes it. -/
def dgateR (d v g : EReal) : EReal :=
  d * v * (half * (1 + th g)) + rt * (half * (g * (d * v)) * ((1 + th g) * (1 - th g)))
    + cub * (rt * (half * (g * (d * v)) * ((1 + th g) * (1 - th g)))) * (Ideal.ofBits .f32 0x40400000#32 * (g * g))

theorem th_real (g : ℝ) : ∃ t : ℝ, th (g : EReal) = (t : EReal) := by
  obtain ⟨c, hc⟩ := ofBits_root
  unfold th rt cub
  rw [hc]
  simp only [← EReal.coe_mul, ← EReal.coe_add]
  exact ⟨_, rfl⟩

theorem dgateR_eq {d v g : EReal} (hd : Fin' d) (hv : Fin' v) (hg : Fin' g) : dgateR d v g = dgate d v g := by
  obtain ⟨d, rfl⟩ := hd; obtain ⟨v, rfl⟩ := hv; obtain ⟨g, rfl⟩ := hg
  obtain ⟨t, ht⟩ := th_real g
  obtain ⟨c, hc⟩ := ofBits_root
  unfold dgateR dgate half rt cub cub3
  rw [ht, hc, ofBits_half, ofBits_three]
  rw [← EReal.coe_one]
  simp only [← EReal.coe_mul, ← EReal.coe_add, ← EReal.coe_sub]
  refine congrArg _ ?_
  ring

end Cert.Ffn

end
-- ==== Proof.Ffn.Ref.lean ====
module

public import proofs.«01_k».proof.Proof.Ffn.Scalar
public import proofs.«01_k».proof.Proof.Gen.ReferenceIdeal.Read

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen Cert.ReferenceIdeal.Read
open Cert.Ffn (Fin')

variable (x0 : FVec Ideal S4096x1024 .f32) (x1 : FVec Ideal S1024x6144 .f32) (x2 : FVec Ideal S3x6144 .f32) (x3 : FVec Ideal S6144 .f32)
  (x4 : FVec Ideal S3072x1024 .f32) (x5 : FVec Ideal S4096x1024 .f32)

/-! ## The reference's gradients in the same terms -/

def da (r : Fin 4096) (k : Fin 3072) : EReal := ∑ d : Fin 1024, x5 (ix2 r d) * x4 (ix2 k d)
def yy (r : Fin 4096) (j : Fin 6144) : EReal := val_main_v28 (F := Ideal) x0 x1 x2 x3 (ix2 r j)
def up (r : Fin 4096) (j : Fin 6144) : EReal := val_main_v0 (F := Ideal) x0 x1 (ix2 r j)
def dy : Fin 4096 → Fin 6144 → EReal := Cert.Ffn.dyS (da x4 x5) (yy x0 x1 x2 x3)
def dup : Fin 4096 → Fin 6144 → EReal := Cert.Ffn.dupS (fun k j => x2 (ix2 k j)) (dy x0 x1 x2 x3 x4 x5)

theorem v55_at (r : Fin 4096) (j : Fin 3072) : val_main_v55 (F := Ideal) x4 x5 (ix2 r j) = da x4 x5 r j := by
  pointwise [val_main_v55]
  rfl

theorem v69_at (r : Fin 4096) (j : Fin 3072) : val_main_v69 (F := Ideal) x0 x1 x2 x3 x4 x5 (ix2 r j)
    = Cert.Ffn.dgateR (da x4 x5 r j) (yy x0 x1 x2 x3 r ⟨3072 + j.val, by omega⟩) (yy x0 x1 x2 x3 r ⟨j.val, by omega⟩) := by
  pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v56, val_main_v57, val_main_v58, val_main_v59, val_main_v60, val_main_v61, val_main_v62, val_main_v63, val_main_v64, val_main_v65, val_main_v66, val_main_v67, val_main_v68, val_main_v69, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26]
  rw [show Ideal.div (Ideal.ofBits .f32 0x472EAB00#32) (Ideal.ofBits .f32 0x49742400#32) = Cert.Ffn.cub from Cert.Ffn.cubR_eq, v55_at]
  rfl
theorem v56_at (r : Fin 4096) (j : Fin 3072) : val_main_v56 (F := Ideal) x0 x1 x2 x3 x4 x5 (ix2 r j)
    = Cert.Ffn.dval (da x4 x5 r j) (yy x0 x1 x2 x3 r ⟨j.val, by omega⟩) := by
  pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v56, val_main_v57, val_main_v58, val_main_v59, val_main_v60, val_main_v61, val_main_v62, val_main_v63, val_main_v64, val_main_v65, val_main_v66, val_main_v67, val_main_v68, val_main_v69, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26]
  rw [show Ideal.div (Ideal.ofBits .f32 0x472EAB00#32) (Ideal.ofBits .f32 0x49742400#32) = Cert.Ffn.cub from Cert.Ffn.cubR_eq, v55_at]
  refine (mul_comm _ _).trans (congrArg (da x4 x5 r j * ·) ?_)
  refine (mul_assoc _ _ _).symm.trans ?_
  rw [mul_comm (val_main_v28 (F := Ideal) x0 x1 x2 x3 (ix2 r ⟨j.val, by omega⟩))]
  rfl

section finite
variable (h0 : ∀ i, Fin' (x0 i)) (h1 : ∀ i, Fin' (x1 i)) (h2 : ∀ i, Fin' (x2 i)) (h3 : ∀ i, Fin' (x3 i)) (h4 : ∀ i, Fin' (x4 i)) (h5 : ∀ i, Fin' (x5 i))
include h0 h1 h2 h3 h4 h5

theorem up_fin (r : Fin 4096) (j : Fin 6144) : Fin' (val_main_v0 (F := Ideal) x0 x1 (ix2 r j)) := by
  pointwise [val_main_v0]
  exact Fin'.sum _ _ fun k => (h0 _).mul (h1 _)
theorem da_fin (r : Fin 4096) (j : Fin 3072) : Fin' (da x4 x5 r j) := Fin'.sum _ _ fun k => (h5 _).mul (h4 _)
theorem yy_fin (r : Fin 4096) (j : Fin 6144) : Fin' (yy x0 x1 x2 x3 r j) := by
  have hu := up_fin x0 x1 x2 x3 x4 x5 h0 h1 h2 h3 h4 h5
  unfold yy
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26]
  refine ((((h2 _).mul ?_).add ((h2 _).mul ?_)).add ((h2 _).mul (hu _ _))).add (h3 _)
  · split
    · exact Fin'.zero
    · exact hu _ _
  · split
    · exact Fin'.zero
    · exact hu _ _

theorem dy_at (r : Fin 4096) (j : Fin 6144) : val_main_v70 (F := Ideal) x0 x1 x2 x3 x4 x5 (ix2 r j) = dy x0 x1 x2 x3 x4 x5 r j := by
  pointwise [val_main_v70]
  unfold dy Cert.Ffn.dyS
  by_cases h : j.val < 3072
  · rw [dif_pos h, dif_pos h, v69_at]
    exact Cert.Ffn.dgateR_eq (da_fin x0 x1 x2 x3 x4 x5 h0 h1 h2 h3 h4 h5 _ _) (yy_fin x0 x1 x2 x3 x4 x5 h0 h1 h2 h3 h4 h5 _ _) (yy_fin x0 x1 x2 x3 x4 x5 h0 h1 h2 h3 h4 h5 _ _)
  · rw [dif_neg h, dif_neg h, v56_at]

theorem dup_at (r : Fin 4096) (j : Fin 6144) : val_main_v106 (F := Ideal) x0 x1 x2 x3 x4 x5 (ix2 r j) = dup x0 x1 x2 x3 x4 x5 r j := by
  have hdy := dy_at x0 x1 x2 x3 x4 x5 h0 h1 h2 h3 h4 h5
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v71, val_main_v72, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26]
  unfold dup Cert.Ffn.dupS
  rw [hdy, add_right_comm]
  refine congrArg₂ (· + ·) (congrArg₂ (· + ·) rfl ?_) ?_
  · unfold Cert.Ffn.ahead
    by_cases h : 2 + r.val < 4096
    · rw [dif_pos h, dif_pos (by omega), hdy]
      exact congrArg (fun z => x2 (ix2 0 j) * dy x0 x1 x2 x3 x4 x5 z j) (Fin.ext (by dsimp only; omega))
    · rw [dif_neg h, dif_neg (by omega), mul_zero]
  · unfold Cert.Ffn.ahead
    by_cases h : 1 + r.val < 4096
    · rw [dif_pos (by omega), dif_pos (by omega), hdy]
      exact congrArg (fun z => x2 (ix2 1 j) * dy x0 x1 x2 x3 x4 x5 z j) (Fin.ext (by dsimp only; omega))
    · rw [dif_neg (by omega), dif_neg (by omega), mul_zero]

theorem dh_at (r : Fin 4096) (d : Fin 1024) : val_main_v110 (F := Ideal) x0 x1 x2 x3 x4 x5 (ix2 r d)
    = Cert.Ffn.dhS (fun r d => x5 (ix2 r d)) (fun d j => x1 (ix2 d j)) (dup x0 x1 x2 x3 x4 x5) r d := by
  pointwise [val_main_v110, val_main_v109, val_main_v108, val_main_v107, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26]
  unfold Cert.Ffn.dhS
  refine congrArg (_ + ·) (Finset.sum_congr rfl fun j _ => ?_)
  rw [dup_at x0 x1 x2 x3 x4 x5 h0 h1 h2 h3 h4 h5]

theorem dcb_at (j : Fin 6144) : val_main_v73 (F := Ideal) x0 x1 x2 x3 x4 x5 (ix1 j) = Cert.Ffn.dcbS (dy x0 x1 x2 x3 x4 x5) j := by
  pointwise [val_main_v73, val_main_v72, val_main_v71, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26]
  rw [Fin.sum_univ_one]
  exact Finset.sum_congr rfl fun r _ => dy_at x0 x1 x2 x3 x4 x5 h0 h1 h2 h3 h4 h5 r j

theorem dcw_at (k : Fin 3) (j : Fin 6144) : val_main_v104 (F := Ideal) x0 x1 x2 x3 x4 x5 (ix2 k j)
    = Cert.Ffn.dcwS (up x0 x1) (dy x0 x1 x2 x3 x4 x5) k j := by
  have hdy := dy_at x0 x1 x2 x3 x4 x5 h0 h1 h2 h3 h4 h5
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v71, val_main_v72, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26]
  simp only [hdy, Fin.sum_univ_one]
  obtain ⟨k, hk⟩ := k
  interval_cases k
  · simp
    exact (Cert.Ffn.sum_ahead 2 4094 rfl (fun r => dy x0 x1 x2 x3 x4 x5 r j) (fun r => up x0 x1 r j)).symm
  · simp
    refine Eq.trans ?_ (Cert.Ffn.sum_ahead 1 4095 rfl (fun r => dy x0 x1 x2 x3 x4 x5 r j) (fun r => up x0 x1 r j)).symm
    refine (Fin.sum_univ_two_halves 1 4095 rfl _).trans ?_
    refine (congrArg₂ (· + ·) ((Fin.sum_univ_one _).trans (dif_pos (Fin.ext rfl))) ?_).trans (zero_add _)
    refine Finset.sum_congr rfl fun x _ => ?_
    refine (dif_neg (fun e => ?_)).trans ?_
    · have h := congrArg Fin.val e
      change 1 + x.val = 0 at h
      omega
    · refine congrArg (fun z => _ * val_main_v0 (F := Ideal) x0 x1 (ix2 z j)) (Fin.ext ?_)
      change 1 + (1 + x.val) - 2 = x.val
      omega
  · simp
    refine Finset.sum_congr rfl fun r _ => ?_
    unfold Cert.Ffn.ahead
    rw [dif_pos (by omega)]
    refine congrArg (fun z => dy x0 x1 x2 x3 x4 x5 z j * val_main_v0 (F := Ideal) x0 x1 (ix2 r j)) (Fin.ext ?_)
    change r.val = r.val + (2 - 2)
    omega

end finite

end Cert.ReferenceIdeal.Ffn

end
-- ==== Proof.Ffn.Finite.lean ====
/- What the precondition says of the six arrays: every element is a real. -/
module

public import proofs.«01_k».proof.Pre_finite
public import proofs.«01_k».proof.Proof.Gen.Pre_finite
public import proofs.«01_k».proof.Proof.Ffn.Scalar
public import Idealize.ShloMosaic.Lib.ReduceAll
public import Idealize.ShloMosaic.Lib.Affine

@[expose] public section

noncomputable section

namespace Cert.Pre_finite.Ffn

open Idealize.ShloMosaic
open Cert.Pre_finite
open Cert.Ffn (Fin')

instance : Subsingleton S_.Idx := ⟨fun i j => funext fun k => k.elim0⟩

/-- An element whose absolute value is below the top is a real. -/
theorem fin_of_lt {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) : Fin' (x i) := by
  have e' : BitVec.ofBool (decide (max (x i) (-(x i)) < Ideal.ofBits .f32 0x7F800000#32)) = 1#1 := e
  rw [Cert.Ffn.ofBits_inf] at e'
  have h : max (x i) (-(x i)) < ⊤ := by
    by_contra hn
    rw [decide_eq_false hn] at e'
    exact absurd e' (by decide)
  have h1 : x i ≠ ⊤ := (lt_of_le_of_lt (le_max_left _ _) h).ne
  have h2 : x i ≠ ⊥ := fun hb => by
    have : -(x i) < ⊤ := lt_of_le_of_lt (le_max_right _ _) h
    rw [hb, EReal.neg_bot] at this
    exact lt_irrefl _ this
  exact ⟨(x i).toReal, (EReal.coe_toReal h1 h2).symm⟩

theorem finite_of (x0 : FVec Ideal S4096x1024 .f32) (x1 : FVec Ideal S1024x6144 .f32) (x2 : FVec Ideal S3x6144 .f32) (x3 : FVec Ideal S6144 .f32)
    (x4 : FVec Ideal S3072x1024 .f32) (x5 : FVec Ideal S4096x1024 .f32)
    (h : fn (F := Ideal) x0 x1 x2 x3 x4 x5 = fun _ => 1#1) :
    (∀ i, Fin' (x0 i)) ∧ (∀ i, Fin' (x1 i)) ∧ (∀ i, Fin' (x2 i)) ∧ (∀ i, Fin' (x3 i)) ∧ (∀ i, Fin' (x4 i)) ∧ (∀ i, Fin' (x5 i)) := by
  have e := congrFun h (fun k => k.elim0)
  obtain ⟨e, e5⟩ := (IntOp.andi_eq_one).1 e
  obtain ⟨e, e4⟩ := (IntOp.andi_eq_one).1 e
  obtain ⟨e, e3⟩ := (IntOp.andi_eq_one).1 e
  obtain ⟨e, e2⟩ := (IntOp.andi_eq_one).1 e
  obtain ⟨e0, e1⟩ := (IntOp.andi_eq_one).1 e
  exact ⟨fun i => fin_of_lt _ _ i (Host.reduce_andi_all _ _ _ _ _ e0 i), fun i => fin_of_lt _ _ i (Host.reduce_andi_all _ _ _ _ _ e1 i),
    fun i => fin_of_lt _ _ i (Host.reduce_andi_all _ _ _ _ _ e2 i), fun i => fin_of_lt _ _ i (Host.reduce_andi_all _ _ _ _ _ e3 i),
    fun i => fin_of_lt _ _ i (Host.reduce_andi_all _ _ _ _ _ e4 i), fun i => fin_of_lt _ _ i (Host.reduce_andi_all _ _ _ _ _ e5 i)⟩

end Cert.Pre_finite.Ffn

end
-- ==== Proof.Ffn.Claims.lean ====
/- The claims of the feed-forward gradient: its run against the reference's. -/
module

public import proofs.«01_k».proof.Defs
public import proofs.«01_k».proof.Proof.Ffn.Run
public import proofs.«01_k».proof.Proof.Ffn.Ref
public import proofs.«01_k».proof.Proof.Ffn.Finite
public import proofs.«01_k».proof.Proof.FfnK.Frame
public import Idealize.ShloMosaic.Lib.Quiescent

@[expose] public section

set_option maxRecDepth 16384

noncomputable section

namespace Cert.Ffn

open Idealize.ShloMosaic Idealize.ShloMosaic.TcCoe Idealize.SL.Sem
open Cert.KernelIdeal.Ffn (r7 r8 r9 r10)

theorem frame_p : Cert.quiescent_Kernel := fun m ρ _ => Cert.Kernel.Ffn.frame m ρ
theorem frame_pi : Cert.quiescent_KernelIdeal := fun m ρ _ => Cert.KernelIdeal.Ffn.frame m ρ
theorem frame_pif : Cert.quiescent_KernelIdeal_pre_finite := fun m ρ _ => Cert.KernelIdeal.Ffn.frame m ρ
theorem frame_ri : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)
theorem frame_rif : Cert.quiescent_ReferenceIdeal_pre_finite := fun m ρ _ => frame_ri m ρ trivial

theorem preserves : Cert.preserves_Kernel_KernelIdeal :=
  ⟨IdealRules.named_const.statement Cert.KernelIdeal.κ "cubic" .f32 0x3D372713#32 ((8943 / 200000 : ℝ) : EReal) rfl,
   IdealRules.named_const.statement Cert.KernelIdeal.κ "cubic3" .f32 0x3E095D4F#32 ((26829 / 200000 : ℝ) : EReal) rfl⟩

section results

variable (m : (ℓ : Loc Cert.KernelIdeal.nD Cert.KernelIdeal.τ Cert.KernelIdeal.sig) → Buf (Elt Ideal) ℓ) (c : Dev Cert.KernelIdeal.nD)
  (x0 : FVec Ideal Cert.ReferenceIdeal.S4096x1024 .f32) (x1 : FVec Ideal Cert.ReferenceIdeal.S1024x6144 .f32) (x2 : FVec Ideal Cert.ReferenceIdeal.S3x6144 .f32)
  (x3 : FVec Ideal Cert.ReferenceIdeal.S6144 .f32) (x4 : FVec Ideal Cert.ReferenceIdeal.S3072x1024 .f32) (x5 : FVec Ideal Cert.ReferenceIdeal.S4096x1024 .f32)
  (e0 : x0 = m ((c.tc : Thread _ _).loc Cert.KernelIdeal.main_arg0)) (e1 : x1 = m ((c.tc : Thread _ _).loc Cert.KernelIdeal.main_arg1))
  (e2 : x2 = m ((c.tc : Thread _ _).loc Cert.KernelIdeal.main_arg2)) (e3 : x3 = m ((c.tc : Thread _ _).loc Cert.KernelIdeal.main_arg3))
  (e4 : x4 = m ((c.tc : Thread _ _).loc Cert.KernelIdeal.main_arg4)) (e5 : x5 = m ((c.tc : Thread _ _).loc Cert.KernelIdeal.main_arg5))
  (h0 : ∀ i, Fin' (x0 i)) (h1 : ∀ i, Fin' (x1 i)) (h2 : ∀ i, Fin' (x2 i)) (h3 : ∀ i, Fin' (x3 i)) (h4 : ∀ i, Fin' (x4 i)) (h5 : ∀ i, Fin' (x5 i))

include e0 e1 e2 e3 e4 e5 h0 h1 h2 h3 h4 h5

theorem dh_eq : Cert.ReferenceIdeal.Read.val_main_v110 (F := Ideal) x0 x1 x2 x3 x4 x5 = r8 m c := by
  subst e0 e1 e2 e3 e4 e5
  funext i
  idx_vars i
  exact Cert.ReferenceIdeal.Ffn.dh_at _ _ _ _ _ _ h0 h1 h2 h3 h4 h5 i0 i1
theorem dup_eq : Cert.ReferenceIdeal.Read.val_main_v111 (F := Ideal) x0 x1 x2 x3 x4 x5 = r7 m c := by
  subst e0 e1 e2 e3 e4 e5
  funext i
  idx_vars i
  exact Cert.ReferenceIdeal.Ffn.dup_at _ _ _ _ _ _ h0 h1 h2 h3 h4 h5 i0 i1
theorem dcw_eq : Cert.ReferenceIdeal.Read.val_main_v104 (F := Ideal) x0 x1 x2 x3 x4 x5 = r9 m c := by
  subst e0 e1 e2 e3 e4 e5
  funext i
  idx_vars i
  exact Cert.ReferenceIdeal.Ffn.dcw_at _ _ _ _ _ _ h0 h1 h2 h3 h4 h5 i0 i1
theorem dcb_eq : Cert.ReferenceIdeal.Read.val_main_v73 (F := Ideal) x0 x1 x2 x3 x4 x5 = r10 m c := by
  subst e0 e1 e2 e3 e4 e5
  funext i
  idx_vars i
  exact Cert.ReferenceIdeal.Ffn.dcb_at _ _ _ _ _ _ h0 h1 h2 h3 h4 h5 i0

end results

theorem algebraic : Cert.algebraic_KernelIdeal_ReferenceIdeal_pre_finite := by
  intro m ρ m' ρ' hpre hagree
  refine ⟨fun c => r8 m c, fun c => r7 m c, fun c => r9 m c, fun c => r10 m c, Cert.KernelIdeal.Ffn.value m ρ, ?_⟩
  refine (θ_run Cert.ReferenceIdeal.defs _ _).mono (fun _ h c => ?_) (Cert.ReferenceIdeal.Value.run (F := Ideal) m' ρ')
  obtain ⟨a0, a1, a2, a3, a4, a5⟩ := hagree c
  obtain ⟨h0, h1, h2, h3, h4, h5⟩ := Cert.Pre_finite.Ffn.finite_of _ _ _ _ _ _ (hpre c)
  rw [← a0] at h0
  rw [← a1] at h1
  rw [← a2] at h2
  rw [← a3] at h3
  rw [← a4] at h4
  rw [← a5] at h5
  obtain ⟨g0, g1, g2, g3, g4⟩ := h c
  exact ⟨g0.trans ((Cert.ReferenceIdeal.Read.val_main_v110_eq _).trans (dh_eq m c _ _ _ _ _ _ a0 a1 a2 a3 a4 a5 h0 h1 h2 h3 h4 h5)),
    g1.trans ((Cert.ReferenceIdeal.Read.val_main_v111_eq _).trans (dup_eq m c _ _ _ _ _ _ a0 a1 a2 a3 a4 a5 h0 h1 h2 h3 h4 h5)),
    g2.trans ((Cert.ReferenceIdeal.Read.val_main_v104_eq _).trans (dcw_eq m c _ _ _ _ _ _ a0 a1 a2 a3 a4 a5 h0 h1 h2 h3 h4 h5)),
    g3.trans ((Cert.ReferenceIdeal.Read.val_main_v73_eq _).trans (dcb_eq m c _ _ _ _ _ _ a0 a1 a2 a3 a4 a5 h0 h1 h2 h3 h4 h5)), g4⟩

end Cert.Ffn

end
-- ==== Proof.UpDw.lean ====
/- The gradient of the up projection's weights: the kernel's array and the reference's result, both read as one sum over
   the rows, and the claims made of them. -/
module

public import proofs.«01_k».proof.Defs
public import proofs.«01_k».proof.Proof.Gen.Kernel2.Frame
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.UpDw

open Idealize.ShloMosaic Idealize.ShloMosaic.TcCoe Idealize.SL.Sem

/-- Column `u` of shard `s` of the gradient, at row `d`: the rows' inputs against the rows' gradients. -/
def dw (h : Fin 4096 → Fin 1024 → EReal) (g : Fin 4096 → Fin 6144 → EReal) (s : Fin 8) (d : Fin 1024) (u : Fin 768) : EReal :=
  ∑ r : Fin 4096, h r d * g r ⟨768 * s.val + u.val, by omega⟩

section Reference
open Cert.Reference2Ideal Cert.Reference2Ideal.Read

theorem v3_at (x0 : FVec Ideal S4096x1024 .f32) (x1 : FVec Ideal S4096x6144 .f32) (d : Fin 1024) (j : Fin 6144) :
    val_main_v3 (F := Ideal) x0 x1 (ix2 d j) = ∑ r : Fin 4096, x0 (ix2 r d) * x1 (ix2 r j) := by
  pointwise [val_main_v3, val_main_v2]
  exact Finset.sum_congr rfl fun _ _ => mul_comm _ _

theorem ref_at (x0 : FVec Ideal S4096x1024 .f32) (x1 : FVec Ideal S4096x6144 .f32) (s : Fin 8) (d : Fin 1024) (u : Fin 768) :
    val_main_v20 (F := Ideal) x0 x1 (ix3 s d u) = dw (fun r d => x0 (ix2 r d)) (fun r j => x1 (ix2 r j)) s d u := by
  fin_cases s
  · pointwise [val_main_v20, val_main_v12, val_main_v4]
    refine (v3_at x0 x1 d _).trans (Finset.sum_congr rfl fun r _ => congrArg (fun z => x0 (ix2 r d) * x1 (ix2 r z)) (Fin.ext ?_))
    dsimp only; omega
  · pointwise [val_main_v20, val_main_v13, val_main_v5]
    refine (v3_at x0 x1 d _).trans (Finset.sum_congr rfl fun r _ => congrArg (fun z => x0 (ix2 r d) * x1 (ix2 r z)) (Fin.ext ?_))
    dsimp only; omega
  · pointwise [val_main_v20, val_main_v14, val_main_v6]
    refine (v3_at x0 x1 d _).trans (Finset.sum_congr rfl fun r _ => congrArg (fun z => x0 (ix2 r d) * x1 (ix2 r z)) (Fin.ext ?_))
    dsimp only; omega
  · pointwise [val_main_v20, val_main_v15, val_main_v7]
    refine (v3_at x0 x1 d _).trans (Finset.sum_congr rfl fun r _ => congrArg (fun z => x0 (ix2 r d) * x1 (ix2 r z)) (Fin.ext ?_))
    dsimp only; omega
  · pointwise [val_main_v20, val_main_v16, val_main_v8]
    refine (v3_at x0 x1 d _).trans (Finset.sum_congr rfl fun r _ => congrArg (fun z => x0 (ix2 r d) * x1 (ix2 r z)) (Fin.ext ?_))
    dsimp only; omega
  · pointwise [val_main_v20, val_main_v17, val_main_v9]
    refine (v3_at x0 x1 d _).trans (Finset.sum_congr rfl fun r _ => congrArg (fun z => x0 (ix2 r d) * x1 (ix2 r z)) (Fin.ext ?_))
    dsimp only; omega
  · pointwise [val_main_v20, val_main_v18, val_main_v10]
    refine (v3_at x0 x1 d _).trans (Finset.sum_congr rfl fun r _ => congrArg (fun z => x0 (ix2 r d) * x1 (ix2 r z)) (Fin.ext ?_))
    dsimp only; omega
  · pointwise [val_main_v20, val_main_v19, val_main_v11]
    refine (v3_at x0 x1 d _).trans (Finset.sum_congr rfl fun r _ => congrArg (fun z => x0 (ix2 r d) * x1 (ix2 r z)) (Fin.ext ?_))
    dsimp only; omega

end Reference

section Kernel
open Cert.Kernel2Ideal Cert.Kernel2Ideal.Gen

variable (m : (ℓ : Loc nD τ sig) → Buf (Elt Ideal) ℓ) (c : Dev nD)

abbrev a0 : FVec Ideal S4096x1024 .f32 := m (c.tc.loc main_arg0)
abbrev a1 : FVec Ideal S4096x6144 .f32 := m (c.tc.loc main_arg1)

/-- The columns in blocked order. -/
def inter (y : FVec Ideal S4096x6144 .f32) : FVec Ideal S4096x6144 .f32 :=
  shapeCast S4096x6144 (transpose S4096x4x2x768 [0, 2, 1, 3] (shapeCast S4096x2x4x768 y shapeCasts_S4096x6144_S4096x2x4x768) transposes_S4096x2x4x768_S4096x4x2x768_0_2_1_3) shapeCasts_S4096x4x2x768_S4096x6144
theorem inter_at (y : FVec Ideal S4096x6144 .f32) (r : Fin 4096) (j : Fin 6144) :
    inter y (ix2 r j) = y (ix2 r ⟨3072 * (j.val % 1536 / 768) + 768 * (j.val / 1536) + j.val % 768, by omega⟩) := by
  pointwise [inter]
  refine congrArg (fun z => y (ix2 r z)) (Fin.ext ?_)
  dsimp only; omega

/-- The layer's input, turned. -/
def turned (y : FVec Ideal S4096x1024 .f32) : FVec Ideal S1024x4096 .bf16 :=
  truncf .bf16 (transpose S1024x4096 [1, 0] y transposes_S4096x1024_S1024x4096_1_0) bitsLt_bf16_f32
theorem turned_at (y : FVec Ideal S4096x1024 .f32) (d : Fin 1024) (r : Fin 4096) : turned y (ix2 d r) = y (ix2 r d) := by
  pointwise [turned]

theorem v1_at (d : Fin 1024) (r : Fin 4096) : V (F := Ideal) m c main_v1 (ix2 d r) = a0 m c (ix2 r d) := by
  refine Eq.trans ?_ (turned_at (a0 m c) d r)
  entry_read
  rfl
theorem v5_at (r : Fin 4096) (j : Fin 6144) :
    V (F := Ideal) m c main_v5 (ix2 r j) = a1 m c (ix2 r ⟨3072 * (j.val % 1536 / 768) + 768 * (j.val / 1536) + j.val % 768, by omega⟩) := by
  refine Eq.trans ?_ (inter_at (a1 m c) r j)
  entry_read
  rfl

theorem idx : ∀ t : Fin cfg0.N, win0_0.index t = ![0, 0] ∧ win0_1.index t = ![0, t.val] ∧ win0_2.index t = ![t.val / 2 + 4 * (t.val % 2), 0, 0] ∧ t.val < 8 :=
  (by decide +kernel : ∀ t : Fin grid0.N, _)

theorem b0_at (t : Fin cfg0.N) (d : Fin 1024) (r : Fin 4096) : iblk (F := Ideal) m c 0 t (ix2 d r) = a0 m c (ix2 r d) := by
  rw [← v1_at]
  blk_ext [iblk, idx t]
/-- The shard point `t` works on. -/
def shard (t : Fin cfg0.N) : Fin 8 := ⟨t.val / 2 + 4 * (t.val % 2), by have := (idx t).2.2.2; omega⟩
/-- Column `u` of point `t` in the blocked order. -/
def bcol (t : Fin cfg0.N) (u : Fin 768) : Fin 6144 := ⟨768 * t.val + u.val, by have := (idx t).2.2.2; omega⟩
theorem b1_at (t : Fin cfg0.N) (r : Fin 4096) (u : Fin 768) :
    iblk (F := Ideal) m c 1 t (ix2 r u) = a1 m c (ix2 r ⟨768 * (shard t).val + u.val, by omega⟩) := by
  have ht := (idx t).2.2.2
  rw [show (⟨768 * (shard t).val + u.val, by omega⟩ : Fin 6144) = ⟨3072 * ((bcol t u).val % 1536 / 768) + 768 * ((bcol t u).val / 1536) + (bcol t u).val % 768, by omega⟩ from
    Fin.ext (by dsimp only [bcol, shard]; omega), ← v5_at]
  blk_ext [iblk, bcol, idx t]

theorem pay_at (x0 : FVec Ideal S1024x4096 .bf16) (x1 : FVec Ideal S4096x768 .bf16) (d : Fin 1024) (u : Fin 768) :
    k0_pay1 (F := Ideal) x0 x1 (ix3 0 d u) = ∑ r : Fin 4096, x0 (ix2 d r) * x1 (ix2 r u) := by
  pointwise [k0_pay1]

theorem out_at (t : Fin cfg0.N) (d : Fin 1024) (u : Fin 768) :
    out0_2 (F := Ideal) (iblk m c 0 t) (iblk m c 1 t) (ix3 0 d u) = dw (fun r d => a0 m c (ix2 r d)) (fun r j => a1 m c (ix2 r j)) (shard t) d u := by
  unfold out0_2
  frame_out
  refine (pay_at _ _ d u).trans (Finset.sum_congr rfl fun r _ => ?_)
  rw [b0_at, b1_at]

/-- The array after the run. -/
def res : S8x1024x768.Idx → EReal := fun i =>
  dw (fun r d => a0 m c (ix2 r d)) (fun r j => a1 m c (ix2 r j)) ⟨(i 0).val, (i 0).isLt⟩ ⟨(i 1).val, (i 1).isLt⟩ ⟨(i 2).val, (i 2).isLt⟩

theorem arr : (dats m 0 c).arrAt 2 cfg0.N = res m c := by
  refine (dats m 0 c).arrAt_eq_of_covers 2 (res m c) (by decide +kernel) fun t hf y => ?_
  blk_simp
  rw [after0_2]
  idx_vars y
  obtain rfl : y0 = 0 := Subsingleton.elim _ _
  refine (out_at m c t y1 y2).trans ?_
  refine (show _ = res m c (ix3 (shard t) y1 y2) from rfl).trans (congrArg (res m c) ?_)
  blk_ext [shard, idx t]

end Kernel

/-! ## The claims -/

theorem ref_eq (m : (ℓ : Loc Cert.Kernel2Ideal.nD Cert.Kernel2Ideal.τ Cert.Kernel2Ideal.sig) → Buf (Elt Ideal) ℓ) (c : Dev Cert.Kernel2Ideal.nD)
    (x0 : FVec Ideal Cert.Reference2Ideal.S4096x1024 .f32) (x1 : FVec Ideal Cert.Reference2Ideal.S4096x6144 .f32)
    (e0 : x0 = m ((c.tc : Thread _ _).loc Cert.Kernel2Ideal.main_arg0)) (e1 : x1 = m ((c.tc : Thread _ _).loc Cert.Kernel2Ideal.main_arg1)) :
    Cert.Reference2Ideal.Read.val_main_v20 (F := Ideal) x0 x1 = res m c := by
  subst e0 e1
  funext i
  idx_vars i
  exact ref_at _ _ i0 i1 i2

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => res m c, (θ_run Cert.Kernel2Ideal.defs _ _).mono (fun _ h c => ⟨(h c).1.trans (arr m c), (h c).2⟩)
    (Cert.Kernel2Ideal.Value.run_blocks (F := Ideal) m ρ), ?_⟩
  refine (θ_run Cert.Reference2Ideal.defs _ _).mono (fun _ h c => ?_) (Cert.Reference2Ideal.Value.run (F := Ideal) m' ρ')
  obtain ⟨e0, e1⟩ := hagree c
  exact ⟨(h c).1.trans ((Cert.Reference2Ideal.Read.val_main_v20_eq _ _).trans (ref_eq m c _ _ e0 e1)), (h c).2⟩

end Cert.UpDw

end
-- ==== Proof.DownDw.lean ====
/- The gradient of the down projection's weights: the kernel's array, added up over four blocks of rows, and the reference's result,
   both read as one sum over the rows, and the claims made of them. -/
module

public import proofs.«01_k».proof.Defs
public import proofs.«01_k».proof.Proof.Gen.Kernel3.Frame
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.DownDw

open Idealize.ShloMosaic Idealize.ShloMosaic.TcCoe Idealize.SL.Sem

/-- The gradient at `(d, j)`: the rows' inputs against the rows' gradients. -/
def dw (h : Fin 4096 → Fin 3072 → EReal) (g : Fin 4096 → Fin 1024 → EReal) (d : Fin 3072) (j : Fin 1024) : EReal :=
  ∑ r : Fin 4096, h r d * g r j

section Reference
open Cert.Reference3Ideal Cert.Reference3Ideal.Read

theorem ref_at (x0 : FVec Ideal S4096x3072 .f32) (x1 : FVec Ideal S4096x1024 .f32) (d : Fin 3072) (j : Fin 1024) :
    val_main_v3 (F := Ideal) x0 x1 (ix2 d j) = dw (fun r d => x0 (ix2 r d)) (fun r j => x1 (ix2 r j)) d j := by
  pointwise [val_main_v3, val_main_v2]
  exact Finset.sum_congr rfl fun _ _ => mul_comm _ _

end Reference

section Kernel
open Cert.Kernel3Ideal Cert.Kernel3Ideal.Gen

variable (m : (ℓ : Loc nD τ sig) → Buf (Elt Ideal) ℓ) (c : Dev nD)

abbrev a0 : FVec Ideal S4096x3072 .f32 := m (c.tc.loc main_arg0)
abbrev a1 : FVec Ideal S4096x1024 .f32 := m (c.tc.loc main_arg1)

/-- The inputs, turned. -/
def turned (y : FVec Ideal S4096x3072 .f32) : FVec Ideal S3072x4096 .bf16 :=
  truncf .bf16 (transpose S3072x4096 [1, 0] y transposes_S4096x3072_S3072x4096_1_0) bitsLt_bf16_f32
theorem turned_at (y : FVec Ideal S4096x3072 .f32) (d : Fin 3072) (r : Fin 4096) : turned y (ix2 d r) = y (ix2 r d) := by
  pointwise [turned]

theorem ht_at (d : Fin 3072) (r : Fin 4096) : V (F := Ideal) m c main_v1 (ix2 d r) = a0 m c (ix2 r d) := by
  refine Eq.trans ?_ (turned_at (a0 m c) d r)
  entry_read
  rfl
theorem g_at (r : Fin 4096) (j : Fin 1024) : V (F := Ideal) m c main_arg1 (ix2 r j) = a1 m c (ix2 r j) := by
  entry_read
  rfl

theorem idx : ∀ t : Fin cfg0.N, win0_0.index t = ![t.val / 4, t.val % 4] ∧ win0_1.index t = ![t.val % 4, 0] ∧ win0_2.index t = ![t.val / 4, 0] ∧ t.val < 4 * 3 :=
  (by decide +kernel : ∀ t : Fin grid0.N, _)

/-- Row `k` of the point's block of rows, -/
def row (t : Fin cfg0.N) (k : Fin 1024) : Fin 4096 := ⟨t.val % 4 * 1024 + k.val, by omega⟩
/-- and row `p` of its block of the gradient. -/
def orow (t : Fin cfg0.N) (p : Fin 1024) : Fin 3072 := ⟨1024 * (t.val / 4) + p.val, by have := (idx t).2.2.2; omega⟩

theorem b0_at (t : Fin cfg0.N) (p k : Fin 1024) : iblk (F := Ideal) m c 0 t (ix2 p k) = a0 m c (ix2 (row t k) (orow t p)) := by
  rw [← ht_at]
  blk_ext [iblk, row, orow, idx t]
theorem b1_at (t : Fin cfg0.N) (k : Fin 1024) (q : Fin 1024) : iblk (F := Ideal) m c 1 t (ix2 k q) = a1 m c (ix2 (row t k) q) := by
  rw [← g_at]
  blk_ext [iblk, row, idx t]

theorem zero_at (p : Fin 1024) (q : Fin 1024) : k0_pay1 (F := Ideal) (ix2 p q) = 0 := by
  pointwise [k0_pay1]
theorem pay_at (acc : FVec Ideal S1024x1024 .f32) (x0 : FVec Ideal S1024x1024 .bf16) (x1 : FVec Ideal S1024x1024 .f32) (p : Fin 1024) (q : Fin 1024) :
    k0_pay2 (F := Ideal) acc x0 x1 (ix2 p q) = acc (ix2 p q) + ∑ k : Fin 1024, x0 (ix2 p k) * x1 (ix2 k q) := by
  pointwise [k0_pay2]

/-- What one point adds. -/
def part (t : Fin cfg0.N) (p : Fin 1024) (q : Fin 1024) : EReal := ∑ k : Fin 1024, a0 m c (ix2 (row t k) (orow t p)) * a1 m c (ix2 (row t k) q)
theorem part_of (t : Fin cfg0.N) (acc : FVec Ideal S1024x1024 .f32) (p : Fin 1024) (q : Fin 1024) :
    k0_pay2 (F := Ideal) acc (iblk m c 0 t) (iblk m c 1 t) (ix2 p q) = acc (ix2 p q) + part m c t p q := by
  refine (pay_at _ _ _ p q).trans (congrArg (acc (ix2 p q) + ·) (Finset.sum_congr rfl fun k _ => ?_))
  rw [b0_at, b1_at]

theorem sA (t : Fin cfg0.N) (h0 : t.val % 4 = 0) : (outsAt0 m c t.val t.isLt).2 = k0_pay2 (F := Ideal) (k0_pay1 (F := Ideal)) (iblk m c 0 t) (iblk m c 1 t) := by
  rw [outsAt0_A m c t h0 (by omega)]
  frame_out
theorem sB (t : Fin cfg0.N) (h0 : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun z => k0_pay2 (F := Ideal) z _ _) (Memref.IsWhole.read_unread _ _)
  · rw [outsAt0_B m c t h0 h1]
    frame_out
    exact congrArg (fun z => k0_pay2 (F := Ideal) z _ _) (Memref.IsWhole.read_unread _ _)
theorem oC (t : Fin cfg0.N) (h1 : t.val % 4 = 3) : (outsAt0 m c t.val t.isLt).1 = (outsAt0 m c t.val t.isLt).2 := by
  rw [outsAt0_C m c t (by omega) h1]
  frame_out

/-- After a run's last point the block holds its sum over all rows. -/
theorem out_at (t : Fin cfg0.N) (h : t.val % 4 = 3) (p : Fin 1024) (q : Fin 1024) :
    (outsAt0 (F := Ideal) m c t.val t.isLt).1 (ix2 p q) = dw (fun r d => a0 m c (ix2 r d)) (fun r j => a1 m c (ix2 r j)) (orow t p) q := by
  have hlt : ∀ k, t.val - k < cfg0.N := fun k => Nat.lt_of_le_of_lt (Nat.sub_le _ _) t.isLt
  have hr : ∀ k, k ≤ 3 → orow ⟨t.val - k, hlt k⟩ p = orow t p := fun k hk => Fin.ext (by dsimp only [orow]; omega)
  have hk : ∀ k (hk : k ≤ 3) l, row ⟨t.val - k, hlt k⟩ l = ⟨(3 - k) * 1024 + l.val, by omega⟩ := fun k hk l =>
    Fin.ext (by dsimp only [row]; rw [show (t.val - k) % 4 = 3 - k by omega])
  have hp : ∀ k (hk : k ≤ 3), part m c ⟨t.val - k, hlt k⟩ p q
      = ∑ l : Fin 1024, a0 m c (ix2 ⟨(3 - k) * 1024 + l.val, by omega⟩ (orow t p)) * a1 m c (ix2 ⟨(3 - k) * 1024 + l.val, by omega⟩ q) := fun k hk' => by
    unfold part
    exact Finset.sum_congr rfl fun l _ => by rw [hr k hk', hk k hk' l]
  have s0 := congrFun (sB m c t (by omega)) (ix2 p q)
  have s1 := congrFun (sB m c ⟨t.val - 1, hlt 1⟩ (by dsimp only; omega)) (ix2 p q)
  have s2 := congrFun (sB m c ⟨t.val - 2, hlt 2⟩ (by dsimp only; omega)) (ix2 p q)
  have s3 := congrFun (sA m c ⟨t.val - 3, hlt 3⟩ (by dsimp only; omega)) (ix2 p q)
  refine (congrFun (oC m c t h) (ix2 p q)).trans (s0.trans ((part_of m c _ _ p q).trans ?_))
  have e3 := s3.trans ((part_of m c ⟨t.val - 3, hlt 3⟩ _ p q).trans (congrArg (· + part m c ⟨t.val - 3, hlt 3⟩ p q) (zero_at p q)))
  have e2 := s2.trans ((part_of m c ⟨t.val - 2, hlt 2⟩ _ p q).trans (congrArg (· + part m c ⟨t.val - 2, hlt 2⟩ p q) e3))
  have e1 := s1.trans ((part_of m c ⟨t.val - 1, hlt 1⟩ _ p q).trans (congrArg (· + part m c ⟨t.val - 1, hlt 1⟩ p q) e2))
  refine (congrArg (· + part m c t p q) e1).trans ?_
  rw [zero_add]
  refine (congrArg₂ (· + ·) (congrArg₂ (· + ·) (congrArg₂ (· + ·) (hp 3 (by omega)) (hp 2 (by omega))) (hp 1 (by omega))) (hp 0 (by omega))).trans ?_
  unfold dw
  refine Eq.trans ?_ (Fin.sum_mul_add_fin 4 1024 (fun r : Fin 4096 => a0 m c (ix2 r (orow t p)) * a1 m c (ix2 r q)))
  rw [Fin.sum_univ_four]
  rfl

/-- The array after the run. -/
def res : S3072x1024.Idx → EReal := fun i =>
  dw (fun r d => a0 m c (ix2 r d)) (fun r j => a1 m c (ix2 r j)) ⟨(i 0).val, (i 0).isLt⟩ ⟨(i 1).val, (i 1).isLt⟩

theorem arr : (dats m 0 c).arrAt 2 cfg0.N = res m c := by
  refine (dats m 0 c).arrAt_eq_of_covers 2 (res m c) (by decide +kernel) fun t hf y => ?_
  blk_simp
  rw [after0_2]
  idx_vars y
  refine (out_at m c t ((flush0_2 t).mp hf) y0 y1).trans ?_
  refine (show _ = res m c (ix2 (orow t y0) y1) from rfl).trans (congrArg (res m c) ?_)
  blk_ext [orow, idx t]

end Kernel

/-! ## The claims -/

theorem ref_eq (m : (ℓ : Loc Cert.Kernel3Ideal.nD Cert.Kernel3Ideal.τ Cert.Kernel3Ideal.sig) → Buf (Elt Ideal) ℓ) (c : Dev Cert.Kernel3Ideal.nD)
    (x0 : FVec Ideal Cert.Reference3Ideal.S4096x3072 .f32) (x1 : FVec Ideal Cert.Reference3Ideal.S4096x1024 .f32)
    (e0 : x0 = m ((c.tc : Thread _ _).loc Cert.Kernel3Ideal.main_arg0)) (e1 : x1 = m ((c.tc : Thread _ _).loc Cert.Kernel3Ideal.main_arg1)) :
    Cert.Reference3Ideal.Read.val_main_v3 (F := Ideal) x0 x1 = res m c := by
  subst e0 e1
  funext i
  idx_vars i
  exact ref_at _ _ i0 i1

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => res m c, (θ_run Cert.Kernel3Ideal.defs _ _).mono (fun _ h c => ⟨(h c).1.trans (arr m c), (h c).2⟩)
    (Cert.Kernel3Ideal.Value.run_blocks (F := Ideal) m ρ), ?_⟩
  refine (θ_run Cert.Reference3Ideal.defs _ _).mono (fun _ h c => ?_) (Cert.Reference3Ideal.Value.run (F := Ideal) m' ρ')
  obtain ⟨e0, e1⟩ := hagree c
  exact ⟨(h c).1.trans ((Cert.Reference3Ideal.Read.val_main_v3_eq _ _).trans (ref_eq m c _ _ e0 e1)), (h c).2⟩

end Cert.DownDw

end
-- ==== Proof.DownLn.lean ====
/- The down projection with its residual and the layer norm after it: the kernel's three arrays and the reference's results,
   both read as the same functions of the rows, and the claims made of them. -/
module

public import proofs.«01_k».proof.Defs
public import proofs.«01_k».proof.Proof.Gen.Kernel4.Frame
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.DownLn

open Idealize.ShloMosaic Idealize.ShloMosaic.TcCoe Idealize.SL.Sem

/-- The residual sum at `(r, d)`: the weighted input and the projection. -/
def res (x : Fin 4096 → Fin 3072 → EReal) (w : Fin 3072 → Fin 1024 → EReal) (e : Fin 4096 → Fin 1024 → EReal) (r : Fin 4096) (d : Fin 1024) : EReal :=
  Ideal.ofBits .f32 0x3FB504F3#32 * e r d + ∑ k : Fin 3072, x r k * w k d

/-- The mean of a row, -/
def mean (y : Fin 1024 → EReal) : EReal := Ideal.div (∑ d : Fin 1024, y d) (Ideal.ofBits .f32 0x44800000#32)
/-- the inverse root of its variance, -/
def inv (y : Fin 1024 → EReal) : EReal :=
  Ideal.rsqrt (Ideal.div (∑ d : Fin 1024, (y d - mean y) * (y d - mean y)) (Ideal.ofBits .f32 0x44800000#32) + Ideal.ofBits .f32 0x3727C5AC#32)
/-- and the row normalised. -/
def ln (y g b : Fin 1024 → EReal) (d : Fin 1024) : EReal := (y d - mean y) * inv y * g d + b d

/-- The layer norm of the residual sum at `(r, d)`. -/
def nrm (x : Fin 4096 → Fin 3072 → EReal) (w : Fin 3072 → Fin 1024 → EReal) (e : Fin 4096 → Fin 1024 → EReal) (g b : Fin 1024 → EReal)
    (r : Fin 4096) (d : Fin 1024) : EReal := ln (res x w e r) g b d

section Reference
open Cert.Reference4Ideal Cert.Reference4Ideal.Read

variable (x0 : FVec Ideal S4096x3072 .f32) (x1 : FVec Ideal S3072x1024 .f32) (x2 : FVec Ideal S4096x1024 .f32) (x3 x4 : FVec Ideal S1024 .f32)

theorem r_at (r : Fin 4096) (d : Fin 1024) : val_main_v3 (F := Ideal) x0 x1 x2 (ix2 r d)
    = res (fun r k => x0 (ix2 r k)) (fun k d => x1 (ix2 k d)) (fun r d => x2 (ix2 r d)) r d := by
  pointwise [val_main_v3, val_main_v2, val_main_v1, val_main_v0, val_main_cst]
  rfl
theorem mu_at (r : Fin 4096) : val_main_v7 (F := Ideal) x0 x1 x2 (ix2 r 0) = mean fun d => val_main_v3 (F := Ideal) x0 x1 x2 (ix2 r d) := by
  pointwise [val_main_v7, val_main_v6, val_main_v5, val_main_v4, val_main_cst_0, val_main_cst_1]
  rfl
theorem inv_at (r : Fin 4096) : val_main_v19 (F := Ideal) x0 x1 x2 (ix2 r 0) = inv fun d => val_main_v3 (F := Ideal) x0 x1 x2 (ix2 r d) := by
  pointwise [val_main_v19, val_main_v18, val_main_v17, val_main_v14, val_main_v13, val_main_v12, val_main_v11, val_main_v10, val_main_v9, val_main_v8, val_main_cst_2, val_main_cst_3, val_main_cst_4]
  rw [mu_at]
  rfl
theorem h_at (r : Fin 4096) (d : Fin 1024) : val_main_v27 (F := Ideal) x0 x1 x2 x3 x4 (ix2 r d)
    = nrm (fun r k => x0 (ix2 r k)) (fun k d => x1 (ix2 k d)) (fun r d => x2 (ix2 r d)) (fun d => x3 (ix1 d)) (fun d => x4 (ix1 d)) r d := by
  pointwise [val_main_v27, val_main_v26, val_main_v25, val_main_v24, val_main_v23, val_main_v22, val_main_v21, val_main_v20, val_main_v16, val_main_v15]
  rw [mu_at, inv_at]
  simp only [r_at]
  rfl
theorem ht_at (r : Fin 4096) (d : Fin 1024) : val_main_v29 (F := Ideal) x0 x1 x2 x3 x4 (ix2 d r)
    = nrm (fun r k => x0 (ix2 r k)) (fun k d => x1 (ix2 k d)) (fun r d => x2 (ix2 r d)) (fun d => x3 (ix1 d)) (fun d => x4 (ix1 d)) r d := by
  pointwise [val_main_v29, val_main_v28]
  exact h_at x0 x1 x2 x3 x4 r d

end Reference

section Kernel
open Cert.Kernel4Ideal Cert.Kernel4Ideal.Gen

variable (m : (ℓ : Loc nD τ sig) → Buf (Elt Ideal) ℓ) (c : Dev nD)

abbrev a0 : FVec Ideal S4096x3072 .f32 := m (c.tc.loc main_arg0)
abbrev a1 : FVec Ideal S3072x1024 .f32 := m (c.tc.loc main_arg1)
abbrev a2 : FVec Ideal S4096x1024 .f32 := m (c.tc.loc main_arg2)
abbrev a3 : FVec Ideal S1024 .f32 := m (c.tc.loc main_arg3)
abbrev a4 : FVec Ideal S1024 .f32 := m (c.tc.loc main_arg4)

/-- The residual sum and its layer norm, of the kernel's arguments. -/
abbrev R := res (fun r k => a0 m c (ix2 r k)) (fun k d => a1 m c (ix2 k d)) (fun r d => a2 m c (ix2 r d))
abbrev H := nrm (fun r k => a0 m c (ix2 r k)) (fun k d => a1 m c (ix2 k d)) (fun r d => a2 m c (ix2 r d)) (fun d => a3 m c (ix1 d)) (fun d => a4 m c (ix1 d))

/-- A vector as a row. -/
def asRow (y : FVec Ideal S1024 .f32) : FVec Ideal S1x1024 .f32 := broadcastInDim S1x1024 ![1] bcast_S1024_S1x1024_1 y
theorem asRow_at (y : FVec Ideal S1024 .f32) (d : Fin 1024) : asRow y (ix2 0 d) = y (ix1 d) := by
  pointwise [asRow]

theorem v0_at (r : Fin 4096) (k : Fin 3072) : V (F := Ideal) m c main_v0 (ix2 r k) = a0 m c (ix2 r k) := by
  entry_read
  rfl
theorem v1_at (k : Fin 3072) (d : Fin 1024) : V (F := Ideal) m c main_v1 (ix2 k d) = a1 m c (ix2 k d) := by
  entry_read
  rfl
theorem e_at (r : Fin 4096) (d : Fin 1024) : V (F := Ideal) m c main_arg2 (ix2 r d) = a2 m c (ix2 r d) := by
  entry_read
  rfl
theorem v2_at (d : Fin 1024) : V (F := Ideal) m c main_v2 (ix2 0 d) = a3 m c (ix1 d) := by
  refine Eq.trans ?_ (asRow_at (a3 m c) d)
  entry_read
  rfl
theorem v3_at (d : Fin 1024) : V (F := Ideal) m c main_v3 (ix2 0 d) = a4 m c (ix1 d) := by
  refine Eq.trans ?_ (asRow_at (a4 m c) d)
  entry_read
  rfl

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![0, t.val] ∧ t.val < 8 :=
  (by decide +kernel : ∀ t : Fin grid0.N, _)

/-- Row `p` of the point's rows. -/
def row (t : Fin cfg0.N) (p : Fin 512) : Fin 4096 := ⟨512 * t.val + p.val, by have := (idx t).2.2.2.2.2.2.2.2; omega⟩

theorem b0_at (t : Fin cfg0.N) (p : Fin 512) (k : Fin 3072) : iblk (F := Ideal) m c 0 t (ix2 p k) = a0 m c (ix2 (row t p) k) := by
  rw [← v0_at]
  blk_ext [iblk, row, idx t]
theorem b1_at (t : Fin cfg0.N) (k : Fin 3072) (d : Fin 1024) : iblk (F := Ideal) m c 1 t (ix2 k d) = a1 m c (ix2 k d) := by
  rw [← v1_at]
  blk_ext [iblk, idx t]
theorem b2_at (t : Fin cfg0.N) (p : Fin 512) (d : Fin 1024) : iblk (F := Ideal) m c 2 t (ix2 p d) = a2 m c (ix2 (row t p) d) := by
  rw [← e_at]
  blk_ext [iblk, row, idx t]
theorem b3_at (t : Fin cfg0.N) (d : Fin 1024) : iblk (F := Ideal) m c 3 t (ix2 0 d) = a3 m c (ix1 d) := by
  rw [← v2_at]
  blk_ext [iblk, idx t]
theorem b4_at (t : Fin cfg0.N) (d : Fin 1024) : iblk (F := Ideal) m c 4 t (ix2 0 d) = a4 m c (ix1 d) := by
  rw [← v3_at]
  blk_ext [iblk, idx t]

section pure
variable (v0 : FVec Ideal S512x1024 .f32) (v3 : FVec Ideal S512x3072 .bf16) (v5 : FVec Ideal S3072x1024 .bf16) (v9 v11 : FVec Ideal S1x1024 .f32)

theorem pay1_at (p : Fin 512) (d : Fin 1024) :
    k0_pay1 (F := Ideal) v0 v3 v5 (ix2 p d) = Ideal.ofBits .f32 0x3FB504F3#32 * v0 (ix2 p d) + ∑ k : Fin 3072, v3 (ix2 p k) * v5 (ix2 k d) := by
  pointwise [k0_pay1]
theorem pay2_at (p : Fin 512) (d : Fin 1024) :
    k0_pay2 (F := Ideal) v0 v3 v5 v9 v11 (ix2 p d) = ln (fun d => k0_pay1 (F := Ideal) v0 v3 v5 (ix2 p d)) (fun d => v9 (ix2 0 d)) (fun d => v11 (ix2 0 d)) d := by
  pointwise [k0_pay2]
  rfl
theorem pay3_at (p : Fin 512) (d : Fin 1024) : k0_pay3 (F := Ideal) v0 v3 v5 v9 v11 (ix2 d p) = k0_pay2 (F := Ideal) v0 v3 v5 v9 v11 (ix2 p d) := by
  pointwise [k0_pay3]

end pure

theorem pay1_pt (t : Fin cfg0.N) (p : Fin 512) (d : Fin 1024) : k0_pay1 (F := Ideal) (iblk m c 2 t) (iblk m c 0 t) (iblk m c 1 t) (ix2 p d)
    = R m c (row t p) d := by
  refine (pay1_at _ _ _ p d).trans (congrArg₂ (· + ·) (congrArg (_ * ·) (b2_at m c t p d)) (Finset.sum_congr rfl fun k _ => ?_))
  rw [b0_at, b1_at]
theorem pay2_pt (t : Fin cfg0.N) (p : Fin 512) (d : Fin 1024) :
    k0_pay2 (F := Ideal) (iblk m c 2 t) (iblk m c 0 t) (iblk m c 1 t) (iblk m c 3 t) (iblk m c 4 t) (ix2 p d)
      = H m c (row t p) d := by
  refine (pay2_at _ _ _ _ _ p d).trans ?_
  simp only [pay1_pt, b3_at, b4_at]
  rfl

theorem out5_at (t : Fin cfg0.N) (p : Fin 512) (d : Fin 1024) :
    out0_5 (F := Ideal) (iblk m c 0 t) (iblk m c 1 t) (iblk m c 2 t) (iblk m c 3 t) (iblk m c 4 t) (ix2 p d) = R m c (row t p) d := by
  unfold out0_5
  frame_out
  exact pay1_pt m c t p d
theorem out6_at (t : Fin cfg0.N) (p : Fin 512) (d : Fin 1024) :
    out0_6 (F := Ideal) (iblk m c 0 t) (iblk m c 1 t) (iblk m c 2 t) (iblk m c 3 t) (iblk m c 4 t) (ix2 p d) = H m c (row t p) d := by
  unfold out0_6
  frame_out
  exact pay2_pt m c t p d
theorem out7_at (t : Fin cfg0.N) (p : Fin 512) (d : Fin 1024) :
    out0_7 (F := Ideal) (iblk m c 0 t) (iblk m c 1 t) (iblk m c 2 t) (iblk m c 3 t) (iblk m c 4 t) (ix2 d p) = H m c (row t p) d := by
  unfold out0_7
  frame_out
  exact (pay3_at _ _ _ _ _ p d).trans (pay2_pt m c t p d)

/-- The residual sum as an array, -/
def w5 : S4096x1024.Idx → EReal := fun i => R m c ⟨(i 0).val, (i 0).isLt⟩ ⟨(i 1).val, (i 1).isLt⟩
/-- its layer norm, -/
def w6 : S4096x1024.Idx → EReal := fun i => H m c ⟨(i 0).val, (i 0).isLt⟩ ⟨(i 1).val, (i 1).isLt⟩
/-- and that turned. -/
def w7 : S1024x4096.Idx → EReal := fun i => H m c ⟨(i 1).val, (i 1).isLt⟩ ⟨(i 0).val, (i 0).isLt⟩

theorem arr5 : (dats m 0 c).arrAt 5 cfg0.N = w5 m c := by
  refine (dats m 0 c).arrAt_eq_of_covers 5 (w5 m c) (by decide +kernel) fun t hf y => ?_
  blk_simp
  rw [after0_5]
  idx_vars y
  refine (out5_at m c t y0 y1).trans ?_
  refine (show _ = w5 m c (ix2 (row t y0) y1) from rfl).trans (congrArg (w5 m c) ?_)
  blk_ext [row, idx t]
theorem arr6 : (dats m 0 c).arrAt 6 cfg0.N = w6 m c := by
  refine (dats m 0 c).arrAt_eq_of_covers 6 (w6 m c) (by decide +kernel) fun t hf y => ?_
  blk_simp
  rw [after0_6]
  idx_vars y
  refine (out6_at m c t y0 y1).trans ?_
  refine (show _ = w6 m c (ix2 (row t y0) y1) from rfl).trans (congrArg (w6 m c) ?_)
  blk_ext [row, idx t]
theorem arr7 : (dats m 0 c).arrAt 7 cfg0.N = w7 m c := by
  refine (dats m 0 c).arrAt_eq_of_covers 7 (w7 m c) (by decide +kernel) fun t hf y => ?_
  blk_simp
  rw [after0_7]
  idx_vars y
  refine (out7_at m c t y1 y0).trans ?_
  refine (show _ = w7 m c (ix2 y0 (row t y1)) from rfl).trans (congrArg (w7 m c) ?_)
  blk_ext [row, idx t]

end Kernel

/-! ## The claims -/

section results

variable (m : (ℓ : Loc Cert.Kernel4Ideal.nD Cert.Kernel4Ideal.τ Cert.Kernel4Ideal.sig) → Buf (Elt Ideal) ℓ) (c : Dev Cert.Kernel4Ideal.nD)
  (x0 : FVec Ideal Cert.Reference4Ideal.S4096x3072 .f32) (x1 : FVec Ideal Cert.Reference4Ideal.S3072x1024 .f32) (x2 : FVec Ideal Cert.Reference4Ideal.S4096x1024 .f32)
  (x3 x4 : FVec Ideal Cert.Reference4Ideal.S1024 .f32)
  (e0 : x0 = m ((c.tc : Thread _ _).loc Cert.Kernel4Ideal.main_arg0)) (e1 : x1 = m ((c.tc : Thread _ _).loc Cert.Kernel4Ideal.main_arg1))
  (e2 : x2 = m ((c.tc : Thread _ _).loc Cert.Kernel4Ideal.main_arg2)) (e3 : x3 = m ((c.tc : Thread _ _).loc Cert.Kernel4Ideal.main_arg3))
  (e4 : x4 = m ((c.tc : Thread _ _).loc Cert.Kernel4Ideal.main_arg4))

include e0 e1 e2

theorem r_eq : Cert.Reference4Ideal.Read.val_main_v3 (F := Ideal) x0 x1 x2 = w5 m c := by
  subst e0 e1 e2
  funext i
  idx_vars i
  exact r_at _ _ _ i0 i1

include e3 e4

theorem h_eq : Cert.Reference4Ideal.Read.val_main_v27 (F := Ideal) x0 x1 x2 x3 x4 = w6 m c := by
  subst e0 e1 e2 e3 e4
  funext i
  idx_vars i
  exact h_at _ _ _ _ _ i0 i1
theorem ht_eq : Cert.Reference4Ideal.Read.val_main_v29 (F := Ideal) x0 x1 x2 x3 x4 = w7 m c := by
  subst e0 e1 e2 e3 e4
  funext i
  idx_vars i
  exact ht_at _ _ _ _ _ i1 i0

end results

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => w5 m c, fun c => w6 m c, fun c => w7 m c, (θ_run Cert.Kernel4Ideal.defs _ _).mono
    (fun _ h c => ⟨(h c).1.trans (arr5 m c), (h c).2.1.trans (arr6 m c), (h c).2.2.1.trans (arr7 m c), (h c).2.2.2⟩)
    (Cert.Kernel4Ideal.Value.run_blocks (F := Ideal) m ρ), ?_⟩
  refine (θ_run Cert.Reference4Ideal.defs _ _).mono (fun _ h c => ?_) (Cert.Reference4Ideal.Value.run (F := Ideal) m' ρ')
  obtain ⟨e0, e1, e2, e3, e4⟩ := hagree c
  exact ⟨(h c).1.trans ((Cert.Reference4Ideal.Read.val_main_v3_eq _ _ _).trans (r_eq m c _ _ _ e0 e1 e2)),
    (h c).2.1.trans ((Cert.Reference4Ideal.Read.val_main_v27_eq _ _ _ _ _).trans (h_eq m c _ _ _ _ _ e0 e1 e2 e3 e4)),
    (h c).2.2.1.trans ((Cert.Reference4Ideal.Read.val_main_v29_eq _ _ _ _ _).trans (ht_eq m c _ _ _ _ _ e0 e1 e2 e3 e4)), (h c).2.2.2⟩

end Cert.DownLn

end
-- ==== Proof.InDx.lean ====
/- The gradient of the in projection's input: the kernel's array and the reference's result, both read as one function, and
   the claims made of them. -/
module

public import proofs.«01_k».proof.Defs
public import proofs.«01_k».proof.Proof.Gen.Kernel5.Frame
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.InDx

open Idealize.ShloMosaic Idealize.ShloMosaic.TcCoe Idealize.SL.Sem

/-- The gradient at `(r, d)`: the product with the weights' transpose, and the residual's share. -/
def dx (g : Fin 4096 → Fin 2176 → EReal) (w : Fin 1024 → Fin 2176 → EReal) (e : Fin 4096 → Fin 1024 → EReal) (r : Fin 4096) (d : Fin 1024) : EReal :=
  (∑ k : Fin 2176, g r k * w d k) + Ideal.ofBits .f32 0x3FB504F3#32 * e r d

section Reference
open Cert.Reference5Ideal Cert.Reference5Ideal.Read

theorem ref_at (x0 : FVec Ideal S4096x2176 .f32) (x1 : FVec Ideal S1024x2176 .f32) (x2 : FVec Ideal S4096x1024 .f32) (r : Fin 4096) (d : Fin 1024) :
    val_main_v7 (F := Ideal) x0 x1 x2 (ix2 r d) = dx (fun r k => x0 (ix2 r k)) (fun d k => x1 (ix2 d k)) (fun r d => x2 (ix2 r d)) r d := by
  pointwise [val_main_v7, val_main_v6, val_main_v5, val_main_v4]
  exact add_comm _ _

end Reference

section Kernel
open Cert.Kernel5Ideal Cert.Kernel5Ideal.Gen

variable (m : (ℓ : Loc nD τ sig) → Buf (Elt Ideal) ℓ) (c : Dev nD)

abbrev a0 : FVec Ideal S4096x2176 .f32 := m (c.tc.loc main_arg0)
abbrev a1 : FVec Ideal S1024x2176 .f32 := m (c.tc.loc main_arg1)
abbrev a2 : FVec Ideal S4096x1024 .f32 := m (c.tc.loc main_arg2)

theorem g_at (r : Fin 4096) (k : Fin 2176) : V (F := Ideal) m c main_v0 (ix2 r k) = a0 m c (ix2 r k) := by
  entry_read
  rfl
theorem w_at (d : Fin 1024) (k : Fin 2176) : V (F := Ideal) m c main_v1 (ix2 d k) = a1 m c (ix2 d k) := by
  entry_read
  rfl
theorem e_at (r : Fin 4096) (d : Fin 1024) : V (F := Ideal) m c main_arg2 (ix2 r d) = a2 m c (ix2 r d) := by
  entry_read
  rfl

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

/-- Row `p` of the point's rows. -/
def row (t : Fin cfg0.N) (p : Fin 512) : Fin 4096 := ⟨512 * t.val + p.val, by have := (idx t).2.2.2.2; omega⟩

theorem b0_at (t : Fin cfg0.N) (p : Fin 512) (k : Fin 2176) : iblk (F := Ideal) m c 0 t (ix2 p k) = a0 m c (ix2 (row t p) k) := by
  rw [← g_at]
  blk_ext [iblk, row, idx t]
theorem b1_at (t : Fin cfg0.N) (d : Fin 1024) (k : Fin 2176) : iblk (F := Ideal) m c 1 t (ix2 d k) = a1 m c (ix2 d k) := by
  rw [← w_at]
  blk_ext [iblk, idx t]
theorem b2_at (t : Fin cfg0.N) (p : Fin 512) (d : Fin 1024) : iblk (F := Ideal) m c 2 t (ix2 p d) = a2 m c (ix2 (row t p) d) := by
  rw [← e_at]
  blk_ext [iblk, row, idx t]

theorem pay_at (x0 : FVec Ideal S512x2176 .bf16) (x1 : FVec Ideal S1024x2176 .bf16) (x2 : FVec Ideal S512x1024 .f32) (p : Fin 512) (d : Fin 1024) :
    k0_pay1 (F := Ideal) x0 x1 x2 (ix2 p d) = (∑ k : Fin 2176, x0 (ix2 p k) * x1 (ix2 d k)) + Ideal.ofBits .f32 0x3FB504F3#32 * x2 (ix2 p d) := by
  pointwise [k0_pay1]

theorem out_at (t : Fin cfg0.N) (p : Fin 512) (d : Fin 1024) :
    out0_3 (F := Ideal) (iblk m c 0 t) (iblk m c 1 t) (iblk m c 2 t) (ix2 p d)
      = dx (fun r k => a0 m c (ix2 r k)) (fun d k => a1 m c (ix2 d k)) (fun r d => a2 m c (ix2 r d)) (row t p) d := by
  unfold out0_3
  frame_out
  refine (pay_at _ _ _ p d).trans (congrArg₂ (· + ·) (Finset.sum_congr rfl fun k _ => ?_) (congrArg (_ * ·) (b2_at m c t p d)))
  rw [b0_at, b1_at]

/-- The array after the run. -/
def res : S4096x1024.Idx → EReal := fun i =>
  dx (fun r k => a0 m c (ix2 r k)) (fun d k => a1 m c (ix2 d k)) (fun r d => a2 m c (ix2 r d)) ⟨(i 0).val, (i 0).isLt⟩ ⟨(i 1).val, (i 1).isLt⟩

theorem arr : (dats m 0 c).arrAt 3 cfg0.N = res m c := by
  refine (dats m 0 c).arrAt_eq_of_covers 3 (res m c) (by decide +kernel) fun t hf y => ?_
  blk_simp
  rw [after0_3]
  idx_vars y
  refine (out_at m c t y0 y1).trans ?_
  refine (show _ = res m c (ix2 (row t y0) y1) from rfl).trans (congrArg (res m c) ?_)
  blk_ext [row, idx t]

end Kernel

/-! ## The claims -/

theorem ref_eq (m : (ℓ : Loc Cert.Kernel5Ideal.nD Cert.Kernel5Ideal.τ Cert.Kernel5Ideal.sig) → Buf (Elt Ideal) ℓ) (c : Dev Cert.Kernel5Ideal.nD)
    (x0 : FVec Ideal Cert.Reference5Ideal.S4096x2176 .f32) (x1 : FVec Ideal Cert.Reference5Ideal.S1024x2176 .f32) (x2 : FVec Ideal Cert.Reference5Ideal.S4096x1024 .f32)
    (e0 : x0 = m ((c.tc : Thread _ _).loc Cert.Kernel5Ideal.main_arg0)) (e1 : x1 = m ((c.tc : Thread _ _).loc Cert.Kernel5Ideal.main_arg1))
    (e2 : x2 = m ((c.tc : Thread _ _).loc Cert.Kernel5Ideal.main_arg2)) :
    Cert.Reference5Ideal.Read.val_main_v7 (F := Ideal) x0 x1 x2 = res m c := by
  subst e0 e1 e2
  funext i
  idx_vars i
  exact ref_at _ _ _ i0 i1

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => res m c, (θ_run Cert.Kernel5Ideal.defs _ _).mono (fun _ h c => ⟨(h c).1.trans (arr m c), (h c).2⟩)
    (Cert.Kernel5Ideal.Value.run_blocks (F := Ideal) m ρ), ?_⟩
  refine (θ_run Cert.Reference5Ideal.defs _ _).mono (fun _ h c => ?_) (Cert.Reference5Ideal.Value.run (F := Ideal) m' ρ')
  obtain ⟨e0, e1, e2⟩ := hagree c
  exact ⟨(h c).1.trans ((Cert.Reference5Ideal.Read.val_main_v7_eq _ _ _).trans (ref_eq m c _ _ _ e0 e1 e2)), (h c).2⟩

end Cert.InDx

end
-- ==== Proof.UpAct.Ref.lean ====
/- The feed-forward layer's forward half as functions of indices: up projection, causal convolution and gated GELU. -/
module

public import proofs.«01_k».proof.Proof.Ffn.Spec
public import proofs.«01_k».proof.Proof.Ffn.Scalar
public import proofs.«01_k».proof.Proof.Gen.Reference6Ideal.Read
public import Idealize.ShloMosaic.Lib.Pointwise

@[expose] public section

set_option maxRecDepth 16384

noncomputable section

namespace Cert.UpAct

open Idealize.ShloMosaic Idealize.ShloMosaic.TcCoe Idealize.SL.Sem
open Cert.Ffn (half rt cub th)

/-- The up projection at `(r, j)`. -/
def up (h : Fin 4096 → Fin 1024 → EReal) (w : Fin 1024 → Fin 6144 → EReal) (r : Fin 4096) (j : Fin 6144) : EReal := ∑ k : Fin 1024, h r k * w k j

/-- A column read `k` rows above row `r`, zero before its start. -/
def behind (k : ℕ) (f : Fin 4096 → EReal) (r : Fin 4096) : EReal := if h : k ≤ r.val then f ⟨r.val - k, by omega⟩ else 0

theorem behind_zero (f : Fin 4096 → EReal) (r : Fin 4096) : behind 0 f r = f r := dif_pos (Nat.zero_le _)

/-- The convolution of three taps and the bias. -/
def conv (u : Fin 4096 → Fin 6144 → EReal) (cw : Fin 3 → Fin 6144 → EReal) (cb : Fin 6144 → EReal) (r : Fin 4096) (j : Fin 6144) : EReal :=
  cb j + cw 2 j * u r j + cw 0 j * behind 2 (fun r => u r j) r + cw 1 j * behind 1 (fun r => u r j) r

/-- The GELU of a gate times its value. -/
def gated (g v : EReal) : EReal := half * g * (1 + th g) * v

/-- The layer's activation. -/
def act (y : Fin 4096 → Fin 6144 → EReal) (r : Fin 4096) (k : Fin 3072) : EReal := gated (y r ⟨k.val, by omega⟩) (y r ⟨3072 + k.val, by omega⟩)

theorem add_four (a b c d : EReal) : a + b + c + d = d + c + a + b := by ac_rfl
theorem gated_comm (g a v : EReal) : g * (half * a) * v = half * g * a * v := by ac_rfl

section Reference
open Cert.Reference6Ideal Cert.Reference6Ideal.Read

variable (x0 : FVec Ideal S4096x1024 .f32) (x1 : FVec Ideal S1024x6144 .f32) (x2 : FVec Ideal S3x6144 .f32) (x3 : FVec Ideal S6144 .f32)

theorem v0_at (r : Fin 4096) (j : Fin 6144) : val_main_v0 (F := Ideal) x0 x1 (ix2 r j) = up (fun r k => x0 (ix2 r k)) (fun k j => x1 (ix2 k j)) r j := by
  pointwise [val_main_v0]
  rfl
theorem v2_at (r : Fin 4098) (j : Fin 6144) : val_main_v2 (F := Ideal) x0 x1 (ix2 r j)
    = if h : r.val < 2 then 0 else val_main_v0 (F := Ideal) x0 x1 (ix2 ⟨r.val - 2, by omega⟩ j) := by
  pointwise [val_main_v2, val_main_v1, val_main_cst]
theorem tap_at (k : Fin 3) (hk : k.val ≤ 2) (r : Fin 4096) (j : Fin 6144) : val_main_v2 (F := Ideal) x0 x1 (ix2 ⟨r.val + (2 - k.val), by omega⟩ j)
    = behind k.val (fun r => up (fun r k => x0 (ix2 r k)) (fun k j => x1 (ix2 k j)) r j) r := by
  rw [v2_at, behind]
  by_cases h : k.val ≤ r.val
  · rw [dif_neg (by dsimp only; omega), dif_pos h, v0_at]
    exact congrArg (fun z => up _ _ z j) (Fin.ext (by dsimp only; omega))
  · rw [dif_pos (by dsimp only; omega), dif_neg h]
theorem y_at (r : Fin 4096) (j : Fin 6144) : val_main_v27 (F := Ideal) x0 x1 x2 x3 (ix2 r j)
    = conv (up (fun r k => x0 (ix2 r k)) (fun k j => x1 (ix2 k j))) (fun k j => x2 (ix2 k j)) (fun j => x3 (ix1 j)) r j := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0]
  have e0 : ∀ h, val_main_v2 (F := Ideal) x0 x1 (ix2 ⟨r.val, h⟩ j) = behind 2 (fun r => up (fun r k => x0 (ix2 r k)) (fun k j => x1 (ix2 k j)) r j) r := fun h => tap_at x0 x1 2 (by decide) r j
  have e1 : ∀ h, val_main_v2 (F := Ideal) x0 x1 (ix2 ⟨1 + r.val, h⟩ j) = behind 1 (fun r => up (fun r k => x0 (ix2 r k)) (fun k j => x1 (ix2 k j)) r j) r := fun h =>
    (congrArg (fun z => val_main_v2 (F := Ideal) x0 x1 (ix2 z j)) (Fin.ext (Nat.add_comm _ _))).trans (tap_at x0 x1 1 (by decide) r j)
  have e2 : ∀ h, val_main_v2 (F := Ideal) x0 x1 (ix2 ⟨2 + r.val, h⟩ j) = up (fun r k => x0 (ix2 r k)) (fun k j => x1 (ix2 k j)) r j := fun h =>
    ((congrArg (fun z => val_main_v2 (F := Ideal) x0 x1 (ix2 z j)) (Fin.ext (Nat.add_comm _ _))).trans (tap_at x0 x1 0 (by decide) r j)).trans
      (behind_zero _ r)
  rw [e0, e1, e2, conv]
  exact add_four _ _ _ _
theorem act_at (r : Fin 4096) (j : Fin 3072) : val_main_v46 (F := Ideal) x0 x1 x2 x3 (ix2 r j)
    = act (fun r j => val_main_v27 (F := Ideal) x0 x1 x2 x3 (ix2 r j)) r j := by
  pointwise [val_main_v46, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_1, val_main_cst_2, val_main_cst_3, val_main_cst_4, val_main_cst_5]
  rw [show Ideal.div (Ideal.ofBits .f32 0x472EAB00#32) (Ideal.ofBits .f32 0x49742400#32) = cub from Cert.Ffn.cubR_eq]
  exact gated_comm _ _ _
theorem actT_at (r : Fin 4096) (j : Fin 3072) : val_main_v48 (F := Ideal) x0 x1 x2 x3 (ix2 j r) = val_main_v46 (F := Ideal) x0 x1 x2 x3 (ix2 r j) := by
  pointwise [val_main_v48, val_main_v47, val_main_v46]
theorem upB_at (r : Fin 4096) (j : Fin 6144) : val_main_v45 (F := Ideal) x0 x1 (ix2 r j) = up (fun r k => x0 (ix2 r k)) (fun k j => x1 (ix2 k j)) r j := by
  pointwise [val_main_v45]
  exact v0_at x0 x1 r j

end Reference

end Cert.UpAct

end
-- ==== Proof.UpAct.Tile.lean ====
/- One tile of the feed-forward layer's forward half, read index by index. -/
module

public import proofs.«01_k».proof.Proof.UpAct.Ref
public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.UpAct

open Idealize.ShloMosaic Idealize.ShloMosaic.TcCoe Idealize.SL.Sem
open Cert.Ffn (half rt cub th)
open Cert.Kernel6Ideal Cert.Kernel6Ideal.Gen

theorem named_cubic : (Named.named (F := Ideal) (φ := .f32) κ "cubic" 0x3D372713#32 : EReal) = cub :=
  IdealRules.named_const.ideal_named_scalar _ _ _ _ rfl

theorem slt_true (p n : ℕ) (hp : p < 512) (hn : n < 512) (h : p < n) : IntOp.cmpi .slt (BitVec.ofNat 32 p) (BitVec.ofNat 32 n) = 1#1 := by
  rw [WordCmp.cmpi_slt_ofNat (by omega) (by omega), decide_eq_true h]; rfl
theorem slt_false (p n : ℕ) (hp : p < 512) (hn : n < 512) (h : ¬p < n) : IntOp.cmpi .slt (BitVec.ofNat 32 p) (BitVec.ofNat 32 n) = 0#1 := by
  rw [WordCmp.cmpi_slt_ofNat (by omega) (by omega), decide_eq_false h]; rfl

variable (x0 : FVec Ideal S512x1024 .f32) (x1 x2 : FVec Ideal S1x1024x768 .bf16) (x3 : FVec Ideal S3x1536 .f32) (x4 : FVec Ideal S1x1536 .f32) (pv : FVec Ideal S8x1536 .f32)

/-- The up projection's tile, -/
abbrev ut : FVec Ideal S512x1536 .f32 := k0_pay2 (F := Ideal) x0 x1 x2
theorem ut_at (p : Fin 512) (q : Fin 1536) : ut x0 x1 x2 (ix2 p q)
    = if h : q.val < 768 then ∑ k : Fin 1024, x0 (ix2 p k) * x1 (ix3 0 k ⟨q.val, h⟩) else ∑ k : Fin 1024, x0 (ix2 p k) * x2 (ix3 0 k ⟨q.val - 768, by omega⟩) := by
  pointwise [ut, k0_pay2]
theorem pay3_at (p : Fin 512) (q : Fin 1536) : k0_pay3 (F := Ideal) x0 x1 x2 (ix2 p q) = ut x0 x1 x2 (ix2 p q) := by
  pointwise [k0_pay3]
theorem pay1_at (p : Fin 8) (q : Fin 1536) : k0_pay1 (F := Ideal) (ix2 p q) = 0 := by
  pointwise [k0_pay1]
theorem pay11_at (u : FVec Ideal S512x1536 .f32) (p : Fin 8) (q : Fin 1536) : k0_pay11 (F := Ideal) u (ix2 p q) = u (ix2 ⟨504 + p.val, by omega⟩ q) := by
  pointwise [k0_pay11]

/-- A row of the tile `k` rows back: within it, or from the last eight rows of the one before. -/
def back (k : ℕ) (hk : k ≤ 8) (u : FVec Ideal S512x1536 .f32) (p : Fin 512) (q : Fin 1536) : EReal :=
  if h : p.val < k then pv (ix2 ⟨p.val + 8 - k, by omega⟩ q) else u (ix2 ⟨p.val - k, by omega⟩ q)

/-- The rotated tile with its first rows taken from the rotated rows before it. -/
theorem back_at (k : ℕ) (hk : k ≤ 8) (hk0 : 0 < k) (u : FVec Ideal S512x1536 .f32) (p : Fin 512) (q : Fin 1536) (b : BitVec 32) (hb : b = BitVec.ofNat 32 k) :
    Scalar.select (IntOp.cmpi .slt (BitVec.ofNat 32 p.val) b) (if h : p.val < 8 then pv (ix2 ⟨(p.val + 8 - k) % 8, by omega⟩ q) else 0)
      (u (ix2 ⟨(p.val + 512 - k) % 512, by omega⟩ q)) = back pv k hk u p q := by
  subst hb
  unfold back
  by_cases h : p.val < k
  · rw [slt_true p.val k p.isLt (by omega) h, dif_pos h, dif_pos (by omega)]
    exact congrArg (fun z => pv (ix2 z q)) (Fin.ext (by dsimp only; omega))
  · rw [slt_false p.val k p.isLt (by omega) h, dif_neg h]
    exact congrArg (fun z => u (ix2 z q)) (Fin.ext (by dsimp only; omega))

/-- The convolution's tile. -/
def yt : FVec Ideal S512x1536 .f32 :=
  k0_pay10 (F := Ideal) (k0_pay2 x0 x1 x2) pv (k0_pay4 x3) (k0_pay5 x0 x1 x2 x3 x4) (k0_pay6 x3) (k0_pay7 x0 x1 x2) (k0_pay8 pv) k0_pay9
theorem yt_at (p : Fin 512) (q : Fin 1536) : yt x0 x1 x2 x3 x4 pv (ix2 p q)
    = x4 (ix2 0 q) + x3 (ix2 2 q) * ut x0 x1 x2 (ix2 p q) + x3 (ix2 0 q) * back pv 2 (by omega) (ut x0 x1 x2) p q + x3 (ix2 1 q) * back pv 1 (by omega) (ut x0 x1 x2) p q := by
  pointwise [yt, k0_pay10, k0_pay4, k0_pay5, k0_pay6, k0_pay7, k0_pay8, k0_pay9]
  rw [back_at pv 2 (by omega) (by omega) (k0_pay2 x0 x1 x2) p q 2#32 rfl, back_at pv 1 (by omega) (by omega) (k0_pay2 x0 x1 x2) p q 1#32 rfl]
theorem pay12_at (p : Fin 512) (u : Fin 768) :
    k0_pay12 (F := Ideal) (k0_pay2 x0 x1 x2) pv (k0_pay4 x3) (k0_pay5 x0 x1 x2 x3 x4) (k0_pay6 x3) (k0_pay7 x0 x1 x2) (k0_pay8 pv) k0_pay9 (ix2 p u)
      = gated (yt x0 x1 x2 x3 x4 pv (ix2 p ⟨u.val, by omega⟩)) (yt x0 x1 x2 x3 x4 pv (ix2 p ⟨768 + u.val, by omega⟩)) := by
  pointwise [k0_pay12]
  rw [named_cubic]
  rfl
theorem pay13_at (p : Fin 512) (u : Fin 768) :
    k0_pay13 (F := Ideal) (k0_pay2 x0 x1 x2) pv (k0_pay4 x3) (k0_pay5 x0 x1 x2 x3 x4) (k0_pay6 x3) (k0_pay7 x0 x1 x2) (k0_pay8 pv) k0_pay9 (ix2 p u)
      = gated (yt x0 x1 x2 x3 x4 pv (ix2 p ⟨u.val, by omega⟩)) (yt x0 x1 x2 x3 x4 pv (ix2 p ⟨768 + u.val, by omega⟩)) := by
  rw [← pay12_at]
  pointwise [k0_pay13]
theorem pay14_at (p : Fin 512) (u : Fin 768) :
    k0_pay14 (F := Ideal) (k0_pay2 x0 x1 x2) pv (k0_pay4 x3) (k0_pay5 x0 x1 x2 x3 x4) (k0_pay6 x3) (k0_pay7 x0 x1 x2) (k0_pay8 pv) k0_pay9 (ix2 u p)
      = gated (yt x0 x1 x2 x3 x4 pv (ix2 p ⟨u.val, by omega⟩)) (yt x0 x1 x2 x3 x4 pv (ix2 p ⟨768 + u.val, by omega⟩)) := by
  rw [← pay12_at]
  pointwise [k0_pay14]

end Cert.UpAct

end
-- ==== Proof.UpAct.Blocks.lean ====
/- The tiles of the feed-forward layer's forward half, read at their place in the whole arrays. -/
module

public import proofs.«01_k».proof.Proof.UpAct.Tile

@[expose] public section

set_option maxRecDepth 16384

noncomputable section

namespace Cert.UpAct

open Idealize.ShloMosaic Idealize.ShloMosaic.TcCoe Idealize.SL.Sem
open Cert.Ffn (il deil inter)
open Cert.Kernel6Ideal Cert.Kernel6Ideal.Gen

variable (m : (ℓ : Loc nD τ sig) → Buf (Elt Ideal) ℓ) (c : Dev nD)

abbrev a0 : FVec Ideal S4096x1024 .f32 := m (c.tc.loc main_arg0)
abbrev a1 : FVec Ideal S1024x6144 .f32 := m (c.tc.loc main_arg1)
abbrev a2 : FVec Ideal S3x6144 .f32 := m (c.tc.loc main_arg2)
abbrev a3 : FVec Ideal S6144 .f32 := m (c.tc.loc main_arg3)

/-- The up projection, -/
def uS : Fin 4096 → Fin 6144 → EReal := up (fun r k => a0 m c (ix2 r k)) (fun k j => a1 m c (ix2 k j))
/-- the convolution of it -/
def yS : Fin 4096 → Fin 6144 → EReal := conv (uS m c) (fun k j => a2 m c (ix2 k j)) (fun j => a3 m c (ix1 j))

/-! ## The arrays the host prepares -/

/-- The up projection's columns as eight blocks, -/
def wupB (y : FVec Ideal S1024x6144 .f32) : FVec Ideal S8x1024x768 .bf16 :=
  truncf .bf16 (transpose S8x1024x768 [1, 0, 2] (shapeCast S1024x8x768 y shapeCasts_S1024x6144_S1024x8x768) transposes_S1024x8x768_S8x1024x768_1_0_2) bitsLt_bf16_f32
theorem wupB_at (y : FVec Ideal S1024x6144 .f32) (b : Fin 8) (d : Fin 1024) (u : Fin 768) :
    wupB y (ix3 b d u) = y (ix2 d ⟨768 * b.val + u.val, by omega⟩) := by
  pointwise [wupB]
  refine congrArg (fun z => y (ix2 d z)) (Fin.ext ?_)
  dsimp only; omega
/-- the taps' columns in blocked order, -/
def interC (y : FVec Ideal S3x6144 .f32) : FVec Ideal S3x6144 .f32 :=
  shapeCast S3x6144 (transpose S3x4x2x768 [0, 2, 1, 3] (shapeCast S3x2x4x768 y shapeCasts_S3x6144_S3x2x4x768) transposes_S3x2x4x768_S3x4x2x768_0_2_1_3) shapeCasts_S3x4x2x768_S3x6144
theorem interC_at (y : FVec Ideal S3x6144 .f32) (r : Fin 3) (j : Fin 6144) : interC y (ix2 r j) = y (ix2 r (deil j)) := by
  pointwise [interC]
  refine congrArg (fun z => y (ix2 r z)) (Fin.ext ?_)
  rw [Ffn.deil_val]; dsimp only; omega
/-- and the bias's. -/
def interB (y : FVec Ideal S6144 .f32) : FVec Ideal S1x6144 .f32 :=
  broadcastInDim S1x6144 ![1] bcast_S6144_S1x6144_1 (shapeCast S6144 (transpose S4x2x768 [1, 0, 2] (shapeCast S2x4x768 y shapeCasts_S6144_S2x4x768) transposes_S2x4x768_S4x2x768_1_0_2) shapeCasts_S4x2x768_S6144)
theorem interB_at (y : FVec Ideal S6144 .f32) (j : Fin 6144) : interB y (ix2 0 j) = y (ix1 (deil j)) := by
  pointwise [interB]
  refine congrArg (fun z => y (ix1 z)) (Fin.ext ?_)
  rw [Ffn.deil_val]; dsimp only; omega

theorem h_at (r : Fin 4096) (k : Fin 1024) : V (F := Ideal) m c main_arg0 (ix2 r k) = a0 m c (ix2 r k) := by
  entry_read
  rfl
theorem w_at (b : Fin 8) (d : Fin 1024) (u : Fin 768) : V (F := Ideal) m c main_v2 (ix3 b d u) = a1 m c (ix2 d ⟨768 * b.val + u.val, by omega⟩) := by
  refine Eq.trans ?_ (wupB_at (a1 m c) b d u)
  entry_read
  rfl
theorem cw_at (r : Fin 3) (j : Fin 6144) : V (F := Ideal) m c main_v5 (ix2 r j) = a2 m c (ix2 r (deil j)) := by
  refine Eq.trans ?_ (interC_at (a2 m c) r j)
  entry_read
  rfl
theorem cb_at (j : Fin 6144) : V (F := Ideal) m c main_v9 (ix2 0 j) = a3 m c (ix1 (deil j)) := by
  refine Eq.trans ?_ (interB_at (a3 m c) j)
  entry_read
  rfl

/-! ## The blocks of a point -/

theorem idx : ∀ t : Fin cfg0.N, win0_0.index t = ![t.val % 8, 0] ∧ win0_1.index t = ![t.val / 8, 0, 0] ∧ win0_2.index t = ![t.val / 8 + 4, 0, 0] ∧ win0_3.index t = ![0, t.val / 8]
    ∧ win0_4.index t = ![0, t.val / 8] ∧ win0_5.index t = ![t.val % 8, t.val / 8] ∧ win0_6.index t = ![t.val % 8, t.val / 8] ∧ win0_7.index t = ![t.val % 8, t.val / 8]
    ∧ win0_8.index t = ![t.val / 8, t.val % 8] ∧ t.val < 32 :=
  (by decide +kernel : ∀ t : Fin grid0.N, _)
theorem lt32 (t : Fin cfg0.N) : t.val < 32 := (idx t).2.2.2.2.2.2.2.2.2

/-- Row `p` of the point's rows, -/
def row (t : Fin cfg0.N) (p : Fin 512) : Fin 4096 := ⟨512 * (t.val % 8) + p.val, by omega⟩
/-- and the column block it works on. -/
def bt (t : Fin cfg0.N) : Fin 4 := ⟨t.val / 8, by have := lt32 t; omega⟩
/-- Column `q` of it in the blocked order. -/
def bcol (t : Fin cfg0.N) (q : Fin 1536) : Fin 6144 := ⟨1536 * (t.val / 8) + q.val, by have := lt32 t; omega⟩
theorem deil_bcol (t : Fin cfg0.N) (q : Fin 1536) : deil (bcol t q) = il (bt t) q := Ffn.deil_block _ _ _ rfl

theorem b0_at (t : Fin cfg0.N) (p : Fin 512) (k : Fin 1024) : iblk (F := Ideal) m c 0 t (ix2 p k) = a0 m c (ix2 (row t p) k) := by
  rw [← h_at]
  blk_ext [iblk, row, idx t]
theorem b1_at (t : Fin cfg0.N) (k : Fin 1024) (u : Fin 768) : iblk (F := Ideal) m c 1 t (ix3 0 k u) = a1 m c (ix2 k ⟨768 * (bt t).val + u.val, by omega⟩) := by
  have := lt32 t
  refine Eq.trans ?_ (w_at m c ⟨t.val / 8, by omega⟩ k u)
  blk_ext [iblk, idx t]
theorem b2_at (t : Fin cfg0.N) (k : Fin 1024) (u : Fin 768) : iblk (F := Ideal) m c 2 t (ix3 0 k u) = a1 m c (ix2 k ⟨768 * ((bt t).val + 4) + u.val, by omega⟩) := by
  have := lt32 t
  refine Eq.trans ?_ (w_at m c ⟨t.val / 8 + 4, by omega⟩ k u)
  blk_ext [iblk, idx t]
theorem b3_at (t : Fin cfg0.N) (k : Fin 3) (q : Fin 1536) : iblk (F := Ideal) m c 3 t (ix2 k q) = a2 m c (ix2 k (il (bt t) q)) := by
  rw [← deil_bcol, ← cw_at]
  blk_ext [iblk, bcol, idx t]
theorem b4_at (t : Fin cfg0.N) (q : Fin 1536) : iblk (F := Ideal) m c 4 t (ix2 0 q) = a3 m c (ix1 (il (bt t) q)) := by
  rw [← deil_bcol, ← cb_at]
  blk_ext [iblk, bcol, idx t]

/-! ## The tiles -/

theorem ut_pt (t : Fin cfg0.N) (p : Fin 512) (q : Fin 1536) : ut (iblk (F := Ideal) m c 0 t) (iblk m c 1 t) (iblk m c 2 t) (ix2 p q) = uS m c (row t p) (il (bt t) q) := by
  refine (ut_at _ _ _ p q).trans ?_
  unfold uS up il
  split
  · refine Finset.sum_congr rfl fun k _ => ?_
    rw [b0_at, b1_at]
  · refine Finset.sum_congr rfl fun k _ => ?_
    rw [b0_at, b2_at]
    exact congrArg (fun z => a0 m c (ix2 (row t p) k) * a1 m c (ix2 k z)) (Fin.ext (by dsimp only; omega))

/-- What the scratch holds when a point starts. -/
def prev (t : Fin cfg0.N) : FVec Ideal S8x1536 .f32 :=
  if t.val % 8 = 0 then k0_pay1 (F := Ideal) else (outsAt0 (F := Ideal) m c (t.val - 1) (Nat.lt_of_le_of_lt (Nat.sub_le _ _) t.isLt)).2.2.2.2

theorem left (t : Fin cfg0.N) : (outsAt0 (F := Ideal) m c t.val t.isLt).2.2.2.2 = k0_pay11 (F := Ideal) (k0_pay2 (iblk (F := Ideal) m c 0 t) (iblk m c 1 t) (iblk m c 2 t)) := by
  by_cases h0 : t.val % 8 = 0
  · rw [outsAt0_A m c t h0]
    frame_out
  · rw [outsAt0_B m c t h0]
    frame_out

theorem back_pt (k : ℕ) (hk : k ≤ 8) (hk0 : 0 < k) (t : Fin cfg0.N) (p : Fin 512) (q : Fin 1536) :
    back (prev m c t) k hk (ut (iblk (F := Ideal) m c 0 t) (iblk m c 1 t) (iblk m c 2 t)) p q = behind k (fun r => uS m c r (il (bt t) q)) (row t p) := by
  have hlt := lt32 t
  unfold back
  by_cases h : p.val < k
  · rw [dif_pos h, prev]
    by_cases h0 : t.val % 8 = 0
    · rw [if_pos h0, pay1_at, behind, dif_neg (by dsimp only [row]; omega)]
    · rw [if_neg h0, left m c ⟨t.val - 1, Nat.lt_of_le_of_lt (Nat.sub_le _ _) t.isLt⟩, behind, dif_pos (by dsimp only [row]; omega)]
      refine (pay11_at _ _ q).trans ((ut_pt m c ⟨t.val - 1, _⟩ _ q).trans ?_)
      exact congrArg₂ (uS m c) (Fin.ext (by dsimp only [row]; omega)) (congrArg (il · q) (Fin.ext (by dsimp only [bt]; omega)))
  · rw [dif_neg h, ut_pt, behind, dif_pos (by dsimp only [row]; omega)]
    exact congrArg (fun z => uS m c z (il (bt t) q)) (Fin.ext (by dsimp only [row]; omega))

theorem y_pt (t : Fin cfg0.N) (p : Fin 512) (q : Fin 1536) : yt (iblk (F := Ideal) m c 0 t) (iblk m c 1 t) (iblk m c 2 t) (iblk m c 3 t) (iblk m c 4 t) (prev m c t) (ix2 p q) = yS m c (row t p) (il (bt t) q) := by
  refine (yt_at _ _ _ _ _ _ p q).trans ?_
  rw [back_pt, back_pt, ut_pt, b4_at, b3_at, b3_at, b3_at]
  · rfl
  · omega
  · omega

/-! ## What a point writes -/

theorem o5 (t : Fin cfg0.N) : (outsAt0 (F := Ideal) m c t.val t.isLt).1 = k0_pay3 (iblk (F := Ideal) m c 0 t) (iblk m c 1 t) (iblk m c 2 t) := by
  by_cases h0 : t.val % 8 = 0
  · rw [outsAt0_A m c t h0]
    frame_out
  · rw [outsAt0_B m c t h0]
    frame_out
theorem o6 (t : Fin cfg0.N) : (outsAt0 (F := Ideal) m c t.val t.isLt).2.1 = yt (iblk (F := Ideal) m c 0 t) (iblk m c 1 t) (iblk m c 2 t) (iblk m c 3 t) (iblk m c 4 t) (prev m c t) := by
  unfold yt prev
  by_cases h0 : t.val % 8 = 0
  · rw [outsAt0_A m c t h0, if_pos h0]
    frame_out
  · rw [outsAt0_B m c t h0, if_neg h0]
    frame_out
    exact congrArg (fun z => k0_pay10 (F := Ideal) _ z _ _ _ _ (k0_pay8 z) k0_pay9) (Memref.IsWhole.read_unread _ _)
theorem o7 (t : Fin cfg0.N) : (outsAt0 (F := Ideal) m c t.val t.isLt).2.2.1 = k0_pay13 (F := Ideal) (k0_pay2 (iblk m c 0 t) (iblk m c 1 t) (iblk m c 2 t)) (prev m c t) (k0_pay4 (iblk m c 3 t)) (k0_pay5 (iblk m c 0 t) (iblk m c 1 t) (iblk m c 2 t) (iblk m c 3 t) (iblk m c 4 t)) (k0_pay6 (iblk m c 3 t)) (k0_pay7 (iblk m c 0 t) (iblk m c 1 t) (iblk m c 2 t)) (k0_pay8 (prev m c t)) k0_pay9 := by
  unfold prev
  by_cases h0 : t.val % 8 = 0
  · rw [outsAt0_A m c t h0, if_pos h0]
    frame_out
  · rw [outsAt0_B m c t h0, if_neg h0]
    frame_out
    exact congrArg (fun z => k0_pay13 (F := Ideal) _ z _ _ _ _ (k0_pay8 z) k0_pay9) (Memref.IsWhole.read_unread _ _)
theorem o8 (t : Fin cfg0.N) : (outsAt0 (F := Ideal) m c t.val t.isLt).2.2.2.1 = k0_pay14 (F := Ideal) (k0_pay2 (iblk m c 0 t) (iblk m c 1 t) (iblk m c 2 t)) (prev m c t) (k0_pay4 (iblk m c 3 t)) (k0_pay5 (iblk m c 0 t) (iblk m c 1 t) (iblk m c 2 t) (iblk m c 3 t) (iblk m c 4 t)) (k0_pay6 (iblk m c 3 t)) (k0_pay7 (iblk m c 0 t) (iblk m c 1 t) (iblk m c 2 t)) (k0_pay8 (prev m c t)) k0_pay9 := by
  unfold prev
  by_cases h0 : t.val % 8 = 0
  · rw [outsAt0_A m c t h0, if_pos h0]
    frame_out
  · rw [outsAt0_B m c t h0, if_neg h0]
    frame_out
    exact congrArg (fun z => k0_pay14 (F := Ideal) _ z _ _ _ _ (k0_pay8 z) k0_pay9) (Memref.IsWhole.read_unread _ _)

end Cert.UpAct

end
-- ==== Proof.UpAct.Claims.lean ====
/- The feed-forward layer's forward half: the kernel's four arrays and the reference's results as the same functions of the arguments, and the claims made of them. -/
module

public import proofs.«01_k».proof.Defs
public import proofs.«01_k».proof.Proof.UpAct.Blocks
public import proofs.«01_k».proof.Proof.Gen.Kernel6.Frame
public import proofs.«01_k».proof.Proof.Gen.Reference6Ideal.Run
public import proofs.«01_k».proof.Proof.Gen.Reference6Ideal.Read
public import Idealize.ShloMosaic.Lib.Quiescent

@[expose] public section

set_option maxRecDepth 16384

noncomputable section

namespace Cert.UpAct

open Idealize.ShloMosaic Idealize.ShloMosaic.TcCoe Idealize.SL.Sem

section Kernel
open Cert.Ffn (il deil inter)
open Cert.Kernel6Ideal Cert.Kernel6Ideal.Gen

variable (m : (ℓ : Loc nD τ sig) → Buf (Elt Ideal) ℓ) (c : Dev nD)

/-! ## The arrays as the kernel leaves them -/

def w5 : FVec Ideal S4096x6144 .bf16 := fun i => uS m c ⟨(i 0).val, (i 0).isLt⟩ (deil ⟨(i 1).val, (i 1).isLt⟩)
def w6 : FVec Ideal S4096x6144 .f32 := fun i => yS m c ⟨(i 0).val, (i 0).isLt⟩ (deil ⟨(i 1).val, (i 1).isLt⟩)
def w7 : FVec Ideal S4096x3072 .bf16 := fun i => act (yS m c) ⟨(i 0).val, (i 0).isLt⟩ ⟨(i 1).val, (i 1).isLt⟩
def w8 : FVec Ideal S3072x4096 .bf16 := fun i => act (yS m c) ⟨(i 1).val, (i 1).isLt⟩ ⟨(i 0).val, (i 0).isLt⟩

/-- Column `u` of the point's activations. -/
def acol (t : Fin cfg0.N) (u : Fin 768) : Fin 3072 := ⟨768 * (t.val / 8) + u.val, by have := lt32 t; omega⟩

theorem act_pt (t : Fin cfg0.N) (p : Fin 512) (u : Fin 768) :
    gated (yS m c (row t p) (il (bt t) ⟨u.val, by omega⟩)) (yS m c (row t p) (il (bt t) ⟨768 + u.val, by omega⟩)) = act (yS m c) (row t p) (acol t u) := by
  refine congrArg₂ gated (congrArg (yS m c (row t p)) (Fin.ext ?_)) (congrArg (yS m c (row t p)) (Fin.ext ?_)) <;>
    (rw [Ffn.il_val]; dsimp only [acol, bt]; omega)

theorem arr5 : (dats (F := Ideal) m 0 c).arrAt 5 cfg0.N = w5 m c := by
  refine (dats (F := Ideal) m 0 c).arrAt_eq_of_covers 5 (w5 m c) (by decide +kernel) fun t hf y => ?_
  blk_simp
  rw [after0_5, o5]
  idx_vars y
  refine (pay3_at _ _ _ y0 y1).trans ((ut_pt m c t y0 y1).trans ?_)
  rw [← deil_bcol]
  refine (show _ = w5 m c (ix2 (row t y0) (bcol t y1)) from rfl).trans (congrArg (w5 m c) ?_)
  blk_ext [row, bcol, idx t]
theorem arr6 : (dats (F := Ideal) m 0 c).arrAt 6 cfg0.N = w6 m c := by
  refine (dats (F := Ideal) m 0 c).arrAt_eq_of_covers 6 (w6 m c) (by decide +kernel) fun t hf y => ?_
  blk_simp
  rw [after0_6, o6]
  idx_vars y
  refine (y_pt m c t y0 y1).trans ?_
  rw [← deil_bcol]
  refine (show _ = w6 m c (ix2 (row t y0) (bcol t y1)) from rfl).trans (congrArg (w6 m c) ?_)
  blk_ext [row, bcol, idx t]
theorem arr7 : (dats (F := Ideal) m 0 c).arrAt 7 cfg0.N = w7 m c := by
  refine (dats (F := Ideal) m 0 c).arrAt_eq_of_covers 7 (w7 m c) (by decide +kernel) fun t hf y => ?_
  blk_simp
  rw [after0_7, o7]
  idx_vars y
  refine (pay13_at _ _ _ _ _ _ y0 y1).trans ?_
  rw [y_pt, y_pt, act_pt]
  refine (show _ = w7 m c (ix2 (row t y0) (acol t y1)) from rfl).trans (congrArg (w7 m c) ?_)
  blk_ext [row, acol, idx t]
theorem arr8 : (dats (F := Ideal) m 0 c).arrAt 8 cfg0.N = w8 m c := by
  refine (dats (F := Ideal) m 0 c).arrAt_eq_of_covers 8 (w8 m c) (by decide +kernel) fun t hf y => ?_
  blk_simp
  rw [after0_8, o8]
  idx_vars y
  refine (pay14_at _ _ _ _ _ _ y1 y0).trans ?_
  rw [y_pt, y_pt, act_pt]
  refine (show _ = w8 m c (ix2 (acol t y0) (row t y1)) from rfl).trans (congrArg (w8 m c) ?_)
  blk_ext [row, acol, idx t]

/-! ## The columns put back in order -/

def backT {φ : FTy} (y : FVec Ideal S4096x6144 φ) : FVec Ideal S4096x6144 φ :=
  shapeCast S4096x6144 (transpose S4096x2x4x768 [0, 2, 1, 3] (shapeCast S4096x4x2x768 y shapeCasts_S4096x6144_S4096x4x2x768) transposes_S4096x4x2x768_S4096x2x4x768_0_2_1_3) shapeCasts_S4096x2x4x768_S4096x6144
theorem backT_at {φ : FTy} (y : FVec Ideal S4096x6144 φ) (r : Fin 4096) (j : Fin 6144) : backT y (ix2 r j) = y (ix2 r (inter j)) := by
  pointwise [backT]
  refine congrArg (fun z => y (ix2 r z)) (Fin.ext ?_)
  unfold Ffn.inter; dsimp only; omega

def r0 : FVec Ideal S4096x6144 .bf16 := fun i => uS m c ⟨(i 0).val, (i 0).isLt⟩ ⟨(i 1).val, (i 1).isLt⟩
def r1 : FVec Ideal S4096x6144 .f32 := fun i => yS m c ⟨(i 0).val, (i 0).isLt⟩ ⟨(i 1).val, (i 1).isLt⟩

theorem back5 : backT (w5 m c) = r0 m c := by
  funext i
  idx_vars i
  refine (backT_at _ i0 i1).trans ?_
  show uS m c i0 (deil (inter i1)) = uS m c i0 i1
  rw [Ffn.deil_inter]
theorem back6 : backT (w6 m c) = r1 m c := by
  funext i
  idx_vars i
  refine (backT_at _ i0 i1).trans ?_
  show yS m c i0 (deil (inter i1)) = yS m c i0 i1
  rw [Ffn.deil_inter]

/-- Only the two halves of the up projection are windows on one array, -/
theorem shared : ∀ w w' : Fin cfg0.W, w ≠ w' → Pipeline.arrRef spec0 w = Pipeline.arrRef spec0 w' → w = 1 ∨ w = 2 :=
  (by decide : ∀ w w' : Fin 9, w ≠ w' → Pipeline.arrRef spec0 w = Pipeline.arrRef spec0 w' → w = 1 ∨ w = 2)

/-- so each array is read after the region at what its window left. -/
theorem after_arr (w : Fin cfg0.W) : Pipeline.withArrays spec0 c (V0 m c) (fun w => (dats (F := Ideal) m 0 c).arrAt w cfg0.N) (Proc.devRef .tc (Pipeline.arrRef spec0 w))
    = (dats (F := Ideal) m 0 c).arrAt w cfg0.N := by
  refine Pipeline.withArrays_arr_shared spec0 c (V0 m c) _ (fun w w' hne he => ?_) w
  rcases shared w w' hne he with rfl | rfl
  · exact ((dats (F := Ideal) m 0 c).arrAt_in 1 rfl _).trans (A_eq m c 1)
  · exact ((dats (F := Ideal) m 0 c).arrAt_in 2 rfl _).trans (A_eq m c 2)

theorem end13 : Pipeline.afterTail₀ cfgs (dats (F := Ideal) m) 0 (V0 m) [hostOps1] c main_v13 = r0 m c := by
  refine Eq.trans ?_ (back5 m c)
  rw [← arr5, ← after_arr m c 5]
  unfold Pipeline.afterTail₀
  generalize Pipeline.withArrays _ _ _ _ = W
  after_results
  rfl
theorem end16 : Pipeline.afterTail₀ cfgs (dats (F := Ideal) m) 0 (V0 m) [hostOps1] c main_v16 = r1 m c := by
  refine Eq.trans ?_ (back6 m c)
  rw [← arr6, ← after_arr m c 6]
  unfold Pipeline.afterTail₀
  generalize Pipeline.withArrays _ _ _ _ = W
  after_results
  rfl

/-- The run: the four results, and the arguments as launched. -/
theorem value (ρ : Dev nD → PrngReg) : θ_run defs (onTc (τ := τ) (main (F := Ideal))) ⟨m, fun _ => 0, ρ⟩ (fun r => ∀ c : Dev nD,
      r.2.mem ((c.tc : Thread nD τ).loc main_v13) = r0 m c
      ∧ r.2.mem ((c.tc : Thread nD τ).loc main_v16) = r1 m c
      ∧ r.2.mem ((c.tc : Thread nD τ).loc main_v10_2) = w7 m c
      ∧ r.2.mem ((c.tc : Thread nD τ).loc main_v10_3) = w8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h.1 c).2 main_v13 (Pipeline.mem_restRefs_of main_v13 (by decide) (by decide))).trans (end13 m c),
    ((h.1 c).2 main_v16 (Pipeline.mem_restRefs_of main_v16 (by decide) (by decide))).trans (end16 m c),
    ((h.1 c).1 7).trans (arr7 m c), ((h.1 c).1 8).trans (arr8 m c),
    h.2 c⟩) (θ_run_and (run_main m ρ) (unchanged m ρ))

end Kernel

/-! ## The claims -/

section results

variable (m : (ℓ : Loc Cert.Kernel6Ideal.nD Cert.Kernel6Ideal.τ Cert.Kernel6Ideal.sig) → Buf (Elt Ideal) ℓ) (c : Dev Cert.Kernel6Ideal.nD)
  (x0 : FVec Ideal Cert.Reference6Ideal.S4096x1024 .f32) (x1 : FVec Ideal Cert.Reference6Ideal.S1024x6144 .f32)
  (x2 : FVec Ideal Cert.Reference6Ideal.S3x6144 .f32) (x3 : FVec Ideal Cert.Reference6Ideal.S6144 .f32)
  (e0 : x0 = m ((c.tc : Thread _ _).loc Cert.Kernel6Ideal.main_arg0)) (e1 : x1 = m ((c.tc : Thread _ _).loc Cert.Kernel6Ideal.main_arg1))
  (e2 : x2 = m ((c.tc : Thread _ _).loc Cert.Kernel6Ideal.main_arg2)) (e3 : x3 = m ((c.tc : Thread _ _).loc Cert.Kernel6Ideal.main_arg3))

include e0 e1

theorem up_eq : Cert.Reference6Ideal.Read.val_main_v45 (F := Ideal) x0 x1 = r0 m c := by
  subst e0 e1
  funext i
  idx_vars i
  exact upB_at _ _ i0 i1

include e2 e3

theorem y_eq : Cert.Reference6Ideal.Read.val_main_v27 (F := Ideal) x0 x1 x2 x3 = r1 m c := by
  subst e0 e1 e2 e3
  funext i
  idx_vars i
  exact y_at _ _ _ _ i0 i1
theorem act_eq : Cert.Reference6Ideal.Read.val_main_v46 (F := Ideal) x0 x1 x2 x3 = w7 m c := by
  subst e0 e1 e2 e3
  funext i
  idx_vars i
  refine (act_at _ _ _ _ i0 i1).trans (congrArg (act · i0 i1) ?_)
  funext r j
  exact y_at _ _ _ _ r j
theorem actT_eq : Cert.Reference6Ideal.Read.val_main_v48 (F := Ideal) x0 x1 x2 x3 = w8 m c := by
  subst e0 e1 e2 e3
  funext i
  idx_vars i
  refine (actT_at _ _ _ _ i1 i0).trans ((act_at _ _ _ _ i1 i0).trans (congrArg (act · i1 i0) ?_))
  funext r j
  exact y_at _ _ _ _ r j

end results

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2.2.2, Idealize.ShloMosaic.sem_eq_zero_of_no_sems (by decide) r.2⟩)
    (Cert.Reference6Ideal.Value.run (F := Ideal) m ρ)

theorem preserves : Cert.preserves_Kernel6_Kernel6Ideal :=
  IdealRules.named_const.statement Cert.Kernel6Ideal.κ "cubic" .f32 0x3D372713#32 ((8943 / 200000 : ℝ) : EReal) rfl

theorem algebraic : Cert.algebraic_Kernel6Ideal_Reference6Ideal := by
  intro m ρ m' ρ' _ hagree
  refine ⟨fun c => r0 m c, fun c => r1 m c, fun c => w7 m c, fun c => w8 m c, value m ρ, ?_⟩
  refine (θ_run Cert.Reference6Ideal.defs _ _).mono (fun _ h c => ?_) (Cert.Reference6Ideal.Value.run (F := Ideal) m' ρ')
  obtain ⟨e0, e1, e2, e3⟩ := hagree c
  exact ⟨(h c).1.trans ((Cert.Reference6Ideal.Read.val_main_v45_eq _ _).trans (up_eq m c _ _ e0 e1)),
    (h c).2.1.trans ((Cert.Reference6Ideal.Read.val_main_v27_eq _ _ _ _).trans (y_eq m c _ _ _ _ e0 e1 e2 e3)),
    (h c).2.2.1.trans ((Cert.Reference6Ideal.Read.val_main_v46_eq m' c).trans (act_eq m c _ _ _ _ e0 e1 e2 e3)),
    (h c).2.2.2.1.trans ((Cert.Reference6Ideal.Read.val_main_v48_eq m' c).trans (actT_eq m c _ _ _ _ e0 e1 e2 e3)), (h c).2.2.2.2⟩

end Cert.UpAct

end
-- ==== Proof.InDw.lean ====
/- The gradient of the in projection's weights: the kernel's array, added up over four blocks of rows, and the reference's result,
   both read as one sum over the rows, and the claims made of them. -/
module

public import proofs.«01_k».proof.Defs
public import proofs.«01_k».proof.Proof.Gen.Kernel7.Frame
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.InDw

open Idealize.ShloMosaic Idealize.ShloMosaic.TcCoe Idealize.SL.Sem

/-- The gradient at `(d, j)`: the rows' inputs against the rows' gradients. -/
def dw (h : Fin 4096 → Fin 1024 → EReal) (g : Fin 4096 → Fin 2176 → EReal) (d : Fin 1024) (j : Fin 2176) : EReal :=
  ∑ r : Fin 4096, h r d * g r j

section Reference
open Cert.Reference7Ideal Cert.Reference7Ideal.Read

theorem ref_at (x0 : FVec Ideal S4096x1024 .f32) (x1 : FVec Ideal S4096x2176 .f32) (d : Fin 1024) (j : Fin 2176) :
    val_main_v3 (F := Ideal) x0 x1 (ix2 d j) = dw (fun r d => x0 (ix2 r d)) (fun r j => x1 (ix2 r j)) d j := by
  pointwise [val_main_v3, val_main_v2]
  exact Finset.sum_congr rfl fun _ _ => mul_comm _ _

end Reference

section Kernel
open Cert.Kernel7Ideal Cert.Kernel7Ideal.Gen

variable (m : (ℓ : Loc nD τ sig) → Buf (Elt Ideal) ℓ) (c : Dev nD)

abbrev a0 : FVec Ideal S4096x1024 .f32 := m (c.tc.loc main_arg0)
abbrev a1 : FVec Ideal S4096x2176 .f32 := m (c.tc.loc main_arg1)

/-- The inputs, turned. -/
def turned (y : FVec Ideal S4096x1024 .f32) : FVec Ideal S1024x4096 .bf16 :=
  truncf .bf16 (transpose S1024x4096 [1, 0] y transposes_S4096x1024_S1024x4096_1_0) bitsLt_bf16_f32
theorem turned_at (y : FVec Ideal S4096x1024 .f32) (d : Fin 1024) (r : Fin 4096) : turned y (ix2 d r) = y (ix2 r d) := by
  pointwise [turned]

theorem ht_at (d : Fin 1024) (r : Fin 4096) : V (F := Ideal) m c main_v1 (ix2 d r) = a0 m c (ix2 r d) := by
  refine Eq.trans ?_ (turned_at (a0 m c) d r)
  entry_read
  rfl
theorem g_at (r : Fin 4096) (j : Fin 2176) : V (F := Ideal) m c main_v2 (ix2 r j) = a1 m c (ix2 r j) := by
  entry_read
  rfl

theorem idx : ∀ t : Fin cfg0.N, win0_0.index t = ![t.val / 4, t.val % 4] ∧ win0_1.index t = ![t.val % 4, 0] ∧ win0_2.index t = ![t.val / 4, 0] ∧ t.val < 4 * 1 :=
  (by decide +kernel : ∀ t : Fin grid0.N, _)

/-- Row `k` of the point's block of rows, -/
def row (t : Fin cfg0.N) (k : Fin 1024) : Fin 4096 := ⟨t.val % 4 * 1024 + k.val, by omega⟩
/-- and row `p` of its block of the gradient. -/
def orow (t : Fin cfg0.N) (p : Fin 1024) : Fin 1024 := ⟨1024 * (t.val / 4) + p.val, by have := (idx t).2.2.2; omega⟩

theorem b0_at (t : Fin cfg0.N) (p k : Fin 1024) : iblk (F := Ideal) m c 0 t (ix2 p k) = a0 m c (ix2 (row t k) (orow t p)) := by
  rw [← ht_at]
  blk_ext [iblk, row, orow, idx t]
theorem b1_at (t : Fin cfg0.N) (k : Fin 1024) (q : Fin 2176) : iblk (F := Ideal) m c 1 t (ix2 k q) = a1 m c (ix2 (row t k) q) := by
  rw [← g_at]
  blk_ext [iblk, row, idx t]

theorem zero_at (p : Fin 1024) (q : Fin 2176) : k0_pay1 (F := Ideal) (ix2 p q) = 0 := by
  pointwise [k0_pay1]
theorem pay_at (acc : FVec Ideal S1024x2176 .f32) (x0 : FVec Ideal S1024x1024 .bf16) (x1 : FVec Ideal S1024x2176 .bf16) (p : Fin 1024) (q : Fin 2176) :
    k0_pay2 (F := Ideal) acc x0 x1 (ix2 p q) = acc (ix2 p q) + ∑ k : Fin 1024, x0 (ix2 p k) * x1 (ix2 k q) := by
  pointwise [k0_pay2]

/-- What one point adds. -/
def part (t : Fin cfg0.N) (p : Fin 1024) (q : Fin 2176) : EReal := ∑ k : Fin 1024, a0 m c (ix2 (row t k) (orow t p)) * a1 m c (ix2 (row t k) q)
theorem part_of (t : Fin cfg0.N) (acc : FVec Ideal S1024x2176 .f32) (p : Fin 1024) (q : Fin 2176) :
    k0_pay2 (F := Ideal) acc (iblk m c 0 t) (iblk m c 1 t) (ix2 p q) = acc (ix2 p q) + part m c t p q := by
  refine (pay_at _ _ _ p q).trans (congrArg (acc (ix2 p q) + ·) (Finset.sum_congr rfl fun k _ => ?_))
  rw [b0_at, b1_at]

theorem sA (t : Fin cfg0.N) (h0 : t.val % 4 = 0) : (outsAt0 m c t.val t.isLt).2 = k0_pay2 (F := Ideal) (k0_pay1 (F := Ideal)) (iblk m c 0 t) (iblk m c 1 t) := by
  rw [outsAt0_A m c t h0 (by omega)]
  frame_out
theorem sB (t : Fin cfg0.N) (h0 : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun z => k0_pay2 (F := Ideal) z _ _) (Memref.IsWhole.read_unread _ _)
  · rw [outsAt0_B m c t h0 h1]
    frame_out
    exact congrArg (fun z => k0_pay2 (F := Ideal) z _ _) (Memref.IsWhole.read_unread _ _)
theorem oC (t : Fin cfg0.N) (h1 : t.val % 4 = 3) : (outsAt0 m c t.val t.isLt).1 = (outsAt0 m c t.val t.isLt).2 := by
  rw [outsAt0_C m c t (by omega) h1]
  frame_out

/-- After a run's last point the block holds its sum over all rows. -/
theorem out_at (t : Fin cfg0.N) (h : t.val % 4 = 3) (p : Fin 1024) (q : Fin 2176) :
    (outsAt0 (F := Ideal) m c t.val t.isLt).1 (ix2 p q) = dw (fun r d => a0 m c (ix2 r d)) (fun r j => a1 m c (ix2 r j)) (orow t p) q := by
  have hlt : ∀ k, t.val - k < cfg0.N := fun k => Nat.lt_of_le_of_lt (Nat.sub_le _ _) t.isLt
  have hr : ∀ k, k ≤ 3 → orow ⟨t.val - k, hlt k⟩ p = orow t p := fun k hk => Fin.ext (by dsimp only [orow]; omega)
  have hk : ∀ k (hk : k ≤ 3) l, row ⟨t.val - k, hlt k⟩ l = ⟨(3 - k) * 1024 + l.val, by omega⟩ := fun k hk l =>
    Fin.ext (by dsimp only [row]; rw [show (t.val - k) % 4 = 3 - k by omega])
  have hp : ∀ k (hk : k ≤ 3), part m c ⟨t.val - k, hlt k⟩ p q
      = ∑ l : Fin 1024, a0 m c (ix2 ⟨(3 - k) * 1024 + l.val, by omega⟩ (orow t p)) * a1 m c (ix2 ⟨(3 - k) * 1024 + l.val, by omega⟩ q) := fun k hk' => by
    unfold part
    exact Finset.sum_congr rfl fun l _ => by rw [hr k hk', hk k hk' l]
  have s0 := congrFun (sB m c t (by omega)) (ix2 p q)
  have s1 := congrFun (sB m c ⟨t.val - 1, hlt 1⟩ (by dsimp only; omega)) (ix2 p q)
  have s2 := congrFun (sB m c ⟨t.val - 2, hlt 2⟩ (by dsimp only; omega)) (ix2 p q)
  have s3 := congrFun (sA m c ⟨t.val - 3, hlt 3⟩ (by dsimp only; omega)) (ix2 p q)
  refine (congrFun (oC m c t h) (ix2 p q)).trans (s0.trans ((part_of m c _ _ p q).trans ?_))
  have e3 := s3.trans ((part_of m c ⟨t.val - 3, hlt 3⟩ _ p q).trans (congrArg (· + part m c ⟨t.val - 3, hlt 3⟩ p q) (zero_at p q)))
  have e2 := s2.trans ((part_of m c ⟨t.val - 2, hlt 2⟩ _ p q).trans (congrArg (· + part m c ⟨t.val - 2, hlt 2⟩ p q) e3))
  have e1 := s1.trans ((part_of m c ⟨t.val - 1, hlt 1⟩ _ p q).trans (congrArg (· + part m c ⟨t.val - 1, hlt 1⟩ p q) e2))
  refine (congrArg (· + part m c t p q) e1).trans ?_
  rw [zero_add]
  refine (congrArg₂ (· + ·) (congrArg₂ (· + ·) (congrArg₂ (· + ·) (hp 3 (by omega)) (hp 2 (by omega))) (hp 1 (by omega))) (hp 0 (by omega))).trans ?_
  unfold dw
  refine Eq.trans ?_ (Fin.sum_mul_add_fin 4 1024 (fun r : Fin 4096 => a0 m c (ix2 r (orow t p)) * a1 m c (ix2 r q)))
  rw [Fin.sum_univ_four]
  rfl

/-- The array after the run. -/
def res : S1024x2176.Idx → EReal := fun i =>
  dw (fun r d => a0 m c (ix2 r d)) (fun r j => a1 m c (ix2 r j)) ⟨(i 0).val, (i 0).isLt⟩ ⟨(i 1).val, (i 1).isLt⟩

theorem arr : (dats m 0 c).arrAt 2 cfg0.N = res m c := by
  refine (dats m 0 c).arrAt_eq_of_covers 2 (res m c) (by decide +kernel) fun t hf y => ?_
  blk_simp
  rw [after0_2]
  idx_vars y
  refine (out_at m c t ((flush0_2 t).mp hf) y0 y1).trans ?_
  refine (show _ = res m c (ix2 (orow t y0) y1) from rfl).trans (congrArg (res m c) ?_)
  blk_ext [orow, idx t]

end Kernel

/-! ## The claims -/

theorem ref_eq (m : (ℓ : Loc Cert.Kernel7Ideal.nD Cert.Kernel7Ideal.τ Cert.Kernel7Ideal.sig) → Buf (Elt Ideal) ℓ) (c : Dev Cert.Kernel7Ideal.nD)
    (x0 : FVec Ideal Cert.Reference7Ideal.S4096x1024 .f32) (x1 : FVec Ideal Cert.Reference7Ideal.S4096x2176 .f32)
    (e0 : x0 = m ((c.tc : Thread _ _).loc Cert.Kernel7Ideal.main_arg0)) (e1 : x1 = m ((c.tc : Thread _ _).loc Cert.Kernel7Ideal.main_arg1)) :
    Cert.Reference7Ideal.Read.val_main_v3 (F := Ideal) x0 x1 = res m c := by
  subst e0 e1
  funext i
  idx_vars i
  exact ref_at _ _ i0 i1

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => res m c, (θ_run Cert.Kernel7Ideal.defs _ _).mono (fun _ h c => ⟨(h c).1.trans (arr m c), (h c).2⟩)
    (Cert.Kernel7Ideal.Value.run_blocks (F := Ideal) m ρ), ?_⟩
  refine (θ_run Cert.Reference7Ideal.defs _ _).mono (fun _ h c => ?_) (Cert.Reference7Ideal.Value.run (F := Ideal) m' ρ')
  obtain ⟨e0, e1⟩ := hagree c
  exact ⟨(h c).1.trans ((Cert.Reference7Ideal.Read.val_main_v3_eq _ _).trans (ref_eq m c _ _ e0 e1)), (h c).2⟩

end Cert.InDw

end
-- ==== Proof.OutDw.lean ====
/- The gradient of the out projection's weights: the kernel's array, added up over four blocks of rows, and the reference's result,
   both read as one sum over the rows, and the claims made of them. -/
module

public import proofs.«01_k».proof.Defs
public import proofs.«01_k».proof.Proof.Gen.Kernel8.Frame
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.OutDw

open Idealize.ShloMosaic Idealize.ShloMosaic.TcCoe Idealize.SL.Sem

/-- The gradient at `(d, j)`: the rows' inputs against the rows' gradients. -/
def dw (h : Fin 4096 → Fin 1024 → EReal) (g : Fin 4096 → Fin 1024 → EReal) (d : Fin 1024) (j : Fin 1024) : EReal :=
  ∑ r : Fin 4096, h r d * g r j

section Reference
open Cert.Reference8Ideal Cert.Reference8Ideal.Read

theorem ref_at (x0 : FVec Ideal S4096x1024 .f32) (x1 : FVec Ideal S4096x1024 .f32) (d : Fin 1024) (j : Fin 1024) :
    val_main_v3 (F := Ideal) x0 x1 (ix2 d j) = dw (fun r d => x0 (ix2 r d)) (fun r j => x1 (ix2 r j)) d j := by
  pointwise [val_main_v3, val_main_v2]
  exact Finset.sum_congr rfl fun _ _ => mul_comm _ _

end Reference

section Kernel
open Cert.Kernel8Ideal Cert.Kernel8Ideal.Gen

variable (m : (ℓ : Loc nD τ sig) → Buf (Elt Ideal) ℓ) (c : Dev nD)

abbrev a0 : FVec Ideal S4096x1024 .f32 := m (c.tc.loc main_arg0)
abbrev a1 : FVec Ideal S4096x1024 .f32 := m (c.tc.loc main_arg1)

/-- The inputs, turned. -/
def turned (y : FVec Ideal S4096x1024 .f32) : FVec Ideal S1024x4096 .bf16 :=
  truncf .bf16 (transpose S1024x4096 [1, 0] y transposes_S4096x1024_S1024x4096_1_0) bitsLt_bf16_f32
theorem turned_at (y : FVec Ideal S4096x1024 .f32) (d : Fin 1024) (r : Fin 4096) : turned y (ix2 d r) = y (ix2 r d) := by
  pointwise [turned]

theorem ht_at (d : Fin 1024) (r : Fin 4096) : V (F := Ideal) m c main_v1 (ix2 d r) = a0 m c (ix2 r d) := by
  refine Eq.trans ?_ (turned_at (a0 m c) d r)
  entry_read
  rfl
theorem g_at (r : Fin 4096) (j : Fin 1024) : V (F := Ideal) m c main_arg1 (ix2 r j) = a1 m c (ix2 r j) := by
  entry_read
  rfl

theorem idx : ∀ t : Fin cfg0.N, win0_0.index t = ![t.val / 4, t.val % 4] ∧ win0_1.index t = ![t.val % 4, 0] ∧ win0_2.index t = ![t.val / 4, 0] ∧ t.val < 4 * 1 :=
  (by decide +kernel : ∀ t : Fin grid0.N, _)

/-- Row `k` of the point's block of rows, -/
def row (t : Fin cfg0.N) (k : Fin 1024) : Fin 4096 := ⟨t.val % 4 * 1024 + k.val, by omega⟩
/-- and row `p` of its block of the gradient. -/
def orow (t : Fin cfg0.N) (p : Fin 1024) : Fin 1024 := ⟨1024 * (t.val / 4) + p.val, by have := (idx t).2.2.2; omega⟩

theorem b0_at (t : Fin cfg0.N) (p k : Fin 1024) : iblk (F := Ideal) m c 0 t (ix2 p k) = a0 m c (ix2 (row t k) (orow t p)) := by
  rw [← ht_at]
  blk_ext [iblk, row, orow, idx t]
theorem b1_at (t : Fin cfg0.N) (k : Fin 1024) (q : Fin 1024) : iblk (F := Ideal) m c 1 t (ix2 k q) = a1 m c (ix2 (row t k) q) := by
  rw [← g_at]
  blk_ext [iblk, row, idx t]

theorem zero_at (p : Fin 1024) (q : Fin 1024) : k0_pay1 (F := Ideal) (ix2 p q) = 0 := by
  pointwise [k0_pay1]
theorem pay_at (acc : FVec Ideal S1024x1024 .f32) (x0 : FVec Ideal S1024x1024 .bf16) (x1 : FVec Ideal S1024x1024 .f32) (p : Fin 1024) (q : Fin 1024) :
    k0_pay2 (F := Ideal) acc x0 x1 (ix2 p q) = acc (ix2 p q) + ∑ k : Fin 1024, x0 (ix2 p k) * x1 (ix2 k q) := by
  pointwise [k0_pay2]

/-- What one point adds. -/
def part (t : Fin cfg0.N) (p : Fin 1024) (q : Fin 1024) : EReal := ∑ k : Fin 1024, a0 m c (ix2 (row t k) (orow t p)) * a1 m c (ix2 (row t k) q)
theorem part_of (t : Fin cfg0.N) (acc : FVec Ideal S1024x1024 .f32) (p : Fin 1024) (q : Fin 1024) :
    k0_pay2 (F := Ideal) acc (iblk m c 0 t) (iblk m c 1 t) (ix2 p q) = acc (ix2 p q) + part m c t p q := by
  refine (pay_at _ _ _ p q).trans (congrArg (acc (ix2 p q) + ·) (Finset.sum_congr rfl fun k _ => ?_))
  rw [b0_at, b1_at]

theorem sA (t : Fin cfg0.N) (h0 : t.val % 4 = 0) : (outsAt0 m c t.val t.isLt).2 = k0_pay2 (F := Ideal) (k0_pay1 (F := Ideal)) (iblk m c 0 t) (iblk m c 1 t) := by
  rw [outsAt0_A m c t h0 (by omega)]
  frame_out
theorem sB (t : Fin cfg0.N) (h0 : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun z => k0_pay2 (F := Ideal) z _ _) (Memref.IsWhole.read_unread _ _)
  · rw [outsAt0_B m c t h0 h1]
    frame_out
    exact congrArg (fun z => k0_pay2 (F := Ideal) z _ _) (Memref.IsWhole.read_unread _ _)
theorem oC (t : Fin cfg0.N) (h1 : t.val % 4 = 3) : (outsAt0 m c t.val t.isLt).1 = (outsAt0 m c t.val t.isLt).2 := by
  rw [outsAt0_C m c t (by omega) h1]
  frame_out

/-- After a run's last point the block holds its sum over all rows. -/
theorem out_at (t : Fin cfg0.N) (h : t.val % 4 = 3) (p : Fin 1024) (q : Fin 1024) :
    (outsAt0 (F := Ideal) m c t.val t.isLt).1 (ix2 p q) = dw (fun r d => a0 m c (ix2 r d)) (fun r j => a1 m c (ix2 r j)) (orow t p) q := by
  have hlt : ∀ k, t.val - k < cfg0.N := fun k => Nat.lt_of_le_of_lt (Nat.sub_le _ _) t.isLt
  have hr : ∀ k, k ≤ 3 → orow ⟨t.val - k, hlt k⟩ p = orow t p := fun k hk => Fin.ext (by dsimp only [orow]; omega)
  have hk : ∀ k (hk : k ≤ 3) l, row ⟨t.val - k, hlt k⟩ l = ⟨(3 - k) * 1024 + l.val, by omega⟩ := fun k hk l =>
    Fin.ext (by dsimp only [row]; rw [show (t.val - k) % 4 = 3 - k by omega])
  have hp : ∀ k (hk : k ≤ 3), part m c ⟨t.val - k, hlt k⟩ p q
      = ∑ l : Fin 1024, a0 m c (ix2 ⟨(3 - k) * 1024 + l.val, by omega⟩ (orow t p)) * a1 m c (ix2 ⟨(3 - k) * 1024 + l.val, by omega⟩ q) := fun k hk' => by
    unfold part
    exact Finset.sum_congr rfl fun l _ => by rw [hr k hk', hk k hk' l]
  have s0 := congrFun (sB m c t (by omega)) (ix2 p q)
  have s1 := congrFun (sB m c ⟨t.val - 1, hlt 1⟩ (by dsimp only; omega)) (ix2 p q)
  have s2 := congrFun (sB m c ⟨t.val - 2, hlt 2⟩ (by dsimp only; omega)) (ix2 p q)
  have s3 := congrFun (sA m c ⟨t.val - 3, hlt 3⟩ (by dsimp only; omega)) (ix2 p q)
  refine (congrFun (oC m c t h) (ix2 p q)).trans (s0.trans ((part_of m c _ _ p q).trans ?_))
  have e3 := s3.trans ((part_of m c ⟨t.val - 3, hlt 3⟩ _ p q).trans (congrArg (· + part m c ⟨t.val - 3, hlt 3⟩ p q) (zero_at p q)))
  have e2 := s2.trans ((part_of m c ⟨t.val - 2, hlt 2⟩ _ p q).trans (congrArg (· + part m c ⟨t.val - 2, hlt 2⟩ p q) e3))
  have e1 := s1.trans ((part_of m c ⟨t.val - 1, hlt 1⟩ _ p q).trans (congrArg (· + part m c ⟨t.val - 1, hlt 1⟩ p q) e2))
  refine (congrArg (· + part m c t p q) e1).trans ?_
  rw [zero_add]
  refine (congrArg₂ (· + ·) (congrArg₂ (· + ·) (congrArg₂ (· + ·) (hp 3 (by omega)) (hp 2 (by omega))) (hp 1 (by omega))) (hp 0 (by omega))).trans ?_
  unfold dw
  refine Eq.trans ?_ (Fin.sum_mul_add_fin 4 1024 (fun r : Fin 4096 => a0 m c (ix2 r (orow t p)) * a1 m c (ix2 r q)))
  rw [Fin.sum_univ_four]
  rfl

/-- The array after the run. -/
def res : S1024x1024.Idx → EReal := fun i =>
  dw (fun r d => a0 m c (ix2 r d)) (fun r j => a1 m c (ix2 r j)) ⟨(i 0).val, (i 0).isLt⟩ ⟨(i 1).val, (i 1).isLt⟩

theorem arr : (dats m 0 c).arrAt 2 cfg0.N = res m c := by
  refine (dats m 0 c).arrAt_eq_of_covers 2 (res m c) (by decide +kernel) fun t hf y => ?_
  blk_simp
  rw [after0_2]
  idx_vars y
  refine (out_at m c t ((flush0_2 t).mp hf) y0 y1).trans ?_
  refine (show _ = res m c (ix2 (orow t y0) y1) from rfl).trans (congrArg (res m c) ?_)
  blk_ext [orow, idx t]

end Kernel

/-! ## The claims -/

theorem ref_eq (m : (ℓ : Loc Cert.Kernel8Ideal.nD Cert.Kernel8Ideal.τ Cert.Kernel8Ideal.sig) → Buf (Elt Ideal) ℓ) (c : Dev Cert.Kernel8Ideal.nD)
    (x0 : FVec Ideal Cert.Reference8Ideal.S4096x1024 .f32) (x1 : FVec Ideal Cert.Reference8Ideal.S4096x1024 .f32)
    (e0 : x0 = m ((c.tc : Thread _ _).loc Cert.Kernel8Ideal.main_arg0)) (e1 : x1 = m ((c.tc : Thread _ _).loc Cert.Kernel8Ideal.main_arg1)) :
    Cert.Reference8Ideal.Read.val_main_v3 (F := Ideal) x0 x1 = res m c := by
  subst e0 e1
  funext i
  idx_vars i
  exact ref_at _ _ i0 i1

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨fun c => res m c, (θ_run Cert.Kernel8Ideal.defs _ _).mono (fun _ h c => ⟨(h c).1.trans (arr m c), (h c).2⟩)
    (Cert.Kernel8Ideal.Value.run_blocks (F := Ideal) m ρ), ?_⟩
  refine (θ_run Cert.Reference8Ideal.defs _ _).mono (fun _ h c => ?_) (Cert.Reference8Ideal.Value.run (F := Ideal) m' ρ')
  obtain ⟨e0, e1⟩ := hagree c
  exact ⟨(h c).1.trans ((Cert.Reference8Ideal.Read.val_main_v3_eq _ _).trans (ref_eq m c _ _ e0 e1)), (h c).2⟩

end Cert.OutDw

end
-- ==== Proof.Norm.lean ====
/- The gradients of the layer norm and of the root-mean-square norm of one row, as differentiating the forward lines writes them and in the
   closed form the kernels compute: on reals they agree. -/
module

public import proofs.«01_k».proof.Proof.Ffn.Scalar

@[expose] public section

noncomputable section

namespace Cert.Norm

open Idealize.ShloMosaic
open Cert.Ffn (Fin')

variable {ι : Type} [Fintype ι]

/-- The sum of the row divided by `K`, -/
def mean (K : EReal) (y : ι → EReal) : EReal := Ideal.div (∑ d, y d) K
/-- the variance of the row with `E` added, -/
def var (K E : EReal) (y : ι → EReal) : EReal := Ideal.div (∑ d, (y d - mean K y) * (y d - mean K y)) K + E
/-- and the row normalised. -/
def hat (K E : EReal) (y : ι → EReal) (d : ι) : EReal := (y d - mean K y) * Ideal.rsqrt (var K E y)

/-- The layer norm's gradient in closed form, `w` the cotangent times the gain. -/
def lnK (K E : EReal) (y w : ι → EReal) (d : ι) : EReal :=
  Ideal.rsqrt (var K E y) * (w d - mean K w - hat K E y d * mean K fun e => w e * hat K E y e)

abbrev negHalf : EReal := Ideal.ofBits .f32 0xBF000000#32
abbrev two : EReal := Ideal.ofBits .f32 0x40000000#32

/-- The cotangent of the variance, over `K`. -/
def lnS (K E : EReal) (y w : ι → EReal) : EReal :=
  Ideal.div ((∑ e, (y e - mean K y) * w e) * (negHalf * Ideal.div (Ideal.rsqrt (var K E y)) (var K E y))) K
/-- The layer norm's gradient as differentiating the forward lines writes it. -/
def lnR (K E : EReal) (y w : ι → EReal) (d : ι) : EReal :=
  w d * Ideal.rsqrt (var K E y) + lnS K E y w * (two * (y d - mean K y))
    + Ideal.div ((∑ e, -(w e * Ideal.rsqrt (var K E y))) + ∑ e, -(lnS K E y w * (two * (y e - mean K y)))) K

/-- The mean square of the row with `E` added, -/
def ms (K E : EReal) (y : ι → EReal) : EReal := Ideal.div (∑ d, y d * y d) K + E
/-- its norm's gradient in closed form, -/
def rmsK (K E : EReal) (y w : ι → EReal) (d : ι) : EReal :=
  Ideal.rsqrt (ms K E y) * w d
    - y d * (Ideal.rsqrt (ms K E y) * Ideal.rsqrt (ms K E y) * Ideal.rsqrt (ms K E y)) * mean K fun e => y e * w e
/-- and as differentiating the forward line writes it. -/
def rmsR (K E : EReal) (y w : ι → EReal) (d : ι) : EReal :=
  w d * Ideal.rsqrt (ms K E y)
    + Ideal.div ((∑ e, y e * w e) * (negHalf * Ideal.div (Ideal.rsqrt (ms K E y)) (ms K E y))) K * (two * y d)

theorem ofBits_negHalf : negHalf = ((-(1 / 2) : ℝ) : EReal) := by
  simp [Ideal.ofBits, Ideal.ieee, -EReal.coe_mul]; norm_num
theorem ofBits_two : two = ((2 : ℝ) : EReal) := by
  simp [Ideal.ofBits, Ideal.ieee, -EReal.coe_mul]; norm_num

theorem coe_sum (f : ι → ℝ) : ∑ d, ((f d : ℝ) : EReal) = ((∑ d, f d : ℝ) : EReal) := by
  classical
  induction (Finset.univ : Finset ι) using Finset.induction_on with
  | empty => simp
  | insert a s ha ih => rw [Finset.sum_insert ha, Finset.sum_insert ha, ih, EReal.coe_add]

theorem rsqrt_pos {v : ℝ} (h : 0 < v) : ∃ s : ℝ, Ideal.rsqrt (v : EReal) = (s : EReal) ∧ 1 / v = s * s := by
  refine ⟨(Real.sqrt v)⁻¹, ?_, ?_⟩
  · rw [Ideal.rsqrt_coe, if_neg (not_lt.mpr h.le), if_neg h.ne']
  · rw [← mul_inv, Real.mul_self_sqrt h.le, one_div]

section
variable {K E : EReal} {n ε : ℝ} (hK : K = (n : EReal)) (hE : E = (ε : EReal)) (hn : n = (Fintype.card ι : ℝ)) (hn0 : 0 < n) (hε : 0 < ε)
include hK hn0

theorem mean_coe (a : ι → ℝ) : mean K (fun d => (a d : EReal)) = (((∑ d, a d) * (1 / n) : ℝ) : EReal) := by
  unfold mean
  rw [hK, Ideal.div_coe hn0.ne', coe_sum, ← EReal.coe_mul]

include hE hε

theorem var_coe (a : ι → ℝ) : ∃ v : ℝ, 0 < v ∧ var K E (fun d => (a d : EReal)) = (v : EReal) := by
  unfold var
  simp only [mean_coe hK hn0]
  rw [hK, hE, Ideal.div_coe hn0.ne']
  simp only [← EReal.coe_sub, ← EReal.coe_mul, coe_sum, ← EReal.coe_add]
  refine ⟨_, ?_, rfl⟩
  have h0 : 0 ≤ ∑ d, (a d - (∑ d, a d) * (1 / n)) * (a d - (∑ d, a d) * (1 / n)) := Finset.sum_nonneg fun d _ => mul_self_nonneg _
  have h1 : 0 ≤ 1 / n := (one_div_pos.mpr hn0).le
  exact add_pos_of_nonneg_of_pos (mul_nonneg h0 h1) hε

theorem ms_coe (a : ι → ℝ) : ∃ v : ℝ, 0 < v ∧ ms K E (fun d => (a d : EReal)) = (v : EReal) := by
  unfold ms
  rw [hK, hE, Ideal.div_coe hn0.ne']
  simp only [← EReal.coe_mul, coe_sum, ← EReal.coe_add]
  refine ⟨_, ?_, rfl⟩
  have h0 : 0 ≤ ∑ d, a d * a d := Finset.sum_nonneg fun d _ => mul_self_nonneg _
  have h1 : 0 ≤ 1 / n := (one_div_pos.mpr hn0).le
  exact add_pos_of_nonneg_of_pos (mul_nonneg h0 h1) hε

/-- The closed form is a real, -/
theorem lnK_fin (y w : ι → EReal) (hy : ∀ d, Fin' (y d)) (hw : ∀ d, Fin' (w d)) (d : ι) : Fin' (lnK K E y w d) := by
  choose a ha using hy
  choose b hb using hw
  obtain rfl : y = fun d => (a d : EReal) := funext ha
  obtain rfl : w = fun d => (b d : EReal) := funext hb
  obtain ⟨v, hv, ev⟩ := var_coe hK hE hn0 hε a
  obtain ⟨s, es, _⟩ := rsqrt_pos hv
  unfold lnK hat
  rw [ev, es]
  simp only [mean_coe hK hn0, ← EReal.coe_sub, ← EReal.coe_mul]
  exact ⟨_, rfl⟩

include hn

/-- and differentiating gives it. -/
theorem lnR_eq (y w : ι → EReal) (hy : ∀ d, Fin' (y d)) (hw : ∀ d, Fin' (w d)) (d : ι) : lnR K E y w d = lnK K E y w d := by
  choose a ha using hy
  choose b hb using hw
  obtain rfl : y = fun d => (a d : EReal) := funext ha
  obtain rfl : w = fun d => (b d : EReal) := funext hb
  obtain ⟨v, hv, ev⟩ := var_coe hK hE hn0 hε a
  obtain ⟨s, es, hs⟩ := rsqrt_pos hv
  unfold lnK lnR lnS hat
  rw [ev, es, ofBits_negHalf, ofBits_two, hK]
  simp only [mean_coe rfl hn0, Ideal.div_coe hn0.ne', Ideal.div_coe hv.ne', coe_sum, ← EReal.coe_sub, ← EReal.coe_mul, ← EReal.coe_neg, ← EReal.coe_add]
  refine congrArg _ ?_
  rw [hs]
  have hc : ∑ e, (a e - (∑ d, a d) * (1 / n)) = 0 := by
    rw [Finset.sum_sub_distrib, Finset.sum_const, Finset.card_univ, nsmul_eq_mul, ← hn]
    field_simp
    ring
  generalize (∑ d, a d) * (1 / n) = μ at hc ⊢
  have e1 : ∑ e, b e * ((a e - μ) * s) = (∑ e, (a e - μ) * b e) * s := by
    rw [Finset.sum_mul]; exact Finset.sum_congr rfl fun e _ => by ring
  have e2 : ∑ e, -(b e * s) = -((∑ e, b e) * s) := by
    rw [Finset.sum_neg_distrib, Finset.sum_mul]
  have e3 : ∀ S : ℝ, ∑ e, -(S * (2 * (a e - μ))) = 0 := fun S => by
    rw [show (∑ e, -(S * (2 * (a e - μ)))) = -(2 * S) * ∑ e, (a e - μ) by
      rw [Finset.mul_sum]; exact Finset.sum_congr rfl fun e _ => by ring, hc, mul_zero]
  rw [e1, e2, e3]
  generalize ∑ e, (a e - μ) * b e = A
  generalize ∑ e, b e = B
  ring

omit hn in
theorem rmsK_fin (y w : ι → EReal) (hy : ∀ d, Fin' (y d)) (hw : ∀ d, Fin' (w d)) (d : ι) : Fin' (rmsK K E y w d) := by
  choose a ha using hy
  choose b hb using hw
  obtain rfl : y = fun d => (a d : EReal) := funext ha
  obtain rfl : w = fun d => (b d : EReal) := funext hb
  obtain ⟨v, hv, ev⟩ := ms_coe hK hE hn0 hε a
  obtain ⟨s, es, _⟩ := rsqrt_pos hv
  unfold rmsK
  rw [ev, es]
  simp only [mean_coe hK hn0, ← EReal.coe_sub, ← EReal.coe_mul]
  exact ⟨_, rfl⟩

omit hn in
theorem rmsR_eq (y w : ι → EReal) (hy : ∀ d, Fin' (y d)) (hw : ∀ d, Fin' (w d)) (d : ι) : rmsR K E y w d = rmsK K E y w d := by
  choose a ha using hy
  choose b hb using hw
  obtain rfl : y = fun d => (a d : EReal) := funext ha
  obtain rfl : w = fun d => (b d : EReal) := funext hb
  obtain ⟨v, hv, ev⟩ := ms_coe hK hE hn0 hε a
  obtain ⟨s, es, hs⟩ := rsqrt_pos hv
  unfold rmsK rmsR
  rw [ev, es, ofBits_negHalf, ofBits_two, hK]
  simp only [← EReal.coe_mul]
  simp only [mean_coe rfl hn0, Ideal.div_coe hn0.ne', Ideal.div_coe hv.ne', coe_sum, ← EReal.coe_sub, ← EReal.coe_mul, ← EReal.coe_add]
  refine congrArg _ ?_
  rw [hs]
  generalize ∑ e, a e * b e = A
  ring
end

/-! ## The kernels' constants -/

abbrev k1024 : EReal := Ideal.ofBits .f32 0x44800000#32
abbrev k384 : EReal := Ideal.ofBits .f32 0x43C00000#32
abbrev k256 : EReal := Ideal.ofBits .f32 0x43800000#32
abbrev epsLn : EReal := Ideal.ofBits .f32 0x3727C5AC#32
abbrev epsRms : EReal := Ideal.ofBits .f32 0x358637BD#32

theorem k1024_eq : k1024 = ((1024 : ℝ) : EReal) := by
  simp [Ideal.ofBits, Ideal.ieee, -EReal.coe_mul]; norm_num
theorem k384_eq : k384 = ((384 : ℝ) : EReal) := by
  simp [Ideal.ofBits, Ideal.ieee, -EReal.coe_mul]; norm_num
theorem k256_eq : k256 = ((256 : ℝ) : EReal) := by
  simp [Ideal.ofBits, Ideal.ieee, -EReal.coe_mul]; norm_num
theorem epsLn_eq : ∃ e : ℝ, 0 < e ∧ epsLn = (e : EReal) := by
  simp [Ideal.ofBits, Ideal.ieee, -EReal.coe_mul]
theorem epsRms_eq : ∃ e : ℝ, 0 < e ∧ epsRms = (e : EReal) := by
  simp [Ideal.ofBits, Ideal.ieee, -EReal.coe_mul]

end Cert.Norm

end
-- ==== Proof.NormInf.lean ====
/- The same gradients on rows with infinite entries: a row with one has no variance or mean square below the top, and both forms are zero. -/
module

public import proofs.«01_k».proof.Proof.Norm

@[expose] public section

noncomputable section

namespace Cert.Norm

open Idealize.ShloMosaic
open Cert.Ffn (Fin')

/-! ## Infinite entries -/

theorem top_or_bot {x : EReal} (h : ¬ Fin' x) : x = ⊤ ∨ x = ⊥ := by
  induction x using EReal.rec with
  | bot => exact Or.inr rfl
  | coe r => exact absurd ⟨r, rfl⟩ h
  | top => exact Or.inl rfl
theorem not_top : ¬ Fin' ⊤ := fun ⟨r, h⟩ => EReal.coe_ne_top r h.symm
theorem not_bot : ¬ Fin' ⊥ := fun ⟨r, h⟩ => EReal.coe_ne_bot r h.symm
theorem inf_add {x : EReal} (h : ¬ Fin' x) (y : EReal) : ¬ Fin' (x + y) := by
  rcases top_or_bot h with rfl | rfl
  · induction y using EReal.rec with
    | bot => exact not_bot
    | coe r => rw [EReal.top_add_coe]; exact not_top
    | top => exact not_top
  · rw [EReal.bot_add]; exact not_bot
theorem inf_sub {y : EReal} (h : ¬ Fin' y) (x : EReal) : ¬ Fin' (x - y) := by
  rw [sub_eq_add_neg, add_comm]
  refine inf_add ?_ x
  rcases top_or_bot h with rfl | rfl
  · exact not_bot
  · exact not_top
theorem inf_sum {ι : Type} [Fintype ι] (f : ι → EReal) {e : ι} (h : ¬ Fin' (f e)) : ¬ Fin' (∑ d, f d) := by
  classical
  rw [← Finset.add_sum_erase _ f (Finset.mem_univ e)]
  exact inf_add h _
theorem inf_mul {x : EReal} (h : ¬ Fin' x) {c : ℝ} (hc : c ≠ 0) : ¬ Fin' (x * (c : EReal)) := by
  rcases lt_or_gt_of_ne hc with hc | hc <;> rcases top_or_bot h with rfl | rfl
  · rw [EReal.top_mul_coe_of_neg hc]; exact not_bot
  · rw [EReal.bot_mul_coe_of_neg hc]; exact not_top
  · rw [EReal.top_mul_coe_of_pos hc]; exact not_top
  · rw [EReal.bot_mul_coe_of_pos hc]; exact not_bot
theorem sq_top {x : EReal} (h : ¬ Fin' x) : x * x = ⊤ := by
  rcases top_or_bot h with rfl | rfl
  · rfl
  · rfl
theorem sq_nonneg (x : EReal) : 0 ≤ x * x := by
  by_cases h : Fin' x
  · obtain ⟨r, rfl⟩ := h
    rw [← EReal.coe_mul]
    exact EReal.coe_nonneg.mpr (mul_self_nonneg r)
  · rw [sq_top h]; exact le_top
theorem div_top_zero : Ideal.div 0 ⊤ = 0 := by
  unfold Ideal.div
  rw [if_neg EReal.top_ne_zero, zero_mul]
theorem div_zero {n : ℝ} (hn : n ≠ 0) : Ideal.div 0 (n : EReal) = 0 := by
  rw [Ideal.div_coe hn, zero_mul]

variable {ι : Type} [Fintype ι]

theorem sum_sq_top (f : ι → EReal) {e : ι} (h : ¬ Fin' (f e)) : ∑ d, f d * f d = ⊤ := by
  refine top_unique ?_
  rw [← sq_top h]
  exact Finset.single_le_sum (f := fun d => f d * f d) (fun d _ => sq_nonneg (f d)) (Finset.mem_univ e)

variable {K E : EReal} {n ε : ℝ} (hK : K = (n : EReal)) (hE : E = (ε : EReal)) (hn : n = (Fintype.card ι : ℝ)) (hn0 : 0 < n) (hε : 0 < ε)
include hK hn0

theorem mean_inf (y : ι → EReal) {e : ι} (h : ¬ Fin' (y e)) : ¬ Fin' (mean K y) := by
  unfold mean
  rw [hK, Ideal.div_coe hn0.ne']
  exact inf_mul (inf_sum y h) (one_div_pos.mpr hn0).ne'

include hE

theorem over_top : Ideal.div ⊤ K + E = ⊤ := by
  rw [hK, hE, Ideal.div_coe hn0.ne', EReal.top_mul_coe_of_pos (one_div_pos.mpr hn0), EReal.top_add_coe]
theorem var_top (y : ι → EReal) {e : ι} (h : ¬ Fin' (y e)) : var K E y = ⊤ := by
  unfold var
  rw [sum_sq_top (fun d => y d - mean K y) (e := e) (inf_sub (mean_inf hK hn0 y h) _)]
  exact over_top hK hE hn0
theorem ms_top (y : ι → EReal) {e : ι} (h : ¬ Fin' (y e)) : ms K E y = ⊤ := by
  unfold ms
  rw [sum_sq_top y h]
  exact over_top hK hE hn0

include hε

/-- Differentiating the root-mean-square norm gives the closed form, whatever the row and the cotangent. -/
theorem rmsR_all (y w : ι → EReal) (d : ι) : rmsR K E y w d = rmsK K E y w d := by
  by_cases hy : ∀ d, Fin' (y d)
  · choose a ha using hy
    obtain rfl : y = fun d => (a d : EReal) := funext ha
    obtain ⟨v, hv, ev⟩ := ms_coe hK hE hn0 hε a
    obtain ⟨s, es, hs⟩ := rsqrt_pos hv
    unfold rmsK rmsR mean
    rw [ev, es, ofBits_negHalf, ofBits_two, hK]
    simp only [Ideal.div_coe hn0.ne', Ideal.div_coe hv.ne']
    generalize (∑ e, (a e : EReal) * w e) = T
    rw [hs, sub_eq_add_neg, mul_comm (w d)]
    refine congrArg (fun z => (s : EReal) * w d + z) ?_
    have e1 : T * (((-(1 / 2) : ℝ) : EReal) * ((s : EReal) * ((s * s : ℝ) : EReal))) * ((1 / n : ℝ) : EReal) * (((2 : ℝ) : EReal) * (a d : EReal))
        = T * ((-(1 / 2) * (s * (s * s)) * (1 / n) * (2 * a d) : ℝ) : EReal) := by
      simp only [EReal.coe_mul, mul_assoc]
    have e2 : (a d : EReal) * ((s : EReal) * (s : EReal) * (s : EReal)) * (T * ((1 / n : ℝ) : EReal))
        = T * ((a d * (s * s * s) * (1 / n) : ℝ) : EReal) := by
      simp only [EReal.coe_mul]
      rw [mul_left_comm]
    rw [e1, e2, ← mul_neg, ← EReal.coe_neg]
    refine congrArg (fun c : ℝ => T * (c : EReal)) ?_
    ring
  · obtain ⟨e, he⟩ := not_forall.mp hy
    unfold rmsK rmsR
    rw [ms_top hK hE hn0 y he, Ideal.rsqrt_top, div_top_zero, hK]
    simp only [mul_zero, zero_mul, div_zero hn0.ne', sub_zero, add_zero]

include hn

/-- Differentiating the layer norm gives the closed form, whatever the row, when the cotangent is finite. -/
theorem lnR_all (y w : ι → EReal) (hw : ∀ d, Fin' (w d)) (d : ι) : lnR K E y w d = lnK K E y w d := by
  by_cases hy : ∀ d, Fin' (y d)
  · exact lnR_eq hK hE hn hn0 hε y w hy hw d
  · obtain ⟨e, he⟩ := not_forall.mp hy
    unfold lnK lnR lnS
    rw [var_top hK hE hn0 y he, Ideal.rsqrt_top, div_top_zero, hK]
    simp only [mul_zero, zero_mul, div_zero hn0.ne', neg_zero, Finset.sum_const_zero, add_zero]

end Cert.Norm

end
-- ==== Proof.Acc.lean ====
/- A sum built up block after block. -/
module

public import proofs.«01_k».proof.Proof.Ffn.Scalar
public import Idealize.ShloMosaic.Lib.Affine
public import Idealize.ShloMosaic.Lib.Pipeline.ValueKit
public import Idealize.ShloMosaic.Lib.Pointwise

@[expose] public section

noncomputable section

namespace Cert.Acc

open Idealize.ShloMosaic

theorem run_sum (N : ℕ) (s : (n : ℕ) → n < N → EReal) (p : Fin N → EReal) (h0 : ∀ h, s 0 h = p ⟨0, h⟩)
    (hs : ∀ n (h : n + 1 < N), s (n + 1) h = s n (Nat.lt_of_succ_lt h) + p ⟨n + 1, h⟩) :
    ∀ n (h : n < N), s n h = ∑ k : Fin (n + 1), p ⟨k.val, Nat.lt_of_le_of_lt (Nat.le_of_lt_succ k.isLt) h⟩
  | 0, h => (h0 h).trans (by rw [Fin.sum_univ_one]; rfl)
  | n + 1, h => by
    rw [hs n h, run_sum N s p h0 hs n (Nat.lt_of_succ_lt h), Fin.sum_univ_castSucc (n := n + 1)]
    rfl

/-- Eight blocks of 512 rows. -/
theorem rows (s : (n : ℕ) → n < 8 → EReal) (f : Fin 4096 → EReal)
    (h0 : ∀ h, s 0 h = ∑ l : Fin 512, f ⟨0 * 512 + l.val, by omega⟩)
    (hs : ∀ n (h : n + 1 < 8), s (n + 1) h = s n (Nat.lt_of_succ_lt h) + ∑ l : Fin 512, f ⟨(n + 1) * 512 + l.val, by omega⟩) (h : 7 < 8) :
    s 7 h = ∑ r : Fin 4096, f r :=
  (run_sum 8 s (fun k => ∑ l : Fin 512, f ⟨k.val * 512 + l.val, by omega⟩) h0 hs 7 h).trans (Fin.sum_mul_add_fin 8 512 f)

end Cert.Acc

end
-- ==== Proof.LnRef.lean ====
/- The layer norm's gradient, as the reference computes it. -/
module

public import proofs.«01_k».proof.Defs
public import proofs.«01_k».proof.Proof.NormInf
public import proofs.«01_k».proof.Proof.Acc
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.LnBwd

open Idealize.ShloMosaic Idealize.ShloMosaic.TcCoe Idealize.SL.Sem

section Reference
open Cert.Reference9Ideal Cert.Reference9Ideal.Read
open Cert.Norm

variable (x0 x1 : FVec Ideal S4096x1024 .f32) (x2 : FVec Ideal S1024 .f32)

/-- Row `r` of the input, and of the cotangent times the gain. -/
abbrev rowR (r : Fin 4096) (d : Fin 1024) : EReal := x0 (ix2 r d)
abbrev cotR (r : Fin 4096) (d : Fin 1024) : EReal := x1 (ix2 r d) * x2 (ix1 d)

theorem v4_at (r : Fin 4096) : val_main_v4 (F := Ideal) x0 (ix2 r 0) = mean k1024 (rowR x0 r) := by
  pointwise [val_main_v4, val_main_v3, val_main_v2, val_main_v1, val_main_cst_0, val_main_cst_1]
  rfl
theorem v6_at (r : Fin 4096) (d : Fin 1024) : val_main_v6 (F := Ideal) x0 (ix2 r d) = rowR x0 r d - mean k1024 (rowR x0 r) := by
  rw [← v4_at]
  pointwise [val_main_v6, val_main_v5]
theorem v15_at (r : Fin 4096) (d : Fin 1024) : val_main_v15 (F := Ideal) x0 (ix2 r d) = rowR x0 r d - mean k1024 (rowR x0 r) := by
  rw [← v4_at]
  pointwise [val_main_v15, val_main_v14]
theorem v17_at (r : Fin 4096) : val_main_v17 (F := Ideal) x0 (ix2 r 0) = var k1024 epsLn (rowR x0 r) := by
  unfold var
  simp only [← v6_at]
  pointwise [val_main_v17, val_main_v16, val_main_v13, val_main_v12, val_main_v11, val_main_v10, val_main_v7, val_main_cst_3, val_main_cst_4, val_main_cst_5]
theorem v23_at (r : Fin 4096) (d : Fin 1024) : val_main_v23 (F := Ideal) x0 (ix2 r d) = hat k1024 epsLn (rowR x0 r) d := by
  unfold hat
  rw [← v17_at, ← v15_at]
  pointwise [val_main_v23, val_main_v22, val_main_v18]
theorem v38_at (r : Fin 4096) (d : Fin 1024) : val_main_v38 (F := Ideal) x1 x2 (ix2 r d) = cotR x1 x2 r d := by
  pointwise [val_main_v38, val_main_v37, val_main_v24, val_main_v30]
theorem v44_at (r : Fin 4096) (d : Fin 1024) : val_main_v44 (F := Ideal) x0 x1 x2 (ix2 r d) = cotR x1 x2 r d * Ideal.rsqrt (var k1024 epsLn (rowR x0 r)) := by
  rw [← v38_at, ← v17_at]
  pointwise [val_main_v44, val_main_v43, val_main_v18]
theorem v50_at (r : Fin 4096) : val_main_v50 (F := Ideal) x0 x1 x2 (ix2 r 0) = lnS k1024 epsLn (rowR x0 r) (cotR x1 x2 r) := by
  unfold lnS
  simp only [← v38_at, ← v17_at, ← v15_at]
  pointwise [val_main_v50, val_main_v49, val_main_v45, val_main_v42, val_main_v41, val_main_v40, val_main_v21, val_main_v20, val_main_v19, val_main_v18, val_main_cst_11, val_main_cst_6, val_main_cst_13]
theorem v53_at (r : Fin 4096) (d : Fin 1024) : val_main_v53 (F := Ideal) x0 x1 x2 (ix2 r d)
    = lnS k1024 epsLn (rowR x0 r) (cotR x1 x2 r) * (two * (rowR x0 r d - mean k1024 (rowR x0 r))) := by
  rw [← v50_at, ← v6_at]
  pointwise [val_main_v53, val_main_v52, val_main_v51, val_main_v9, val_main_v8, val_main_cst_14, val_main_cst_2]
  exact congrArg (· * _) (Fin.sum_univ_one _)
theorem dr_at (r : Fin 4096) (d : Fin 1024) : val_main_v63 (F := Ideal) x0 x1 x2 (ix2 r d) = lnR k1024 epsLn (rowR x0 r) (cotR x1 x2 r) d := by
  unfold lnR
  simp only [← v53_at, ← v44_at]
  pointwise [val_main_v63, val_main_v62, val_main_v61, val_main_v60, val_main_v59, val_main_v58, val_main_v57, val_main_v56, val_main_v55, val_main_v54, val_main_v48, val_main_v47, val_main_v46, val_main_cst_12, val_main_cst_15, val_main_cst_16, val_main_cst_17]
  exact congrArg (val_main_v44 (F := Ideal) x0 x1 x2 (ix2 r d) + val_main_v53 (F := Ideal) x0 x1 x2 (ix2 r d) + ·) (Fin.sum_univ_one _)
theorem dg_at (d : Fin 1024) : val_main_v64 (F := Ideal) x0 x1 (ix2 0 d) = ∑ r : Fin 4096, x1 (ix2 r d) * hat k1024 epsLn (rowR x0 r) d := by
  simp only [← v23_at]
  pointwise [val_main_v64, val_main_v39, val_main_v36, val_main_v35, val_main_v34, val_main_v30, val_main_cst_9, val_main_cst_10]
  exact (Fin.sum_univ_one _).trans (Finset.sum_congr rfl fun _ _ => mul_comm _ _)
theorem db_at (d : Fin 1024) : val_main_v65 (F := Ideal) x1 (ix2 0 d) = ∑ r : Fin 4096, x1 (ix2 r d) := by
  pointwise [val_main_v65, val_main_v33, val_main_v32, val_main_v31, val_main_cst_7, val_main_cst_8]
  exact Fin.sum_univ_one _

end Reference

end Cert.LnBwd

end
-- ==== Proof.LnBwd.lean ====
/- The layer norm's gradient: the kernel's three arrays and the reference's results as the same functions of the arguments, and the claims
   made of them. -/
module

public import proofs.«01_k».proof.Defs
public import proofs.«01_k».proof.Proof.LnRef
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Pre_finite9
public import Idealize.ShloMosaic.Lib.ReduceAll
public import Idealize.ShloMosaic.Lib.Affine
public import Idealize.ShloMosaic.Lib.Quiescent

@[expose] public section

set_option maxRecDepth 16384

noncomputable section

namespace Cert.Pre_finite9.LnBwd

open Idealize.ShloMosaic
open Cert.Pre_finite9
open Cert.Ffn (Fin')

instance : Subsingleton S_.Idx := ⟨fun i j => funext fun k => k.elim0⟩

/-- An element whose absolute value is below the top is a real. -/
theorem fin_of_lt {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) : Fin' (x i) := by
  have e' : BitVec.ofBool (decide (max (x i) (-(x i)) < Ideal.ofBits .f32 0x7F800000#32)) = 1#1 := e
  rw [Cert.Ffn.ofBits_inf] at e'
  have h : max (x i) (-(x i)) < ⊤ := by
    by_contra hn
    rw [decide_eq_false hn] at e'
    exact absurd e' (by decide)
  have h1 : x i ≠ ⊤ := (lt_of_le_of_lt (le_max_left _ _) h).ne
  have h2 : x i ≠ ⊥ := fun hb => by
    have : -(x i) < ⊤ := lt_of_le_of_lt (le_max_right _ _) h
    rw [hb, EReal.neg_bot] at this
    exact lt_irrefl _ this
  exact ⟨(x i).toReal, (EReal.coe_toReal h1 h2).symm⟩

theorem finite_of (x0 : FVec Ideal S4096x1024 .f32) (x1 : FVec Ideal S4096x1024 .f32) (x2 : FVec Ideal S1024 .f32)
    (h : fn (F := Ideal) x0 x1 x2 = fun _ => 1#1) :
    (∀ i, Fin' (x1 i)) ∧ (∀ i, Fin' (x2 i)) := by
  have e := congrFun h (fun k => k.elim0)
  obtain ⟨e1, e2⟩ := (IntOp.andi_eq_one).1 e
  exact ⟨fun i => fin_of_lt _ _ i (Host.reduce_andi_all _ _ _ _ _ e1 i),
    fun i => fin_of_lt _ _ i (Host.reduce_andi_all _ _ _ _ _ e2 i)⟩

end Cert.Pre_finite9.LnBwd

namespace Cert.LnBwd

open Idealize.ShloMosaic Idealize.ShloMosaic.TcCoe Idealize.SL.Sem

section Kernel
open Cert.Kernel9Ideal Cert.Kernel9Ideal.Gen
open Cert.Norm

/-- Row `p` of a block. -/
abbrev rowK (x : FVec Ideal S512x1024 .f32) (p : Fin 512) (d : Fin 1024) : EReal := x (ix2 p d)
abbrev cotK (x : FVec Ideal S512x1024 .f32) (g : FVec Ideal S1x1024 .f32) (p : Fin 512) (d : Fin 1024) : EReal := x (ix2 p d) * g (ix2 0 d)

theorem pay5_at (x : FVec Ideal S512x1024 .f32) (p : Fin 512) (d : Fin 1024) :
    k0_pay5 (F := Ideal) x (ix2 p d) = rowK x p d - mean k1024 (rowK x p) := by
  unfold mean
  pointwise [k0_pay5]
theorem pay6_at (x : FVec Ideal S512x1024 .f32) (p : Fin 512) : k0_pay6 (F := Ideal) x (ix2 p 0) = Ideal.rsqrt (var k1024 epsLn (rowK x p)) := by
  unfold var
  simp only [← pay5_at]
  pointwise [k0_pay6]
theorem pay7_at (x : FVec Ideal S512x1024 .f32) (p : Fin 512) (d : Fin 1024) : k0_pay7 (F := Ideal) x (ix2 p d) = hat k1024 epsLn (rowK x p) d := by
  unfold hat
  rw [← pay5_at, ← pay6_at]
  pointwise [k0_pay7]
theorem pay8_at (x y : FVec Ideal S512x1024 .f32) (g : FVec Ideal S1x1024 .f32) (p : Fin 512) (d : Fin 1024) :
    k0_pay8 (F := Ideal) x y g (ix2 p d) = lnK k1024 epsLn (rowK x p) (cotK y g p) d := by
  unfold lnK
  simp only [← pay7_at, ← pay6_at]
  unfold mean
  pointwise [k0_pay8]
theorem pay1_at (y z : FVec Ideal S512x1024 .f32) (acc : FVec Ideal S1x1024 .f32) (d : Fin 1024) :
    k0_pay1 (F := Ideal) y z acc (ix2 0 d) = acc (ix2 0 d) + ∑ p : Fin 512, y (ix2 p d) * z (ix2 p d) := by
  pointwise [k0_pay1]
theorem pay2_at (y : FVec Ideal S512x1024 .f32) (acc : FVec Ideal S1x1024 .f32) (d : Fin 1024) :
    k0_pay2 (F := Ideal) y acc (ix2 0 d) = acc (ix2 0 d) + ∑ p : Fin 512, y (ix2 p d) := by
  pointwise [k0_pay2]
theorem pay3_at (d : Fin 1024) : k0_pay3 (F := Ideal) (ix2 0 d) = 0 := by
  pointwise [k0_pay3]
theorem pay4_at (d : Fin 1024) : k0_pay4 (F := Ideal) (ix2 0 d) = 0 := by
  pointwise [k0_pay4]

variable (m : (ℓ : Loc nD τ sig) → Buf (Elt Ideal) ℓ) (c : Dev nD)

abbrev a0 : FVec Ideal S4096x1024 .f32 := m (c.tc.loc main_arg0)
abbrev a1 : FVec Ideal S4096x1024 .f32 := m (c.tc.loc main_arg1)
abbrev a2 : FVec Ideal S1024 .f32 := m (c.tc.loc main_arg2)

/-- The gain as a row. -/
def gain (y : FVec Ideal S1024 .f32) : FVec Ideal S1x1024 .f32 := broadcastInDim S1x1024 ![1] bcast_S1024_S1x1024_1 y
theorem gain_at (y : FVec Ideal S1024 .f32) (d : Fin 1024) : gain y (ix2 0 d) = y (ix1 d) := by
  pointwise [gain]

theorem r_at (r : Fin 4096) (d : Fin 1024) : V (F := Ideal) m c main_arg0 (ix2 r d) = a0 m c (ix2 r d) := by
  entry_read
  rfl
theorem h_at (r : Fin 4096) (d : Fin 1024) : V (F := Ideal) m c main_arg1 (ix2 r d) = a1 m c (ix2 r d) := by
  entry_read
  rfl
theorem g_at (d : Fin 1024) : V (F := Ideal) m c main_v0 (ix2 0 d) = a2 m c (ix1 d) := by
  refine Eq.trans ?_ (gain_at (a2 m c) d)
  entry_read
  rfl

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ t.val < 8 :=
  (by decide +kernel : ∀ t : Fin grid0.N, _)

/-- Row `p` of the point's block of rows. -/
def row (t : Fin cfg0.N) (p : Fin 512) : Fin 4096 := ⟨t.val * 512 + p.val, by have := (idx t).2.2.2.2.2.2; omega⟩

theorem b0_at (t : Fin cfg0.N) (p : Fin 512) (d : Fin 1024) : iblk (F := Ideal) m c 0 t (ix2 p d) = a0 m c (ix2 (row t p) d) := by
  rw [← r_at]
  blk_ext [iblk, row, idx t]
theorem b1_at (t : Fin cfg0.N) (p : Fin 512) (d : Fin 1024) : iblk (F := Ideal) m c 1 t (ix2 p d) = a1 m c (ix2 (row t p) d) := by
  rw [← h_at]
  blk_ext [iblk, row, idx t]
theorem b2_at (t : Fin cfg0.N) (d : Fin 1024) : iblk (F := Ideal) m c 2 t (ix2 0 d) = a2 m c (ix1 d) := by
  rw [← g_at]
  blk_ext [iblk, idx t]

theorem rowK_eq (t : Fin cfg0.N) (p : Fin 512) : rowK (iblk (F := Ideal) m c 0 t) p = fun d => a0 m c (ix2 (row t p) d) := funext fun d => b0_at m c t p d
theorem cotK_eq (t : Fin cfg0.N) (p : Fin 512) : cotK (iblk (F := Ideal) m c 1 t) (iblk (F := Ideal) m c 2 t) p
    = fun d => a1 m c (ix2 (row t p) d) * a2 m c (ix1 d) := funext fun d => congrArg₂ (· * ·) (b1_at m c t p d) (b2_at m c t d)

/-- The gradient of the input at `(r, d)`, -/
def dr (r : Fin 4096) (d : Fin 1024) : EReal := lnK k1024 epsLn (fun d => a0 m c (ix2 r d)) (fun d => a1 m c (ix2 r d) * a2 m c (ix1 d)) d
/-- what a row adds to the gradient of the gain -/
def dgRow (d : Fin 1024) (r : Fin 4096) : EReal := a1 m c (ix2 r d) * hat k1024 epsLn (fun d => a0 m c (ix2 r d)) d
/-- and to that of the bias. -/
def dbRow (d : Fin 1024) (r : Fin 4096) : EReal := a1 m c (ix2 r d)

theorem o3 (t : Fin cfg0.N) (p : Fin 512) (d : Fin 1024) : (outsAt0 (F := Ideal) m c t.val t.isLt).1 (ix2 p d) = dr m c (row t p) d := by
  have e : (outsAt0 (F := Ideal) m c t.val t.isLt).1 = k0_pay8 (F := Ideal) (iblk m c 0 t) (iblk m c 1 t) (iblk m c 2 t) := by
    by_cases h0 : t.val % 8 = 0
    · rw [outsAt0_A m c t h0]
      frame_out
    · rw [outsAt0_B m c t h0]
      frame_out
  rw [e, pay8_at, rowK_eq, cotK_eq]
  rfl

theorem s4A (t : Fin cfg0.N) (h0 : t.val % 8 = 0) : (outsAt0 (F := Ideal) m c t.val t.isLt).2.1
    = k0_pay1 (F := Ideal) (iblk m c 1 t) (k0_pay7 (F := Ideal) (iblk m c 0 t)) (k0_pay3 (F := Ideal)) := by
  rw [outsAt0_A m c t h0]
  frame_out
theorem s4B (t : Fin cfg0.N) (h0 : ¬ t.val % 8 = 0) : (outsAt0 (F := Ideal) m c t.val t.isLt).2.1
    = k0_pay1 (F := Ideal) (iblk m c 1 t) (k0_pay7 (F := Ideal) (iblk m c 0 t)) (outsAt0 m c (t.val - 1) (Nat.lt_of_le_of_lt (Nat.sub_le _ _) t.isLt)).2.1 := by
  rw [outsAt0_B m c t h0]
  frame_out
theorem s5A (t : Fin cfg0.N) (h0 : t.val % 8 = 0) : (outsAt0 (F := Ideal) m c t.val t.isLt).2.2
    = k0_pay2 (F := Ideal) (iblk m c 1 t) (k0_pay4 (F := Ideal)) := by
  rw [outsAt0_A m c t h0]
  frame_out
theorem s5B (t : Fin cfg0.N) (h0 : ¬ t.val % 8 = 0) : (outsAt0 (F := Ideal) m c t.val t.isLt).2.2
    = k0_pay2 (F := Ideal) (iblk m c 1 t) (outsAt0 m c (t.val - 1) (Nat.lt_of_le_of_lt (Nat.sub_le _ _) t.isLt)).2.2 := by
  rw [outsAt0_B m c t h0]
  frame_out

theorem part4 (t : Fin cfg0.N) (acc : FVec Ideal S1x1024 .f32) (d : Fin 1024) :
    k0_pay1 (F := Ideal) (iblk m c 1 t) (k0_pay7 (F := Ideal) (iblk m c 0 t)) acc (ix2 0 d) = acc (ix2 0 d) + ∑ p : Fin 512, dgRow m c d (row t p) := by
  refine (pay1_at _ _ _ d).trans (congrArg (acc (ix2 0 d) + ·) (Finset.sum_congr rfl fun p _ => ?_))
  rw [pay7_at, rowK_eq, b1_at]
  rfl
theorem part5 (t : Fin cfg0.N) (acc : FVec Ideal S1x1024 .f32) (d : Fin 1024) :
    k0_pay2 (F := Ideal) (iblk m c 1 t) acc (ix2 0 d) = acc (ix2 0 d) + ∑ p : Fin 512, dbRow m c d (row t p) := by
  refine (pay2_at _ _ d).trans (congrArg (acc (ix2 0 d) + ·) (Finset.sum_congr rfl fun p _ => ?_))
  rw [b1_at]
  rfl

theorem o4 (t : Fin cfg0.N) (h : t.val = 7) (d : Fin 1024) : (outsAt0 (F := Ideal) m c t.val t.isLt).2.1 (ix2 0 d) = ∑ r : Fin 4096, dgRow m c d r := by
  obtain ⟨n, hn⟩ := t
  obtain rfl : n = 7 := h
  refine Acc.rows (fun n hn => (outsAt0 (F := Ideal) m c n hn).2.1 (ix2 0 d)) (dgRow m c d) (fun h => ?_) (fun n h => ?_) hn
  · refine (congrFun (s4A m c ⟨0, h⟩ rfl) (ix2 0 d)).trans ((part4 m c ⟨0, h⟩ _ d).trans ?_)
    rw [pay3_at, zero_add]
    rfl
  · exact (congrFun (s4B m c ⟨n + 1, h⟩ (by dsimp only; omega)) (ix2 0 d)).trans (part4 m c ⟨n + 1, h⟩ _ d)
theorem o5 (t : Fin cfg0.N) (h : t.val = 7) (d : Fin 1024) : (outsAt0 (F := Ideal) m c t.val t.isLt).2.2 (ix2 0 d) = ∑ r : Fin 4096, dbRow m c d r := by
  obtain ⟨n, hn⟩ := t
  obtain rfl : n = 7 := h
  refine Acc.rows (fun n hn => (outsAt0 (F := Ideal) m c n hn).2.2 (ix2 0 d)) (dbRow m c d) (fun h => ?_) (fun n h => ?_) hn
  · refine (congrFun (s5A m c ⟨0, h⟩ rfl) (ix2 0 d)).trans ((part5 m c ⟨0, h⟩ _ d).trans ?_)
    rw [pay4_at, zero_add]
    rfl
  · exact (congrFun (s5B m c ⟨n + 1, h⟩ (by dsimp only; omega)) (ix2 0 d)).trans (part5 m c ⟨n + 1, h⟩ _ d)

/-- The arrays after the run. -/
def res3 : S4096x1024.Idx → EReal := fun i => dr m c ⟨(i 0).val, (i 0).isLt⟩ ⟨(i 1).val, (i 1).isLt⟩
def res4 : S1x1024.Idx → EReal := fun i => ∑ r : Fin 4096, dgRow m c ⟨(i 1).val, (i 1).isLt⟩ r
def res5 : S1x1024.Idx → EReal := fun i => ∑ r : Fin 4096, dbRow m c ⟨(i 1).val, (i 1).isLt⟩ r

theorem arr3 : (dats m 0 c).arrAt 3 cfg0.N = res3 m c := by
  refine (dats m 0 c).arrAt_eq_of_covers 3 (res3 m c) (by decide +kernel) fun t hf y => ?_
  blk_simp
  rw [after0_3]
  idx_vars y
  refine (o3 m c t y0 y1).trans ?_
  refine (show _ = res3 m c (ix2 (row t y0) y1) from rfl).trans (congrArg (res3 m c) ?_)
  blk_ext [row, idx t]
theorem arr4 : (dats m 0 c).arrAt 4 cfg0.N = res4 m c := by
  refine (dats m 0 c).arrAt_eq_of_covers 4 (res4 m c) (by decide +kernel) fun t hf y => ?_
  blk_simp
  rw [after0_4]
  idx_vars y
  obtain rfl : y0 = 0 := Subsingleton.elim _ _
  have h8 := (idx t).2.2.2.2.2.2
  have h7 := (flush0_4 t).mp hf
  refine (o4 m c t (by omega) y1).trans ?_
  refine (show _ = res4 m c (ix2 0 y1) from rfl).trans (congrArg (res4 m c) ?_)
  blk_ext [idx t]
theorem arr5 : (dats m 0 c).arrAt 5 cfg0.N = res5 m c := by
  refine (dats m 0 c).arrAt_eq_of_covers 5 (res5 m c) (by decide +kernel) fun t hf y => ?_
  blk_simp
  rw [after0_5]
  idx_vars y
  obtain rfl : y0 = 0 := Subsingleton.elim _ _
  have h8 := (idx t).2.2.2.2.2.2
  have h7 := (flush0_5 t).mp hf
  refine (o5 m c t (by omega) y1).trans ?_
  refine (show _ = res5 m c (ix2 0 y1) from rfl).trans (congrArg (res5 m c) ?_)
  blk_ext [idx t]

end Kernel

/-! ## The claims -/

section Claims
variable (m : (ℓ : Loc Cert.Kernel9Ideal.nD Cert.Kernel9Ideal.τ Cert.Kernel9Ideal.sig) → Buf (Elt Ideal) ℓ) (c : Dev Cert.Kernel9Ideal.nD)
  (x0 x1 : FVec Ideal Cert.Reference9Ideal.S4096x1024 .f32) (x2 : FVec Ideal Cert.Reference9Ideal.S1024 .f32)
  (e0 : x0 = m ((c.tc : Thread _ _).loc Cert.Kernel9Ideal.main_arg0)) (e1 : x1 = m ((c.tc : Thread _ _).loc Cert.Kernel9Ideal.main_arg1))
  (e2 : x2 = m ((c.tc : Thread _ _).loc Cert.Kernel9Ideal.main_arg2))
include e0 e1 e2

theorem ref3 (f1 : ∀ i, Ffn.Fin' (x1 i)) (f2 : ∀ i, Ffn.Fin' (x2 i)) :
    Cert.Reference9Ideal.Read.val_main_v63 (F := Ideal) x0 x1 x2 = res3 m c := by
  subst e0 e1 e2
  funext i
  idx_vars i
  obtain ⟨e, he, ee⟩ := Norm.epsLn_eq
  refine (dr_at _ _ _ i0 i1).trans ?_
  exact Norm.lnR_all Norm.k1024_eq ee (by rw [Fintype.card_fin]; norm_num) (by norm_num) he _ _ (fun d => (f1 _).mul (f2 _)) i1
theorem ref4 : Cert.Reference9Ideal.Read.val_main_v64 (F := Ideal) x0 x1 = res4 m c := by
  subst e0 e1 e2
  funext i
  idx_vars i
  obtain rfl : i0 = 0 := Subsingleton.elim _ _
  exact dg_at _ _ i1
theorem ref5 : Cert.Reference9Ideal.Read.val_main_v65 (F := Ideal) x1 = res5 m c := by
  subst e0 e1 e2
  funext i
  idx_vars i
  obtain rfl : i0 = 0 := Subsingleton.elim _ _
  exact db_at _ i1

end Claims

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2.2.2, Idealize.ShloMosaic.sem_eq_zero_of_no_sems (by decide) r.2⟩)
    (Cert.Reference9Ideal.Value.run (F := Ideal) m ρ)
theorem frame_pif : Cert.quiescent_Kernel9Ideal_pre_finite9 := fun m ρ _ => Cert.Kernel9Ideal.Gen.frame m ρ
theorem frame_rif : Cert.quiescent_Reference9Ideal_pre_finite9 := fun m ρ _ => frame_ri m ρ trivial

theorem algebraic : Cert.algebraic_Kernel9Ideal_Reference9Ideal_pre_finite9 := by
  intro m ρ m' ρ' hpre hagree
  refine ⟨fun c => res3 m c, fun c => res4 m c, fun c => res5 m c, (θ_run Cert.Kernel9Ideal.defs _ _).mono
    (fun _ h c => ⟨(h c).1.trans (arr3 m c), (h c).2.1.trans (arr4 m c), (h c).2.2.1.trans (arr5 m c), (h c).2.2.2⟩)
    (Cert.Kernel9Ideal.Value.run_blocks (F := Ideal) m ρ), ?_⟩
  refine (θ_run Cert.Reference9Ideal.defs _ _).mono (fun _ h c => ?_) (Cert.Reference9Ideal.Value.run (F := Ideal) m' ρ')
  obtain ⟨e0, e1, e2⟩ := hagree c
  obtain ⟨f1, f2⟩ := Cert.Pre_finite9.LnBwd.finite_of _ _ _ (hpre c)
  rw [← e1] at f1
  rw [← e2] at f2
  exact ⟨(h c).1.trans ((Cert.Reference9Ideal.Read.val_main_v63_eq _ _).trans (ref3 m c _ _ _ e0 e1 e2 f1 f2)),
    (h c).2.1.trans ((Cert.Reference9Ideal.Read.val_main_v64_eq _ _).trans (ref4 m c _ _ _ e0 e1 e2)),
    (h c).2.2.1.trans ((Cert.Reference9Ideal.Read.val_main_v65_eq _).trans (ref5 m c _ _ _ e0 e1 e2)), (h c).2.2.2⟩

end Cert.LnBwd

end
-- ==== Proof.S5Ref.lean ====
/- The gradient of the gated unit behind the state space layer, as the reference computes it. -/
module

public import proofs.«01_k».proof.Defs
public import proofs.«01_k».proof.Proof.Ffn.Scalar
public import proofs.«01_k».proof.Proof.NormInf
public import proofs.«01_k».proof.Proof.Gen.Reference10Ideal.Read
public import Idealize.ShloMosaic.Lib.Pipeline.ValueKit
public import Idealize.ShloMosaic.Lib.Pointwise

@[expose] public section

set_option maxRecDepth 16384

noncomputable section

namespace Cert.S5Out

open Idealize.ShloMosaic Idealize.ShloMosaic.TcCoe Idealize.SL.Sem

/-- The gated unit's input, -/
def gel (y : EReal) : EReal := Ffn.half * y * (1 + Ffn.th y)
/-- its gate's preactivation on a row `y`, -/
def pre (y : Fin 256 → EReal) (w : Fin 256 → Fin 256 → EReal) (b : Fin 256 → EReal) (q : Fin 256) : EReal := (∑ k : Fin 256, gel (y k) * w k q) + b q
/-- the logistic function, -/
def sg (z : EReal) : EReal := Ideal.div 1 (1 + Ideal.exp (-z))
/-- the gradient at the preactivation, -/
def dz (y o : Fin 256 → EReal) (w : Fin 256 → Fin 256 → EReal) (b : Fin 256 → EReal) (q : Fin 256) : EReal :=
  o q * gel (y q) * sg (pre y w b q) * (1 - sg (pre y w b q))
/-- at the GELU's value -/
def dg (y o : Fin 256 → EReal) (w : Fin 256 → Fin 256 → EReal) (b : Fin 256 → EReal) (q : Fin 256) : EReal :=
  o q * sg (pre y w b q) + ∑ k : Fin 256, dz y o w b k * w q k
/-- and at its argument. -/
def dy (y o : Fin 256 → EReal) (w : Fin 256 → Fin 256 → EReal) (b : Fin 256 → EReal) (q : Fin 256) : EReal := Ffn.dgate (dg y o w b q) 1 (y q)

theorem gel_fin {y : EReal} (h : Ffn.Fin' y) : Ffn.Fin' (gel y) := by
  obtain ⟨y, rfl⟩ := h
  obtain ⟨t, ht⟩ := Ffn.th_real y
  unfold gel Ffn.half
  rw [ht, Ffn.ofBits_half, ← EReal.coe_one, ← EReal.coe_add, ← EReal.coe_mul, ← EReal.coe_mul]
  exact ⟨_, rfl⟩
theorem sg_top : sg ⊤ = 1 := by
  unfold sg
  rw [EReal.neg_top, Ideal.exp_bot, add_zero, ← EReal.coe_one, Ideal.div_coe one_ne_zero, ← EReal.coe_mul]
  norm_num
theorem sg_bot : sg ⊥ = 0 := by
  unfold sg
  rw [EReal.neg_bot, Ideal.exp_top, ← EReal.coe_one, EReal.coe_add_top]
  unfold Ideal.div
  rw [if_neg EReal.top_ne_zero, EReal.inv_top, mul_zero]
theorem sg_fin (z : EReal) : Ffn.Fin' (sg z) := by
  induction z using EReal.rec with
  | bot => rw [sg_bot]; exact Ffn.Fin'.zero
  | top => rw [sg_top]; exact ⟨1, EReal.coe_one.symm⟩
  | coe z =>
    have hp : (1 + Real.exp (-z)) ≠ 0 := (by have := Real.exp_pos (-z); positivity)
    unfold sg
    rw [← EReal.coe_neg, Ideal.exp_coe, ← EReal.coe_one, ← EReal.coe_add, Ideal.div_coe hp, ← EReal.coe_mul]
    exact ⟨_, rfl⟩
theorem one_sub_fin {s : EReal} (h : Ffn.Fin' s) : Ffn.Fin' (1 - s) := by
  obtain ⟨s, rfl⟩ := h
  rw [← EReal.coe_one, ← EReal.coe_sub]
  exact ⟨_, rfl⟩
/-- The GELU of a real is zero at zero alone. -/
theorem gel_ne {y : ℝ} (h : y ≠ 0) : ∃ c : ℝ, c ≠ 0 ∧ gel (y : EReal) = (c : EReal) := by
  obtain ⟨c, hc⟩ := Ffn.ofBits_root
  refine ⟨1 / 2 * y * (1 + Real.tanh (c * (y + 8943 / 200000 * (y * y * y)))), ?_, ?_⟩
  · have := Real.neg_one_lt_tanh (c * (y + 8943 / 200000 * (y * y * y)))
    exact mul_ne_zero (mul_ne_zero (by norm_num) h) (by linarith)
  · unfold gel Ffn.half Ffn.th Ffn.rt Ffn.cub
    rw [hc, Ffn.ofBits_half, ← EReal.coe_one]
    simp only [← EReal.coe_mul, ← EReal.coe_add, Ideal.tanh_coe]
/-- The gradient at the GELU is finite wherever the GELU's argument is not zero: an infinite weight there saturates its gate. -/
theorem dg_fin {y o : Fin 256 → EReal} {w : Fin 256 → Fin 256 → EReal} {b : Fin 256 → EReal} (hy : ∀ k, Ffn.Fin' (y k)) (ho : ∀ k, Ffn.Fin' (o k))
    (q : Fin 256) (hq : y q ≠ 0) : Ffn.Fin' (dg y o w b q) := by
  refine ((ho q).mul (sg_fin _)).add (Ffn.Fin'.sum _ _ fun k => ?_)
  by_cases hw : Ffn.Fin' (w q k)
  · exact ((((ho k).mul (gel_fin (hy k))).mul (sg_fin _)).mul (one_sub_fin (sg_fin _))).mul hw
  · obtain ⟨a, ha⟩ := hy q
    rw [ha] at hq
    obtain ⟨g, hg, eg⟩ := gel_ne (fun h => hq (by rw [h, EReal.coe_zero]) : a ≠ 0)
    have hp : ¬ Ffn.Fin' (pre y w b k) := by
      refine Norm.inf_add (Norm.inf_sum (fun i => gel (y i) * w i k) (e := q) ?_) _
      rw [ha, eg, mul_comm]
      exact Norm.inf_mul hw hg
    have hz : dz y o w b k = 0 := by
      unfold dz
      rcases Norm.top_or_bot hp with h | h
      · rw [h, sg_top, ← EReal.coe_one, ← EReal.coe_sub, sub_self, EReal.coe_zero, mul_zero]
      · rw [h, sg_bot, mul_zero, zero_mul]
    rw [hz, zero_mul]
    exact Ffn.Fin'.zero
/-- At a zero argument differentiating gives the closed formula too. -/
theorem dgate_zero (d : EReal) : Ffn.dgateR d 1 0 = Ffn.dgate d 1 0 := by
  unfold Ffn.dgateR Ffn.dgate
  simp only [mul_zero, zero_mul, add_zero]

section Reference
open Cert.Reference10Ideal Cert.Reference10Ideal.Read

variable (x0 : FVec Ideal S4096x2176 .f32) (x1 x2 : FVec Ideal S4096x256 .f32) (x3 : FVec Ideal S256 .f32) (x4 : FVec Ideal S256x256 .f32)
  (x5 : FVec Ideal S256 .f32)

abbrev rowR (x : FVec Ideal S4096x256 .f32) (r : Fin 4096) (k : Fin 256) : EReal := x (ix2 r k)
abbrev matR (k q : Fin 256) : EReal := x4 (ix2 k q)
abbrev vecR (q : Fin 256) : EReal := x5 (ix1 q)

theorem half_ac (a b c : EReal) : a * (b * c) = b * a * c := by ac_rfl
theorem dz_ac (g o s u : EReal) : g * o * (s * u) = o * g * s * u := by ac_rfl

theorem v12_at (r : Fin 4096) (q : Fin 256) : val_main_v12 (F := Ideal) x1 (ix2 r q) = Ffn.th (x1 (ix2 r q)) := by
  unfold Ffn.th
  rw [← Ffn.cubR_eq]
  pointwise [val_main_v12, val_main_v11, val_main_v10, val_main_v9, val_main_v8, val_main_v7, val_main_v3, val_main_v2, val_main_v1, val_main_cst, val_main_cst_0, val_main_cst_2]
theorem v22_at (r : Fin 4096) (q : Fin 256) : val_main_v22 (F := Ideal) x1 (ix2 r q) = gel (x1 (ix2 r q)) := by
  unfold gel
  rw [← v12_at, ← half_ac]
  pointwise [val_main_v22, val_main_v21, val_main_v20, val_main_v19, val_main_v18, val_main_cst_5, val_main_cst_6]
theorem v26_at (r : Fin 4096) (q : Fin 256) : val_main_v26 (F := Ideal) x1 x4 x5 (ix2 r q) = pre (rowR x1 r) (matR x4) (vecR x5) q := by
  unfold pre
  simp only [← v22_at]
  pointwise [val_main_v26, val_main_v25, val_main_v24, val_main_v23]
theorem v32_at (r : Fin 4096) (q : Fin 256) : val_main_v32 (F := Ideal) x1 x4 x5 (ix2 r q) = sg (pre (rowR x1 r) (matR x4) (vecR x5) q) := by
  unfold sg
  rw [← v26_at]
  pointwise [val_main_v32, val_main_v31, val_main_v30, val_main_v29, val_main_v28, val_main_v27, val_main_cst_7, val_main_cst_8]
theorem v39_at (r : Fin 4096) (q : Fin 256) : val_main_v39 (F := Ideal) x1 x2 x4 x5 (ix2 r q) = dz (rowR x1 r) (rowR x2 r) (matR x4) (vecR x5) q := by
  unfold dz
  rw [← dz_ac, ← v32_at, ← v22_at]
  pointwise [val_main_v39, val_main_v37, val_main_v35, val_main_v34, val_main_v33, val_main_cst_9]
theorem v46_at (r : Fin 4096) (q : Fin 256) : val_main_v46 (F := Ideal) x1 x2 x4 x5 (ix2 r q) = dg (rowR x1 r) (rowR x2 r) (matR x4) (vecR x5) q := by
  unfold dg
  simp only [← v32_at, ← v39_at]
  pointwise [val_main_v46, val_main_v45, val_main_v38]
theorem v58_at (r : Fin 4096) (q : Fin 256) : val_main_v58 (F := Ideal) x1 x2 x4 x5 (ix2 r q)
    = Ffn.dgateR (dg (rowR x1 r) (rowR x2 r) (matR x4) (vecR x5) q) 1 (x1 (ix2 r q)) := by
  unfold Ffn.dgateR
  rw [mul_one, ← Ffn.cubR_eq, ← v46_at, ← v12_at]
  pointwise [val_main_v58, val_main_v57, val_main_v56, val_main_v55, val_main_v54, val_main_v53, val_main_v52, val_main_v51, val_main_v50, val_main_v49, val_main_v48,
    val_main_v47, val_main_v21, val_main_v20, val_main_v19, val_main_v18, val_main_v17, val_main_v16, val_main_v15, val_main_v14, val_main_v13, val_main_v6, val_main_v5, val_main_v4,
    val_main_v1, val_main_cst, val_main_cst_0, val_main_cst_1, val_main_cst_3, val_main_cst_4, val_main_cst_5, val_main_cst_6, val_main_cst_12, val_main_cst_13]
theorem dy_at (f1 : ∀ i, Ffn.Fin' (x1 i)) (f2 : ∀ i, Ffn.Fin' (x2 i)) (r : Fin 4096) (q : Fin 256) :
    val_main_v58 (F := Ideal) x1 x2 x4 x5 (ix2 r q) = dy (rowR x1 r) (rowR x2 r) (matR x4) (vecR x5) q := by
  refine (v58_at x1 x2 x4 x5 r q).trans ?_
  by_cases h : rowR x1 r q = 0
  · unfold dy
    rw [show x1 (ix2 r q) = 0 from h, show rowR x1 r q = 0 from h]
    exact dgate_zero _
  · exact Ffn.dgateR_eq (dg_fin (fun k => f1 _) (fun k => f2 _) q h) ⟨1, EReal.coe_one.symm⟩ (f1 _)
theorem dud_at (r : Fin 4096) (q : Fin 256) : val_main_v63 (F := Ideal) x1 x2 x3 x4 x5 (ix2 r q) = x3 (ix1 q) * val_main_v58 (F := Ideal) x1 x2 x4 x5 (ix2 r q) := by
  pointwise [val_main_v63, val_main_v62, val_main_v59]
theorem dd_at (q : Fin 256) : val_main_v68 (F := Ideal) x0 x1 x2 x4 x5 (ix2 0 q)
    = ∑ r : Fin 4096, val_main_v58 (F := Ideal) x1 x2 x4 x5 (ix2 r q) * x0 (ix2 r ⟨1920 + q.val, by omega⟩) := by
  pointwise [val_main_v68, val_main_v67, val_main_v66, val_main_v65, val_main_v64, val_main_v0, val_main_cst_14, val_main_cst_15]
  exact Fin.sum_univ_one _
theorem dw_at (i j : Fin 256) : val_main_v44 (F := Ideal) x1 x2 x4 x5 (ix2 i j)
    = ∑ r : Fin 4096, gel (x1 (ix2 r i)) * dz (rowR x1 r) (rowR x2 r) (matR x4) (vecR x5) j := by
  simp only [← v22_at, ← v39_at]
  pointwise [val_main_v44, val_main_v43]
  exact Finset.sum_congr rfl fun r _ => mul_comm _ _
theorem db_at (q : Fin 256) : val_main_v69 (F := Ideal) x1 x2 x4 x5 (ix2 0 q) = ∑ r : Fin 4096, dz (rowR x1 r) (rowR x2 r) (matR x4) (vecR x5) q := by
  simp only [← v39_at]
  pointwise [val_main_v69, val_main_v42, val_main_v41, val_main_v40, val_main_cst_10, val_main_cst_11]
  exact Fin.sum_univ_one _

end Reference

end Cert.S5Out

end
-- ==== Proof.S5Out.lean ====
/- The gradient of the gated unit behind the state space layer: the kernel's five arrays and the reference's results as the same functions of
   the arguments, and the claims made of them. -/
module

public import proofs.«01_k».proof.Defs
public import proofs.«01_k».proof.Proof.Acc
public import proofs.«01_k».proof.Proof.S5Ref
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Pre_finite10
public import Idealize.ShloMosaic.Lib.ReduceAll
public import Idealize.ShloMosaic.Lib.Affine
public import Idealize.ShloMosaic.Lib.Quiescent
public import Idealize.ShloMosaic.Lib.Pipeline.ValueKit
public import Idealize.ShloMosaic.Lib.Pointwise

@[expose] public section

set_option maxRecDepth 16384

noncomputable section

namespace Cert.Pre_finite10.S5Out

open Idealize.ShloMosaic
open Cert.Pre_finite10
open Cert.Ffn (Fin')

instance : Subsingleton S_.Idx := ⟨fun i j => funext fun k => k.elim0⟩

/-- An element whose absolute value is below the top is a real. -/
theorem fin_of_lt {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) : Fin' (x i) := by
  have e' : BitVec.ofBool (decide (max (x i) (-(x i)) < Ideal.ofBits .f32 0x7F800000#32)) = 1#1 := e
  rw [Cert.Ffn.ofBits_inf] at e'
  have h : max (x i) (-(x i)) < ⊤ := by
    by_contra hn
    rw [decide_eq_false hn] at e'
    exact absurd e' (by decide)
  have h1 : x i ≠ ⊤ := (lt_of_le_of_lt (le_max_left _ _) h).ne
  have h2 : x i ≠ ⊥ := fun hb => by
    have : -(x i) < ⊤ := lt_of_le_of_lt (le_max_right _ _) h
    rw [hb, EReal.neg_bot] at this
    exact lt_irrefl _ this
  exact ⟨(x i).toReal, (EReal.coe_toReal h1 h2).symm⟩

theorem finite_of (x0 : FVec Ideal S4096x2176 .f32) (x1 : FVec Ideal S4096x256 .f32) (x2 : FVec Ideal S4096x256 .f32) (x3 : FVec Ideal S256 .f32) (x4 : FVec Ideal S256x256 .f32) (x5 : FVec Ideal S256 .f32)
    (h : fn (F := Ideal) x0 x1 x2 x3 x4 x5 = fun _ => 1#1) :
    (∀ i, Fin' (x1 i)) ∧ (∀ i, Fin' (x2 i)) := by
  have e := congrFun h (fun k => k.elim0)
  obtain ⟨e1, e2⟩ := (IntOp.andi_eq_one).1 e
  exact ⟨fun i => fin_of_lt _ _ i (Host.reduce_andi_all _ _ _ _ _ e1 i),
    fun i => fin_of_lt _ _ i (Host.reduce_andi_all _ _ _ _ _ e2 i)⟩

end Cert.Pre_finite10.S5Out

namespace Cert.S5Out

open Idealize.ShloMosaic Idealize.ShloMosaic.TcCoe Idealize.SL.Sem

section Kernel
open Cert.Kernel10Ideal Cert.Kernel10Ideal.Gen

/-- Row `p` of a block, and the matrix and the row vector as the kernel reads them. -/
abbrev rowK (x : FVec Ideal S512x256 .f32) (p : Fin 512) (k : Fin 256) : EReal := x (ix2 p k)
abbrev matK (w : FVec Ideal S256x256 .bf16) (k q : Fin 256) : EReal := w (ix2 k q)
abbrev vecK (b : FVec Ideal S1x256 .f32) (q : Fin 256) : EReal := b (ix2 0 q)

theorem named_cubic : (Named.named (F := Ideal) (φ := .f32) κ "cubic" 0x3D372713#32 : EReal) = Ffn.cub :=
  IdealRules.named_const.ideal_named_scalar _ _ _ _ rfl
theorem named_cubic3 : (Named.named (F := Ideal) (φ := .f32) κ "cubic3" 0x3E095D4F#32 : EReal) = Ffn.cub3 :=
  IdealRules.named_const.ideal_named_scalar _ _ _ _ rfl

theorem pay9_at (y : FVec Ideal S512x256 .f32) (p : Fin 512) (q : Fin 256) : k0_pay9 (F := Ideal) y (ix2 p q) = gel (y (ix2 p q)) := by
  pointwise [k0_pay9]
  simp only [named_cubic, gel, Ffn.th]
theorem pay10_at (y : FVec Ideal S512x256 .f32) (w : FVec Ideal S256x256 .bf16) (b : FVec Ideal S1x256 .f32) (p : Fin 512) (q : Fin 256) :
    k0_pay10 (F := Ideal) y w b (ix2 p q) = sg (pre (rowK y p) (matK w) (vecK b) q) := by
  unfold sg pre
  rw [← zero_sub]
  simp only [← pay9_at]
  pointwise [k0_pay10]
/-- The block of the preactivation's gradient. -/
def kdz (y o : FVec Ideal S512x256 .f32) (w : FVec Ideal S256x256 .bf16) (b : FVec Ideal S1x256 .f32) : FVec Ideal S512x256 .f32 :=
  k0_pay11 (F := Ideal) o (k0_pay9 (F := Ideal) y) (k0_pay10 (F := Ideal) y w b)
theorem kdz_at (y o : FVec Ideal S512x256 .f32) (w : FVec Ideal S256x256 .bf16) (b : FVec Ideal S1x256 .f32) (p : Fin 512) (q : Fin 256) :
    kdz y o w b (ix2 p q) = dz (rowK y p) (rowK o p) (matK w) (vecK b) q := by
  unfold dz
  rw [← pay10_at, ← pay9_at]
  pointwise [kdz, k0_pay11]
/-- The block of the gradient of the layer's value. -/
def kdy (y o : FVec Ideal S512x256 .f32) (w : FVec Ideal S256x256 .bf16) (b : FVec Ideal S1x256 .f32) : FVec Ideal S512x256 .f32 :=
  k0_pay12 (F := Ideal) y o (k0_pay9 (F := Ideal) y) (k0_pay10 (F := Ideal) y w b) w
theorem kdy_at (y o : FVec Ideal S512x256 .f32) (w : FVec Ideal S256x256 .bf16) (b : FVec Ideal S1x256 .f32) (p : Fin 512) (q : Fin 256) :
    kdy y o w b (ix2 p q) = dy (rowK y p) (rowK o p) (matK w) (vecK b) q := by
  unfold dy Ffn.dgate dg
  rw [mul_one, ← pay10_at]
  simp only [← kdz_at]
  unfold kdz
  pointwise [kdy, k0_pay12]
  simp only [named_cubic, named_cubic3, Ffn.th]
theorem pay1_at (dy : FVec Ideal S512x256 .f32) (d : FVec Ideal S1x256 .f32) (p : Fin 512) (q : Fin 256) :
    k0_pay1 (F := Ideal) dy (k0_pay13 (F := Ideal) d) (ix2 p q) = d (ix2 0 q) * dy (ix2 p q) := by
  pointwise [k0_pay1, k0_pay13]
theorem pay8_at (u v : FVec Ideal S512x128 .f32) (p : Fin 512) (q : Fin 256) :
    k0_pay8 (F := Ideal) u v (ix2 p q) = if h : q.val < 128 then u (ix2 p ⟨q.val, h⟩) else v (ix2 p ⟨q.val - 128, by omega⟩) := by
  pointwise [k0_pay8]
theorem pay2_at (u dy : FVec Ideal S512x256 .f32) (acc : FVec Ideal S1x256 .f32) (q : Fin 256) :
    k0_pay2 (F := Ideal) u dy acc (ix2 0 q) = acc (ix2 0 q) + ∑ p : Fin 512, dy (ix2 p q) * u (ix2 p q) := by
  pointwise [k0_pay2]
theorem pay3_at (g z : FVec Ideal S512x256 .f32) (acc : FVec Ideal S256x256 .f32) (i j : Fin 256) :
    k0_pay3 (F := Ideal) g z acc (ix2 i j) = acc (ix2 i j) + ∑ p : Fin 512, g (ix2 p i) * z (ix2 p j) := by
  pointwise [k0_pay3]
theorem pay4_at (z : FVec Ideal S512x256 .f32) (acc : FVec Ideal S1x256 .f32) (q : Fin 256) :
    k0_pay4 (F := Ideal) z acc (ix2 0 q) = acc (ix2 0 q) + ∑ p : Fin 512, z (ix2 p q) := by
  pointwise [k0_pay4]
theorem pay5_at (q : Fin 256) : k0_pay5 (F := Ideal) (ix2 0 q) = 0 := by
  pointwise [k0_pay5]
theorem pay6_at (i j : Fin 256) : k0_pay6 (F := Ideal) (ix2 i j) = 0 := by
  pointwise [k0_pay6]
theorem pay7_at (q : Fin 256) : k0_pay7 (F := Ideal) (ix2 0 q) = 0 := by
  pointwise [k0_pay7]

variable (m : (ℓ : Loc nD τ sig) → Buf (Elt Ideal) ℓ) (c : Dev nD)

abbrev a0 : FVec Ideal S4096x2176 .f32 := m (c.tc.loc main_arg0)
abbrev a1 : FVec Ideal S4096x256 .f32 := m (c.tc.loc main_arg1)
abbrev a2 : FVec Ideal S4096x256 .f32 := m (c.tc.loc main_arg2)
abbrev a3 : FVec Ideal S256 .f32 := m (c.tc.loc main_arg3)
abbrev a4 : FVec Ideal S256x256 .f32 := m (c.tc.loc main_arg4)
abbrev a5 : FVec Ideal S256 .f32 := m (c.tc.loc main_arg5)

/-- A vector as a row. -/
def vrow (y : FVec Ideal S256 .f32) : FVec Ideal S1x256 .f32 := broadcastInDim S1x256 ![1] bcast_S256_S1x256_1 y
theorem vrow_at (y : FVec Ideal S256 .f32) (d : Fin 256) : vrow y (ix2 0 d) = y (ix1 d) := by
  pointwise [vrow]

theorem p_at (r : Fin 4096) (d : Fin 2176) : V (F := Ideal) m c main_arg0 (ix2 r d) = a0 m c (ix2 r d) := by
  entry_read
  rfl
theorem y_at (r : Fin 4096) (d : Fin 256) : V (F := Ideal) m c main_arg1 (ix2 r d) = a1 m c (ix2 r d) := by
  entry_read
  rfl
theorem o_at (r : Fin 4096) (d : Fin 256) : V (F := Ideal) m c main_arg2 (ix2 r d) = a2 m c (ix2 r d) := by
  entry_read
  rfl
theorem d_at (d : Fin 256) : V (F := Ideal) m c main_v0 (ix2 0 d) = a3 m c (ix1 d) := by
  refine Eq.trans ?_ (vrow_at (a3 m c) d)
  entry_read
  rfl
theorem w_at (i j : Fin 256) : V (F := Ideal) m c main_v1 (ix2 i j) = a4 m c (ix2 i j) := by
  entry_read
  rfl
theorem b_at (d : Fin 256) : V (F := Ideal) m c main_v2 (ix2 0 d) = a5 m c (ix1 d) := by
  refine Eq.trans ?_ (vrow_at (a5 m c) d)
  entry_read
  rfl

theorem idx : ∀ t : Fin cfg0.N, win0_0.index t = ![t.val, 15] ∧ win0_1.index t = ![t.val, 16] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ win0_8.index t = ![t.val, 0]
    ∧ win0_9.index t = ![0, 0] ∧ win0_10.index t = ![0, 0] ∧ win0_11.index t = ![0, 0] ∧ t.val < 8 :=
  (by decide +kernel : ∀ t : Fin grid0.N, _)
theorem lt8 (t : Fin cfg0.N) : t.val < 8 := (idx t).2.2.2.2.2.2.2.2.2.2.2.2

/-- Row `p` of the point's block of rows. -/
def row (t : Fin cfg0.N) (p : Fin 512) : Fin 4096 := ⟨t.val * 512 + p.val, by have := lt8 t; omega⟩

theorem b0_at (t : Fin cfg0.N) (p : Fin 512) (d : Fin 128) : iblk (F := Ideal) m c 0 t (ix2 p d) = a0 m c (ix2 (row t p) ⟨1920 + d.val, by omega⟩) := by
  rw [← p_at]
  blk_ext [iblk, row, idx t]
theorem b1_at (t : Fin cfg0.N) (p : Fin 512) (d : Fin 128) : iblk (F := Ideal) m c 1 t (ix2 p d) = a0 m c (ix2 (row t p) ⟨2048 + d.val, by omega⟩) := by
  rw [← p_at]
  blk_ext [iblk, row, idx t]
theorem b2_at (t : Fin cfg0.N) (p : Fin 512) (d : Fin 256) : iblk (F := Ideal) m c 2 t (ix2 p d) = a1 m c (ix2 (row t p) d) := by
  rw [← y_at]
  blk_ext [iblk, row, idx t]
theorem b3_at (t : Fin cfg0.N) (p : Fin 512) (d : Fin 256) : iblk (F := Ideal) m c 3 t (ix2 p d) = a2 m c (ix2 (row t p) d) := by
  rw [← o_at]
  blk_ext [iblk, row, idx t]
theorem b4_at (t : Fin cfg0.N) (d : Fin 256) : iblk (F := Ideal) m c 4 t (ix2 0 d) = a3 m c (ix1 d) := by
  rw [← d_at]
  blk_ext [iblk, idx t]
theorem b5_at (t : Fin cfg0.N) (i j : Fin 256) : iblk (F := Ideal) m c 5 t (ix2 i j) = a4 m c (ix2 i j) := by
  rw [← w_at]
  blk_ext [iblk, idx t]
theorem b6_at (t : Fin cfg0.N) (d : Fin 256) : iblk (F := Ideal) m c 6 t (ix2 0 d) = a5 m c (ix1 d) := by
  rw [← b_at]
  blk_ext [iblk, idx t]

/-- The point's block of the layer's input. -/
def ub (t : Fin cfg0.N) : FVec Ideal S512x256 .f32 := k0_pay8 (F := Ideal) (iblk m c 0 t) (iblk m c 1 t)
theorem ub_at (t : Fin cfg0.N) (p : Fin 512) (q : Fin 256) : ub m c t (ix2 p q) = a0 m c (ix2 (row t p) ⟨1920 + q.val, by omega⟩) := by
  refine (pay8_at _ _ p q).trans ?_
  split
  · exact b0_at m c t p _
  · refine (b1_at m c t p _).trans (congrArg (fun k => a0 m c (ix2 (row t p) k)) (Fin.ext ?_))
    dsimp only
    omega

/-- Rows of the arguments. -/
abbrev ry (r : Fin 4096) (k : Fin 256) : EReal := a1 m c (ix2 r k)
abbrev ro (r : Fin 4096) (k : Fin 256) : EReal := a2 m c (ix2 r k)
abbrev mw (k q : Fin 256) : EReal := a4 m c (ix2 k q)
abbrev vb (q : Fin 256) : EReal := a5 m c (ix1 q)

theorem e2 (t : Fin cfg0.N) (p : Fin 512) : rowK (iblk (F := Ideal) m c 2 t) p = ry m c (row t p) := funext fun d => b2_at m c t p d
theorem e3 (t : Fin cfg0.N) (p : Fin 512) : rowK (iblk (F := Ideal) m c 3 t) p = ro m c (row t p) := funext fun d => b3_at m c t p d
theorem e5 (t : Fin cfg0.N) : matK (iblk (F := Ideal) m c 5 t) = mw m c := funext fun k => funext fun q => b5_at m c t k q
theorem e6 (t : Fin cfg0.N) : vecK (iblk (F := Ideal) m c 6 t) = vb m c := funext fun q => b6_at m c t q

/-- The gradients at `(r, q)`: of the layer's value and of the gate's preactivation, -/
def dyS (r : Fin 4096) (q : Fin 256) : EReal := dy (ry m c r) (ro m c r) (mw m c) (vb m c) q
def dzS (r : Fin 4096) (q : Fin 256) : EReal := dz (ry m c r) (ro m c r) (mw m c) (vb m c) q
/-- and what a row adds to those of the skip's gain, of the matrix and of the bias. -/
def ddRow (q : Fin 256) (r : Fin 4096) : EReal := dyS m c r q * a0 m c (ix2 r ⟨1920 + q.val, by omega⟩)
def dwRow (i j : Fin 256) (r : Fin 4096) : EReal := gel (a1 m c (ix2 r i)) * dzS m c r j
def dbRow (q : Fin 256) (r : Fin 4096) : EReal := dzS m c r q

/-- The point's blocks of the two gradients and of the GELU. -/
def bdy (t : Fin cfg0.N) : FVec Ideal S512x256 .f32 := kdy (iblk m c 2 t) (iblk m c 3 t) (iblk m c 5 t) (iblk m c 6 t)
def bdz (t : Fin cfg0.N) : FVec Ideal S512x256 .f32 := kdz (iblk m c 2 t) (iblk m c 3 t) (iblk m c 5 t) (iblk m c 6 t)
def bg (t : Fin cfg0.N) : FVec Ideal S512x256 .f32 := k0_pay9 (F := Ideal) (iblk m c 2 t)
theorem bdy_at (t : Fin cfg0.N) (p : Fin 512) (q : Fin 256) : bdy m c t (ix2 p q) = dyS m c (row t p) q := by
  unfold bdy dyS
  rw [kdy_at, e2, e3, e5, e6]
theorem bdz_at (t : Fin cfg0.N) (p : Fin 512) (q : Fin 256) : bdz m c t (ix2 p q) = dzS m c (row t p) q := by
  unfold bdz dzS
  rw [kdz_at, e2, e3, e5, e6]
theorem bg_at (t : Fin cfg0.N) (p : Fin 512) (q : Fin 256) : bg m c t (ix2 p q) = gel (a1 m c (ix2 (row t p) q)) := by
  unfold bg
  rw [pay9_at, b2_at]

theorem o7e (t : Fin cfg0.N) : (outsAt0 (F := Ideal) m c t.val t.isLt).1 = bdy m c t := by
  by_cases h0 : t.val % 8 = 0
  · rw [outsAt0_A m c t h0]
    frame_out
    rfl
  · rw [outsAt0_B m c t h0]
    frame_out
    rfl
theorem o8e (t : Fin cfg0.N) : (outsAt0 (F := Ideal) m c t.val t.isLt).2.1 = k0_pay1 (F := Ideal) (bdy m c t) (k0_pay13 (F := Ideal) (iblk m c 4 t)) := by
  by_cases h0 : t.val % 8 = 0
  · rw [outsAt0_A m c t h0]
    frame_out
    rfl
  · rw [outsAt0_B m c t h0]
    frame_out
    rfl
theorem o7 (t : Fin cfg0.N) (p : Fin 512) (q : Fin 256) : (outsAt0 (F := Ideal) m c t.val t.isLt).1 (ix2 p q) = dyS m c (row t p) q := by
  rw [o7e, bdy_at]
theorem o8 (t : Fin cfg0.N) (p : Fin 512) (q : Fin 256) : (outsAt0 (F := Ideal) m c t.val t.isLt).2.1 (ix2 p q) = a3 m c (ix1 q) * dyS m c (row t p) q := by
  rw [o8e, pay1_at, bdy_at, b4_at]

theorem s9A (t : Fin cfg0.N) (h0 : t.val % 8 = 0) : (outsAt0 (F := Ideal) m c t.val t.isLt).2.2.1 = k0_pay2 (F := Ideal) (ub m c t) (bdy m c t) (k0_pay5 (F := Ideal)) := by
  rw [outsAt0_A m c t h0]
  frame_out
  rfl
theorem s9B (t : Fin cfg0.N) (h0 : ¬ t.val % 8 = 0) : (outsAt0 (F := Ideal) m c t.val t.isLt).2.2.1 = k0_pay2 (F := Ideal) (ub m c t) (bdy m c t) (outsAt0 m c (t.val - 1) (Nat.lt_of_le_of_lt (Nat.sub_le _ _) t.isLt)).2.2.1 := by
  rw [outsAt0_B m c t h0]
  frame_out
  rfl
theorem part9 (t : Fin cfg0.N) (acc : FVec Ideal S1x256 .f32) (q : Fin 256) :
    k0_pay2 (F := Ideal) (ub m c t) (bdy m c t) acc (ix2 0 q) = acc (ix2 0 q) + ∑ p : Fin 512, ddRow m c q (row t p) := by
  refine (pay2_at _ _ _ q).trans (congrArg (acc (ix2 0 q) + ·) (Finset.sum_congr rfl fun p _ => ?_))
  rw [bdy_at, ub_at]
  rfl
/-- What the output holds after point `n`. -/
def acc9 (q : Fin 256) (n : ℕ) (hn : n < 8) : EReal := (outsAt0 (F := Ideal) m c n hn).2.2.1 (ix2 0 q)
theorem first9 (q : Fin 256) (h : 0 < 8) : acc9 m c q 0 h = ∑ p : Fin 512, ddRow m c q ⟨0 * 512 + p.val, by omega⟩ := by
  refine (congrFun (s9A m c ⟨0, h⟩ rfl) (ix2 0 q)).trans ((part9 m c ⟨0, h⟩ _ q).trans ?_)
  rw [pay5_at, zero_add]
  rfl
theorem next9 (q : Fin 256) (n : ℕ) (h : n + 1 < 8) : acc9 m c q (n + 1) h
    = acc9 m c q n (Nat.lt_of_succ_lt h) + ∑ p : Fin 512, ddRow m c q ⟨(n + 1) * 512 + p.val, by omega⟩ :=
  (congrFun (s9B m c ⟨n + 1, h⟩ (by dsimp only; omega)) (ix2 0 q)).trans (part9 m c ⟨n + 1, h⟩ _ q)
theorem last9 (q : Fin 256) (n : ℕ) (hn : n < 8) (h : n = 7) : acc9 m c q n hn = ∑ r : Fin 4096, ddRow m c q r := by
  subst h
  exact Acc.rows (acc9 m c q) (ddRow m c q) (first9 m c q) (next9 m c q) hn
theorem o9 (t : Fin cfg0.N) (h : t.val = 7) (q : Fin 256) : (outsAt0 (F := Ideal) m c t.val t.isLt).2.2.1 (ix2 0 q) = ∑ r : Fin 4096, ddRow m c q r :=
  last9 m c q t.val t.isLt h

theorem s10A (t : Fin cfg0.N) (h0 : t.val % 8 = 0) : (outsAt0 (F := Ideal) m c t.val t.isLt).2.2.2.1 = k0_pay3 (F := Ideal) (bg m c t) (bdz m c t) (k0_pay6 (F := Ideal)) := by
  rw [outsAt0_A m c t h0]
  frame_out
  rfl
theorem s10B (t : Fin cfg0.N) (h0 : ¬ t.val % 8 = 0) : (outsAt0 (F := Ideal) m c t.val t.isLt).2.2.2.1 = k0_pay3 (F := Ideal) (bg m c t) (bdz m c t) (outsAt0 m c (t.val - 1) (Nat.lt_of_le_of_lt (Nat.sub_le _ _) t.isLt)).2.2.2.1 := by
  rw [outsAt0_B m c t h0]
  frame_out
  rfl
theorem part10 (t : Fin cfg0.N) (acc : FVec Ideal S256x256 .f32) (i j : Fin 256) :
    k0_pay3 (F := Ideal) (bg m c t) (bdz m c t) acc (ix2 i j) = acc (ix2 i j) + ∑ p : Fin 512, dwRow m c i j (row t p) := by
  refine (pay3_at _ _ _ i j).trans (congrArg (acc (ix2 i j) + ·) (Finset.sum_congr rfl fun p _ => ?_))
  rw [bg_at, bdz_at]
  rfl
/-- What the output holds after point `n`. -/
def acc10 (i j : Fin 256) (n : ℕ) (hn : n < 8) : EReal := (outsAt0 (F := Ideal) m c n hn).2.2.2.1 (ix2 i j)
theorem first10 (i j : Fin 256) (h : 0 < 8) : acc10 m c i j 0 h = ∑ p : Fin 512, dwRow m c i j ⟨0 * 512 + p.val, by omega⟩ := by
  refine (congrFun (s10A m c ⟨0, h⟩ rfl) (ix2 i j)).trans ((part10 m c ⟨0, h⟩ _ i j).trans ?_)
  rw [pay6_at, zero_add]
  rfl
theorem next10 (i j : Fin 256) (n : ℕ) (h : n + 1 < 8) : acc10 m c i j (n + 1) h
    = acc10 m c i j n (Nat.lt_of_succ_lt h) + ∑ p : Fin 512, dwRow m c i j ⟨(n + 1) * 512 + p.val, by omega⟩ :=
  (congrFun (s10B m c ⟨n + 1, h⟩ (by dsimp only; omega)) (ix2 i j)).trans (part10 m c ⟨n + 1, h⟩ _ i j)
theorem last10 (i j : Fin 256) (n : ℕ) (hn : n < 8) (h : n = 7) : acc10 m c i j n hn = ∑ r : Fin 4096, dwRow m c i j r := by
  subst h
  exact Acc.rows (acc10 m c i j) (dwRow m c i j) (first10 m c i j) (next10 m c i j) hn
theorem o10 (t : Fin cfg0.N) (h : t.val = 7) (i j : Fin 256) : (outsAt0 (F := Ideal) m c t.val t.isLt).2.2.2.1 (ix2 i j) = ∑ r : Fin 4096, dwRow m c i j r :=
  last10 m c i j t.val t.isLt h

theorem s11A (t : Fin cfg0.N) (h0 : t.val % 8 = 0) : (outsAt0 (F := Ideal) m c t.val t.isLt).2.2.2.2 = k0_pay4 (F := Ideal) (bdz m c t) (k0_pay7 (F := Ideal)) := by
  rw [outsAt0_A m c t h0]
  frame_out
  rfl
theorem s11B (t : Fin cfg0.N) (h0 : ¬ t.val % 8 = 0) : (outsAt0 (F := Ideal) m c t.val t.isLt).2.2.2.2 = k0_pay4 (F := Ideal) (bdz m c t) (outsAt0 m c (t.val - 1) (Nat.lt_of_le_of_lt (Nat.sub_le _ _) t.isLt)).2.2.2.2 := by
  rw [outsAt0_B m c t h0]
  frame_out
  rfl
theorem part11 (t : Fin cfg0.N) (acc : FVec Ideal S1x256 .f32) (q : Fin 256) :
    k0_pay4 (F := Ideal) (bdz m c t) acc (ix2 0 q) = acc (ix2 0 q) + ∑ p : Fin 512, dbRow m c q (row t p) := by
  refine (pay4_at _ _ q).trans (congrArg (acc (ix2 0 q) + ·) (Finset.sum_congr rfl fun p _ => ?_))
  exact bdz_at m c t p q
/-- What the output holds after point `n`. -/
def acc11 (q : Fin 256) (n : ℕ) (hn : n < 8) : EReal := (outsAt0 (F := Ideal) m c n hn).2.2.2.2 (ix2 0 q)
theorem first11 (q : Fin 256) (h : 0 < 8) : acc11 m c q 0 h = ∑ p : Fin 512, dbRow m c q ⟨0 * 512 + p.val, by omega⟩ := by
  refine (congrFun (s11A m c ⟨0, h⟩ rfl) (ix2 0 q)).trans ((part11 m c ⟨0, h⟩ _ q).trans ?_)
  rw [pay7_at, zero_add]
  rfl
theorem next11 (q : Fin 256) (n : ℕ) (h : n + 1 < 8) : acc11 m c q (n + 1) h
    = acc11 m c q n (Nat.lt_of_succ_lt h) + ∑ p : Fin 512, dbRow m c q ⟨(n + 1) * 512 + p.val, by omega⟩ :=
  (congrFun (s11B m c ⟨n + 1, h⟩ (by dsimp only; omega)) (ix2 0 q)).trans (part11 m c ⟨n + 1, h⟩ _ q)
theorem last11 (q : Fin 256) (n : ℕ) (hn : n < 8) (h : n = 7) : acc11 m c q n hn = ∑ r : Fin 4096, dbRow m c q r := by
  subst h
  exact Acc.rows (acc11 m c q) (dbRow m c q) (first11 m c q) (next11 m c q) hn
theorem o11 (t : Fin cfg0.N) (h : t.val = 7) (q : Fin 256) : (outsAt0 (F := Ideal) m c t.val t.isLt).2.2.2.2 (ix2 0 q) = ∑ r : Fin 4096, dbRow m c q r :=
  last11 m c q t.val t.isLt h

/-- The arrays after the run. -/
def res7 : S4096x256.Idx → EReal := fun i => dyS m c ⟨(i 0).val, (i 0).isLt⟩ ⟨(i 1).val, (i 1).isLt⟩
def res8 : S4096x256.Idx → EReal := fun i => a3 m c (ix1 ⟨(i 1).val, (i 1).isLt⟩) * dyS m c ⟨(i 0).val, (i 0).isLt⟩ ⟨(i 1).val, (i 1).isLt⟩
def res9 : S1x256.Idx → EReal := fun i => ∑ r : Fin 4096, ddRow m c ⟨(i 1).val, (i 1).isLt⟩ r
def res10 : S256x256.Idx → EReal := fun i => ∑ r : Fin 4096, dwRow m c ⟨(i 0).val, (i 0).isLt⟩ ⟨(i 1).val, (i 1).isLt⟩ r
def res11 : S1x256.Idx → EReal := fun i => ∑ r : Fin 4096, dbRow m c ⟨(i 1).val, (i 1).isLt⟩ r

theorem arr7 : (dats m 0 c).arrAt 7 cfg0.N = res7 m c := by
  refine (dats m 0 c).arrAt_eq_of_covers 7 (res7 m c) (by decide +kernel) fun t hf y => ?_
  blk_simp
  rw [after0_7]
  idx_vars y
  refine (o7 m c t y0 y1).trans ?_
  refine (show _ = res7 m c (ix2 (row t y0) y1) from rfl).trans (congrArg (res7 m c) ?_)
  blk_ext [row, idx t]
theorem arr8 : (dats m 0 c).arrAt 8 cfg0.N = res8 m c := by
  refine (dats m 0 c).arrAt_eq_of_covers 8 (res8 m c) (by decide +kernel) fun t hf y => ?_
  blk_simp
  rw [after0_8]
  idx_vars y
  refine (o8 m c t y0 y1).trans ?_
  refine (show _ = res8 m c (ix2 (row t y0) y1) from rfl).trans (congrArg (res8 m c) ?_)
  blk_ext [row, idx t]
theorem arr9 : (dats m 0 c).arrAt 9 cfg0.N = res9 m c := by
  refine (dats m 0 c).arrAt_eq_of_covers 9 (res9 m c) (by decide +kernel) fun t hf y => ?_
  blk_simp
  rw [after0_9]
  idx_vars y
  obtain rfl : y0 = 0 := Subsingleton.elim _ _
  have h8 := lt8 t
  have h7 := (flush0_9 t).mp hf
  refine (o9 m c t (by omega) y1).trans ?_
  refine (show _ = res9 m c (ix2 0 y1) from rfl).trans (congrArg (res9 m c) ?_)
  blk_ext [idx t]
theorem arr10 : (dats m 0 c).arrAt 10 cfg0.N = res10 m c := by
  refine (dats m 0 c).arrAt_eq_of_covers 10 (res10 m c) (by decide +kernel) fun t hf y => ?_
  blk_simp
  rw [after0_10]
  idx_vars y
  have h8 := lt8 t
  have h7 := (flush0_10 t).mp hf
  refine (o10 m c t (by omega) y0 y1).trans ?_
  refine (show _ = res10 m c (ix2 y0 y1) from rfl).trans (congrArg (res10 m c) ?_)
  blk_ext [idx t]
theorem arr11 : (dats m 0 c).arrAt 11 cfg0.N = res11 m c := by
  refine (dats m 0 c).arrAt_eq_of_covers 11 (res11 m c) (by decide +kernel) fun t hf y => ?_
  blk_simp
  rw [after0_11]
  idx_vars y
  obtain rfl : y0 = 0 := Subsingleton.elim _ _
  have h8 := lt8 t
  have h7 := (flush0_11 t).mp hf
  refine (o11 m c t (by omega) y1).trans ?_
  refine (show _ = res11 m c (ix2 0 y1) from rfl).trans (congrArg (res11 m c) ?_)
  blk_ext [idx t]

end Kernel

/-! ## The claims -/

section Claims
variable (m : (ℓ : Loc Cert.Kernel10Ideal.nD Cert.Kernel10Ideal.τ Cert.Kernel10Ideal.sig) → Buf (Elt Ideal) ℓ) (c : Dev Cert.Kernel10Ideal.nD)
  (x0 : FVec Ideal Cert.Reference10Ideal.S4096x2176 .f32)
  (x1 : FVec Ideal Cert.Reference10Ideal.S4096x256 .f32)
  (x2 : FVec Ideal Cert.Reference10Ideal.S4096x256 .f32)
  (x3 : FVec Ideal Cert.Reference10Ideal.S256 .f32)
  (x4 : FVec Ideal Cert.Reference10Ideal.S256x256 .f32)
  (x5 : FVec Ideal Cert.Reference10Ideal.S256 .f32)
  (e0 : x0 = m ((c.tc : Thread _ _).loc Cert.Kernel10Ideal.main_arg0))
  (e1 : x1 = m ((c.tc : Thread _ _).loc Cert.Kernel10Ideal.main_arg1))
  (e2 : x2 = m ((c.tc : Thread _ _).loc Cert.Kernel10Ideal.main_arg2))
  (e3 : x3 = m ((c.tc : Thread _ _).loc Cert.Kernel10Ideal.main_arg3))
  (e4 : x4 = m ((c.tc : Thread _ _).loc Cert.Kernel10Ideal.main_arg4))
  (e5 : x5 = m ((c.tc : Thread _ _).loc Cert.Kernel10Ideal.main_arg5))
include e0 e1 e2 e3 e4 e5

theorem ref7 (f1 : ∀ i, Ffn.Fin' (x1 i)) (f2 : ∀ i, Ffn.Fin' (x2 i)) :
    Cert.Reference10Ideal.Read.val_main_v58 (F := Ideal) x1 x2 x4 x5 = res7 m c := by
  subst e0 e1 e2 e3 e4 e5
  funext i
  idx_vars i
  exact dy_at _ _ _ _ f1 f2 i0 i1
theorem ref8 (f1 : ∀ i, Ffn.Fin' (x1 i)) (f2 : ∀ i, Ffn.Fin' (x2 i)) :
    Cert.Reference10Ideal.Read.val_main_v63 (F := Ideal) x1 x2 x3 x4 x5 = res8 m c := by
  subst e0 e1 e2 e3 e4 e5
  funext i
  idx_vars i
  refine (dud_at _ _ _ _ _ i0 i1).trans ?_
  rw [dy_at _ _ _ _ f1 f2 i0 i1]
  rfl
theorem ref9 (f1 : ∀ i, Ffn.Fin' (x1 i)) (f2 : ∀ i, Ffn.Fin' (x2 i)) :
    Cert.Reference10Ideal.Read.val_main_v68 (F := Ideal) x0 x1 x2 x4 x5 = res9 m c := by
  subst e0 e1 e2 e3 e4 e5
  funext i
  idx_vars i
  obtain rfl : i0 = 0 := Subsingleton.elim _ _
  refine (dd_at _ _ _ _ _ i1).trans (Finset.sum_congr rfl fun r _ => ?_)
  rw [dy_at _ _ _ _ f1 f2 r i1]
  rfl
theorem ref10 : Cert.Reference10Ideal.Read.val_main_v44 (F := Ideal) x1 x2 x4 x5 = res10 m c := by
  subst e0 e1 e2 e3 e4 e5
  funext i
  idx_vars i
  exact dw_at _ _ _ _ i0 i1
theorem ref11 : Cert.Reference10Ideal.Read.val_main_v69 (F := Ideal) x1 x2 x4 x5 = res11 m c := by
  subst e0 e1 e2 e3 e4 e5
  funext i
  idx_vars i
  obtain rfl : i0 = 0 := Subsingleton.elim _ _
  exact db_at _ _ _ _ i1

end Claims

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2.2.2.2.2, Idealize.ShloMosaic.sem_eq_zero_of_no_sems (by decide) r.2⟩)
    (Cert.Reference10Ideal.Value.run (F := Ideal) m ρ)
theorem frame_pif : Cert.quiescent_Kernel10Ideal_pre_finite10 := fun m ρ _ => Cert.Kernel10Ideal.Gen.frame m ρ
theorem frame_rif : Cert.quiescent_Reference10Ideal_pre_finite10 := fun m ρ _ => frame_ri m ρ trivial

/-- The two coefficients named are within their tolerance of the words they stand for. -/
theorem preserves : Cert.preserves_Kernel10_Kernel10Ideal :=
  ⟨IdealRules.named_const.statement Cert.Kernel10Ideal.κ "cubic" .f32 0x3D372713#32 ((8943 / 200000 : ℝ) : EReal) rfl,
    IdealRules.named_const.statement Cert.Kernel10Ideal.κ "cubic3" .f32 0x3E095D4F#32 ((26829 / 200000 : ℝ) : EReal) rfl⟩

theorem algebraic : Cert.algebraic_Kernel10Ideal_Reference10Ideal_pre_finite10 := by
  intro m ρ m' ρ' hpre hagree
  refine ⟨fun c => res7 m c, fun c => res8 m c, fun c => res9 m c, fun c => res10 m c, fun c => res11 m c, (θ_run Cert.Kernel10Ideal.defs _ _).mono
    (fun _ h c => ⟨(h c).1.trans (arr7 m c), (h c).2.1.trans (arr8 m c), (h c).2.2.1.trans (arr9 m c), (h c).2.2.2.1.trans (arr10 m c),
      (h c).2.2.2.2.1.trans (arr11 m c), (h c).2.2.2.2.2⟩)
    (Cert.Kernel10Ideal.Value.run_blocks (F := Ideal) m ρ), ?_⟩
  refine (θ_run Cert.Reference10Ideal.defs _ _).mono (fun _ h c => ?_) (Cert.Reference10Ideal.Value.run (F := Ideal) m' ρ')
  obtain ⟨e0, e1, e2, e3, e4, e5⟩ := hagree c
  obtain ⟨f1, f2⟩ := Cert.Pre_finite10.S5Out.finite_of _ _ _ _ _ _ (hpre c)
  rw [← e1] at f1
  rw [← e2] at f2
  exact ⟨(h c).1.trans ((Cert.Reference10Ideal.Read.val_main_v58_eq _ _).trans (ref7 m c _ _ _ _ _ _ e0 e1 e2 e3 e4 e5 f1 f2)),
    (h c).2.1.trans ((Cert.Reference10Ideal.Read.val_main_v63_eq _ _).trans (ref8 m c _ _ _ _ _ _ e0 e1 e2 e3 e4 e5 f1 f2)),
    (h c).2.2.1.trans ((Cert.Reference10Ideal.Read.val_main_v68_eq _ _).trans (ref9 m c _ _ _ _ _ _ e0 e1 e2 e3 e4 e5 f1 f2)),
    (h c).2.2.2.1.trans ((Cert.Reference10Ideal.Read.val_main_v44_eq _ _ _ _).trans (ref10 m c _ _ _ _ _ _ e0 e1 e2 e3 e4 e5)),
    (h c).2.2.2.2.1.trans ((Cert.Reference10Ideal.Read.val_main_v69_eq _ _ _ _).trans (ref11 m c _ _ _ _ _ _ e0 e1 e2 e3 e4 e5)), (h c).2.2.2.2.2⟩

end Cert.S5Out

end
-- ==== Proof.MixRef.lean ====
/- The gradients of the mixer and of the layer norm in front of it, as the reference computes them. -/
module

public import proofs.«01_k».proof.Defs
public import proofs.«01_k».proof.Proof.NormInf
public import proofs.«01_k».proof.Proof.Gen.Reference11Ideal.Read
public import Idealize.ShloMosaic.Lib.Pipeline.ValueKit
public import Idealize.ShloMosaic.Lib.Pointwise

@[expose] public section

set_option maxRecDepth 16384

noncomputable section

namespace Cert.MixBwd

open Idealize.ShloMosaic Idealize.ShloMosaic.TcCoe Idealize.SL.Sem
open Cert.Norm
open Cert.Ffn (Fin')

/-! ## One row -/

section Row
variable (y w : Fin 1024 → EReal) (W : Fin 1024 → Fin 1024 → EReal) (g : Fin 1024 → EReal)

/-- The gradient of the mixed row: the layer norm's, through the matrix. -/
def dc (q : Fin 1024) : EReal := ∑ k : Fin 1024, lnK k1024 epsLn y w k * W q k

/-- Group O of the mixer's input: the cotangent of its norm, the gradient of the group, and the row's part of the gain's gradient. -/
def wO (e : Fin 384) : EReal := dc y w W ⟨e.val, by omega⟩ * g ⟨e.val, by omega⟩
def dO (o : Fin 384 → EReal) (e : Fin 384) : EReal := rmsK k384 epsRms o (wO y w W g) e
def gO (o : Fin 384 → EReal) (e : Fin 384) : EReal := dc y w W ⟨e.val, by omega⟩ * o e * Ideal.rsqrt (ms k384 epsRms o)

/-- Group L of the mixer's input: the cotangent of its norm, the gradient of the group, and the row's part of the gain's gradient. -/
def wL (e : Fin 384) : EReal := dc y w W ⟨384 + e.val, by omega⟩ * g ⟨384 + e.val, by omega⟩
def dL (o : Fin 384 → EReal) (e : Fin 384) : EReal := rmsK k384 epsRms o (wL y w W g) e
def gL (o : Fin 384 → EReal) (e : Fin 384) : EReal := dc y w W ⟨384 + e.val, by omega⟩ * o e * Ideal.rsqrt (ms k384 epsRms o)

/-- Group S of the mixer's input: the cotangent of its norm, the gradient of the group, and the row's part of the gain's gradient. -/
def wS (e : Fin 256) : EReal := dc y w W ⟨768 + e.val, by omega⟩ * g ⟨768 + e.val, by omega⟩
def dS (o : Fin 256 → EReal) (e : Fin 256) : EReal := rmsK k256 epsRms o (wS y w W g) e
def gS (o : Fin 256 → EReal) (e : Fin 256) : EReal := dc y w W ⟨768 + e.val, by omega⟩ * o e * Ideal.rsqrt (ms k256 epsRms o)

end Row

section Reference
open Cert.Reference11Ideal Cert.Reference11Ideal.Read

variable (x0 x1 : FVec Ideal S4096x1024 .f32) (x2 : FVec Ideal S1024 .f32) (x3 : FVec Ideal S1024x1024 .f32)
  (x4 x5 : FVec Ideal S4096x384 .f32) (x6 : FVec Ideal S4096x256 .f32) (x7 : FVec Ideal S1024 .f32)

/-- Row `r` of the input, and of the cotangent times the gain. -/
abbrev rowR (r : Fin 4096) (d : Fin 1024) : EReal := x0 (ix2 r d)
abbrev cotR (r : Fin 4096) (d : Fin 1024) : EReal := x1 (ix2 r d) * x2 (ix1 d)

theorem v4_at (r : Fin 4096) : val_main_v4 (F := Ideal) x0 (ix2 r 0) = mean k1024 (rowR x0 r) := by
  pointwise [val_main_v4, val_main_v3, val_main_v2, val_main_v1, val_main_cst_0, val_main_cst_1]
  rfl
theorem v6_at (r : Fin 4096) (d : Fin 1024) : val_main_v6 (F := Ideal) x0 (ix2 r d) = rowR x0 r d - mean k1024 (rowR x0 r) := by
  rw [← v4_at]
  pointwise [val_main_v6, val_main_v5]
theorem v15_at (r : Fin 4096) (d : Fin 1024) : val_main_v15 (F := Ideal) x0 (ix2 r d) = rowR x0 r d - mean k1024 (rowR x0 r) := by
  rw [← v4_at]
  pointwise [val_main_v15, val_main_v14]
theorem v17_at (r : Fin 4096) : val_main_v17 (F := Ideal) x0 (ix2 r 0) = var k1024 epsLn (rowR x0 r) := by
  unfold var
  simp only [← v6_at]
  pointwise [val_main_v17, val_main_v16, val_main_v13, val_main_v12, val_main_v11, val_main_v10, val_main_v7, val_main_cst_3, val_main_cst_4, val_main_cst_5]
theorem v23_at (r : Fin 4096) (d : Fin 1024) : val_main_v23 (F := Ideal) x0 (ix2 r d) = hat k1024 epsLn (rowR x0 r) d := by
  unfold hat
  rw [← v17_at, ← v15_at]
  pointwise [val_main_v23, val_main_v22, val_main_v18]
theorem v38_at (r : Fin 4096) (d : Fin 1024) : val_main_v38 (F := Ideal) x1 x2 (ix2 r d) = cotR x1 x2 r d := by
  pointwise [val_main_v38, val_main_v37, val_main_v24, val_main_v30]
theorem v44_at (r : Fin 4096) (d : Fin 1024) : val_main_v44 (F := Ideal) x0 x1 x2 (ix2 r d) = cotR x1 x2 r d * Ideal.rsqrt (var k1024 epsLn (rowR x0 r)) := by
  rw [← v38_at, ← v17_at]
  pointwise [val_main_v44, val_main_v43, val_main_v18]
theorem v50_at (r : Fin 4096) : val_main_v50 (F := Ideal) x0 x1 x2 (ix2 r 0) = lnS k1024 epsLn (rowR x0 r) (cotR x1 x2 r) := by
  unfold lnS
  simp only [← v38_at, ← v17_at, ← v15_at]
  pointwise [val_main_v50, val_main_v49, val_main_v45, val_main_v42, val_main_v41, val_main_v40, val_main_v21, val_main_v20, val_main_v19, val_main_v18, val_main_cst_11, val_main_cst_6, val_main_cst_13]
theorem v53_at (r : Fin 4096) (d : Fin 1024) : val_main_v53 (F := Ideal) x0 x1 x2 (ix2 r d)
    = lnS k1024 epsLn (rowR x0 r) (cotR x1 x2 r) * (two * (rowR x0 r d - mean k1024 (rowR x0 r))) := by
  rw [← v50_at, ← v6_at]
  pointwise [val_main_v53, val_main_v52, val_main_v51, val_main_v9, val_main_v8, val_main_cst_14, val_main_cst_2]
  exact congrArg (· * _) (Fin.sum_univ_one _)
theorem dr_at (r : Fin 4096) (d : Fin 1024) : val_main_v63 (F := Ideal) x0 x1 x2 (ix2 r d) = lnR k1024 epsLn (rowR x0 r) (cotR x1 x2 r) d := by
  unfold lnR
  simp only [← v53_at, ← v44_at]
  pointwise [val_main_v63, val_main_v62, val_main_v61, val_main_v60, val_main_v59, val_main_v58, val_main_v57, val_main_v56, val_main_v55, val_main_v54, val_main_v48, val_main_v47, val_main_v46, val_main_cst_12, val_main_cst_15, val_main_cst_16, val_main_cst_17]
  exact congrArg (val_main_v44 (F := Ideal) x0 x1 x2 (ix2 r d) + val_main_v53 (F := Ideal) x0 x1 x2 (ix2 r d) + ·) (Fin.sum_univ_one _)
theorem dlg_at (d : Fin 1024) : val_main_v188 (F := Ideal) x0 x1 (ix2 0 d) = ∑ r : Fin 4096, x1 (ix2 r d) * hat k1024 epsLn (rowR x0 r) d := by
  simp only [← v23_at]
  pointwise [val_main_v188, val_main_v39, val_main_v36, val_main_v35, val_main_v34, val_main_v30, val_main_cst_9, val_main_cst_10]
  exact (Fin.sum_univ_one _).trans (Finset.sum_congr rfl fun _ _ => mul_comm _ _)
theorem dlb_at (d : Fin 1024) : val_main_v189 (F := Ideal) x1 (ix2 0 d) = ∑ r : Fin 4096, x1 (ix2 r d) := by
  pointwise [val_main_v189, val_main_v33, val_main_v32, val_main_v31, val_main_cst_7, val_main_cst_8]
  exact Fin.sum_univ_one _

/-- The matrix and the gain as functions. -/
abbrev matR (q k : Fin 1024) : EReal := x3 (ix2 q k)
abbrev vecR (q : Fin 1024) : EReal := x7 (ix1 q)

section fin
variable (f1 : ∀ i, Fin' (x1 i)) (f2 : ∀ i, Fin' (x2 i))
include f1 f2

theorem drK_at (r : Fin 4096) (d : Fin 1024) : val_main_v63 (F := Ideal) x0 x1 x2 (ix2 r d) = lnK k1024 epsLn (rowR x0 r) (cotR x1 x2 r) d := by
  obtain ⟨e, he, ee⟩ := epsLn_eq
  refine (dr_at _ _ _ r d).trans ?_
  exact lnR_all k1024_eq ee (by rw [Fintype.card_fin]; norm_num) (by norm_num) he _ _ (fun d => (f1 _).mul (f2 _)) d
theorem dc_at (r : Fin 4096) (q : Fin 1024) : val_main_v123 (F := Ideal) x0 x1 x2 x3 (ix2 r q) = dc (rowR x0 r) (cotR x1 x2 r) (matR x3) q := by
  unfold dc
  simp only [← drK_at x0 x1 x2 f1 f2]
  pointwise [val_main_v123]
end fin

abbrev rowO (r : Fin 4096) (e : Fin 384) : EReal := x4 (ix2 r e)
theorem msO_at (r : Fin 4096) : val_main_v73 (F := Ideal) x4 (ix2 r 0) = ms k384 epsRms (rowO x4 r) := by
  unfold ms
  pointwise [val_main_v73, val_main_v72, val_main_v71, val_main_v70, val_main_v69, val_main_v68, val_main_v65, val_main_cst_19, val_main_cst_20, val_main_cst_21]
theorem wO_at (r : Fin 4096) (e : Fin 384) : val_main_v170 (F := Ideal) x0 x1 x2 x3 x7 (ix2 r e)
    = val_main_v123 (F := Ideal) x0 x1 x2 x3 (ix2 r ⟨e.val, by omega⟩) * vecR x7 ⟨e.val, by omega⟩ := by
  pointwise [val_main_v170, val_main_v169, val_main_v80, val_main_v64, val_main_v124]
theorem dOR_at (r : Fin 4096) (e : Fin 384) : val_main_v183 (F := Ideal) x0 x1 x2 x3 x4 x7 (ix2 r e)
    = rmsR k384 epsRms (rowO x4 r) (fun e => val_main_v170 (F := Ideal) x0 x1 x2 x3 x7 (ix2 r e)) e := by
  unfold rmsR
  simp only [← msO_at]
  pointwise [val_main_v183, val_main_v182, val_main_v181, val_main_v180, val_main_v179, val_main_v178, val_main_v177, val_main_v176, val_main_v175, val_main_v174, val_main_v173, val_main_v172, val_main_v77, val_main_v76, val_main_v75, val_main_v74, val_main_v67, val_main_v66, val_main_cst_47, val_main_cst_48, val_main_cst_49, val_main_cst_22, val_main_cst_18]
  exact congrArg (_ + ·) (congrArg (· * _) (Fin.sum_univ_one _))
theorem gOR_at (e : Fin 384) : val_main_v171 (F := Ideal) x0 x1 x2 x3 x4 (ix1 e)
    = ∑ r : Fin 4096, rowO x4 r e * Ideal.rsqrt (ms k384 epsRms (rowO x4 r)) * val_main_v123 (F := Ideal) x0 x1 x2 x3 (ix2 r ⟨e.val, by omega⟩) := by
  simp only [← msO_at]
  pointwise [val_main_v171, val_main_v168, val_main_v167, val_main_v166, val_main_v79, val_main_v78, val_main_v74, val_main_v124, val_main_cst_45, val_main_cst_46]
  exact Fin.sum_univ_one _

abbrev rowL (r : Fin 4096) (e : Fin 384) : EReal := x5 (ix2 r e)
theorem msL_at (r : Fin 4096) : val_main_v92 (F := Ideal) x5 (ix2 r 0) = ms k384 epsRms (rowL x5 r) := by
  unfold ms
  pointwise [val_main_v92, val_main_v91, val_main_v90, val_main_v89, val_main_v88, val_main_v87, val_main_v84, val_main_cst_24, val_main_cst_25, val_main_cst_26]
theorem wL_at (r : Fin 4096) (e : Fin 384) : val_main_v150 (F := Ideal) x0 x1 x2 x3 x7 (ix2 r e)
    = val_main_v123 (F := Ideal) x0 x1 x2 x3 (ix2 r ⟨384 + e.val, by omega⟩) * vecR x7 ⟨384 + e.val, by omega⟩ := by
  pointwise [val_main_v150, val_main_v149, val_main_v99, val_main_v83, val_main_v125]
theorem dLR_at (r : Fin 4096) (e : Fin 384) : val_main_v163 (F := Ideal) x0 x1 x2 x3 x5 x7 (ix2 r e)
    = rmsR k384 epsRms (rowL x5 r) (fun e => val_main_v150 (F := Ideal) x0 x1 x2 x3 x7 (ix2 r e)) e := by
  unfold rmsR
  simp only [← msL_at]
  pointwise [val_main_v163, val_main_v162, val_main_v161, val_main_v160, val_main_v159, val_main_v158, val_main_v157, val_main_v156, val_main_v155, val_main_v154, val_main_v153, val_main_v152, val_main_v96, val_main_v95, val_main_v94, val_main_v93, val_main_v86, val_main_v85, val_main_cst_41, val_main_cst_42, val_main_cst_43, val_main_cst_27, val_main_cst_23]
  exact congrArg (_ + ·) (congrArg (· * _) (Fin.sum_univ_one _))
theorem gLR_at (e : Fin 384) : val_main_v151 (F := Ideal) x0 x1 x2 x3 x5 (ix1 e)
    = ∑ r : Fin 4096, rowL x5 r e * Ideal.rsqrt (ms k384 epsRms (rowL x5 r)) * val_main_v123 (F := Ideal) x0 x1 x2 x3 (ix2 r ⟨384 + e.val, by omega⟩) := by
  simp only [← msL_at]
  pointwise [val_main_v151, val_main_v148, val_main_v147, val_main_v146, val_main_v98, val_main_v97, val_main_v93, val_main_v125, val_main_cst_39, val_main_cst_40]
  exact Fin.sum_univ_one _

abbrev rowS (r : Fin 4096) (e : Fin 256) : EReal := x6 (ix2 r e)
theorem msS_at (r : Fin 4096) : val_main_v111 (F := Ideal) x6 (ix2 r 0) = ms k256 epsRms (rowS x6 r) := by
  unfold ms
  pointwise [val_main_v111, val_main_v110, val_main_v109, val_main_v108, val_main_v107, val_main_v106, val_main_v103, val_main_cst_29, val_main_cst_30, val_main_cst_31]
theorem wS_at (r : Fin 4096) (e : Fin 256) : val_main_v131 (F := Ideal) x0 x1 x2 x3 x7 (ix2 r e)
    = val_main_v123 (F := Ideal) x0 x1 x2 x3 (ix2 r ⟨768 + e.val, by omega⟩) * vecR x7 ⟨768 + e.val, by omega⟩ := by
  pointwise [val_main_v131, val_main_v130, val_main_v118, val_main_v102, val_main_v126]
theorem dSR_at (r : Fin 4096) (e : Fin 256) : val_main_v144 (F := Ideal) x0 x1 x2 x3 x6 x7 (ix2 r e)
    = rmsR k256 epsRms (rowS x6 r) (fun e => val_main_v131 (F := Ideal) x0 x1 x2 x3 x7 (ix2 r e)) e := by
  unfold rmsR
  simp only [← msS_at]
  pointwise [val_main_v144, val_main_v143, val_main_v142, val_main_v141, val_main_v140, val_main_v139, val_main_v138, val_main_v137, val_main_v136, val_main_v135, val_main_v134, val_main_v133, val_main_v115, val_main_v114, val_main_v113, val_main_v112, val_main_v105, val_main_v104, val_main_cst_35, val_main_cst_36, val_main_cst_37, val_main_cst_32, val_main_cst_28]
  exact congrArg (_ + ·) (congrArg (· * _) (Fin.sum_univ_one _))
theorem gSR_at (e : Fin 256) : val_main_v132 (F := Ideal) x0 x1 x2 x3 x6 (ix1 e)
    = ∑ r : Fin 4096, rowS x6 r e * Ideal.rsqrt (ms k256 epsRms (rowS x6 r)) * val_main_v123 (F := Ideal) x0 x1 x2 x3 (ix2 r ⟨768 + e.val, by omega⟩) := by
  simp only [← msS_at]
  pointwise [val_main_v132, val_main_v129, val_main_v128, val_main_v127, val_main_v117, val_main_v116, val_main_v112, val_main_v126, val_main_cst_33, val_main_cst_34]
  exact Fin.sum_univ_one _

section fin
variable (f1 : ∀ i, Fin' (x1 i)) (f2 : ∀ i, Fin' (x2 i))
include f1 f2

theorem dO_at (r : Fin 4096) (e : Fin 384) : val_main_v183 (F := Ideal) x0 x1 x2 x3 x4 x7 (ix2 r e)
    = dO (rowR x0 r) (cotR x1 x2 r) (matR x3) (vecR x7) (rowO x4 r) e := by
  obtain ⟨ε, hε, eε⟩ := epsRms_eq
  have hw : (fun e => val_main_v170 (F := Ideal) x0 x1 x2 x3 x7 (ix2 r e)) = wO (rowR x0 r) (cotR x1 x2 r) (matR x3) (vecR x7) := funext fun e => by
    rw [wO_at, dc_at x0 x1 x2 x3 f1 f2]
    rfl
  rw [dOR_at, hw]
  exact rmsR_all k384_eq eε (by norm_num) hε _ _ e
theorem gO_at (e : Fin 384) : val_main_v171 (F := Ideal) x0 x1 x2 x3 x4 (ix1 e)
    = ∑ r : Fin 4096, gO (rowR x0 r) (cotR x1 x2 r) (matR x3) (rowO x4 r) e := by
  rw [gOR_at]
  refine Finset.sum_congr rfl fun r _ => ?_
  rw [dc_at x0 x1 x2 x3 f1 f2]
  exact (mul_comm _ _).trans (mul_assoc _ _ _).symm

theorem dL_at (r : Fin 4096) (e : Fin 384) : val_main_v163 (F := Ideal) x0 x1 x2 x3 x5 x7 (ix2 r e)
    = dL (rowR x0 r) (cotR x1 x2 r) (matR x3) (vecR x7) (rowL x5 r) e := by
  obtain ⟨ε, hε, eε⟩ := epsRms_eq
  have hw : (fun e => val_main_v150 (F := Ideal) x0 x1 x2 x3 x7 (ix2 r e)) = wL (rowR x0 r) (cotR x1 x2 r) (matR x3) (vecR x7) := funext fun e => by
    rw [wL_at, dc_at x0 x1 x2 x3 f1 f2]
    rfl
  rw [dLR_at, hw]
  exact rmsR_all k384_eq eε (by norm_num) hε _ _ e
theorem gL_at (e : Fin 384) : val_main_v151 (F := Ideal) x0 x1 x2 x3 x5 (ix1 e)
    = ∑ r : Fin 4096, gL (rowR x0 r) (cotR x1 x2 r) (matR x3) (rowL x5 r) e := by
  rw [gLR_at]
  refine Finset.sum_congr rfl fun r _ => ?_
  rw [dc_at x0 x1 x2 x3 f1 f2]
  exact (mul_comm _ _).trans (mul_assoc _ _ _).symm

theorem dS_at (r : Fin 4096) (e : Fin 256) : val_main_v144 (F := Ideal) x0 x1 x2 x3 x6 x7 (ix2 r e)
    = dS (rowR x0 r) (cotR x1 x2 r) (matR x3) (vecR x7) (rowS x6 r) e := by
  obtain ⟨ε, hε, eε⟩ := epsRms_eq
  have hw : (fun e => val_main_v131 (F := Ideal) x0 x1 x2 x3 x7 (ix2 r e)) = wS (rowR x0 r) (cotR x1 x2 r) (matR x3) (vecR x7) := funext fun e => by
    rw [wS_at, dc_at x0 x1 x2 x3 f1 f2]
    rfl
  rw [dSR_at, hw]
  exact rmsR_all k256_eq eε (by norm_num) hε _ _ e
theorem gS_at (e : Fin 256) : val_main_v132 (F := Ideal) x0 x1 x2 x3 x6 (ix1 e)
    = ∑ r : Fin 4096, gS (rowR x0 r) (cotR x1 x2 r) (matR x3) (rowS x6 r) e := by
  rw [gSR_at]
  refine Finset.sum_congr rfl fun r _ => ?_
  rw [dc_at x0 x1 x2 x3 f1 f2]
  exact (mul_comm _ _).trans (mul_assoc _ _ _).symm

end fin

theorem dgO_at (e : Fin 384) : val_main_v190 (F := Ideal) x0 x1 x2 x3 x4 x5 x6 (ix2 0 ⟨e.val, by omega⟩) = val_main_v171 (F := Ideal) x0 x1 x2 x3 x4 (ix1 e) := by
  pointwise [val_main_v190, val_main_v185, val_main_v184, val_main_v165, val_main_v164, val_main_v145, val_main_cst_38, val_main_cst_44, val_main_cst_50]
  rw [dif_neg, dif_neg, zero_add, zero_add] <;> first | omega | exact fun h => h.1
theorem dgL_at (e : Fin 384) : val_main_v190 (F := Ideal) x0 x1 x2 x3 x4 x5 x6 (ix2 0 ⟨384 + e.val, by omega⟩) = val_main_v151 (F := Ideal) x0 x1 x2 x3 x5 (ix1 e) := by
  pointwise [val_main_v190, val_main_v185, val_main_v184, val_main_v165, val_main_v164, val_main_v145, val_main_cst_38, val_main_cst_44, val_main_cst_50]
  rw [dif_neg, zero_add] <;> omega
theorem dgS_at (e : Fin 256) : val_main_v190 (F := Ideal) x0 x1 x2 x3 x4 x5 x6 (ix2 0 ⟨768 + e.val, by omega⟩) = val_main_v132 (F := Ideal) x0 x1 x2 x3 x6 (ix1 e) := by
  pointwise [val_main_v190, val_main_v185, val_main_v184, val_main_v165, val_main_v164, val_main_v145, val_main_cst_38, val_main_cst_44, val_main_cst_50]
  rw [dif_neg, dif_neg, add_zero, add_zero] <;> omega

theorem d4_at (i : Fin 1024) (j : Fin 1536) : val_main_v186 (F := Ideal) x0 x1 x2 x3 x4 x7 (ix2 i j)
    = val_main_v183 (F := Ideal) x0 x1 x2 x3 x4 x7 (ix2 ⟨4 * i.val + j.val / 384, by omega⟩ ⟨j.val % 384, by omega⟩) := by
  pointwise [val_main_v186]
  blk_ext
theorem d16_at (i : Fin 256) (j : Fin 6144) : val_main_v187 (F := Ideal) x0 x1 x2 x3 x4 x7 (ix2 i j)
    = val_main_v183 (F := Ideal) x0 x1 x2 x3 x4 x7 (ix2 ⟨16 * i.val + j.val / 384, by omega⟩ ⟨j.val % 384, by omega⟩) := by
  pointwise [val_main_v187]
  blk_ext

end Reference

end Cert.MixBwd

end
-- ==== Proof.MixTiles.lean ====
/- The dilated copies of the attention gradient: each entry of the two is an entry of the block itself. -/
module

public import proofs.«01_k».proof.Defs
public import proofs.«01_k».proof.Proof.Acc
public import proofs.«01_k».proof.Proof.Norm
public import proofs.«01_k».proof.Proof.Gen.Kernel11Ideal.Value
public import Idealize.ShloMosaic.Lib.Pipeline.ValueKit
public import Idealize.ShloMosaic.Lib.Pointwise
public import Idealize.ShloMosaic.Lib.ValueLayout

@[expose] public section

set_option maxRecDepth 16384

noncomputable section

namespace Cert.MixBwd

open Idealize.ShloMosaic Idealize.ShloMosaic.TcCoe Idealize.SL.Sem
open Cert.Kernel11Ideal Cert.Kernel11Ideal.Gen

section slots

variable {sg : RefSig} {κ : Kind} {sp : Space} (v : View sg κ sp S3x512x128 .f32)
variable (P : Vec Ideal S512x384 .f32) (Q : FVec Ideal S512x1 .f32) (R S : FVec Ideal S512x384 .f32)

/-- The three slots of the scratch array hold the three column groups. -/
theorem canonSlots (y : S3x512x128.Idx) :
    View.canon (Val := Elt Ideal) (s := S3x512x128) (e := .f32)
      [⟨Rect.unit (s := S3x512x128) ![2, 0, 0] ![1, 512, 128] inb_S3x512x128_S1x512x128_2_0_0, k0_pay26 P Q R S⟩,
       ⟨Rect.unit (s := S3x512x128) ![1, 0, 0] ![1, 512, 128] inb_S3x512x128_S1x512x128_1_0_0, k0_pay25 P Q R S⟩,
       ⟨Rect.unit (s := S3x512x128) ![0, 0, 0] ![1, 512, 128] inb_S3x512x128_S1x512x128_0_0_0, k0_pay24 P Q R S⟩] y
    = k0_pay22 P Q R S (ix2 (y 1) ⟨128 * (y 0 : ℕ) + (y 2 : ℕ), by
        have h0 : (y 0 : ℕ) < 3 := (y 0).isLt
        have h2 : (y 2 : ℕ) < 128 := (y 2).isLt
        omega⟩) := by
  obtain_idx i : S512x384 := [(y 1 : ℕ), 128 * (y 0 : ℕ) + (y 2 : ℕ)] with hi
  refine Eq.trans (b := k0_pay22 (F := Ideal) P Q R S i) ?_ ?_
  · canon_tiles x h
    all_goals (pointwise [k0_pay24, k0_pay25, k0_pay26]; blk_ext)
  · blk_ext

theorem loadSlot (lr : LoadRect S512x128) (h0 : (![1, 512, 128] : Fin 3 → ℕ) 0 = 1)
    (hs : ∀ i : Fin 2, (![1, 512, 128] : Fin 3 → ℕ) i.succ = ![512, 128] i) (y) :
    LoadRect.idx (lr.consLift ![1, 512, 128] h0 hs) (Shape.reshapeEquiv (lr.numel_consLift ![1, 512, 128] h0 hs) y)
      = ix3 (0 : Fin 1) (lr.idx y 0) (lr.idx y 1) := by
  rw [← lr.liftsTo_consLift]
  have e : lr.idx y = ix2 (lr.idx y 0) (lr.idx y 1) := by
    funext a; match a with
    | ⟨0, _⟩ => rfl
    | ⟨1, _⟩ => rfl
  rw [e]
  exact ValueIdx.reshapeEquiv_ix2_1ab _ _ _

/-- A strided load through a slot, at its own index. -/
theorem slot (j o n s : ℕ) (inb : ∀ a, (![j, 0, 0] : Fin 3 → ℕ) a + (![1, 512, 128] : Fin 3 → ℕ) a ≤ S3x512x128.size a)
    (hlr) (h0 : (![1, 512, 128] : Fin 3 → ℕ) 0 = 1)
    (hs : ∀ i : Fin 2, (![1, 512, 128] : Fin 3 → ℕ) i.succ = ![512, 128] i) (hst) (hR)
    (x : (⟨2, ![n, 128]⟩ : Shape).Idx) (a : Fin 512) (b : Fin 384)
    (ha : (a : ℕ) = o + s * (x 0 : ℕ)) (hb : (b : ℕ) = 128 * j + (x 1 : ℕ)) :
    (LoadRect.valAlong (lr := (⟨![o, 0], ![n, 128], ![s, 1], hlr⟩ : LoadRect S512x128)) hR (v.readCov (Val := Elt Ideal)
      [⟨Rect.unit (s := S3x512x128) ![2, 0, 0] ![1, 512, 128] inb_S3x512x128_S1x512x128_2_0_0, k0_pay26 P Q R S⟩,
       ⟨Rect.unit (s := S3x512x128) ![1, 0, 0] ![1, 512, 128] inb_S3x512x128_S1x512x128_1_0_0, k0_pay25 P Q R S⟩,
       ⟨Rect.unit (s := S3x512x128) ![0, 0, 0] ![1, 512, 128] inb_S3x512x128_S1x512x128_0_0_0, k0_pay24 P Q R S⟩]
      ((Rect.unit (s := S3x512x128) ![j, 0, 0] ![1, 512, 128] inb).withinL
        (LoadRect.consLift (⟨![o, 0], ![n, 128], ![s, 1], hlr⟩ : LoadRect S512x128) ![1, 512, 128] h0 hs) hst)) :) x
    = k0_pay22 P Q R S (ix2 a b) := by
  rw [View.readCov_eq_canon']
  refine (canonSlots P Q R S _).trans ?_
  have key := (Rect.idx_withinL (Rect.unit (s := S3x512x128) ![j, 0, 0] ![1, 512, 128] inb) _ hst _).trans
    (congrArg (Rect.unit (s := S3x512x128) ![j, 0, 0] ![1, 512, 128] inb).emb
      (loadSlot (⟨![o, 0], ![n, 128], ![s, 1], hlr⟩ : LoadRect S512x128) h0 hs x))
  refine congrArg _ (congrArg₂ ix2 (Fin.ext ?_) (Fin.ext ?_))
  · refine (congrArg Fin.val (congrFun key 1)).trans ?_
    show 0 + 1 * (o + s * (x 0 : ℕ)) = _
    omega
  · refine (congrArg₂ (fun a b : ℕ => 128 * a + b) (congrArg Fin.val (congrFun key 0)) (congrArg Fin.val (congrFun key 2))).trans ?_
    show 128 * (j + 1 * 0) + (0 + 1 * (0 + 1 * (x 1 : ℕ))) = _
    omega

end slots

variable (m : (ℓ : Loc nD τ sig) → Buf (Elt Ideal) ℓ) (c : Dev nD)

theorem out12 (t : Fin cfg0.N) (y : S128x1536.Idx) (a : Fin 512) (b : Fin 384)
    (ha : (a : ℕ) = 4 * (y 0 : ℕ) + (y 1 : ℕ) / 384) (hb : (b : ℕ) = (y 1 : ℕ) % 384) :
    (outsAt0 (F := Ideal) m c t.val t.isLt).2.2.2.2.1 y = (outsAt0 (F := Ideal) m c t.val t.isLt).2.2.2.1 (ix2 a b) := by
  by_cases h0 : t.val % 8 = 0
  · rw [outsAt0_A m c t h0]
    frame_out
    canon_tiles x h
    all_goals (refine slot _ _ _ _ _ _ _ _ _ _ _ _ _ _ _ x a b ?_ ?_ <;> omega)
  · rw [outsAt0_B m c t h0]
    frame_out
    canon_tiles x h
    all_goals (refine slot _ _ _ _ _ _ _ _ _ _ _ _ _ _ _ x a b ?_ ?_ <;> omega)

theorem out13 (t : Fin cfg0.N) (y : S32x6144.Idx) (a : Fin 512) (b : Fin 384)
    (ha : (a : ℕ) = 16 * (y 0 : ℕ) + (y 1 : ℕ) / 384) (hb : (b : ℕ) = (y 1 : ℕ) % 384) :
    (outsAt0 (F := Ideal) m c t.val t.isLt).2.2.2.2.2.1 y = (outsAt0 (F := Ideal) m c t.val t.isLt).2.2.2.1 (ix2 a b) := by
  by_cases h0 : t.val % 8 = 0
  · rw [outsAt0_A m c t h0]
    frame_out
    canon_tiles x h
    all_goals (refine slot _ _ _ _ _ _ _ _ _ _ _ _ _ _ _ x a b ?_ ?_ <;> omega)
  · rw [outsAt0_B m c t h0]
    frame_out
    canon_tiles x h
    all_goals (refine slot _ _ _ _ _ _ _ _ _ _ _ _ _ _ _ x a b ?_ ?_ <;> omega)

end Cert.MixBwd
end
-- ==== Proof.MixBwd.lean ====
/- The gradients of the mixer and of the layer norm in front of it: the kernel's nine arrays and the reference's results as the same
   functions of the arguments, and the claims made of them. -/
module

public import proofs.«01_k».proof.Defs
public import proofs.«01_k».proof.Proof.Acc
public import proofs.«01_k».proof.Proof.MixRef
public import proofs.«01_k».proof.Proof.MixTiles
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Pre_finite11
public import Idealize.ShloMosaic.Lib.ReduceAll
public import Idealize.ShloMosaic.Lib.Affine
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Pre_finite11.MixBwd

open Idealize.ShloMosaic
open Cert.Pre_finite11
open Cert.Ffn (Fin')

instance : Subsingleton S_.Idx := ⟨fun i j => funext fun k => k.elim0⟩

/-- An element whose absolute value is below the top is a real. -/
theorem fin_of_lt {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) : Fin' (x i) := by
  have e' : BitVec.ofBool (decide (max (x i) (-(x i)) < Ideal.ofBits .f32 0x7F800000#32)) = 1#1 := e
  rw [Cert.Ffn.ofBits_inf] at e'
  have h : max (x i) (-(x i)) < ⊤ := by
    by_contra hn
    rw [decide_eq_false hn] at e'
    exact absurd e' (by decide)
  have h1 : x i ≠ ⊤ := (lt_of_le_of_lt (le_max_left _ _) h).ne
  have h2 : x i ≠ ⊥ := fun hb => by
    have : -(x i) < ⊤ := lt_of_le_of_lt (le_max_right _ _) h
    rw [hb, EReal.neg_bot] at this
    exact lt_irrefl _ this
  exact ⟨(x i).toReal, (EReal.coe_toReal h1 h2).symm⟩

theorem finite_of (x0 : FVec Ideal S4096x1024 .f32) (x1 : FVec Ideal S4096x1024 .f32) (x2 : FVec Ideal S1024 .f32) (x3 : FVec Ideal S1024x1024 .f32) (x4 : FVec Ideal S4096x384 .f32) (x5 : FVec Ideal S4096x384 .f32) (x6 : FVec Ideal S4096x256 .f32) (x7 : FVec Ideal S1024 .f32)
    (h : fn (F := Ideal) x0 x1 x2 x3 x4 x5 x6 x7 = fun _ => 1#1) :
    (∀ i, Fin' (x1 i)) ∧ (∀ i, Fin' (x2 i)) := by
  have e := congrFun h (fun k => k.elim0)
  obtain ⟨e1, e2⟩ := (IntOp.andi_eq_one).1 e
  exact ⟨fun i => fin_of_lt _ _ i (Host.reduce_andi_all _ _ _ _ _ e1 i),
    fun i => fin_of_lt _ _ i (Host.reduce_andi_all _ _ _ _ _ e2 i)⟩

end Cert.Pre_finite11.MixBwd

namespace Cert.MixBwd

open Idealize.ShloMosaic Idealize.ShloMosaic.TcCoe Idealize.SL.Sem

section Kernel
open Cert.Kernel11Ideal Cert.Kernel11Ideal.Gen
open Cert.Norm

/-- Row `p` of a block, and the matrix and the row vectors as the kernel reads them. -/
abbrev rowK (x : FVec Ideal S512x1024 .f32) (p : Fin 512) (d : Fin 1024) : EReal := x (ix2 p d)
abbrev cotK (x : FVec Ideal S512x1024 .f32) (g : FVec Ideal S1x1024 .f32) (p : Fin 512) (d : Fin 1024) : EReal := x (ix2 p d) * g (ix2 0 d)
abbrev matK (w : FVec Ideal S1024x1024 .bf16) (q k : Fin 1024) : EReal := w (ix2 q k)
abbrev vecK (g : FVec Ideal S1x1024 .f32) (q : Fin 1024) : EReal := g (ix2 0 q)
abbrev row3K (x : FVec Ideal S512x384 .f32) (p : Fin 512) (d : Fin 384) : EReal := x (ix2 p d)
abbrev row2K (x : FVec Ideal S512x256 .f32) (p : Fin 512) (d : Fin 256) : EReal := x (ix2 p d)

theorem pay8_at (x : FVec Ideal S512x1024 .f32) (p : Fin 512) (d : Fin 1024) :
    k0_pay8 (F := Ideal) x (ix2 p d) = rowK x p d - mean k1024 (rowK x p) := by
  unfold mean
  pointwise [k0_pay8]
theorem pay9_at (x : FVec Ideal S512x1024 .f32) (p : Fin 512) : k0_pay9 (F := Ideal) x (ix2 p 0) = Ideal.rsqrt (var k1024 epsLn (rowK x p)) := by
  unfold var
  simp only [← pay8_at]
  pointwise [k0_pay9]
theorem pay10_at (x : FVec Ideal S512x1024 .f32) (p : Fin 512) (d : Fin 1024) : k0_pay10 (F := Ideal) x (ix2 p d) = hat k1024 epsLn (rowK x p) d := by
  unfold hat
  rw [← pay8_at, ← pay9_at]
  pointwise [k0_pay10]

section blocks
variable (r h : FVec Ideal S512x1024 .f32) (lg : FVec Ideal S1x1024 .f32) (w : FVec Ideal S1024x1024 .bf16) (g : FVec Ideal S1x1024 .f32)
  (o l : FVec Ideal S512x384 .f32) (s : FVec Ideal S512x256 .f32)

/-- The block of the gradient of the residual. -/
def kdr : FVec Ideal S512x1024 .f32 := k0_pay14 (F := Ideal) (k0_pay9 r) (k0_pay10 r) (k0_pay12 h lg) (k0_pay13 r h lg)
theorem kdr_at (p : Fin 512) (d : Fin 1024) : kdr r h lg (ix2 p d) = lnK k1024 epsLn (rowK r p) (cotK h lg p) d := by
  unfold lnK
  simp only [← pay10_at, ← pay9_at]
  unfold mean
  pointwise [kdr, k0_pay14, k0_pay12, k0_pay13, k0_pay11]
/-- The block of the gradient of the mixed rows. -/
def kdm : FVec Ideal S512x1024 .f32 := k0_pay17 (F := Ideal) (k0_pay9 r) (k0_pay10 r) (k0_pay12 h lg) (k0_pay13 r h lg) w
theorem kdm_at (p : Fin 512) (q : Fin 1024) : kdm r h lg w (ix2 p q) = dc (rowK r p) (cotK h lg p) (matK w) q := by
  unfold dc
  simp only [← kdr_at]
  unfold kdr
  pointwise [kdm, k0_pay17]

theorem pay19_at (p : Fin 512) : k0_pay19 (F := Ideal) o (ix2 p 0) = Ideal.rsqrt (ms k384 epsRms (row3K o p)) := by
  unfold ms
  pointwise [k0_pay19]
theorem pay29_at (p : Fin 512) : k0_pay29 (F := Ideal) l (ix2 p 0) = Ideal.rsqrt (ms k384 epsRms (row3K l p)) := by
  unfold ms
  pointwise [k0_pay29]
/-- The sum of squares of the last group, as the kernel hands it on. -/
abbrev c256 : Ideal .f32 := FloatOps.ofBits (F := Ideal) .f32 0x43800000#32
theorem pay1_at (p : Fin 512) : k0_pay1 (F := Ideal) (k0_pay34 s) c256 (ix2 p 0) = Ideal.rsqrt (ms k256 epsRms (row2K s p)) := by
  unfold ms
  pointwise [k0_pay1, k0_pay34]

/-- The blocks of the gradients of the three groups. -/
def kdo : FVec Ideal S512x384 .f32 := k0_pay22 (F := Ideal) o (k0_pay19 o)
  (k0_pay20 (k0_pay7 g) (k0_pay9 r) (k0_pay10 r) (k0_pay12 h lg) (k0_pay13 r h lg) w)
  (k0_pay21 (k0_pay7 g) (k0_pay9 r) (k0_pay10 r) (k0_pay12 h lg) (k0_pay13 r h lg) w o)
def kdl : FVec Ideal S512x384 .f32 := k0_pay30 (F := Ideal) (k0_pay7 g) (kdm r h lg w) l
def kds : FVec Ideal S512x256 .f32 := k0_pay2 (F := Ideal) s (k0_pay32 (k0_pay7 g)) (k0_pay33 (kdm r h lg w)) (k0_pay34 s) c256

theorem kdo_at (p : Fin 512) (e : Fin 384) : kdo r h lg w g o (ix2 p e) = dO (rowK r p) (cotK h lg p) (matK w) (vecK g) (row3K o p) e := by
  unfold dO rmsK mean wO
  simp only [← pay19_at, ← kdm_at]
  unfold kdm
  pointwise [kdo, k0_pay22, k0_pay21, k0_pay20, k0_pay18, k0_pay7]
theorem kdl_at (p : Fin 512) (e : Fin 384) : kdl r h lg w g l (ix2 p e) = dL (rowK r p) (cotK h lg p) (matK w) (vecK g) (row3K l p) e := by
  unfold dL rmsK mean wL
  simp only [← pay29_at, ← kdm_at]
  pointwise [kdl, k0_pay30, k0_pay28, k0_pay7]
theorem kds_at (p : Fin 512) (e : Fin 256) : kds r h lg w g s (ix2 p e) = dS (rowK r p) (cotK h lg p) (matK w) (vecK g) (row2K s p) e := by
  unfold dS rmsK mean wS
  simp only [← pay1_at, ← kdm_at]
  pointwise [kds, k0_pay2, k0_pay32, k0_pay33, k0_pay7]

theorem kgO_at (acc : FVec Ideal S1x384 .f32) (e : Fin 384) :
    k0_pay27 (F := Ideal) (k0_pay23 o (k0_pay18 (k0_pay9 r) (k0_pay10 r) (k0_pay12 h lg) (k0_pay13 r h lg) w) (k0_pay19 o)) acc (ix2 0 e)
      = acc (ix2 0 e) + ∑ p : Fin 512, gO (rowK r p) (cotK h lg p) (matK w) (row3K o p) e := by
  unfold gO
  simp only [← pay19_at, ← kdm_at]
  unfold kdm
  pointwise [k0_pay27, k0_pay23, k0_pay18]
theorem kgL_at (acc : FVec Ideal S1x384 .f32) (e : Fin 384) :
    k0_pay31 (F := Ideal) (kdm r h lg w) l acc (ix2 0 e)
      = acc (ix2 0 e) + ∑ p : Fin 512, gL (rowK r p) (cotK h lg p) (matK w) (row3K l p) e := by
  unfold gL
  simp only [← pay29_at, ← kdm_at]
  pointwise [k0_pay31, k0_pay28]
theorem kgS_at (acc : FVec Ideal S1x256 .f32) (e : Fin 256) :
    k0_pay3 (F := Ideal) s (k0_pay33 (kdm r h lg w)) (k0_pay34 s) c256 acc (ix2 0 e)
      = acc (ix2 0 e) + ∑ p : Fin 512, gS (rowK r p) (cotK h lg p) (matK w) (row2K s p) e := by
  unfold gS
  simp only [← pay1_at, ← kdm_at]
  pointwise [k0_pay3, k0_pay33]
end blocks

theorem pay15_at (y z : FVec Ideal S512x1024 .f32) (acc : FVec Ideal S1x1024 .f32) (d : Fin 1024) :
    k0_pay15 (F := Ideal) y z acc (ix2 0 d) = acc (ix2 0 d) + ∑ p : Fin 512, y (ix2 p d) * z (ix2 p d) := by
  pointwise [k0_pay15]
theorem pay16_at (y : FVec Ideal S512x1024 .f32) (acc : FVec Ideal S1x1024 .f32) (d : Fin 1024) :
    k0_pay16 (F := Ideal) y acc (ix2 0 d) = acc (ix2 0 d) + ∑ p : Fin 512, y (ix2 p d) := by
  pointwise [k0_pay16]
theorem pay4_at (d : Fin 1024) : k0_pay4 (F := Ideal) (ix2 0 d) = 0 := by
  pointwise [k0_pay4]
theorem pay5_at (d : Fin 1024) : k0_pay5 (F := Ideal) (ix2 0 d) = 0 := by
  pointwise [k0_pay5]
theorem pay6_at (d : Fin 1024) : k0_pay6 (F := Ideal) (ix2 0 d) = 0 := by
  pointwise [k0_pay6]

variable (m : (ℓ : Loc nD τ sig) → Buf (Elt Ideal) ℓ) (c : Dev nD)

abbrev a0 : FVec Ideal S4096x1024 .f32 := m (c.tc.loc main_arg0)
abbrev a1 : FVec Ideal S4096x1024 .f32 := m (c.tc.loc main_arg1)
abbrev a2 : FVec Ideal S1024 .f32 := m (c.tc.loc main_arg2)
abbrev a3 : FVec Ideal S1024x1024 .f32 := m (c.tc.loc main_arg3)
abbrev a4 : FVec Ideal S4096x384 .f32 := m (c.tc.loc main_arg4)
abbrev a5 : FVec Ideal S4096x384 .f32 := m (c.tc.loc main_arg5)
abbrev a6 : FVec Ideal S4096x256 .f32 := m (c.tc.loc main_arg6)
abbrev a7 : FVec Ideal S1024 .f32 := m (c.tc.loc main_arg7)

/-- A vector as a row. -/
def vrow (y : FVec Ideal S1024 .f32) : FVec Ideal S1x1024 .f32 := broadcastInDim S1x1024 ![1] bcast_S1024_S1x1024_1 y
theorem vrow_at (y : FVec Ideal S1024 .f32) (d : Fin 1024) : vrow y (ix2 0 d) = y (ix1 d) := by
  pointwise [vrow]

theorem in0_at (r : Fin 4096) (d : Fin 1024) : V (F := Ideal) m c main_arg0 (ix2 r d) = a0 m c (ix2 r d) := by
  entry_read
  rfl
theorem in1_at (r : Fin 4096) (d : Fin 1024) : V (F := Ideal) m c main_arg1 (ix2 r d) = a1 m c (ix2 r d) := by
  entry_read
  rfl
theorem in4_at (r : Fin 4096) (d : Fin 384) : V (F := Ideal) m c main_arg4 (ix2 r d) = a4 m c (ix2 r d) := by
  entry_read
  rfl
theorem in5_at (r : Fin 4096) (d : Fin 384) : V (F := Ideal) m c main_arg5 (ix2 r d) = a5 m c (ix2 r d) := by
  entry_read
  rfl
theorem in6_at (r : Fin 4096) (d : Fin 256) : V (F := Ideal) m c main_arg6 (ix2 r d) = a6 m c (ix2 r d) := by
  entry_read
  rfl
theorem in2_at (d : Fin 1024) : V (F := Ideal) m c main_v0 (ix2 0 d) = a2 m c (ix1 d) := by
  refine Eq.trans ?_ (vrow_at (a2 m c) d)
  entry_read
  rfl
theorem in7_at (d : Fin 1024) : V (F := Ideal) m c main_v2 (ix2 0 d) = a7 m c (ix1 d) := by
  refine Eq.trans ?_ (vrow_at (a7 m c) d)
  entry_read
  rfl
theorem in3_at (i j : Fin 1024) : V (F := Ideal) m c main_v1 (ix2 i j) = a3 m c (ix2 i j) := by
  entry_read
  rfl

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0]
    ∧ win0_8.index t = ![t.val, 0] ∧ win0_9.index t = ![0, 0] ∧ win0_10.index t = ![0, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![0, 0] ∧ t.val < 8 :=
  (by decide +kernel : ∀ t : Fin grid0.N, _)
theorem lt8 (t : Fin cfg0.N) : t.val < 8 := (idx t).2.2.2.2.2.2.2.2.2.2.2.2.2.2.2.2.2

/-- Row `p` of the point's block of rows. -/
def row (t : Fin cfg0.N) (p : Fin 512) : Fin 4096 := ⟨t.val * 512 + p.val, by have := lt8 t; omega⟩

theorem b0_at (t : Fin cfg0.N) (p : Fin 512) (d : Fin 1024) : iblk (F := Ideal) m c 0 t (ix2 p d) = a0 m c (ix2 (row t p) d) := by
  rw [← in0_at]
  blk_ext [iblk, row, idx t]
theorem b1_at (t : Fin cfg0.N) (p : Fin 512) (d : Fin 1024) : iblk (F := Ideal) m c 1 t (ix2 p d) = a1 m c (ix2 (row t p) d) := by
  rw [← in1_at]
  blk_ext [iblk, row, idx t]
theorem b4_at (t : Fin cfg0.N) (p : Fin 512) (d : Fin 384) : iblk (F := Ideal) m c 4 t (ix2 p d) = a4 m c (ix2 (row t p) d) := by
  rw [← in4_at]
  blk_ext [iblk, row, idx t]
theorem b5_at (t : Fin cfg0.N) (p : Fin 512) (d : Fin 384) : iblk (F := Ideal) m c 5 t (ix2 p d) = a5 m c (ix2 (row t p) d) := by
  rw [← in5_at]
  blk_ext [iblk, row, idx t]
theorem b6_at (t : Fin cfg0.N) (p : Fin 512) (d : Fin 256) : iblk (F := Ideal) m c 6 t (ix2 p d) = a6 m c (ix2 (row t p) d) := by
  rw [← in6_at]
  blk_ext [iblk, row, idx t]
theorem b2_at (t : Fin cfg0.N) (d : Fin 1024) : iblk (F := Ideal) m c 2 t (ix2 0 d) = a2 m c (ix1 d) := by
  rw [← in2_at]
  blk_ext [iblk, idx t]
theorem b7_at (t : Fin cfg0.N) (d : Fin 1024) : iblk (F := Ideal) m c 7 t (ix2 0 d) = a7 m c (ix1 d) := by
  rw [← in7_at]
  blk_ext [iblk, idx t]
theorem b3_at (t : Fin cfg0.N) (i j : Fin 1024) : iblk (F := Ideal) m c 3 t (ix2 i j) = a3 m c (ix2 i j) := by
  rw [← in3_at]
  blk_ext [iblk, idx t]

/-- Rows of the arguments. -/
abbrev ra (r : Fin 4096) (d : Fin 1024) : EReal := a0 m c (ix2 r d)
abbrev rh (r : Fin 4096) (d : Fin 1024) : EReal := a1 m c (ix2 r d) * a2 m c (ix1 d)
abbrev mw (q k : Fin 1024) : EReal := a3 m c (ix2 q k)
abbrev vg (q : Fin 1024) : EReal := a7 m c (ix1 q)
abbrev ro (r : Fin 4096) (d : Fin 384) : EReal := a4 m c (ix2 r d)
abbrev rl (r : Fin 4096) (d : Fin 384) : EReal := a5 m c (ix2 r d)
abbrev rs (r : Fin 4096) (d : Fin 256) : EReal := a6 m c (ix2 r d)

theorem e0 (t : Fin cfg0.N) (p : Fin 512) : rowK (iblk (F := Ideal) m c 0 t) p = ra m c (row t p) := funext fun d => b0_at m c t p d
theorem e1 (t : Fin cfg0.N) (p : Fin 512) : cotK (iblk (F := Ideal) m c 1 t) (iblk (F := Ideal) m c 2 t) p = rh m c (row t p) :=
  funext fun d => congrArg₂ (· * ·) (b1_at m c t p d) (b2_at m c t d)
theorem e3 (t : Fin cfg0.N) : matK (iblk (F := Ideal) m c 3 t) = mw m c := funext fun k => funext fun q => b3_at m c t k q
theorem e7 (t : Fin cfg0.N) : vecK (iblk (F := Ideal) m c 7 t) = vg m c := funext fun q => b7_at m c t q
theorem e4 (t : Fin cfg0.N) (p : Fin 512) : row3K (iblk (F := Ideal) m c 4 t) p = ro m c (row t p) := funext fun d => b4_at m c t p d
theorem e5 (t : Fin cfg0.N) (p : Fin 512) : row3K (iblk (F := Ideal) m c 5 t) p = rl m c (row t p) := funext fun d => b5_at m c t p d
theorem e6 (t : Fin cfg0.N) (p : Fin 512) : row2K (iblk (F := Ideal) m c 6 t) p = rs m c (row t p) := funext fun d => b6_at m c t p d

/-- The gradients: of the residual and of the three groups, -/
def drS (r : Fin 4096) (d : Fin 1024) : EReal := lnK k1024 epsLn (ra m c r) (rh m c r) d
def doS (r : Fin 4096) (e : Fin 384) : EReal := dO (ra m c r) (rh m c r) (mw m c) (vg m c) (ro m c r) e
def dlS (r : Fin 4096) (e : Fin 384) : EReal := dL (ra m c r) (rh m c r) (mw m c) (vg m c) (rl m c r) e
def dsS (r : Fin 4096) (e : Fin 256) : EReal := dS (ra m c r) (rh m c r) (mw m c) (vg m c) (rs m c r) e
/-- and what a row adds to those of the layer norm's gain and bias and of the three groups' gains. -/
def lgRow (d : Fin 1024) (r : Fin 4096) : EReal := a1 m c (ix2 r d) * hat k1024 epsLn (ra m c r) d
def lbRow (d : Fin 1024) (r : Fin 4096) : EReal := a1 m c (ix2 r d)
def goRow (e : Fin 384) (r : Fin 4096) : EReal := gO (ra m c r) (rh m c r) (mw m c) (ro m c r) e
def glRow (e : Fin 384) (r : Fin 4096) : EReal := gL (ra m c r) (rh m c r) (mw m c) (rl m c r) e
def gsRow (e : Fin 256) (r : Fin 4096) : EReal := gS (ra m c r) (rh m c r) (mw m c) (rs m c r) e

theorem o8e (t : Fin cfg0.N) : (outsAt0 (F := Ideal) m c t.val t.isLt).1 = kdr (iblk m c 0 t) (iblk m c 1 t) (iblk m c 2 t) := by
  by_cases h0 : t.val % 8 = 0
  · rw [outsAt0_A m c t h0]
    frame_out
    rfl
  · rw [outsAt0_B m c t h0]
    frame_out
    rfl
theorem o11e (t : Fin cfg0.N) : (outsAt0 (F := Ideal) m c t.val t.isLt).2.2.2.1 = kdo (iblk m c 0 t) (iblk m c 1 t) (iblk m c 2 t) (iblk m c 3 t) (iblk m c 7 t) (iblk m c 4 t) := by
  by_cases h0 : t.val % 8 = 0
  · rw [outsAt0_A m c t h0]
    frame_out
    rfl
  · rw [outsAt0_B m c t h0]
    frame_out
    rfl
theorem o14e (t : Fin cfg0.N) : (outsAt0 (F := Ideal) m c t.val t.isLt).2.2.2.2.2.2.1 = kdl (iblk m c 0 t) (iblk m c 1 t) (iblk m c 2 t) (iblk m c 3 t) (iblk m c 7 t) (iblk m c 5 t) := by
  by_cases h0 : t.val % 8 = 0
  · rw [outsAt0_A m c t h0]
    frame_out
    rfl
  · rw [outsAt0_B m c t h0]
    frame_out
    rfl
theorem o15e (t : Fin cfg0.N) : (outsAt0 (F := Ideal) m c t.val t.isLt).2.2.2.2.2.2.2.1 = kds (iblk m c 0 t) (iblk m c 1 t) (iblk m c 2 t) (iblk m c 3 t) (iblk m c 7 t) (iblk m c 6 t) := by
  by_cases h0 : t.val % 8 = 0
  · rw [outsAt0_A m c t h0]
    frame_out
    rfl
  · rw [outsAt0_B m c t h0]
    frame_out
    rfl
theorem o8 (t : Fin cfg0.N) (p : Fin 512) (d : Fin 1024) : (outsAt0 (F := Ideal) m c t.val t.isLt).1 (ix2 p d) = drS m c (row t p) d := by
  rw [o8e, kdr_at, e0, e1]
  rfl
theorem o11 (t : Fin cfg0.N) (p : Fin 512) (d : Fin 384) : (outsAt0 (F := Ideal) m c t.val t.isLt).2.2.2.1 (ix2 p d) = doS m c (row t p) d := by
  rw [o11e, kdo_at, e0, e1, e3, e7, e4]
  rfl
theorem o14 (t : Fin cfg0.N) (p : Fin 512) (d : Fin 384) : (outsAt0 (F := Ideal) m c t.val t.isLt).2.2.2.2.2.2.1 (ix2 p d) = dlS m c (row t p) d := by
  rw [o14e, kdl_at, e0, e1, e3, e7, e5]
  rfl
theorem o15 (t : Fin cfg0.N) (p : Fin 512) (d : Fin 256) : (outsAt0 (F := Ideal) m c t.val t.isLt).2.2.2.2.2.2.2.1 (ix2 p d) = dsS m c (row t p) d := by
  rw [o15e, kds_at, e0, e1, e3, e7, e6]
  rfl

theorem s9A (t : Fin cfg0.N) (h0 : t.val % 8 = 0) : (outsAt0 (F := Ideal) m c t.val t.isLt).2.1 = k0_pay15 (F := Ideal) (iblk m c 1 t) (k0_pay10 (F := Ideal) (iblk m c 0 t)) (k0_pay5 (F := Ideal)) := by
  rw [outsAt0_A m c t h0]
  frame_out
theorem s9B (t : Fin cfg0.N) (h0 : ¬ t.val % 8 = 0) : (outsAt0 (F := Ideal) m c t.val t.isLt).2.1 = k0_pay15 (F := Ideal) (iblk m c 1 t) (k0_pay10 (F := Ideal) (iblk m c 0 t)) (outsAt0 m c (t.val - 1) (Nat.lt_of_le_of_lt (Nat.sub_le _ _) t.isLt)).2.1 := by
  rw [outsAt0_B m c t h0]
  frame_out
theorem part9 (t : Fin cfg0.N) (acc : FVec Ideal S1x1024 .f32) (q : Fin 1024) :
    k0_pay15 (F := Ideal) (iblk m c 1 t) (k0_pay10 (F := Ideal) (iblk m c 0 t)) acc (ix2 0 q) = acc (ix2 0 q) + ∑ p : Fin 512, lgRow m c q (row t p) := by
  refine (pay15_at _ _ _ q).trans (congrArg (acc (ix2 0 q) + ·) (Finset.sum_congr rfl fun p _ => ?_))
  rw [b1_at, pay10_at, e0]
  rfl
theorem stA9 (t : Fin cfg0.N) (h0 : t.val % 8 = 0) (q : Fin 1024) : (outsAt0 (F := Ideal) m c t.val t.isLt).2.1 (ix2 0 q) = ∑ p : Fin 512, lgRow m c q (row t p) := by
  rw [s9A m c t h0, part9, pay5_at, zero_add]
theorem stB9 (t : Fin cfg0.N) (h0 : ¬ t.val % 8 = 0) (q : Fin 1024) :
    (outsAt0 (F := Ideal) m c t.val t.isLt).2.1 (ix2 0 q) = (outsAt0 m c (t.val - 1) (Nat.lt_of_le_of_lt (Nat.sub_le _ _) t.isLt)).2.1 (ix2 0 q) + ∑ p : Fin 512, lgRow m c q (row t p) := by
  rw [s9B m c t h0, part9]
/-- What the output holds after point `n`. -/
def acc9 (q : Fin 1024) (n : ℕ) (hn : n < 8) : EReal := (outsAt0 (F := Ideal) m c n hn).2.1 (ix2 0 q)
theorem first9 (q : Fin 1024) (h : 0 < 8) : acc9 m c q 0 h = ∑ p : Fin 512, lgRow m c q ⟨0 * 512 + p.val, by omega⟩ :=
  stA9 m c ⟨0, h⟩ rfl q
theorem next9 (q : Fin 1024) (n : ℕ) (h : n + 1 < 8) : acc9 m c q (n + 1) h
    = acc9 m c q n (Nat.lt_of_succ_lt h) + ∑ p : Fin 512, lgRow m c q ⟨(n + 1) * 512 + p.val, by omega⟩ :=
  stB9 m c ⟨n + 1, h⟩ (by dsimp only; omega) q
theorem last9 (q : Fin 1024) (n : ℕ) (hn : n < 8) (h : n = 7) : acc9 m c q n hn = ∑ r : Fin 4096, lgRow m c q r := by
  subst h
  exact Acc.rows (acc9 m c q) (lgRow m c q) (first9 m c q) (next9 m c q) hn
theorem o9 (t : Fin cfg0.N) (h : t.val = 7) (q : Fin 1024) : (outsAt0 (F := Ideal) m c t.val t.isLt).2.1 (ix2 0 q) = ∑ r : Fin 4096, lgRow m c q r :=
  last9 m c q t.val t.isLt h

theorem s10A (t : Fin cfg0.N) (h0 : t.val % 8 = 0) : (outsAt0 (F := Ideal) m c t.val t.isLt).2.2.1 = k0_pay16 (F := Ideal) (iblk m c 1 t) (k0_pay6 (F := Ideal)) := by
  rw [outsAt0_A m c t h0]
  frame_out
theorem s10B (t : Fin cfg0.N) (h0 : ¬ t.val % 8 = 0) : (outsAt0 (F := Ideal) m c t.val t.isLt).2.2.1 = k0_pay16 (F := Ideal) (iblk m c 1 t) (outsAt0 m c (t.val - 1) (Nat.lt_of_le_of_lt (Nat.sub_le _ _) t.isLt)).2.2.1 := by
  rw [outsAt0_B m c t h0]
  frame_out
theorem part10 (t : Fin cfg0.N) (acc : FVec Ideal S1x1024 .f32) (q : Fin 1024) :
    k0_pay16 (F := Ideal) (iblk m c 1 t) acc (ix2 0 q) = acc (ix2 0 q) + ∑ p : Fin 512, lbRow m c q (row t p) := by
  refine (pay16_at _ _ q).trans (congrArg (acc (ix2 0 q) + ·) (Finset.sum_congr rfl fun p _ => ?_))
  exact b1_at m c t p q
theorem stA10 (t : Fin cfg0.N) (h0 : t.val % 8 = 0) (q : Fin 1024) : (outsAt0 (F := Ideal) m c t.val t.isLt).2.2.1 (ix2 0 q) = ∑ p : Fin 512, lbRow m c q (row t p) := by
  rw [s10A m c t h0, part10, pay6_at, zero_add]
theorem stB10 (t : Fin cfg0.N) (h0 : ¬ t.val % 8 = 0) (q : Fin 1024) :
    (outsAt0 (F := Ideal) m c t.val t.isLt).2.2.1 (ix2 0 q) = (outsAt0 m c (t.val - 1) (Nat.lt_of_le_of_lt (Nat.sub_le _ _) t.isLt)).2.2.1 (ix2 0 q) + ∑ p : Fin 512, lbRow m c q (row t p) := by
  rw [s10B m c t h0, part10]
/-- What the output holds after point `n`. -/
def acc10 (q : Fin 1024) (n : ℕ) (hn : n < 8) : EReal := (outsAt0 (F := Ideal) m c n hn).2.2.1 (ix2 0 q)
theorem first10 (q : Fin 1024) (h : 0 < 8) : acc10 m c q 0 h = ∑ p : Fin 512, lbRow m c q ⟨0 * 512 + p.val, by omega⟩ :=
  stA10 m c ⟨0, h⟩ rfl q
theorem next10 (q : Fin 1024) (n : ℕ) (h : n + 1 < 8) : acc10 m c q (n + 1) h
    = acc10 m c q n (Nat.lt_of_succ_lt h) + ∑ p : Fin 512, lbRow m c q ⟨(n + 1) * 512 + p.val, by omega⟩ :=
  stB10 m c ⟨n + 1, h⟩ (by dsimp only; omega) q
theorem last10 (q : Fin 1024) (n : ℕ) (hn : n < 8) (h : n = 7) : acc10 m c q n hn = ∑ r : Fin 4096, lbRow m c q r := by
  subst h
  exact Acc.rows (acc10 m c q) (lbRow m c q) (first10 m c q) (next10 m c q) hn
theorem o10 (t : Fin cfg0.N) (h : t.val = 7) (q : Fin 1024) : (outsAt0 (F := Ideal) m c t.val t.isLt).2.2.1 (ix2 0 q) = ∑ r : Fin 4096, lbRow m c q r :=
  last10 m c q t.val t.isLt h

/-! ### The gain's gradient, stored in three pieces -/

section pieces
variable (A : (Rect.unit (s := S1x1024) ![0, 768] ![1, 256] inb_S1x1024_S1x256_0_768).shape.Idx → Elt Ideal .f32)
  (B : (Rect.unit (s := S1x1024) ![0, 384] ![1, 384] inb_S1x1024_S1x384_0_384).shape.Idx → Elt Ideal .f32)
  (C : (Rect.unit (s := S1x1024) ![0, 0] ![1, 384] inb_S1x1024_S1x384_0_0).shape.Idx → Elt Ideal .f32)
  (L : List (View.Piece (Elt Ideal) S1x1024 .f32))

theorem embO (q : Fin 384) : (ix2 0 ⟨q.val, by omega⟩ : S1x1024.Idx) = (Rect.unit (s := S1x1024) ![0, 0] ![1, 384] inb_S1x1024_S1x384_0_0).emb (ix2 0 q) := by
  blk_ext
theorem embL (q : Fin 384) : (ix2 0 ⟨384 + q.val, by omega⟩ : S1x1024.Idx) = (Rect.unit (s := S1x1024) ![0, 384] ![1, 384] inb_S1x1024_S1x384_0_384).emb (ix2 0 q) := by
  blk_ext
theorem embS (q : Fin 256) : (ix2 0 ⟨768 + q.val, by omega⟩ : S1x1024.Idx) = (Rect.unit (s := S1x1024) ![0, 768] ![1, 256] inb_S1x1024_S1x256_0_768).emb (ix2 0 q) := by
  blk_ext
theorem offS (q : Fin 1024) (h : q.val < 768) : (ix2 0 q : S1x1024.Idx) ∉ (Rect.unit (s := S1x1024) ![0, 768] ![1, 256] inb_S1x1024_S1x256_0_768).set := fun hm => by
  have := (Rect.mem_set_unit.mp hm 1).1
  exact absurd h (Nat.not_lt.mpr this)
theorem offL (q : Fin 1024) (h : q.val < 384) : (ix2 0 q : S1x1024.Idx) ∉ (Rect.unit (s := S1x1024) ![0, 384] ![1, 384] inb_S1x1024_S1x384_0_384).set := fun hm => by
  have := (Rect.mem_set_unit.mp hm 1).1
  exact absurd h (Nat.not_lt.mpr this)

theorem canS (q : Fin 256) : View.canon (Val := Elt Ideal) (s := S1x1024) (e := .f32)
    (⟨Rect.unit (s := S1x1024) ![0, 768] ![1, 256] inb_S1x1024_S1x256_0_768, A⟩ :: L) (ix2 0 ⟨768 + q.val, by omega⟩) = A (ix2 0 q) := by
  rw [embS]
  exact View.canon_cons_emb _ _ _ _
theorem canL (q : Fin 384) : View.canon (Val := Elt Ideal) (s := S1x1024) (e := .f32)
    (⟨Rect.unit (s := S1x1024) ![0, 768] ![1, 256] inb_S1x1024_S1x256_0_768, A⟩
      :: ⟨Rect.unit (s := S1x1024) ![0, 384] ![1, 384] inb_S1x1024_S1x384_0_384, B⟩ :: L) (ix2 0 ⟨384 + q.val, by omega⟩) = B (ix2 0 q) := by
  refine (View.canon_cons_of_not_mem (Val := Elt Ideal) (s := S1x1024) (e := .f32) ⟨Rect.unit (s := S1x1024) ![0, 768] ![1, 256] inb_S1x1024_S1x256_0_768, A⟩ (⟨Rect.unit (s := S1x1024) ![0, 384] ![1, 384] inb_S1x1024_S1x384_0_384, B⟩ :: L)
    (offS ⟨384 + q.val, by omega⟩ (by dsimp only; omega))).trans ?_
  rw [embL]
  exact View.canon_cons_emb _ _ _ _
theorem canO (q : Fin 384) : View.canon (Val := Elt Ideal) (s := S1x1024) (e := .f32)
    (⟨Rect.unit (s := S1x1024) ![0, 768] ![1, 256] inb_S1x1024_S1x256_0_768, A⟩
      :: ⟨Rect.unit (s := S1x1024) ![0, 384] ![1, 384] inb_S1x1024_S1x384_0_384, B⟩
      :: ⟨Rect.unit (s := S1x1024) ![0, 0] ![1, 384] inb_S1x1024_S1x384_0_0, C⟩ :: L) (ix2 0 ⟨q.val, by omega⟩) = C (ix2 0 q) := by
  refine (View.canon_cons_of_not_mem (Val := Elt Ideal) (s := S1x1024) (e := .f32) ⟨Rect.unit (s := S1x1024) ![0, 768] ![1, 256] inb_S1x1024_S1x256_0_768, A⟩
    (⟨Rect.unit (s := S1x1024) ![0, 384] ![1, 384] inb_S1x1024_S1x384_0_384, B⟩ :: ⟨Rect.unit (s := S1x1024) ![0, 0] ![1, 384] inb_S1x1024_S1x384_0_0, C⟩ :: L) (offS ⟨q.val, by omega⟩ (by dsimp only; omega))).trans ?_
  refine (View.canon_cons_of_not_mem (Val := Elt Ideal) (s := S1x1024) (e := .f32) ⟨Rect.unit (s := S1x1024) ![0, 384] ![1, 384] inb_S1x1024_S1x384_0_384, B⟩ (⟨Rect.unit (s := S1x1024) ![0, 0] ![1, 384] inb_S1x1024_S1x384_0_0, C⟩ :: L)
    (offL ⟨q.val, by omega⟩ (by dsimp only; omega))).trans ?_
  rw [embO]
  exact View.canon_cons_emb _ _ _ _

variable {sg : RefSig} {κ' : Kind} {sp : Space} (v : View sg κ' sp S1x1024 .f32) (Z : S1x1024.Idx → Elt Ideal .f32)

theorem zeroO (x) : v.readCov (Val := Elt Ideal) [⟨Rect.unit (s := S1x1024) ![0, 0] ![1, 1024] inb_S1x1024_S1x1024_0_0, Z⟩]
    (Rect.unit (s := S1x1024) ![0, 0] ![1, 384] inb_S1x1024_S1x384_0_0).toLoadRect x
    = Z ((Rect.unit (s := S1x1024) ![0, 0] ![1, 384] inb_S1x1024_S1x384_0_0).emb x) := by
  rw [View.readCov_eq_canon']
  exact congrFun (View.canon_cons_unit_lit inb_S1x1024_S1x1024_0_0 Z [] (by decide)) _
theorem zeroL (x) : v.readCov (Val := Elt Ideal) [⟨Rect.unit (s := S1x1024) ![0, 0] ![1, 384] inb_S1x1024_S1x384_0_0, C⟩,
      ⟨Rect.unit (s := S1x1024) ![0, 0] ![1, 1024] inb_S1x1024_S1x1024_0_0, Z⟩]
    (Rect.unit (s := S1x1024) ![0, 384] ![1, 384] inb_S1x1024_S1x384_0_384).toLoadRect x
    = Z ((Rect.unit (s := S1x1024) ![0, 384] ![1, 384] inb_S1x1024_S1x384_0_384).emb x) := by
  rw [View.readCov_skip _ _ _ _ _ (by decide), View.readCov_eq_canon']
  exact congrFun (View.canon_cons_unit_lit inb_S1x1024_S1x1024_0_0 Z [] (by decide)) _
theorem zeroS (x) : v.readCov (Val := Elt Ideal) [⟨Rect.unit (s := S1x1024) ![0, 384] ![1, 384] inb_S1x1024_S1x384_0_384, B⟩,
      ⟨Rect.unit (s := S1x1024) ![0, 0] ![1, 384] inb_S1x1024_S1x384_0_0, C⟩, ⟨Rect.unit (s := S1x1024) ![0, 0] ![1, 1024] inb_S1x1024_S1x1024_0_0, Z⟩]
    (Rect.unit (s := S1x1024) ![0, 768] ![1, 256] inb_S1x1024_S1x256_0_768).toLoadRect x
    = Z ((Rect.unit (s := S1x1024) ![0, 768] ![1, 256] inb_S1x1024_S1x256_0_768).emb x) := by
  rw [View.readCov_skip _ _ _ _ _ (by decide), View.readCov_skip _ _ _ _ _ (by decide), View.readCov_eq_canon']
  exact congrFun (View.canon_cons_unit_lit inb_S1x1024_S1x1024_0_0 Z [] (by decide)) _
end pieces

theorem sum16O (t : Fin cfg0.N) (q : Fin 384) :
    (∑ p : Fin 512, gO (rowK (iblk (F := Ideal) m c 0 t) p) (cotK (iblk (F := Ideal) m c 1 t) (iblk (F := Ideal) m c 2 t) p) (matK (iblk (F := Ideal) m c 3 t))
      (row3K (iblk (F := Ideal) m c 4 t) p) q) = ∑ p : Fin 512, goRow m c q (row t p) := by
  refine Finset.sum_congr rfl fun p _ => ?_
  rw [e0, e1, e3, e4]
  rfl
theorem stA16O (t : Fin cfg0.N) (h0 : t.val % 8 = 0) (q : Fin 384) : (outsAt0 (F := Ideal) m c t.val t.isLt).2.2.2.2.2.2.2.2 (ix2 0 ⟨q.val, by omega⟩) = ∑ p : Fin 512, goRow m c q (row t p) := by
  rw [outsAt0_A m c t h0]
  frame_out
  refine (canO _ _ _ _ q).trans ?_
  refine (kgO_at _ _ _ _ _ _ q).trans ?_
  rw [sum16O, zeroO, ← embO, pay4_at, zero_add]
theorem stB16O (t : Fin cfg0.N) (h0 : ¬ t.val % 8 = 0) (q : Fin 384) :
    (outsAt0 (F := Ideal) m c t.val t.isLt).2.2.2.2.2.2.2.2 (ix2 0 ⟨q.val, by omega⟩) = (outsAt0 m c (t.val - 1) (Nat.lt_of_le_of_lt (Nat.sub_le _ _) t.isLt)).2.2.2.2.2.2.2.2 (ix2 0 ⟨q.val, by omega⟩) + ∑ p : Fin 512, goRow m c q (row t p) := by
  rw [outsAt0_B m c t h0]
  frame_out
  refine (canO _ _ _ _ q).trans ?_
  refine (kgO_at _ _ _ _ _ _ q).trans ?_
  rw [sum16O, embO]
  rfl
/-- What the output holds after point `n`. -/
def acc16O (q : Fin 384) (n : ℕ) (hn : n < 8) : EReal := (outsAt0 (F := Ideal) m c n hn).2.2.2.2.2.2.2.2 (ix2 0 ⟨q.val, by omega⟩)
theorem first16O (q : Fin 384) (h : 0 < 8) : acc16O m c q 0 h = ∑ p : Fin 512, goRow m c q ⟨0 * 512 + p.val, by omega⟩ :=
  stA16O m c ⟨0, h⟩ rfl q
theorem next16O (q : Fin 384) (n : ℕ) (h : n + 1 < 8) : acc16O m c q (n + 1) h
    = acc16O m c q n (Nat.lt_of_succ_lt h) + ∑ p : Fin 512, goRow m c q ⟨(n + 1) * 512 + p.val, by omega⟩ :=
  stB16O m c ⟨n + 1, h⟩ (by dsimp only; omega) q
theorem last16O (q : Fin 384) (n : ℕ) (hn : n < 8) (h : n = 7) : acc16O m c q n hn = ∑ r : Fin 4096, goRow m c q r := by
  subst h
  exact Acc.rows (acc16O m c q) (goRow m c q) (first16O m c q) (next16O m c q) hn
theorem o16O (t : Fin cfg0.N) (h : t.val = 7) (q : Fin 384) : (outsAt0 (F := Ideal) m c t.val t.isLt).2.2.2.2.2.2.2.2 (ix2 0 ⟨q.val, by omega⟩) = ∑ r : Fin 4096, goRow m c q r :=
  last16O m c q t.val t.isLt h

theorem sum16L (t : Fin cfg0.N) (q : Fin 384) :
    (∑ p : Fin 512, gL (rowK (iblk (F := Ideal) m c 0 t) p) (cotK (iblk (F := Ideal) m c 1 t) (iblk (F := Ideal) m c 2 t) p) (matK (iblk (F := Ideal) m c 3 t))
      (row3K (iblk (F := Ideal) m c 5 t) p) q) = ∑ p : Fin 512, glRow m c q (row t p) := by
  refine Finset.sum_congr rfl fun p _ => ?_
  rw [e0, e1, e3, e5]
  rfl
theorem stA16L (t : Fin cfg0.N) (h0 : t.val % 8 = 0) (q : Fin 384) : (outsAt0 (F := Ideal) m c t.val t.isLt).2.2.2.2.2.2.2.2 (ix2 0 ⟨384 + q.val, by omega⟩) = ∑ p : Fin 512, glRow m c q (row t p) := by
  rw [outsAt0_A m c t h0]
  frame_out
  refine (canL _ _ _ q).trans ?_
  refine (kgL_at _ _ _ _ _ _ q).trans ?_
  rw [sum16L, zeroL, ← embL, pay4_at, zero_add]
theorem stB16L (t : Fin cfg0.N) (h0 : ¬ t.val % 8 = 0) (q : Fin 384) :
    (outsAt0 (F := Ideal) m c t.val t.isLt).2.2.2.2.2.2.2.2 (ix2 0 ⟨384 + q.val, by omega⟩) = (outsAt0 m c (t.val - 1) (Nat.lt_of_le_of_lt (Nat.sub_le _ _) t.isLt)).2.2.2.2.2.2.2.2 (ix2 0 ⟨384 + q.val, by omega⟩) + ∑ p : Fin 512, glRow m c q (row t p) := by
  rw [outsAt0_B m c t h0]
  frame_out
  refine (canL _ _ _ q).trans ?_
  refine (kgL_at _ _ _ _ _ _ q).trans ?_
  rw [sum16L, embL]
  rfl
/-- What the output holds after point `n`. -/
def acc16L (q : Fin 384) (n : ℕ) (hn : n < 8) : EReal := (outsAt0 (F := Ideal) m c n hn).2.2.2.2.2.2.2.2 (ix2 0 ⟨384 + q.val, by omega⟩)
theorem first16L (q : Fin 384) (h : 0 < 8) : acc16L m c q 0 h = ∑ p : Fin 512, glRow m c q ⟨0 * 512 + p.val, by omega⟩ :=
  stA16L m c ⟨0, h⟩ rfl q
theorem next16L (q : Fin 384) (n : ℕ) (h : n + 1 < 8) : acc16L m c q (n + 1) h
    = acc16L m c q n (Nat.lt_of_succ_lt h) + ∑ p : Fin 512, glRow m c q ⟨(n + 1) * 512 + p.val, by omega⟩ :=
  stB16L m c ⟨n + 1, h⟩ (by dsimp only; omega) q
theorem last16L (q : Fin 384) (n : ℕ) (hn : n < 8) (h : n = 7) : acc16L m c q n hn = ∑ r : Fin 4096, glRow m c q r := by
  subst h
  exact Acc.rows (acc16L m c q) (glRow m c q) (first16L m c q) (next16L m c q) hn
theorem o16L (t : Fin cfg0.N) (h : t.val = 7) (q : Fin 384) : (outsAt0 (F := Ideal) m c t.val t.isLt).2.2.2.2.2.2.2.2 (ix2 0 ⟨384 + q.val, by omega⟩) = ∑ r : Fin 4096, glRow m c q r :=
  last16L m c q t.val t.isLt h

theorem sum16S (t : Fin cfg0.N) (q : Fin 256) :
    (∑ p : Fin 512, gS (rowK (iblk (F := Ideal) m c 0 t) p) (cotK (iblk (F := Ideal) m c 1 t) (iblk (F := Ideal) m c 2 t) p) (matK (iblk (F := Ideal) m c 3 t))
      (row2K (iblk (F := Ideal) m c 6 t) p) q) = ∑ p : Fin 512, gsRow m c q (row t p) := by
  refine Finset.sum_congr rfl fun p _ => ?_
  rw [e0, e1, e3, e6]
  rfl
theorem stA16S (t : Fin cfg0.N) (h0 : t.val % 8 = 0) (q : Fin 256) : (outsAt0 (F := Ideal) m c t.val t.isLt).2.2.2.2.2.2.2.2 (ix2 0 ⟨768 + q.val, by omega⟩) = ∑ p : Fin 512, gsRow m c q (row t p) := by
  rw [outsAt0_A m c t h0]
  frame_out
  refine (canS _ _ q).trans ?_
  refine (kgS_at _ _ _ _ _ _ q).trans ?_
  rw [sum16S, zeroS, ← embS, pay4_at, zero_add]
theorem stB16S (t : Fin cfg0.N) (h0 : ¬ t.val % 8 = 0) (q : Fin 256) :
    (outsAt0 (F := Ideal) m c t.val t.isLt).2.2.2.2.2.2.2.2 (ix2 0 ⟨768 + q.val, by omega⟩) = (outsAt0 m c (t.val - 1) (Nat.lt_of_le_of_lt (Nat.sub_le _ _) t.isLt)).2.2.2.2.2.2.2.2 (ix2 0 ⟨768 + q.val, by omega⟩) + ∑ p : Fin 512, gsRow m c q (row t p) := by
  rw [outsAt0_B m c t h0]
  frame_out
  refine (canS _ _ q).trans ?_
  refine (kgS_at _ _ _ _ _ _ q).trans ?_
  rw [sum16S, embS]
  rfl
/-- What the output holds after point `n`. -/
def acc16S (q : Fin 256) (n : ℕ) (hn : n < 8) : EReal := (outsAt0 (F := Ideal) m c n hn).2.2.2.2.2.2.2.2 (ix2 0 ⟨768 + q.val, by omega⟩)
theorem first16S (q : Fin 256) (h : 0 < 8) : acc16S m c q 0 h = ∑ p : Fin 512, gsRow m c q ⟨0 * 512 + p.val, by omega⟩ :=
  stA16S m c ⟨0, h⟩ rfl q
theorem next16S (q : Fin 256) (n : ℕ) (h : n + 1 < 8) : acc16S m c q (n + 1) h
    = acc16S m c q n (Nat.lt_of_succ_lt h) + ∑ p : Fin 512, gsRow m c q ⟨(n + 1) * 512 + p.val, by omega⟩ :=
  stB16S m c ⟨n + 1, h⟩ (by dsimp only; omega) q
theorem last16S (q : Fin 256) (n : ℕ) (hn : n < 8) (h : n = 7) : acc16S m c q n hn = ∑ r : Fin 4096, gsRow m c q r := by
  subst h
  exact Acc.rows (acc16S m c q) (gsRow m c q) (first16S m c q) (next16S m c q) hn
theorem o16S (t : Fin cfg0.N) (h : t.val = 7) (q : Fin 256) : (outsAt0 (F := Ideal) m c t.val t.isLt).2.2.2.2.2.2.2.2 (ix2 0 ⟨768 + q.val, by omega⟩) = ∑ r : Fin 4096, gsRow m c q r :=
  last16S m c q t.val t.isLt h

/-- The dilated copies, by their rows and columns. -/
theorem o12 (t : Fin cfg0.N) (y0 : Fin 128) (y1 : Fin 1536) : (outsAt0 (F := Ideal) m c t.val t.isLt).2.2.2.2.1 (ix2 y0 y1)
    = doS m c (row t ⟨4 * y0.val + y1.val / 384, by omega⟩) ⟨y1.val % 384, by omega⟩ :=
  (out12 m c t (ix2 y0 y1) ⟨4 * y0.val + y1.val / 384, by omega⟩ ⟨y1.val % 384, by omega⟩ rfl rfl).trans (o11 m c t _ _)
theorem o13 (t : Fin cfg0.N) (y0 : Fin 32) (y1 : Fin 6144) : (outsAt0 (F := Ideal) m c t.val t.isLt).2.2.2.2.2.1 (ix2 y0 y1)
    = doS m c (row t ⟨16 * y0.val + y1.val / 384, by omega⟩) ⟨y1.val % 384, by omega⟩ :=
  (out13 m c t (ix2 y0 y1) ⟨16 * y0.val + y1.val / 384, by omega⟩ ⟨y1.val % 384, by omega⟩ rfl rfl).trans (o11 m c t _ _)

/-- A column of the gain lies in one of the three groups. -/
theorem cols {P : Fin 1024 → Prop} (hO : ∀ e : Fin 384, P ⟨e.val, by omega⟩) (hL : ∀ e : Fin 384, P ⟨384 + e.val, by omega⟩)
    (hS : ∀ e : Fin 256, P ⟨768 + e.val, by omega⟩) (q : Fin 1024) : P q := by
  by_cases h1 : q.val < 384
  · exact hO ⟨q.val, h1⟩
  by_cases h2 : q.val < 768
  · have e : q = ⟨384 + (⟨q.val - 384, by omega⟩ : Fin 384).val, by dsimp only; omega⟩ := Fin.ext (by dsimp only; omega)
    rw [e]
    exact hL _
  · have e : q = ⟨768 + (⟨q.val - 768, by omega⟩ : Fin 256).val, by dsimp only; omega⟩ := Fin.ext (by dsimp only; omega)
    rw [e]
    exact hS _
/-- The gradient of the gain at a column. -/
def dgS (q : Fin 1024) : EReal :=
  if h1 : q.val < 384 then ∑ r : Fin 4096, goRow m c ⟨q.val, h1⟩ r
  else if h2 : q.val < 768 then ∑ r : Fin 4096, glRow m c ⟨q.val - 384, by omega⟩ r
  else ∑ r : Fin 4096, gsRow m c ⟨q.val - 768, by omega⟩ r
theorem dgS_O (e : Fin 384) : dgS m c ⟨e.val, by omega⟩ = ∑ r : Fin 4096, goRow m c e r := dif_pos e.isLt
theorem dgS_L (e : Fin 384) : dgS m c ⟨384 + e.val, by omega⟩ = ∑ r : Fin 4096, glRow m c e r := by
  unfold dgS
  rw [dif_neg (by dsimp only; omega), dif_pos (by dsimp only; omega)]
  exact congrArg (fun e => ∑ r : Fin 4096, glRow m c e r) (Fin.ext (by dsimp only; omega))
theorem dgS_S (e : Fin 256) : dgS m c ⟨768 + e.val, by omega⟩ = ∑ r : Fin 4096, gsRow m c e r := by
  unfold dgS
  rw [dif_neg (by dsimp only; omega), dif_neg (by dsimp only; omega)]
  exact congrArg (fun e => ∑ r : Fin 4096, gsRow m c e r) (Fin.ext (by dsimp only; omega))
theorem o16 (t : Fin cfg0.N) (h : t.val = 7) (q : Fin 1024) : (outsAt0 (F := Ideal) m c t.val t.isLt).2.2.2.2.2.2.2.2 (ix2 0 q) = dgS m c q :=
  cols (P := fun q => (outsAt0 (F := Ideal) m c t.val t.isLt).2.2.2.2.2.2.2.2 (ix2 0 q) = dgS m c q)
    (fun e => (o16O m c t h e).trans (dgS_O m c e).symm) (fun e => (o16L m c t h e).trans (dgS_L m c e).symm)
    (fun e => (o16S m c t h e).trans (dgS_S m c e).symm) q

/-- The arrays after the run. -/
def res8 : S4096x1024.Idx → EReal := fun i => drS m c ⟨(i 0).val, (i 0).isLt⟩ ⟨(i 1).val, (i 1).isLt⟩
def res9 : S1x1024.Idx → EReal := fun i => ∑ r : Fin 4096, lgRow m c ⟨(i 1).val, (i 1).isLt⟩ r
def res10 : S1x1024.Idx → EReal := fun i => ∑ r : Fin 4096, lbRow m c ⟨(i 1).val, (i 1).isLt⟩ r
def res11 : S4096x384.Idx → EReal := fun i => doS m c ⟨(i 0).val, (i 0).isLt⟩ ⟨(i 1).val, (i 1).isLt⟩
def at4 (i : Fin 1024) (j : Fin 1536) : EReal := doS m c ⟨4 * i.val + j.val / 384, by omega⟩ ⟨j.val % 384, by omega⟩
def at16 (i : Fin 256) (j : Fin 6144) : EReal := doS m c ⟨16 * i.val + j.val / 384, by omega⟩ ⟨j.val % 384, by omega⟩
def res12 : S1024x1536.Idx → EReal := fun i => at4 m c ⟨(i 0).val, (i 0).isLt⟩ ⟨(i 1).val, (i 1).isLt⟩
def res13 : S256x6144.Idx → EReal := fun i => at16 m c ⟨(i 0).val, (i 0).isLt⟩ ⟨(i 1).val, (i 1).isLt⟩
def res14 : S4096x384.Idx → EReal := fun i => dlS m c ⟨(i 0).val, (i 0).isLt⟩ ⟨(i 1).val, (i 1).isLt⟩
def res15 : S4096x256.Idx → EReal := fun i => dsS m c ⟨(i 0).val, (i 0).isLt⟩ ⟨(i 1).val, (i 1).isLt⟩
def res16 : S1x1024.Idx → EReal := fun i => dgS m c ⟨(i 1).val, (i 1).isLt⟩

def row4 (t : Fin cfg0.N) (p : Fin 128) : Fin 1024 := ⟨t.val * 128 + p.val, by have := lt8 t; omega⟩
def row16 (t : Fin cfg0.N) (p : Fin 32) : Fin 256 := ⟨t.val * 32 + p.val, by have := lt8 t; omega⟩
theorem at4_row (t : Fin cfg0.N) (y0 : Fin 128) (y1 : Fin 1536) :
    doS m c (row t ⟨4 * y0.val + y1.val / 384, by omega⟩) ⟨y1.val % 384, by omega⟩ = at4 m c (row4 t y0) y1 :=
  congrArg (fun r => doS m c r _) (Fin.ext (by dsimp only [row, row4]; omega))
theorem at16_row (t : Fin cfg0.N) (y0 : Fin 32) (y1 : Fin 6144) :
    doS m c (row t ⟨16 * y0.val + y1.val / 384, by omega⟩) ⟨y1.val % 384, by omega⟩ = at16 m c (row16 t y0) y1 :=
  congrArg (fun r => doS m c r _) (Fin.ext (by dsimp only [row, row16]; omega))

theorem arr8 : (dats m 0 c).arrAt 8 cfg0.N = res8 m c := by
  refine (dats m 0 c).arrAt_eq_of_covers 8 (res8 m c) (by decide +kernel) fun t hf y => ?_
  blk_simp
  rw [after0_8]
  idx_vars y
  refine ((o8 m c t y0 y1)).trans ?_
  refine (show _ = res8 m c (ix2 (row t y0) y1) from rfl).trans (congrArg (res8 m c) ?_)
  blk_ext [row, idx t]
theorem arr9 : (dats m 0 c).arrAt 9 cfg0.N = res9 m c := by
  refine (dats m 0 c).arrAt_eq_of_covers 9 (res9 m c) (by decide +kernel) fun t hf y => ?_
  blk_simp
  rw [after0_9]
  idx_vars y
  obtain rfl : y0 = 0 := Subsingleton.elim _ _
  have h8 := lt8 t
  have h7 := (flush0_9 t).mp hf
  refine (o9 m c t (by omega) y1).trans ?_
  refine (show _ = res9 m c (ix2 0 y1) from rfl).trans (congrArg (res9 m c) ?_)
  blk_ext [idx t]
theorem arr10 : (dats m 0 c).arrAt 10 cfg0.N = res10 m c := by
  refine (dats m 0 c).arrAt_eq_of_covers 10 (res10 m c) (by decide +kernel) fun t hf y => ?_
  blk_simp
  rw [after0_10]
  idx_vars y
  obtain rfl : y0 = 0 := Subsingleton.elim _ _
  have h8 := lt8 t
  have h7 := (flush0_10 t).mp hf
  refine (o10 m c t (by omega) y1).trans ?_
  refine (show _ = res10 m c (ix2 0 y1) from rfl).trans (congrArg (res10 m c) ?_)
  blk_ext [idx t]
theorem arr11 : (dats m 0 c).arrAt 11 cfg0.N = res11 m c := by
  refine (dats m 0 c).arrAt_eq_of_covers 11 (res11 m c) (by decide +kernel) fun t hf y => ?_
  blk_simp
  rw [after0_11]
  idx_vars y
  refine ((o11 m c t y0 y1)).trans ?_
  refine (show _ = res11 m c (ix2 (row t y0) y1) from rfl).trans (congrArg (res11 m c) ?_)
  blk_ext [row, idx t]
theorem arr12 : (dats m 0 c).arrAt 12 cfg0.N = res12 m c := by
  refine (dats m 0 c).arrAt_eq_of_covers 12 (res12 m c) (by decide +kernel) fun t hf y => ?_
  blk_simp
  rw [after0_12]
  idx_vars y
  refine ((o12 m c t y0 y1).trans (at4_row m c t y0 y1)).trans ?_
  refine (show _ = res12 m c (ix2 (row4 t y0) y1) from rfl).trans (congrArg (res12 m c) ?_)
  blk_ext [row4, idx t]
theorem arr13 : (dats m 0 c).arrAt 13 cfg0.N = res13 m c := by
  refine (dats m 0 c).arrAt_eq_of_covers 13 (res13 m c) (by decide +kernel) fun t hf y => ?_
  blk_simp
  rw [after0_13]
  idx_vars y
  refine ((o13 m c t y0 y1).trans (at16_row m c t y0 y1)).trans ?_
  refine (show _ = res13 m c (ix2 (row16 t y0) y1) from rfl).trans (congrArg (res13 m c) ?_)
  blk_ext [row16, idx t]
theorem arr14 : (dats m 0 c).arrAt 14 cfg0.N = res14 m c := by
  refine (dats m 0 c).arrAt_eq_of_covers 14 (res14 m c) (by decide +kernel) fun t hf y => ?_
  blk_simp
  rw [after0_14]
  idx_vars y
  refine ((o14 m c t y0 y1)).trans ?_
  refine (show _ = res14 m c (ix2 (row t y0) y1) from rfl).trans (congrArg (res14 m c) ?_)
  blk_ext [row, idx t]
theorem arr15 : (dats m 0 c).arrAt 15 cfg0.N = res15 m c := by
  refine (dats m 0 c).arrAt_eq_of_covers 15 (res15 m c) (by decide +kernel) fun t hf y => ?_
  blk_simp
  rw [after0_15]
  idx_vars y
  refine ((o15 m c t y0 y1)).trans ?_
  refine (show _ = res15 m c (ix2 (row t y0) y1) from rfl).trans (congrArg (res15 m c) ?_)
  blk_ext [row, idx t]
theorem arr16 : (dats m 0 c).arrAt 16 cfg0.N = res16 m c := by
  refine (dats m 0 c).arrAt_eq_of_covers 16 (res16 m c) (by decide +kernel) fun t hf y => ?_
  blk_simp
  rw [after0_16]
  idx_vars y
  obtain rfl : y0 = 0 := Subsingleton.elim _ _
  have h8 := lt8 t
  have h7 := (flush0_16 t).mp hf
  refine (o16 m c t (by omega) y1).trans ?_
  refine (show _ = res16 m c (ix2 0 y1) from rfl).trans (congrArg (res16 m c) ?_)
  blk_ext [idx t]

end Kernel

/-! ## The claims -/

section Claims
variable (m : (ℓ : Loc Cert.Kernel11Ideal.nD Cert.Kernel11Ideal.τ Cert.Kernel11Ideal.sig) → Buf (Elt Ideal) ℓ) (c : Dev Cert.Kernel11Ideal.nD)
  (x0 : FVec Ideal Cert.Reference11Ideal.S4096x1024 .f32)
  (x1 : FVec Ideal Cert.Reference11Ideal.S4096x1024 .f32)
  (x2 : FVec Ideal Cert.Reference11Ideal.S1024 .f32)
  (x3 : FVec Ideal Cert.Reference11Ideal.S1024x1024 .f32)
  (x4 : FVec Ideal Cert.Reference11Ideal.S4096x384 .f32)
  (x5 : FVec Ideal Cert.Reference11Ideal.S4096x384 .f32)
  (x6 : FVec Ideal Cert.Reference11Ideal.S4096x256 .f32)
  (x7 : FVec Ideal Cert.Reference11Ideal.S1024 .f32)
  (h0 : x0 = m ((c.tc : Thread _ _).loc Cert.Kernel11Ideal.main_arg0))
  (h1 : x1 = m ((c.tc : Thread _ _).loc Cert.Kernel11Ideal.main_arg1))
  (h2 : x2 = m ((c.tc : Thread _ _).loc Cert.Kernel11Ideal.main_arg2))
  (h3 : x3 = m ((c.tc : Thread _ _).loc Cert.Kernel11Ideal.main_arg3))
  (h4 : x4 = m ((c.tc : Thread _ _).loc Cert.Kernel11Ideal.main_arg4))
  (h5 : x5 = m ((c.tc : Thread _ _).loc Cert.Kernel11Ideal.main_arg5))
  (h6 : x6 = m ((c.tc : Thread _ _).loc Cert.Kernel11Ideal.main_arg6))
  (h7 : x7 = m ((c.tc : Thread _ _).loc Cert.Kernel11Ideal.main_arg7))
include h0 h1 h2 h3 h4 h5 h6 h7
theorem ref8 (f1 : ∀ i, Ffn.Fin' (x1 i)) (f2 : ∀ i, Ffn.Fin' (x2 i)) :
    Cert.Reference11Ideal.Read.val_main_v63 (F := Ideal) x0 x1 x2 = res8 m c := by
  subst h0 h1 h2 h3 h4 h5 h6 h7
  funext i
  idx_vars i
  exact drK_at _ _ _ f1 f2 i0 i1
theorem ref9  :
    Cert.Reference11Ideal.Read.val_main_v188 (F := Ideal) x0 x1 = res9 m c := by
  subst h0 h1 h2 h3 h4 h5 h6 h7
  funext i
  idx_vars i
  obtain rfl : i0 = 0 := Subsingleton.elim _ _
  exact dlg_at _ _ i1
theorem ref10  :
    Cert.Reference11Ideal.Read.val_main_v189 (F := Ideal) x1 = res10 m c := by
  subst h0 h1 h2 h3 h4 h5 h6 h7
  funext i
  idx_vars i
  obtain rfl : i0 = 0 := Subsingleton.elim _ _
  exact dlb_at _ i1
theorem ref11 (f1 : ∀ i, Ffn.Fin' (x1 i)) (f2 : ∀ i, Ffn.Fin' (x2 i)) :
    Cert.Reference11Ideal.Read.val_main_v183 (F := Ideal) x0 x1 x2 x3 x4 x7 = res11 m c := by
  subst h0 h1 h2 h3 h4 h5 h6 h7
  funext i
  idx_vars i
  exact dO_at _ _ _ _ _ _ f1 f2 i0 i1
theorem ref12 (f1 : ∀ i, Ffn.Fin' (x1 i)) (f2 : ∀ i, Ffn.Fin' (x2 i)) :
    Cert.Reference11Ideal.Read.val_main_v186 (F := Ideal) x0 x1 x2 x3 x4 x7 = res12 m c := by
  subst h0 h1 h2 h3 h4 h5 h6 h7
  funext i
  idx_vars i
  exact (d4_at _ _ _ _ _ _ i0 i1).trans (dO_at _ _ _ _ _ _ f1 f2 _ _)
theorem ref13 (f1 : ∀ i, Ffn.Fin' (x1 i)) (f2 : ∀ i, Ffn.Fin' (x2 i)) :
    Cert.Reference11Ideal.Read.val_main_v187 (F := Ideal) x0 x1 x2 x3 x4 x7 = res13 m c := by
  subst h0 h1 h2 h3 h4 h5 h6 h7
  funext i
  idx_vars i
  exact (d16_at _ _ _ _ _ _ i0 i1).trans (dO_at _ _ _ _ _ _ f1 f2 _ _)
theorem ref14 (f1 : ∀ i, Ffn.Fin' (x1 i)) (f2 : ∀ i, Ffn.Fin' (x2 i)) :
    Cert.Reference11Ideal.Read.val_main_v163 (F := Ideal) x0 x1 x2 x3 x5 x7 = res14 m c := by
  subst h0 h1 h2 h3 h4 h5 h6 h7
  funext i
  idx_vars i
  exact dL_at _ _ _ _ _ _ f1 f2 i0 i1
theorem ref15 (f1 : ∀ i, Ffn.Fin' (x1 i)) (f2 : ∀ i, Ffn.Fin' (x2 i)) :
    Cert.Reference11Ideal.Read.val_main_v144 (F := Ideal) x0 x1 x2 x3 x6 x7 = res15 m c := by
  subst h0 h1 h2 h3 h4 h5 h6 h7
  funext i
  idx_vars i
  exact dS_at _ _ _ _ _ _ f1 f2 i0 i1
theorem ref16 (f1 : ∀ i, Ffn.Fin' (x1 i)) (f2 : ∀ i, Ffn.Fin' (x2 i)) :
    Cert.Reference11Ideal.Read.val_main_v190 (F := Ideal) x0 x1 x2 x3 x4 x5 x6 = res16 m c := by
  subst h0 h1 h2 h3 h4 h5 h6 h7
  funext i
  idx_vars i
  obtain rfl : i0 = 0 := Subsingleton.elim _ _
  refine Eq.trans ?_ (show dgS m c i1 = _ from rfl)
  revert i1
  refine cols (fun e => ?_) (fun e => ?_) (fun e => ?_)
  · exact (dgO_at _ _ _ _ _ _ _ e).trans ((gO_at _ _ _ _ _ f1 f2 e).trans (dgS_O m c e).symm)
  · exact (dgL_at _ _ _ _ _ _ _ e).trans ((gL_at _ _ _ _ _ f1 f2 e).trans (dgS_L m c e).symm)
  · exact (dgS_at _ _ _ _ _ _ _ e).trans ((gS_at _ _ _ _ _ f1 f2 e).trans (dgS_S m c e).symm)

end Claims

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2.2.2.2.2.2.2.2.2, Idealize.ShloMosaic.sem_eq_zero_of_no_sems (by decide) r.2⟩)
    (Cert.Reference11Ideal.Value.run (F := Ideal) m ρ)
theorem frame_pif : Cert.quiescent_Kernel11Ideal_pre_finite11 := fun m ρ _ => Cert.Kernel11Ideal.Gen.frame m ρ
theorem frame_rif : Cert.quiescent_Reference11Ideal_pre_finite11 := fun m ρ _ => frame_ri m ρ trivial

theorem algebraic : Cert.algebraic_Kernel11Ideal_Reference11Ideal_pre_finite11 := by
  intro m ρ m' ρ' hpre hagree
  refine ⟨fun c => res8 m c, fun c => res9 m c, fun c => res10 m c, fun c => res11 m c, fun c => res12 m c, fun c => res13 m c, fun c => res14 m c, fun c => res15 m c, fun c => res16 m c, (θ_run Cert.Kernel11Ideal.defs _ _).mono
    (fun _ h c => ⟨(h c).1.trans (arr8 m c), (h c).2.1.trans (arr9 m c), (h c).2.2.1.trans (arr10 m c), (h c).2.2.2.1.trans (arr11 m c), (h c).2.2.2.2.1.trans (arr12 m c), (h c).2.2.2.2.2.1.trans (arr13 m c), (h c).2.2.2.2.2.2.1.trans (arr14 m c), (h c).2.2.2.2.2.2.2.1.trans (arr15 m c), (h c).2.2.2.2.2.2.2.2.1.trans (arr16 m c), (h c).2.2.2.2.2.2.2.2.2⟩)
    (Cert.Kernel11Ideal.Value.run_blocks (F := Ideal) m ρ), ?_⟩
  refine (θ_run Cert.Reference11Ideal.defs _ _).mono (fun _ h c => ?_) (Cert.Reference11Ideal.Value.run (F := Ideal) m' ρ')
  obtain ⟨h0, h1, h2, h3, h4, h5, h6, h7⟩ := hagree c
  obtain ⟨f1, f2⟩ := Cert.Pre_finite11.MixBwd.finite_of _ _ _ _ _ _ _ _ (hpre c)
  rw [← h1] at f1
  rw [← h2] at f2
  exact ⟨(h c).1.trans ((Cert.Reference11Ideal.Read.val_main_v63_eq _).trans (ref8 m c _ _ _ _ _ _ _ _ h0 h1 h2 h3 h4 h5 h6 h7 f1 f2)),
    (h c).2.1.trans ((Cert.Reference11Ideal.Read.val_main_v188_eq _).trans (ref9 m c _ _ _ _ _ _ _ _ h0 h1 h2 h3 h4 h5 h6 h7 )),
    (h c).2.2.1.trans ((Cert.Reference11Ideal.Read.val_main_v189_eq _).trans (ref10 m c _ _ _ _ _ _ _ _ h0 h1 h2 h3 h4 h5 h6 h7 )),
    (h c).2.2.2.1.trans ((Cert.Reference11Ideal.Read.val_main_v183_eq _).trans (ref11 m c _ _ _ _ _ _ _ _ h0 h1 h2 h3 h4 h5 h6 h7 f1 f2)),
    (h c).2.2.2.2.1.trans ((Cert.Reference11Ideal.Read.val_main_v186_eq _).trans (ref12 m c _ _ _ _ _ _ _ _ h0 h1 h2 h3 h4 h5 h6 h7 f1 f2)),
    (h c).2.2.2.2.2.1.trans ((Cert.Reference11Ideal.Read.val_main_v187_eq _).trans (ref13 m c _ _ _ _ _ _ _ _ h0 h1 h2 h3 h4 h5 h6 h7 f1 f2)),
    (h c).2.2.2.2.2.2.1.trans ((Cert.Reference11Ideal.Read.val_main_v163_eq _).trans (ref14 m c _ _ _ _ _ _ _ _ h0 h1 h2 h3 h4 h5 h6 h7 f1 f2)),
    (h c).2.2.2.2.2.2.2.1.trans ((Cert.Reference11Ideal.Read.val_main_v144_eq _).trans (ref15 m c _ _ _ _ _ _ _ _ h0 h1 h2 h3 h4 h5 h6 h7 f1 f2)),
    (h c).2.2.2.2.2.2.2.2.1.trans ((Cert.Reference11Ideal.Read.val_main_v190_eq _).trans (ref16 m c _ _ _ _ _ _ _ _ h0 h1 h2 h3 h4 h5 h6 h7 f1 f2)),
    (h c).2.2.2.2.2.2.2.2.2⟩

end Cert.MixBwd

end
-- ==== Proof.RopeTiles.lean ====
/- The tiles the input projection writes: the projection, its rotated queries and keys in nine slots, and the three copies
   that read the slots at strides one, four and sixteen. -/
module

public import proofs.«01_k».proof.Defs
public import proofs.«01_k».proof.Proof.Norm
public import proofs.«01_k».proof.Proof.Gen.Kernel12Ideal.Value
public import Idealize.ShloMosaic.Lib.Pipeline.ValueKit
public import Idealize.ShloMosaic.Lib.Pointwise
public import Idealize.ShloMosaic.Lib.ValueLayout

@[expose] public section

set_option maxRecDepth 16384

noncomputable section

namespace Cert.ProjRope

open Idealize.ShloMosaic Idealize.ShloMosaic.TcCoe Idealize.SL.Sem
open Cert.Kernel12Ideal Cert.Kernel12Ideal.Gen

/-- The column a column is rotated with: 32 to the right in the first half of a head, 32 to the left in the second. -/
def par (e : ℕ) : ℕ := if e % 64 < 32 then e + 32 else e - 32

theorem par_lt (e : ℕ) (k : ℕ) (h : e < 128 * k) : par e < 128 * k := by
  unfold par; split <;> omega

/-- The mask of the first halves. -/
theorem mask_at (p : Fin 512) (l : Fin 128) : k0_pay7 (ix2 p l) = if (l : ℕ) % 64 < 32 then 1#1 else 0#1 := by
  pointwise [k0_pay7]
  revert l
  decide

/-- One group of 128 columns, rotated. -/
def rotF (x c s : FVec Ideal S512x128 .f32) : FVec Ideal S1x512x128 .f32 := k0_pay8 c s x k0_pay7 96#32

theorem rotF_at (x c s : FVec Ideal S512x128 .f32) (o : Fin 1) (p : Fin 512) (l : Fin 128) :
    rotF x c s (ix3 o p l) = x (ix2 p l) * c (ix2 p l) + x (ix2 p ⟨par l, par_lt l 1 l.isLt⟩) * s (ix2 p l) := by
  unfold rotF
  pointwise [k0_pay8]
  rw [mask_at]
  by_cases h : (l : ℕ) % 64 < 32
  · rw [if_pos h]
    refine congrArg (fun z => x (ix2 p l) * c (ix2 p l) + x (ix2 p z) * s (ix2 p l)) (Fin.ext ?_)
    show ((l : ℕ) + 128 - 96) % 128 = par l
    unfold par; rw [if_pos h]; omega
  · rw [if_neg h]
    refine congrArg (fun z => x (ix2 p l) * c (ix2 p l) + x (ix2 p z) * s (ix2 p l)) (Fin.ext ?_)
    show ((l : ℕ) + 128 - 32) % 128 = par l
    unfold par; rw [if_neg h]; omega

variable (y : FVec Ideal S512x2176 .f32) (cc ss : FVec Ideal S512x128 .f32)

theorem pay9 : k0_pay9 y cc ss = rotF (extractStridedSlice S512x128 ![0, 128] y slices_S512x2176_o0_128_S512x128) cc ss := rfl
theorem pay11 : k0_pay11 cc ss (k0_pay10 y) (iota .tc S512x128 32 [1] iota_S512x128_d1_w32) 64#32 0#32
    = rotF (extractStridedSlice S512x128 ![0, 256] y slices_S512x2176_o0_256_S512x128) cc ss := rfl
theorem pay16 : k0_pay16 cc ss (k0_pay12 y) k0_pay13 k0_pay14 k0_pay15
    = rotF (extractStridedSlice S512x128 ![0, 384] y slices_S512x2176_o0_384_S512x128) cc ss := rfl
theorem pay18 : k0_pay18 (k0_pay17 y cc ss)
    = rotF (extractStridedSlice S512x128 ![0, 512] y slices_S512x2176_o0_512_S512x128) cc ss := rfl
theorem pay19 : k0_pay19 y cc ss = rotF (extractStridedSlice S512x128 ![0, 640] y slices_S512x2176_o0_640_S512x128) cc ss := rfl

/-- The rotated projection: its first 768 columns are turned in pairs, the others kept. -/
def rotK (p : Fin 512) (e : Fin 1152) : EReal :=
  if (e : ℕ) < 768 then
    y (ix2 p ⟨e, by omega⟩) * cc (ix2 p ⟨e % 128, by omega⟩)
      + y (ix2 p ⟨par e, by have := par_lt e 9 e.isLt; omega⟩) * ss (ix2 p ⟨e % 128, by omega⟩)
  else y (ix2 p ⟨e, by omega⟩)

theorem slice_rot (o : ℕ) (hs) (j : ℕ) (hj : o = 128 * j) (h6 : j < 6) (a : Fin 1) (p : Fin 512) (l : Fin 128) (e : Fin 1152)
    (he : (e : ℕ) = 128 * j + l) :
    rotF (extractStridedSlice S512x128 ![0, o] y hs) cc ss (ix3 a p l) = rotK y cc ss p e := by
  rw [rotF_at, rotK, if_pos (by omega)]
  subst hj
  pointwise []
  have h1 : 128 * j + par l = par e := by unfold par; split <;> split <;> omega
  have h2 : (l : ℕ) = (e : ℕ) % 128 := by omega
  refine congrArg₂ (· + ·) (congrArg₂ (· * ·) (congrArg y (congrArg (ix2 p) (Fin.ext he.symm))) (congrArg cc (congrArg (ix2 p) (Fin.ext h2))))
    (congrArg₂ (· * ·) (congrArg y (congrArg (ix2 p) (Fin.ext h1))) (congrArg ss (congrArg (ix2 p) (Fin.ext h2))))

theorem slice_keep (o : ℕ) (hs) (hc) (j : ℕ) (hj : o = 128 * j) (h6 : 6 ≤ j) (a : Fin 1) (p : Fin 512) (l : Fin 128) (e : Fin 1152)
    (he : (e : ℕ) = 128 * j + l) :
    shapeCast S1x512x128 (extractStridedSlice S512x128 ![0, o] y hs) hc (ix3 a p l) = rotK y cc ss p e := by
  rw [rotK, if_neg (by omega)]
  subst hj
  pointwise []
  exact congrArg y (congrArg (ix2 p) (Fin.ext he.symm))

theorem idx3 (z : S1x512x128.Idx) : z = ix3 (z 0) (z 1) (z 2) := by
  funext a; match a with
  | ⟨0, _⟩ => rfl
  | ⟨1, _⟩ => rfl
  | ⟨2, _⟩ => rfl

theorem rd_rot (o : ℕ) (hs) (j : ℕ) (hj : o = 128 * j) (h6 : j < 6) (z : S1x512x128.Idx) (p : Fin 512) (e : Fin 1152)
    (hp : (p : ℕ) = (z 1 : ℕ)) (he : (e : ℕ) = 128 * j + (z 2 : ℕ)) :
    rotF (extractStridedSlice S512x128 ![0, o] y hs) cc ss z = rotK y cc ss p e := by
  obtain rfl : p = z 1 := Fin.ext hp
  exact (congrArg _ (idx3 z)).trans (slice_rot y cc ss o hs j hj h6 (z 0) (z 1) (z 2) e he)

theorem rd_keep (o : ℕ) (hs) (hc) (j : ℕ) (hj : o = 128 * j) (h6 : 6 ≤ j) (z : S1x512x128.Idx) (p : Fin 512) (e : Fin 1152)
    (hp : (p : ℕ) = (z 1 : ℕ)) (he : (e : ℕ) = 128 * j + (z 2 : ℕ)) :
    shapeCast S1x512x128 (extractStridedSlice S512x128 ![0, o] y hs) hc z = rotK y cc ss p e := by
  obtain rfl : p = z 1 := Fin.ext hp
  exact (congrArg _ (idx3 z)).trans (slice_keep y cc ss o hs hc j hj h6 (z 0) (z 1) (z 2) e he)

section slots

variable {sg : RefSig} {κ : Kind} {sp : Space} (v : View sg κ sp S9x512x128 .f32)
variable (v4 : Vec Ideal S512x1024 .f32) (v5 : Vec Ideal S1024x2176 .bf16) (C S : FVec Ideal S512x128 .f32)

/-- What the nine slots are written with. -/
abbrev pcs : List (View.Piece (Elt Ideal) S9x512x128 .f32) :=
  [⟨Rect.unit (s := S9x512x128) ![8, 0, 0] ![1, 512, 128] inb_S9x512x128_S1x512x128_8_0_0, k0_pay22 (k0_pay3 v4 v5)⟩,
   ⟨Rect.unit (s := S9x512x128) ![7, 0, 0] ![1, 512, 128] inb_S9x512x128_S1x512x128_7_0_0, k0_pay21 (k0_pay3 v4 v5)⟩,
   ⟨Rect.unit (s := S9x512x128) ![6, 0, 0] ![1, 512, 128] inb_S9x512x128_S1x512x128_6_0_0, k0_pay20 (k0_pay3 v4 v5)⟩,
   ⟨Rect.unit (s := S9x512x128) ![5, 0, 0] ![1, 512, 128] inb_S9x512x128_S1x512x128_5_0_0, k0_pay19 (k0_pay3 v4 v5) C S⟩,
   ⟨Rect.unit (s := S9x512x128) ![4, 0, 0] ![1, 512, 128] inb_S9x512x128_S1x512x128_4_0_0, k0_pay18 (k0_pay17 (k0_pay3 v4 v5) C S)⟩,
   ⟨Rect.unit (s := S9x512x128) ![3, 0, 0] ![1, 512, 128] inb_S9x512x128_S1x512x128_3_0_0,
     k0_pay16 C S (k0_pay12 (k0_pay3 v4 v5)) k0_pay13 k0_pay14 k0_pay15⟩,
   ⟨Rect.unit (s := S9x512x128) ![2, 0, 0] ![1, 512, 128] inb_S9x512x128_S1x512x128_2_0_0,
     k0_pay11 C S (k0_pay10 (k0_pay3 v4 v5)) (iota Kind.tc S512x128 32 [1] iota_S512x128_d1_w32) 64#32 0#32⟩,
   ⟨Rect.unit (s := S9x512x128) ![1, 0, 0] ![1, 512, 128] inb_S9x512x128_S1x512x128_1_0_0, k0_pay9 (k0_pay3 v4 v5) C S⟩,
   ⟨Rect.unit (s := S9x512x128) ![0, 0, 0] ![1, 512, 128] inb_S9x512x128_S1x512x128_0_0_0, k0_pay8 C S (k0_pay6 v4 v5) k0_pay7 96#32⟩]

/-- The nine slots hold the nine column groups. -/
theorem canonSlots (x : S9x512x128.Idx) (p : Fin 512) (e : Fin 1152) (hp : (p : ℕ) = (x 1 : ℕ)) (he : (e : ℕ) = 128 * (x 0 : ℕ) + (x 2 : ℕ)) :
    View.canon (Val := Elt Ideal) (s := S9x512x128) (e := .f32) (pcs v4 v5 C S) x = rotK (k0_pay3 v4 v5) C S p e := by
  unfold pcs
  canon_tiles z h
  · exact rd_keep (k0_pay3 v4 v5) C S 1024 _ _ 8 rfl (by omega) z p e (by omega) (by omega)
  · exact rd_keep (k0_pay3 v4 v5) C S 896 _ _ 7 rfl (by omega) z p e (by omega) (by omega)
  · exact rd_keep (k0_pay3 v4 v5) C S 768 _ _ 6 rfl (by omega) z p e (by omega) (by omega)
  · rw [pay19]; exact rd_rot (k0_pay3 v4 v5) C S 640 _ 5 rfl (by omega) z p e (by omega) (by omega)
  · rw [pay18]; exact rd_rot (k0_pay3 v4 v5) C S 512 _ 4 rfl (by omega) z p e (by omega) (by omega)
  · rw [pay16]; exact rd_rot (k0_pay3 v4 v5) C S 384 _ 3 rfl (by omega) z p e (by omega) (by omega)
  · rw [pay11]; exact rd_rot (k0_pay3 v4 v5) C S 256 _ 2 rfl (by omega) z p e (by omega) (by omega)
  · rw [pay9]; exact rd_rot (k0_pay3 v4 v5) C S 128 _ 1 rfl (by omega) z p e (by omega) (by omega)
  · exact rd_rot (k0_pay3 v4 v5) C S 0 slices_S512x2176_o0_0_S512x128 0 rfl (by omega) z p e (by omega) (by omega)

theorem loadSlot (lr : LoadRect S512x128) (h0 : (![1, 512, 128] : Fin 3 → ℕ) 0 = 1)
    (hs : ∀ i : Fin 2, (![1, 512, 128] : Fin 3 → ℕ) i.succ = ![512, 128] i) (y) :
    LoadRect.idx (lr.consLift ![1, 512, 128] h0 hs) (Shape.reshapeEquiv (lr.numel_consLift ![1, 512, 128] h0 hs) y)
      = ix3 (0 : Fin 1) (lr.idx y 0) (lr.idx y 1) := by
  rw [← lr.liftsTo_consLift]
  have e : lr.idx y = ix2 (lr.idx y 0) (lr.idx y 1) := by
    funext a; match a with
    | ⟨0, _⟩ => rfl
    | ⟨1, _⟩ => rfl
  rw [e]
  exact ValueIdx.reshapeEquiv_ix2_1ab _ _ _

/-- A load through a slot, at its own index. -/
theorem slotG (j : ℕ) (lr : LoadRect S512x128) (inb : ∀ a, (![j, 0, 0] : Fin 3 → ℕ) a + (![1, 512, 128] : Fin 3 → ℕ) a ≤ S9x512x128.size a)
    (h0 : (![1, 512, 128] : Fin 3 → ℕ) 0 = 1)
    (hs : ∀ i : Fin 2, (![1, 512, 128] : Fin 3 → ℕ) i.succ = ![512, 128] i) (hst) (hR) (x)
    (p : Fin 512) (e : Fin 1152) (hp : (p : ℕ) = (lr.idx x 0 : ℕ)) (he : (e : ℕ) = 128 * j + (lr.idx x 1 : ℕ)) :
    LoadRect.valAlong (lr := lr) hR (v.readCov (Val := Elt Ideal) (pcs v4 v5 C S)
      ((Rect.unit (s := S9x512x128) ![j, 0, 0] ![1, 512, 128] inb).withinL (LoadRect.consLift lr ![1, 512, 128] h0 hs) hst)) x
    = rotK (k0_pay3 v4 v5) C S p e := by
  rw [View.readCov_eq_canon']
  have key := (Rect.idx_withinL (Rect.unit (s := S9x512x128) ![j, 0, 0] ![1, 512, 128] inb) _ hst _).trans
    (congrArg (Rect.unit (s := S9x512x128) ![j, 0, 0] ![1, 512, 128] inb).emb (loadSlot lr h0 hs x))
  refine (canonSlots v4 v5 C S _ p e ?_ ?_)
  · refine hp.trans (Eq.trans ?_ (congrArg Fin.val (congrFun key 1)).symm)
    show _ = 0 + 1 * (lr.idx x 0 : ℕ)
    omega
  · refine he.trans (Eq.trans ?_ (congrArg₂ (fun a b : ℕ => 128 * a + b) (congrArg Fin.val (congrFun key 0)) (congrArg Fin.val (congrFun key 2))).symm)
    show _ = 128 * (j + 1 * 0) + (0 + 1 * (lr.idx x 1 : ℕ))
    omega

/-- A strided load through a slot. -/
theorem slot (j o n s : ℕ) (hlr) (inb : ∀ a, (![j, 0, 0] : Fin 3 → ℕ) a + (![1, 512, 128] : Fin 3 → ℕ) a ≤ S9x512x128.size a)
    (h0 : (![1, 512, 128] : Fin 3 → ℕ) 0 = 1)
    (hs : ∀ i : Fin 2, (![1, 512, 128] : Fin 3 → ℕ) i.succ = ![512, 128] i) (hst) (hR) (hb : FTy.bf16.bits < FTy.f32.bits) (x : (⟨2, ![n, 128]⟩ : Shape).Idx)
    (p : Fin 512) (e : Fin 1152) (hp : (p : ℕ) = o + s * (x 0 : ℕ)) (he : (e : ℕ) = 128 * j + (x 1 : ℕ)) :
    (truncf (F := Ideal) (φ := .f32) .bf16 (LoadRect.valAlong (lr := (⟨![o, 0], ![n, 128], ![s, 1], hlr⟩ : LoadRect S512x128)) hR (v.readCov (Val := Elt Ideal) (pcs v4 v5 C S)
      ((Rect.unit (s := S9x512x128) ![j, 0, 0] ![1, 512, 128] inb).withinL
        (LoadRect.consLift (⟨![o, 0], ![n, 128], ![s, 1], hlr⟩ : LoadRect S512x128) ![1, 512, 128] h0 hs) hst))) hb :) x
    = rotK (k0_pay3 v4 v5) C S p e := by
  refine slotG v v4 v5 C S j _ inb h0 hs hst hR x p e ?_ ?_
  · exact hp
  · show _ = 128 * j + (0 + 1 * (x 1 : ℕ))
    omega

/-- A whole load through a slot. -/
theorem slotU (j : ℕ) (hlr) (inb : ∀ a, (![j, 0, 0] : Fin 3 → ℕ) a + (![1, 512, 128] : Fin 3 → ℕ) a ≤ S9x512x128.size a)
    (h0 : (![1, 512, 128] : Fin 3 → ℕ) 0 = 1)
    (hs : ∀ i : Fin 2, (![1, 512, 128] : Fin 3 → ℕ) i.succ = ![512, 128] i) (hst) (hR) (hb : FTy.bf16.bits < FTy.f32.bits) (x : S512x128.Idx)
    (p : Fin 512) (e : Fin 1152) (hp : (p : ℕ) = (x 0 : ℕ)) (he : (e : ℕ) = 128 * j + (x 1 : ℕ)) :
    (truncf (F := Ideal) (φ := .f32) .bf16 (LoadRect.valAlong (lr := (Rect.unit (s := S512x128) ![0, 0] ![512, 128] hlr : LoadRect S512x128)) hR
      (v.readCov (Val := Elt Ideal) (pcs v4 v5 C S)
      ((Rect.unit (s := S9x512x128) ![j, 0, 0] ![1, 512, 128] inb).withinL
        (LoadRect.consLift (Rect.unit (s := S512x128) ![0, 0] ![512, 128] hlr : LoadRect S512x128) ![1, 512, 128] h0 hs) hst))) hb :) x
    = rotK (k0_pay3 v4 v5) C S p e := by
  refine slotG v v4 v5 C S j _ inb h0 hs hst hR x p e ?_ ?_
  · show _ = 0 + 1 * (x 0 : ℕ)
    omega
  · show _ = 128 * j + (0 + 1 * (x 1 : ℕ))
    omega

end slots

variable (m : (ℓ : Loc nD τ sig) → Buf (Elt Ideal) ℓ) (c : Dev nD)

set_option maxHeartbeats 16000000 in
theorem out4_eq (t : Fin cfg0.N) : (outsAt0 (F := Ideal) m c t).1 = k0_pay3 (iblk m c 0 t) (iblk m c 1 t) := by
  simp only [outsAt0]
  frame_out

set_option maxHeartbeats 16000000 in
theorem out8_eq (t : Fin cfg0.N) : (outsAt0 (F := Ideal) m c t).2.2.2.2 = k0_pay2 (iblk m c 0 t) := by
  simp only [outsAt0]
  frame_out

set_option maxHeartbeats 16000000 in
theorem out5 (t : Fin cfg0.N) (y : S512x1152.Idx) (p : Fin 512) (e : Fin 1152) (hp : (p : ℕ) = (y 0 : ℕ)) (he : (e : ℕ) = (y 1 : ℕ)) :
    (outsAt0 (F := Ideal) m c t).2.1 y
      = rotK (k0_pay3 (iblk m c 0 t) (iblk m c 1 t)) (k0_pay4 (iblk m c 2 t)) (k0_pay5 (iblk m c 3 t)) p e := by
  simp only [outsAt0]
  frame_out
  canon_tiles x h
  all_goals (refine slotU _ _ _ _ _ _ _ _ _ _ _ _ _ x p e ?_ ?_ <;> omega)

set_option maxHeartbeats 16000000 in
theorem out6 (t : Fin cfg0.N) (y : S128x4608.Idx) (p : Fin 512) (e : Fin 1152)
    (hp : (p : ℕ) = 4 * (y 0 : ℕ) + (y 1 : ℕ) / 1152) (he : (e : ℕ) = (y 1 : ℕ) % 1152) :
    (outsAt0 (F := Ideal) m c t).2.2.1 y
      = rotK (k0_pay3 (iblk m c 0 t) (iblk m c 1 t)) (k0_pay4 (iblk m c 2 t)) (k0_pay5 (iblk m c 3 t)) p e := by
  simp only [outsAt0]
  frame_out
  canon_tiles x h
  all_goals (refine slot _ _ _ _ _ _ _ _ _ _ _ _ _ _ _ _ x p e ?_ ?_ <;> omega)

set_option maxHeartbeats 16000000 in
theorem out7 (t : Fin cfg0.N) (y : S32x18432.Idx) (p : Fin 512) (e : Fin 1152)
    (hp : (p : ℕ) = 16 * (y 0 : ℕ) + (y 1 : ℕ) / 1152) (he : (e : ℕ) = (y 1 : ℕ) % 1152) :
    (outsAt0 (F := Ideal) m c t).2.2.2.1 y
      = rotK (k0_pay3 (iblk m c 0 t) (iblk m c 1 t)) (k0_pay4 (iblk m c 2 t)) (k0_pay5 (iblk m c 3 t)) p e := by
  simp only [outsAt0]
  frame_out
  canon_tiles x h
  all_goals (refine slot _ _ _ _ _ _ _ _ _ _ _ _ _ _ _ _ x p e ?_ ?_ <;> omega)

end Cert.ProjRope
end
-- ==== Proof.ProjRope.lean ====
/- The input projection with its rotary embedding: what each array of the kernel and each result of the reference holds at
   an index, and the claims made of them. -/
module

public import proofs.«01_k».proof.Defs
public import proofs.«01_k».proof.Proof.Norm
public import proofs.«01_k».proof.Proof.RopeTiles
public import proofs.«01_k».proof.Proof.Gen.Kernel12.Frame
public import proofs.«01_k».proof.Proof.Gen.Kernel12Ideal.Value
public import proofs.«01_k».proof.Proof.Gen.Kernel12Ideal.Frame
public import proofs.«01_k».proof.Proof.Gen.Reference12Ideal.Read
public import proofs.«01_k».proof.Proof.Gen.Reference12Ideal.Run
public import Idealize.ShloMosaic.Lib.Pipeline.ValueKit
public import Idealize.ShloMosaic.Lib.Pointwise
public import Idealize.ShloMosaic.Lib.Quiescent
public import Idealize.ShloMosaic.Lib.StableHlo.RunRead

@[expose] public section

set_option maxRecDepth 16384

noncomputable section

namespace Cert.ProjRope

open Idealize.ShloMosaic Idealize.ShloMosaic.TcCoe Idealize.SL.Sem

/-- The cosine and the sine of frequency `k`'s angle at position `r`. -/
def cosT (r : Fin 4096) (k : ℕ) (hk : k < 32) : EReal := Cert.Reference12Ideal.Read.val_main_v17 (F := Ideal) (ix2 r ⟨k, hk⟩)
def sinT (r : Fin 4096) (k : ℕ) (hk : k < 32) : EReal := Cert.Reference12Ideal.Read.val_main_v19 (F := Ideal) (ix2 r ⟨k, hk⟩)

/-- A row of the projection. -/
def proj (h : Fin 4096 → Fin 1024 → EReal) (w : Fin 1024 → Fin 2176 → EReal) (r : Fin 4096) (j : Fin 2176) : EReal :=
  ∑ d : Fin 1024, h r d * w d j

/-- The queries, keys and values: the first two are turned by their position's angles, 32 pairs in each head of 64. -/
def turn (P : Fin 4096 → Fin 2176 → EReal) (r : Fin 4096) (e : Fin 1152) : EReal :=
  if h : (e : ℕ) < 768 then
    if (e : ℕ) % 64 < 32 then P r ⟨e, by omega⟩ * cosT r (e % 32) (by omega) - P r ⟨e + 32, by omega⟩ * sinT r (e % 32) (by omega)
    else P r ⟨e, by omega⟩ * cosT r (e % 32) (by omega) + P r ⟨e - 32, by omega⟩ * sinT r (e % 32) (by omega)
  else P r ⟨e, by omega⟩

section Reference
open Cert.Reference12Ideal Cert.Reference12Ideal.Read

variable (x0 : FVec Ideal S4096x1024 .f32) (x1 : FVec Ideal S1024x2176 .f32)

abbrev rP : Fin 4096 → Fin 2176 → EReal := proj (fun r d => x0 (ix2 r d)) (fun d j => x1 (ix2 d j))

theorem v0_at (r : Fin 4096) (j : Fin 2176) : val_main_v0 (F := Ideal) x0 x1 (ix2 r j) = rP x0 x1 r j := by
  pointwise [val_main_v0]
  rfl

theorem q_at (r : Fin 4096) (h : Fin 6) (k : Fin 64) (e : Fin 1152) (he : (e : ℕ) = 64 * h + k) :
    val_main_v33 (F := Ideal) x0 x1 (ix3 r h k) = turn (rP x0 x1) r e := by
  unfold turn
  rw [dif_pos (by omega)]
  by_cases hk : (k : ℕ) < 32
  · rw [if_pos (by omega), ← v0_at, ← v0_at]
    pointwise [val_main_v33, val_main_v27, val_main_v24, val_main_v26, val_main_v21, val_main_v22, val_main_v23, val_main_v25, val_main_v18, val_main_v20, val_main_v2, val_main_v1]
    rw [dif_pos hk]
    refine congrArg₂ (· - ·) (congrArg₂ (· * ·) ?_ ?_) (congrArg₂ (· * ·) ?_ ?_)
    · refine congrArg (val_main_v0 (F := Ideal) x0 x1) (congrArg (ix2 r) (Fin.ext ?_)); dsimp only; omega
    · refine congrArg (val_main_v17 (F := Ideal)) (congrArg (ix2 r) (Fin.ext ?_)); dsimp only; omega
    · refine congrArg (val_main_v0 (F := Ideal) x0 x1) (congrArg (ix2 r) (Fin.ext ?_)); dsimp only; omega
    · refine congrArg (val_main_v19 (F := Ideal)) (congrArg (ix2 r) (Fin.ext ?_)); dsimp only; omega
  · rw [if_neg (by omega), ← v0_at, ← v0_at]
    pointwise [val_main_v33, val_main_v32, val_main_v29, val_main_v31, val_main_v21, val_main_v22, val_main_v28, val_main_v30, val_main_v18, val_main_v20, val_main_v2, val_main_v1]
    rw [dif_neg hk]
    refine congrArg₂ (· + ·) (congrArg₂ (· * ·) ?_ ?_) (congrArg₂ (· * ·) ?_ ?_)
    · refine congrArg (val_main_v0 (F := Ideal) x0 x1) (congrArg (ix2 r) (Fin.ext ?_)); dsimp only; omega
    · refine congrArg (val_main_v17 (F := Ideal)) (congrArg (ix2 r) (Fin.ext ?_)); dsimp only; omega
    · refine congrArg (val_main_v0 (F := Ideal) x0 x1) (congrArg (ix2 r) (Fin.ext ?_)); dsimp only; omega
    · refine congrArg (val_main_v19 (F := Ideal)) (congrArg (ix2 r) (Fin.ext ?_)); dsimp only; omega

theorem ang_k : val_main_v50 (F := Ideal) = val_main_v17 (F := Ideal) := rfl
theorem ang_ks : val_main_v52 (F := Ideal) = val_main_v19 (F := Ideal) := rfl

theorem k_at (r : Fin 4096) (h : Fin 6) (k : Fin 64) (e : Fin 1152) (he : (e : ℕ) = 384 + (64 * h + k)) :
    val_main_v66 (F := Ideal) x0 x1 (ix3 r h k) = turn (rP x0 x1) r e := by
  unfold turn
  rw [dif_pos (by omega)]
  by_cases hk : (k : ℕ) < 32
  · rw [if_pos (by omega), ← v0_at, ← v0_at]
    pointwise [val_main_v66, val_main_v60, val_main_v57, val_main_v59, val_main_v54, val_main_v55, val_main_v56, val_main_v58, val_main_v51, val_main_v53, val_main_v35, val_main_v34]
    rw [dif_pos hk]
    refine congrArg₂ (· - ·) (congrArg₂ (· * ·) ?_ ?_) (congrArg₂ (· * ·) ?_ ?_)
    · refine congrArg (val_main_v0 (F := Ideal) x0 x1) (congrArg (ix2 r) (Fin.ext ?_)); dsimp only; omega
    · refine (congrArg (val_main_v50 (F := Ideal)) (congrArg (ix2 r) (Fin.ext (b := ⟨(e : ℕ) % 32, by omega⟩) ?_))).trans (congrFun ang_k _); dsimp only; omega
    · refine congrArg (val_main_v0 (F := Ideal) x0 x1) (congrArg (ix2 r) (Fin.ext ?_)); dsimp only; omega
    · refine (congrArg (val_main_v52 (F := Ideal)) (congrArg (ix2 r) (Fin.ext (b := ⟨(e : ℕ) % 32, by omega⟩) ?_))).trans (congrFun ang_ks _); dsimp only; omega
  · rw [if_neg (by omega), ← v0_at, ← v0_at]
    pointwise [val_main_v66, val_main_v65, val_main_v62, val_main_v64, val_main_v54, val_main_v55, val_main_v61, val_main_v63, val_main_v51, val_main_v53, val_main_v35, val_main_v34]
    rw [dif_neg hk]
    refine congrArg₂ (· + ·) (congrArg₂ (· * ·) ?_ ?_) (congrArg₂ (· * ·) ?_ ?_)
    · refine congrArg (val_main_v0 (F := Ideal) x0 x1) (congrArg (ix2 r) (Fin.ext ?_)); dsimp only; omega
    · refine (congrArg (val_main_v50 (F := Ideal)) (congrArg (ix2 r) (Fin.ext (b := ⟨(e : ℕ) % 32, by omega⟩) ?_))).trans (congrFun ang_k _); dsimp only; omega
    · refine congrArg (val_main_v0 (F := Ideal) x0 x1) (congrArg (ix2 r) (Fin.ext ?_)); dsimp only; omega
    · refine (congrArg (val_main_v52 (F := Ideal)) (congrArg (ix2 r) (Fin.ext (b := ⟨(e : ℕ) % 32, by omega⟩) ?_))).trans (congrFun ang_ks _); dsimp only; omega

theorem r73_at (r : Fin 4096) (e : Fin 1152) : val_main_v73 (F := Ideal) x0 x1 (ix2 r e) = turn (rP x0 x1) r e := by
  pointwise [val_main_v73, val_main_v72, val_main_v69, val_main_v70, val_main_v71, val_main_v68, val_main_v67]
  split
  · exact q_at x0 x1 r _ _ e (by dsimp only; omega)
  split
  · exact k_at x0 x1 r _ _ e (by dsimp only; omega)
  · rw [v0_at]
    unfold turn
    rw [dif_neg (by omega)]
    exact congrArg (rP x0 x1 r) (Fin.ext (by dsimp only; omega))

theorem r74_at (r : Fin 1024) (j : Fin 4608) : val_main_v74 (F := Ideal) x0 x1 (ix2 r j)
    = turn (rP x0 x1) ⟨4 * r + j / 1152, by omega⟩ ⟨j % 1152, by omega⟩ := by
  refine Eq.trans ?_ (r73_at x0 x1 _ _)
  pointwise [val_main_v74]
  exact congrArg (fun a => val_main_v73 (F := Ideal) x0 x1 (ix2 a _)) (Fin.ext (by dsimp only; omega))
theorem r75_at (r : Fin 256) (j : Fin 18432) : val_main_v75 (F := Ideal) x0 x1 (ix2 r j)
    = turn (rP x0 x1) ⟨16 * r + j / 1152, by omega⟩ ⟨j % 1152, by omega⟩ := by
  refine Eq.trans ?_ (r73_at x0 x1 _ _)
  pointwise [val_main_v75]
  exact congrArg (fun a => val_main_v73 (F := Ideal) x0 x1 (ix2 a _)) (Fin.ext (by dsimp only; omega))
theorem r77_at (d : Fin 1024) (r : Fin 4096) : val_main_v77 (F := Ideal) x0 (ix2 d r) = x0 (ix2 r d) := by
  pointwise [val_main_v77, val_main_v76]

end Reference

section Kernel
open Cert.Kernel12Ideal Cert.Kernel12Ideal.Gen

variable (m : (ℓ : Loc nD τ sig) → Buf (Elt Ideal) ℓ) (c : Dev nD)

abbrev a0 : FVec Ideal S4096x1024 .f32 := m (c.tc.loc main_arg0)
abbrev a1 : FVec Ideal S1024x2176 .f32 := m (c.tc.loc main_arg1)

/-- The tables as the kernel is handed them. -/
def tabC : FVec Ideal S4096x128 .f32 :=
  concatenate S4096x128 1 [⟨S4096x32, Cert.Reference12Ideal.Read.val_main_v17 (F := Ideal)⟩, ⟨S4096x32, Cert.Reference12Ideal.Read.val_main_v17 (F := Ideal)⟩,
    ⟨S4096x32, Cert.Reference12Ideal.Read.val_main_v17 (F := Ideal)⟩, ⟨S4096x32, Cert.Reference12Ideal.Read.val_main_v17 (F := Ideal)⟩] concatenates_S4096x32_S4096x32_S4096x32_S4096x32_S4096x128_d1
def nsin : FVec Ideal S4096x32 .f32 := Host.negf (F := Ideal) (Cert.Reference12Ideal.Read.val_main_v19 (F := Ideal))
def tabS : FVec Ideal S4096x128 .f32 :=
  concatenate S4096x128 1 [⟨S4096x32, nsin⟩, ⟨S4096x32, Cert.Reference12Ideal.Read.val_main_v19 (F := Ideal)⟩,
    ⟨S4096x32, nsin⟩, ⟨S4096x32, Cert.Reference12Ideal.Read.val_main_v19 (F := Ideal)⟩] concatenates_S4096x32_S4096x32_S4096x32_S4096x32_S4096x128_d1

theorem tabC_at (r : Fin 4096) (l : Fin 128) : tabC (ix2 r l) = cosT r (l % 32) (by omega) := by
  unfold tabC
  pointwise []
  split
  · refine congrArg (Cert.Reference12Ideal.Read.val_main_v17 (F := Ideal)) (congrArg (ix2 r) (Fin.ext ?_)); dsimp only; omega
  split
  · refine congrArg (Cert.Reference12Ideal.Read.val_main_v17 (F := Ideal)) (congrArg (ix2 r) (Fin.ext ?_)); dsimp only; omega
  split
  · refine congrArg (Cert.Reference12Ideal.Read.val_main_v17 (F := Ideal)) (congrArg (ix2 r) (Fin.ext ?_)); dsimp only; omega
  · refine congrArg (Cert.Reference12Ideal.Read.val_main_v17 (F := Ideal)) (congrArg (ix2 r) (Fin.ext ?_)); dsimp only; omega

theorem sin_at (r : Fin 4096) (k : ℕ) (hk : k < 32) : Cert.Reference12Ideal.Read.val_main_v19 (F := Ideal) (ix2 r ⟨k, hk⟩) = sinT r k hk := rfl
theorem nsin_at (r : Fin 4096) (k : ℕ) (hk : k < 32) : nsin (ix2 r ⟨k, hk⟩) = -sinT r k hk := rfl

theorem tabS_at (r : Fin 4096) (l : Fin 128) :
    tabS (ix2 r l) = if (l : ℕ) % 64 < 32 then -sinT r (l % 32) (by omega) else sinT r (l % 32) (by omega) := by
  unfold tabS
  pointwise []
  split
  · exact (congrArg nsin (congrArg (ix2 r) (Fin.ext (b := ⟨(l : ℕ) % 32, by omega⟩) (by dsimp only; omega)))).trans ((nsin_at r _ _).trans (if_pos (by omega)).symm)
  split
  · exact (congrArg (Cert.Reference12Ideal.Read.val_main_v19 (F := Ideal)) (congrArg (ix2 r) (Fin.ext (b := ⟨(l : ℕ) % 32, by omega⟩) (by dsimp only; omega)))).trans ((sin_at r _ _).trans (if_neg (by omega)).symm)
  split
  · exact (congrArg nsin (congrArg (ix2 r) (Fin.ext (b := ⟨(l : ℕ) % 32, by omega⟩) (by dsimp only; omega)))).trans ((nsin_at r _ _).trans (if_pos (by omega)).symm)
  · exact (congrArg (Cert.Reference12Ideal.Read.val_main_v19 (F := Ideal)) (congrArg (ix2 r) (Fin.ext (b := ⟨(l : ℕ) % 32, by omega⟩) (by dsimp only; omega)))).trans ((sin_at r _ _).trans (if_neg (by omega)).symm)

theorem in0_at (r : Fin 4096) (d : Fin 1024) : V (F := Ideal) m c main_arg0 (ix2 r d) = a0 m c (ix2 r d) := by
  entry_read
  rfl
theorem in1_at (d : Fin 1024) (j : Fin 2176) : V (F := Ideal) m c main_v20 (ix2 d j) = a1 m c (ix2 d j) := by
  entry_read
  rfl
section Tables
open Idealize.ShloMosaic.StableHlo (upto after)

variable (σ : Valuation τ sig (Elt Ideal))

/- The tables that the host code builds, read from its operations: first the cosines and the sines, then the tables laid out of them. -/
theorem cos_read : upto (hostOps0 (F := Ideal)) σ 19 (Proc.devRef .tc main_v14) = Cert.Reference12Ideal.Read.val_main_v17 (F := Ideal) := by
  after_reads_simp
  rfl
theorem sin_read : upto (hostOps0 (F := Ideal)) σ 22 (Proc.devRef .tc main_v15) = Cert.Reference12Ideal.Read.val_main_v19 (F := Ideal) := by
  after_reads_simp
  rfl
theorem nsin_read : upto (hostOps0 (F := Ideal)) σ 22 (Proc.devRef .tc main_v17) = nsin := by
  after_reads_simp
  rfl
theorem nsin_read' : upto (hostOps0 (F := Ideal)) σ 22 (Proc.devRef .tc main_v18) = nsin := by
  after_reads_simp
  rfl

/-- Four tables of 32 columns next to each other. -/
def four (a b d e : FVec Ideal S4096x32 .f32) : FVec Ideal S4096x128 .f32 :=
  concatenate S4096x128 1 [⟨S4096x32, a⟩, ⟨S4096x32, b⟩, ⟨S4096x32, d⟩, ⟨S4096x32, e⟩] concatenates_S4096x32_S4096x32_S4096x32_S4096x32_S4096x128_d1

theorem tabC_read : after (hostOps0 (F := Ideal)) σ (Proc.devRef .tc main_v16) = tabC := by
  have h : after (hostOps0 (F := Ideal)) σ (Proc.devRef .tc main_v16)
      = four (upto (hostOps0 (F := Ideal)) σ 19 (Proc.devRef .tc main_v14)) (upto (hostOps0 (F := Ideal)) σ 19 (Proc.devRef .tc main_v14))
        (upto (hostOps0 (F := Ideal)) σ 19 (Proc.devRef .tc main_v14)) (upto (hostOps0 (F := Ideal)) σ 19 (Proc.devRef .tc main_v14)) :=
    (StableHlo.after_last_write (i := 19) [main_v17, main_v18, main_v19, main_v20] rfl rfl (by decide) σ).trans (StableHlo.nary_result' ..)
  rw [h, cos_read]
  rfl
theorem tabS_read : after (hostOps0 (F := Ideal)) σ (Proc.devRef .tc main_v19) = tabS := by
  have h : after (hostOps0 (F := Ideal)) σ (Proc.devRef .tc main_v19)
      = four (upto (hostOps0 (F := Ideal)) σ 22 (Proc.devRef .tc main_v17)) (upto (hostOps0 (F := Ideal)) σ 22 (Proc.devRef .tc main_v15))
        (upto (hostOps0 (F := Ideal)) σ 22 (Proc.devRef .tc main_v18)) (upto (hostOps0 (F := Ideal)) σ 22 (Proc.devRef .tc main_v15)) :=
    (StableHlo.after_last_write (i := 22) [main_v20] rfl rfl (by decide) σ).trans (StableHlo.nary_result' ..)
  rw [h, nsin_read, nsin_read', sin_read]
  rfl

end Tables

theorem in2_at (r : Fin 4096) (l : Fin 128) : V (F := Ideal) m c main_v16 (ix2 r l) = tabC (ix2 r l) :=
  congrFun (tabC_read _) _
theorem in3_at (r : Fin 4096) (l : Fin 128) : V (F := Ideal) m c main_v19 (ix2 r l) = tabS (ix2 r l) :=
  congrFun (tabS_read _) _

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![0, t.val] ∧ t.val < 8 :=
  (by decide +kernel : ∀ t : Fin grid0.N, _)
theorem lt8 (t : Fin cfg0.N) : t.val < 8 := (idx t).2.2.2.2.2.2.2.2.2

/-- Row `p` of the point's block of rows. -/
def row (t : Fin cfg0.N) (p : Fin 512) : Fin 4096 := ⟨t.val * 512 + p.val, by have := lt8 t; omega⟩

theorem b0_at (t : Fin cfg0.N) (p : Fin 512) (d : Fin 1024) : iblk (F := Ideal) m c 0 t (ix2 p d) = a0 m c (ix2 (row t p) d) := by
  rw [← in0_at]
  blk_ext [iblk, row, idx t]
theorem b1_at (t : Fin cfg0.N) (d : Fin 1024) (j : Fin 2176) : iblk (F := Ideal) m c 1 t (ix2 d j) = a1 m c (ix2 d j) := by
  rw [← in1_at]
  blk_ext [iblk, idx t]
theorem b2_at (t : Fin cfg0.N) (p : Fin 512) (l : Fin 128) : iblk (F := Ideal) m c 2 t (ix2 p l) = tabC (ix2 (row t p) l) := by
  rw [← in2_at m c]
  blk_ext [iblk, row, idx t]
theorem b3_at (t : Fin cfg0.N) (p : Fin 512) (l : Fin 128) : iblk (F := Ideal) m c 3 t (ix2 p l) = tabS (ix2 (row t p) l) := by
  rw [← in3_at m c]
  blk_ext [iblk, row, idx t]

abbrev kP : Fin 4096 → Fin 2176 → EReal := proj (fun r d => a0 m c (ix2 r d)) (fun d j => a1 m c (ix2 d j))

theorem pay3_at (t : Fin cfg0.N) (p : Fin 512) (j : Fin 2176) :
    k0_pay3 (iblk (F := Ideal) m c 0 t) (iblk (F := Ideal) m c 1 t) (ix2 p j) = kP m c (row t p) j := by
  pointwise [k0_pay3]
  refine Finset.sum_congr rfl fun d _ => ?_
  rw [b0_at, b1_at]

theorem c4_at (t : Fin cfg0.N) (p : Fin 512) (l : Fin 128) :
    k0_pay4 (iblk (F := Ideal) m c 2 t) (ix2 p l) = cosT (row t p) (l % 32) (by omega) := by
  pointwise [k0_pay4]
  rw [b2_at, tabC_at]
theorem c5_at (t : Fin cfg0.N) (p : Fin 512) (l : Fin 128) :
    k0_pay5 (iblk (F := Ideal) m c 3 t) (ix2 p l)
      = if (l : ℕ) % 64 < 32 then -sinT (row t p) (l % 32) (by omega) else sinT (row t p) (l % 32) (by omega) := by
  pointwise [k0_pay5]
  rw [b3_at, tabS_at]

/-- The rotated projection of a block is the turned one of its rows. -/
theorem rotK_at (t : Fin cfg0.N) (p : Fin 512) (e : Fin 1152) :
    rotK (k0_pay3 (iblk (F := Ideal) m c 0 t) (iblk (F := Ideal) m c 1 t)) (k0_pay4 (iblk (F := Ideal) m c 2 t)) (k0_pay5 (iblk (F := Ideal) m c 3 t)) p e
      = turn (kP m c) (row t p) e := by
  unfold rotK turn
  by_cases h : (e : ℕ) < 768
  · rw [if_pos h, dif_pos h, pay3_at, pay3_at, c4_at, c5_at]
    have hm : (e : ℕ) % 128 % 32 = (e : ℕ) % 32 := by omega
    by_cases hk : (e : ℕ) % 64 < 32
    · rw [if_pos (show ((⟨(e : ℕ) % 128, by omega⟩ : Fin 128) : ℕ) % 64 < 32 by dsimp only; omega), if_pos hk, mul_neg, ← sub_eq_add_neg]
      have hp : par e = (e : ℕ) + 32 := if_pos hk
      simp only [hm, hp]
    · rw [if_neg (show ¬ ((⟨(e : ℕ) % 128, by omega⟩ : Fin 128) : ℕ) % 64 < 32 by dsimp only; omega), if_neg hk]
      have hp : par e = (e : ℕ) - 32 := if_neg hk
      simp only [hm, hp]
  · rw [if_neg h, dif_neg h, pay3_at]

/-- The results. -/
def res4 : S4096x2176.Idx → EReal := fun i => kP m c ⟨(i 0).val, (i 0).isLt⟩ ⟨(i 1).val, (i 1).isLt⟩
def res5 : S4096x1152.Idx → EReal := fun i => turn (kP m c) ⟨(i 0).val, (i 0).isLt⟩ ⟨(i 1).val, (i 1).isLt⟩
def at4 (r : Fin 1024) (j : Fin 4608) : EReal := turn (kP m c) ⟨4 * r + j / 1152, by omega⟩ ⟨j % 1152, by omega⟩
def at16 (r : Fin 256) (j : Fin 18432) : EReal := turn (kP m c) ⟨16 * r + j / 1152, by omega⟩ ⟨j % 1152, by omega⟩
def res6 : S1024x4608.Idx → EReal := fun i => at4 m c ⟨(i 0).val, (i 0).isLt⟩ ⟨(i 1).val, (i 1).isLt⟩
def res7 : S256x18432.Idx → EReal := fun i => at16 m c ⟨(i 0).val, (i 0).isLt⟩ ⟨(i 1).val, (i 1).isLt⟩
def res8 : S1024x4096.Idx → EReal := fun i => a0 m c (ix2 ⟨(i 1).val, (i 1).isLt⟩ ⟨(i 0).val, (i 0).isLt⟩)

def row4 (t : Fin cfg0.N) (p : Fin 128) : Fin 1024 := ⟨t.val * 128 + p.val, by have := lt8 t; omega⟩
def row16 (t : Fin cfg0.N) (p : Fin 32) : Fin 256 := ⟨t.val * 32 + p.val, by have := lt8 t; omega⟩

theorem o6 (t : Fin cfg0.N) (y0 : Fin 128) (y1 : Fin 4608) : (outsAt0 (F := Ideal) m c t).2.2.1 (ix2 y0 y1) = at4 m c (row4 t y0) y1 :=
  (out6 m c t (ix2 y0 y1) ⟨4 * y0.val + y1.val / 1152, by omega⟩ ⟨y1.val % 1152, by omega⟩ rfl rfl).trans
    ((rotK_at m c t _ _).trans (congrArg (fun r => turn (kP m c) r _) (Fin.ext (by dsimp only [row, row4]; omega))))
theorem o7 (t : Fin cfg0.N) (y0 : Fin 32) (y1 : Fin 18432) : (outsAt0 (F := Ideal) m c t).2.2.2.1 (ix2 y0 y1) = at16 m c (row16 t y0) y1 :=
  (out7 m c t (ix2 y0 y1) ⟨16 * y0.val + y1.val / 1152, by omega⟩ ⟨y1.val % 1152, by omega⟩ rfl rfl).trans
    ((rotK_at m c t _ _).trans (congrArg (fun r => turn (kP m c) r _) (Fin.ext (by dsimp only [row, row16]; omega))))
theorem o8 (t : Fin cfg0.N) (y0 : Fin 1024) (y1 : Fin 512) : (outsAt0 (F := Ideal) m c t).2.2.2.2 (ix2 y0 y1) = a0 m c (ix2 (row t y1) y0) := by
  rw [out8_eq]
  pointwise [k0_pay2]
  rw [b0_at]

theorem arr4 : (dats m 0 c).arrAt 4 cfg0.N = res4 m c := by
  refine (dats m 0 c).arrAt_eq_of_covers 4 (res4 m c) (by decide +kernel) fun t hf y => ?_
  blk_simp
  rw [after0_4, out4_eq]
  idx_vars y
  refine (pay3_at m c t y0 y1).trans ?_
  refine (show _ = res4 m c (ix2 (row t y0) y1) from rfl).trans (congrArg (res4 m c) ?_)
  blk_ext [row, idx t]
theorem arr5 : (dats m 0 c).arrAt 5 cfg0.N = res5 m c := by
  refine (dats m 0 c).arrAt_eq_of_covers 5 (res5 m c) (by decide +kernel) fun t hf y => ?_
  blk_simp
  rw [after0_5]
  idx_vars y
  refine ((out5 m c t (ix2 y0 y1) y0 y1 rfl rfl).trans (rotK_at m c t y0 y1)).trans ?_
  refine (show _ = res5 m c (ix2 (row t y0) y1) from rfl).trans (congrArg (res5 m c) ?_)
  blk_ext [row, idx t]
theorem arr6 : (dats m 0 c).arrAt 6 cfg0.N = res6 m c := by
  refine (dats m 0 c).arrAt_eq_of_covers 6 (res6 m c) (by decide +kernel) fun t hf y => ?_
  blk_simp
  rw [after0_6]
  idx_vars y
  refine (o6 m c t y0 y1).trans ?_
  refine (show _ = res6 m c (ix2 (row4 t y0) y1) from rfl).trans (congrArg (res6 m c) ?_)
  blk_ext [row4, idx t]
theorem arr7 : (dats m 0 c).arrAt 7 cfg0.N = res7 m c := by
  refine (dats m 0 c).arrAt_eq_of_covers 7 (res7 m c) (by decide +kernel) fun t hf y => ?_
  blk_simp
  rw [after0_7]
  idx_vars y
  refine (o7 m c t y0 y1).trans ?_
  refine (show _ = res7 m c (ix2 (row16 t y0) y1) from rfl).trans (congrArg (res7 m c) ?_)
  blk_ext [row16, idx t]
theorem arr8 : (dats m 0 c).arrAt 8 cfg0.N = res8 m c := by
  refine (dats m 0 c).arrAt_eq_of_covers 8 (res8 m c) (by decide +kernel) fun t hf y => ?_
  blk_simp
  rw [after0_8]
  idx_vars y
  refine (o8 m c t y0 y1).trans ?_
  refine (show _ = res8 m c (ix2 y0 (row t y1)) from rfl).trans (congrArg (res8 m c) ?_)
  blk_ext [row, idx t]

variable (x0 : FVec Ideal Cert.Reference12Ideal.S4096x1024 .f32) (x1 : FVec Ideal Cert.Reference12Ideal.S1024x2176 .f32)
variable (h0 : a0 m c = x0) (h1 : a1 m c = x1)
include h0 h1

theorem ref4 : Cert.Reference12Ideal.Read.val_main_v0 (F := Ideal) x0 x1 = res4 m c := by
  subst h0 h1
  funext i
  idx_vars i
  exact v0_at _ _ i0 i1
theorem ref5 : Cert.Reference12Ideal.Read.val_main_v73 (F := Ideal) x0 x1 = res5 m c := by
  subst h0 h1
  funext i
  idx_vars i
  exact r73_at _ _ i0 i1
theorem ref6 : Cert.Reference12Ideal.Read.val_main_v74 (F := Ideal) x0 x1 = res6 m c := by
  subst h0 h1
  funext i
  idx_vars i
  exact r74_at _ _ i0 i1
theorem ref7 : Cert.Reference12Ideal.Read.val_main_v75 (F := Ideal) x0 x1 = res7 m c := by
  subst h0 h1
  funext i
  idx_vars i
  exact r75_at _ _ i0 i1
theorem ref8 : Cert.Reference12Ideal.Read.val_main_v77 (F := Ideal) x0 = res8 m c := by
  subst h0 h1
  funext i
  idx_vars i
  exact r77_at _ i0 i1

end Kernel

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2.2.2.2.2, Idealize.ShloMosaic.sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨fun c => res4 m c, fun c => res5 m c, fun c => res6 m c, fun c => res7 m c, fun c => res8 m c, (θ_run Cert.Kernel12Ideal.defs _ _).mono
    (fun _ h c => ⟨(h c).1.trans (arr4 m c), (h c).2.1.trans (arr5 m c), (h c).2.2.1.trans (arr6 m c), (h c).2.2.2.1.trans (arr7 m c),
      (h c).2.2.2.2.1.trans (arr8 m c), (h c).2.2.2.2.2⟩)
    (Cert.Kernel12Ideal.Value.run_blocks (F := Ideal) m ρ), ?_⟩
  refine (θ_run Cert.Reference12Ideal.defs _ _).mono (fun _ h c => ?_) (Cert.Reference12Ideal.Value.run (F := Ideal) m' ρ')
  obtain ⟨h0, h1⟩ := hagree c
  replace h0 := h0.symm
  replace h1 := h1.symm
  exact ⟨(h c).1.trans ((Cert.Reference12Ideal.Read.val_main_v0_eq _ _).trans (ref4 m c _ _ h0 h1)),
    (h c).2.1.trans ((Cert.Reference12Ideal.Read.val_main_v73_eq _ _).trans (ref5 m c _ _ h0 h1)),
    (h c).2.2.1.trans ((Cert.Reference12Ideal.Read.val_main_v74_eq _ _).trans (ref6 m c _ _ h0 h1)),
    (h c).2.2.2.1.trans ((Cert.Reference12Ideal.Read.val_main_v75_eq _ _).trans (ref7 m c _ _ h0 h1)),
    (h c).2.2.2.2.1.trans ((Cert.Reference12Ideal.Read.val_main_v77_eq _).trans (ref8 m c _ _ h0 h1)),
    (h c).2.2.2.2.2⟩

end Cert.ProjRope
end
-- ==== Proof.S5Fwd.lean ====
/- The gated unit behind the state space layer, forward: the kernel's two arrays and the reference's results as the same functions of the
   arguments, and the claims made of them. -/
module

public import proofs.«01_k».proof.Defs
public import proofs.«01_k».proof.Proof.S5Ref
public import proofs.«01_k».proof.Proof.Gen.Kernel13.Frame
public import proofs.«01_k».proof.Proof.Gen.Kernel13Ideal.Value
public import proofs.«01_k».proof.Proof.Gen.Kernel13Ideal.Frame
public import proofs.«01_k».proof.Proof.Gen.Reference13Ideal.Read
public import proofs.«01_k».proof.Proof.Gen.Reference13Ideal.Run
public import Idealize.ShloMosaic.Lib.Quiescent
public import Idealize.ShloMosaic.Lib.Pipeline.ValueKit
public import Idealize.ShloMosaic.Lib.Pointwise

@[expose] public section

set_option maxRecDepth 16384

noncomputable section

namespace Cert.S5Fwd

open Idealize.ShloMosaic Idealize.ShloMosaic.TcCoe Idealize.SL.Sem
open Cert.S5Out (gel pre sg half_ac)

/-- The layer's value at `(r, q)`: the scan's output and the direct term. -/
def val (p : Fin 4096 → Fin 2176 → EReal) (y : Fin 4096 → Fin 256 → EReal) (d : Fin 256 → EReal) (r : Fin 4096) (q : Fin 256) : EReal :=
  y r q + d q * p r ⟨1920 + q.val, by omega⟩
/-- The gated unit's output on a row. -/
def out (y : Fin 256 → EReal) (w : Fin 256 → Fin 256 → EReal) (b : Fin 256 → EReal) (q : Fin 256) : EReal := gel (y q) * sg (pre y w b q)

section Reference
open Cert.Reference13Ideal Cert.Reference13Ideal.Read

variable (x0 : FVec Ideal S4096x2176 .f32) (x1 : FVec Ideal S4096x256 .f32) (x2 : FVec Ideal S256 .f32) (x3 : FVec Ideal S256x256 .f32)
  (x4 : FVec Ideal S256 .f32)

abbrev rv : Fin 4096 → Fin 256 → EReal := val (fun r d => x0 (ix2 r d)) (fun r q => x1 (ix2 r q)) (fun q => x2 (ix1 q))
abbrev rw3 (k q : Fin 256) : EReal := x3 (ix2 k q)
abbrev rb (q : Fin 256) : EReal := x4 (ix1 q)

theorem v4_at (r : Fin 4096) (q : Fin 256) : val_main_v4 (F := Ideal) x0 x1 x2 (ix2 r q) = rv x0 x1 x2 r q := by
  unfold rv val
  pointwise [val_main_v4, val_main_v3, val_main_v2, val_main_v1, val_main_v0]
theorem v13_at (r : Fin 4096) (q : Fin 256) : val_main_v13 (F := Ideal) x0 x1 x2 (ix2 r q) = Ffn.th (rv x0 x1 x2 r q) := by
  unfold Ffn.th
  rw [← Ffn.cubR_eq, ← v4_at]
  pointwise [val_main_v13, val_main_v12, val_main_v11, val_main_v10, val_main_v9, val_main_v8, val_main_v7, val_main_v6, val_main_v5, val_main_cst, val_main_cst_0, val_main_cst_1]
theorem v18_at (r : Fin 4096) (q : Fin 256) : val_main_v18 (F := Ideal) x0 x1 x2 (ix2 r q) = gel (rv x0 x1 x2 r q) := by
  unfold gel
  rw [← v13_at, ← half_ac, ← v4_at]
  pointwise [val_main_v18, val_main_v17, val_main_v16, val_main_v15, val_main_v14, val_main_cst_2, val_main_cst_3]
theorem v22_at (r : Fin 4096) (q : Fin 256) : val_main_v22 (F := Ideal) x0 x1 x2 x3 x4 (ix2 r q) = pre (rv x0 x1 x2 r) (rw3 x3) (rb x4) q := by
  unfold pre
  simp only [← v18_at]
  pointwise [val_main_v22, val_main_v21, val_main_v20, val_main_v19]
theorem v28_at (r : Fin 4096) (q : Fin 256) : val_main_v28 (F := Ideal) x0 x1 x2 x3 x4 (ix2 r q) = sg (pre (rv x0 x1 x2 r) (rw3 x3) (rb x4) q) := by
  unfold sg
  rw [← v22_at]
  pointwise [val_main_v28, val_main_v27, val_main_v26, val_main_v25, val_main_v24, val_main_v23, val_main_cst_4, val_main_cst_5]
theorem v29_at (r : Fin 4096) (q : Fin 256) : val_main_v29 (F := Ideal) x0 x1 x2 x3 x4 (ix2 r q) = out (rv x0 x1 x2 r) (rw3 x3) (rb x4) q := by
  unfold out
  rw [← v28_at, ← v18_at]
  pointwise [val_main_v29]

end Reference

section Kernel
open Cert.Kernel13Ideal Cert.Kernel13Ideal.Gen

abbrev matK (w : FVec Ideal S256x256 .bf16) (k q : Fin 256) : EReal := w (ix2 k q)
abbrev vecK (b : FVec Ideal S1x256 .f32) (q : Fin 256) : EReal := b (ix2 0 q)
/-- A block's columns of the layer's input, from two blocks of 128. -/
def cat (u v : FVec Ideal S512x128 .f32) (p : Fin 512) (q : Fin 256) : EReal :=
  if h : q.val < 128 then u (ix2 p ⟨q.val, h⟩) else v (ix2 p ⟨q.val - 128, by omega⟩)
def valK (u v : FVec Ideal S512x128 .f32) (y : FVec Ideal S512x256 .f32) (d : FVec Ideal S1x256 .f32) (p : Fin 512) (q : Fin 256) : EReal :=
  y (ix2 p q) + d (ix2 0 q) * cat u v p q

theorem named_cubic : (Named.named (F := Ideal) (φ := .f32) κ "cubic" 0x3D372713#32 : EReal) = Ffn.cub :=
  IdealRules.named_const.ideal_named_scalar _ _ _ _ rfl

variable (u v : FVec Ideal S512x128 .f32) (y : FVec Ideal S512x256 .f32) (d : FVec Ideal S1x256 .f32) (w : FVec Ideal S256x256 .bf16) (b : FVec Ideal S1x256 .f32)

theorem pay2_at (p : Fin 512) (q : Fin 256) : k0_pay2 (F := Ideal) u v y d (ix2 p q) = valK u v y d p q := by
  unfold valK cat
  pointwise [k0_pay2]
theorem pay3_at (p : Fin 512) (q : Fin 256) : k0_pay3 (F := Ideal) u v y d (ix2 p q) = gel (valK u v y d p q) := by
  rw [← pay2_at]
  pointwise [k0_pay3]
  simp only [named_cubic, gel, Ffn.th]
theorem pay4_at (p : Fin 512) (q : Fin 256) : k0_pay4 (F := Ideal) u v y d w b (ix2 p q) = 1 + Ideal.exp (-(pre (valK u v y d p) (matK w) (vecK b) q)) := by
  unfold pre
  rw [← zero_sub]
  simp only [← pay3_at]
  pointwise [k0_pay4]

theorem pay1_at (g z : FVec Ideal S512x256 .f32) (p : Fin 512) (q : Fin 256) :
    k0_pay1 (F := Ideal) g z (Scalar.ofBits .f32 0x3F800000#32) (ix2 p q) = g (ix2 p q) * Ideal.div 1 (z (ix2 p q)) := by
  pointwise [k0_pay1]
theorem o_at (p : Fin 512) (q : Fin 256) : k0_pay1 (F := Ideal) (k0_pay3 u v y d) (k0_pay4 u v y d w b) (Scalar.ofBits .f32 0x3F800000#32) (ix2 p q)
    = out (valK u v y d p) (matK w) (vecK b) q := by
  rw [pay1_at, pay3_at, pay4_at]
  rfl

variable (m : (ℓ : Loc nD τ sig) → Buf (Elt Ideal) ℓ) (c : Dev nD)

abbrev a0 : FVec Ideal S4096x2176 .f32 := m (c.tc.loc main_arg0)
abbrev a1 : FVec Ideal S4096x256 .f32 := m (c.tc.loc main_arg1)
abbrev a2 : FVec Ideal S256 .f32 := m (c.tc.loc main_arg2)
abbrev a3 : FVec Ideal S256x256 .f32 := m (c.tc.loc main_arg3)
abbrev a4 : FVec Ideal S256 .f32 := m (c.tc.loc main_arg4)

/-- A vector as a row. -/
def vrow (y : FVec Ideal S256 .f32) : FVec Ideal S1x256 .f32 := broadcastInDim S1x256 ![1] bcast_S256_S1x256_1 y
theorem vrow_at (y : FVec Ideal S256 .f32) (d : Fin 256) : vrow y (ix2 0 d) = y (ix1 d) := by
  pointwise [vrow]

theorem p_at (r : Fin 4096) (d : Fin 2176) : V (F := Ideal) m c main_arg0 (ix2 r d) = a0 m c (ix2 r d) := by
  entry_read
  rfl
theorem y_at (r : Fin 4096) (d : Fin 256) : V (F := Ideal) m c main_arg1 (ix2 r d) = a1 m c (ix2 r d) := by
  entry_read
  rfl
theorem d_at (d : Fin 256) : V (F := Ideal) m c main_v0 (ix2 0 d) = a2 m c (ix1 d) := by
  refine Eq.trans ?_ (vrow_at (a2 m c) d)
  entry_read
  rfl
theorem w_at (i j : Fin 256) : V (F := Ideal) m c main_v1 (ix2 i j) = a3 m c (ix2 i j) := by
  entry_read
  rfl
theorem b_at (d : Fin 256) : V (F := Ideal) m c main_v2 (ix2 0 d) = a4 m c (ix1 d) := by
  refine Eq.trans ?_ (vrow_at (a4 m c) d)
  entry_read
  rfl

theorem idx : ∀ t : Fin cfg0.N, win0_0.index t = ![t.val, 15] ∧ win0_1.index t = ![t.val, 16] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ t.val < 8 :=
  (by decide +kernel : ∀ t : Fin grid0.N, _)
theorem lt8 (t : Fin cfg0.N) : t.val < 8 := (idx t).2.2.2.2.2.2.2.2

/-- Row `p` of the point's block of rows. -/
def row (t : Fin cfg0.N) (p : Fin 512) : Fin 4096 := ⟨t.val * 512 + p.val, by have := lt8 t; omega⟩

theorem b0_at (t : Fin cfg0.N) (p : Fin 512) (d : Fin 128) : iblk (F := Ideal) m c 0 t (ix2 p d) = a0 m c (ix2 (row t p) ⟨1920 + d.val, by omega⟩) := by
  rw [← p_at]
  blk_ext [iblk, row, idx t]
theorem b1_at (t : Fin cfg0.N) (p : Fin 512) (d : Fin 128) : iblk (F := Ideal) m c 1 t (ix2 p d) = a0 m c (ix2 (row t p) ⟨2048 + d.val, by omega⟩) := by
  rw [← p_at]
  blk_ext [iblk, row, idx t]
theorem b2_at (t : Fin cfg0.N) (p : Fin 512) (d : Fin 256) : iblk (F := Ideal) m c 2 t (ix2 p d) = a1 m c (ix2 (row t p) d) := by
  rw [← y_at]
  blk_ext [iblk, row, idx t]
theorem b3_at (t : Fin cfg0.N) (d : Fin 256) : iblk (F := Ideal) m c 3 t (ix2 0 d) = a2 m c (ix1 d) := by
  rw [← d_at]
  blk_ext [iblk, idx t]
theorem b4_at (t : Fin cfg0.N) (i j : Fin 256) : iblk (F := Ideal) m c 4 t (ix2 i j) = a3 m c (ix2 i j) := by
  rw [← w_at]
  blk_ext [iblk, idx t]
theorem b5_at (t : Fin cfg0.N) (d : Fin 256) : iblk (F := Ideal) m c 5 t (ix2 0 d) = a4 m c (ix1 d) := by
  rw [← b_at]
  blk_ext [iblk, idx t]

/-- The arguments as the layer's value and the gate read them. -/
abbrev mv : Fin 4096 → Fin 256 → EReal := val (fun r d => a0 m c (ix2 r d)) (fun r q => a1 m c (ix2 r q)) (fun q => a2 m c (ix1 q))
abbrev mw (k q : Fin 256) : EReal := a3 m c (ix2 k q)
abbrev vb (q : Fin 256) : EReal := a4 m c (ix1 q)

theorem cat_at (t : Fin cfg0.N) (p : Fin 512) (q : Fin 256) :
    cat (iblk (F := Ideal) m c 0 t) (iblk (F := Ideal) m c 1 t) p q = a0 m c (ix2 (row t p) ⟨1920 + q.val, by omega⟩) := by
  unfold cat
  split
  · exact b0_at m c t p _
  · refine (b1_at m c t p _).trans (congrArg (fun k => a0 m c (ix2 (row t p) k)) (Fin.ext ?_))
    dsimp only
    omega
theorem ev (t : Fin cfg0.N) (p : Fin 512) :
    valK (iblk (F := Ideal) m c 0 t) (iblk (F := Ideal) m c 1 t) (iblk (F := Ideal) m c 2 t) (iblk (F := Ideal) m c 3 t) p = mv m c (row t p) := by
  funext q
  unfold valK mv val
  rw [cat_at, b2_at, b3_at]
theorem ew (t : Fin cfg0.N) : matK (iblk (F := Ideal) m c 4 t) = mw m c := funext fun k => funext fun q => b4_at m c t k q
theorem eb (t : Fin cfg0.N) : vecK (iblk (F := Ideal) m c 5 t) = vb m c := funext fun q => b5_at m c t q

theorem o6 (t : Fin cfg0.N) (p : Fin 512) (q : Fin 256) :
    out0_6 (F := Ideal) (iblk m c 0 t) (iblk m c 1 t) (iblk m c 2 t) (iblk m c 3 t) (iblk m c 4 t) (iblk m c 5 t) (ix2 p q) = out (mv m c (row t p)) (mw m c) (vb m c) q := by
  unfold out0_6
  frame_out
  refine (o_at _ _ _ _ _ _ p q).trans ?_
  rw [ev, ew, eb]
theorem o7 (t : Fin cfg0.N) (p : Fin 512) (q : Fin 256) :
    out0_7 (F := Ideal) (iblk m c 0 t) (iblk m c 1 t) (iblk m c 2 t) (iblk m c 3 t) (iblk m c 4 t) (iblk m c 5 t) (ix2 p q) = mv m c (row t p) q := by
  unfold out0_7
  frame_out
  refine (pay2_at _ _ _ _ p q).trans ?_
  rw [ev]

/-- The unit's output as an array, -/
def w6 : S4096x256.Idx → EReal := fun i => out (mv m c ⟨(i 0).val, (i 0).isLt⟩) (mw m c) (vb m c) ⟨(i 1).val, (i 1).isLt⟩
/-- and the layer's value. -/
def w7 : S4096x256.Idx → EReal := fun i => mv m c ⟨(i 0).val, (i 0).isLt⟩ ⟨(i 1).val, (i 1).isLt⟩

theorem arr6 : (dats m 0 c).arrAt 6 cfg0.N = w6 m c := by
  refine (dats m 0 c).arrAt_eq_of_covers 6 (w6 m c) (by decide +kernel) fun t hf y => ?_
  blk_simp
  rw [after0_6]
  idx_vars y
  refine (o6 m c t y0 y1).trans ?_
  refine (show _ = w6 m c (ix2 (row t y0) y1) from rfl).trans (congrArg (w6 m c) ?_)
  blk_ext [row, idx t]
theorem arr7 : (dats m 0 c).arrAt 7 cfg0.N = w7 m c := by
  refine (dats m 0 c).arrAt_eq_of_covers 7 (w7 m c) (by decide +kernel) fun t hf y => ?_
  blk_simp
  rw [after0_7]
  idx_vars y
  refine (o7 m c t y0 y1).trans ?_
  refine (show _ = w7 m c (ix2 (row t y0) y1) from rfl).trans (congrArg (w7 m c) ?_)
  blk_ext [row, idx t]

theorem ref6 (x0 : FVec Ideal S4096x2176 .f32) (x1 : FVec Ideal S4096x256 .f32) (x2 : FVec Ideal S256 .f32) (x3 : FVec Ideal S256x256 .f32) (x4 : FVec Ideal S256 .f32)
    (e0 : x0 = a0 m c) (e1 : x1 = a1 m c) (e2 : x2 = a2 m c) (e3 : x3 = a3 m c) (e4 : x4 = a4 m c) :
    Cert.Reference13Ideal.Read.val_main_v29 (F := Ideal) x0 x1 x2 x3 x4 = w6 m c := by
  subst e0 e1 e2 e3 e4
  funext y
  idx_vars y
  exact v29_at _ _ _ _ _ y0 y1
theorem ref7 (x0 : FVec Ideal S4096x2176 .f32) (x1 : FVec Ideal S4096x256 .f32) (x2 : FVec Ideal S256 .f32)
    (e0 : x0 = a0 m c) (e1 : x1 = a1 m c) (e2 : x2 = a2 m c) :
    Cert.Reference13Ideal.Read.val_main_v4 (F := Ideal) x0 x1 x2 = w7 m c := by
  subst e0 e1 e2
  funext y
  idx_vars y
  exact v4_at _ _ _ y0 y1

end Kernel

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2.2, Idealize.ShloMosaic.sem_eq_zero_of_no_sems (by decide) r.2⟩)
    (Cert.Reference13Ideal.Value.run (F := Ideal) m ρ)

/-- The coefficient named is within its tolerance of the word it stands for. -/
theorem preserves : Cert.preserves_Kernel13_Kernel13Ideal :=
  IdealRules.named_const.statement Cert.Kernel13Ideal.κ "cubic" .f32 0x3D372713#32 ((8943 / 200000 : ℝ) : EReal) rfl

theorem algebraic : Cert.algebraic_Kernel13Ideal_Reference13Ideal := by
  intro m ρ m' ρ' hpre hagree
  refine ⟨fun c => w6 m c, fun c => w7 m c, (θ_run Cert.Kernel13Ideal.defs _ _).mono
    (fun _ h c => ⟨(h c).1.trans (arr6 m c), (h c).2.1.trans (arr7 m c), (h c).2.2⟩)
    (Cert.Kernel13Ideal.Value.run_blocks (F := Ideal) m ρ), ?_⟩
  refine (θ_run Cert.Reference13Ideal.defs _ _).mono (fun _ h c => ?_) (Cert.Reference13Ideal.Value.run (F := Ideal) m' ρ')
  obtain ⟨e0, e1, e2, e3, e4⟩ := hagree c
  exact ⟨(h c).1.trans ((Cert.Reference13Ideal.Read.val_main_v29_eq _ _).trans (ref6 m c _ _ _ _ _ e0 e1 e2 e3 e4)),
    (h c).2.1.trans ((Cert.Reference13Ideal.Read.val_main_v4_eq _ _ _).trans (ref7 m c _ _ _ e0 e1 e2)), (h c).2.2⟩

end Cert.S5Fwd

end
-- ==== Proof.Adam.lean ====
/- The optimiser's step on two weights: the sum of the devices' partial gradients and AdamW, the kernel's eight arrays and the reference's
   results as the same functions of the arguments, and the claims made of them. -/
module

public import proofs.«01_k».proof.Defs
public import proofs.«01_k».proof.Proof.Gen.Kernel14.Frame
public import proofs.«01_k».proof.Proof.Gen.Kernel14Ideal.Value
public import proofs.«01_k».proof.Proof.Gen.Kernel14Ideal.Frame
public import proofs.«01_k».proof.Proof.Gen.Reference14Ideal.Read
public import proofs.«01_k».proof.Proof.Gen.Reference14Ideal.Run
public import Idealize.ShloMosaic.Lib.Quiescent
public import Idealize.ShloMosaic.Lib.Pipeline.ValueKit
public import Idealize.ShloMosaic.Lib.Pointwise

@[expose] public section

set_option maxRecDepth 16384

noncomputable section

namespace Cert.Adam

open Idealize.ShloMosaic Idealize.ShloMosaic.TcCoe Idealize.SL.Sem

/-- The devices' partial gradients of a layer, and an array of both layers. -/
abbrev Part := FVec Ideal ⟨5, ![8, 1, 16, 64, 16]⟩ .f32
abbrev Both := FVec Ideal ⟨4, ![2, 16, 64, 16]⟩ .f32

/-- The sum over the devices, -/
def sum8 (u : Part) (i : Fin 16) (j : Fin 64) (k : Fin 16) : EReal :=
  u (ix5 0 0 i j k) + u (ix5 1 0 i j k) + u (ix5 2 0 i j k) + u (ix5 3 0 i j k) + u (ix5 4 0 i j k) + u (ix5 5 0 i j k) + u (ix5 6 0 i j k) + u (ix5 7 0 i j k)
/-- and the gradient of both layers. -/
def grad (u w : Part) (l : Fin 2) (i : Fin 16) (j : Fin 64) (k : Fin 16) : EReal := if l.val < 1 then sum8 u i j k else sum8 w i j k
theorem grad0 (u w : Part) (i : Fin 16) (j : Fin 64) (k : Fin 16) : grad u w 0 i j k = sum8 u i j k := if_pos (by decide)
theorem grad1 (u w : Part) (i : Fin 16) (j : Fin 64) (k : Fin 16) : grad u w 1 i j k = sum8 w i j k := if_neg (by decide)

/-- A single-precision word's value. -/
abbrev wd (b : BitVec 32) : EReal := FloatOps.ofBits (F := Ideal) .f32 b
/-- The two averages after the step, -/
def newM (g m : EReal) : EReal := wd 0x3F666666#32 * m + wd 0x3DCCCCCD#32 * g
def newV (g v : EReal) : EReal := wd 0x3F7FBE77#32 * v + wd 0x3A83126F#32 * (g * g)
/-- and the change of the weight. -/
def delta (g p m v : EReal) : EReal :=
  wd 0xBA83126F#32 * (Ideal.div (Ideal.div (newM g m) (wd 0x3F26BD02#32)) (Ideal.sqrt (Ideal.div (newV g v) (wd 0x3C231ACC#32)) + wd 0x322BCC77#32) + wd 0x3C23D70A#32 * p)

section Reference
open Cert.Reference14Ideal Cert.Reference14Ideal.Read

variable (x0 x1 x2 x3 : Part) (x4 x5 x6 x7 x8 x9 : Both)

theorem v0_at (i : Fin 16) (j : Fin 64) (k : Fin 16) : val_main_v0 (F := Ideal) x0 (ix4 0 i j k) = sum8 x0 i j k := by
  unfold sum8
  pointwise [val_main_v0, val_main_cst]
  exact Fin.sum_univ_eight _
theorem v1_at (i : Fin 16) (j : Fin 64) (k : Fin 16) : val_main_v1 (F := Ideal) x2 (ix4 0 i j k) = sum8 x2 i j k := by
  unfold sum8
  pointwise [val_main_v1, val_main_cst_0]
  exact Fin.sum_univ_eight _
theorem v3_at (i : Fin 16) (j : Fin 64) (k : Fin 16) : val_main_v3 (F := Ideal) x1 (ix4 0 i j k) = sum8 x1 i j k := by
  unfold sum8
  pointwise [val_main_v3, val_main_cst_1]
  exact Fin.sum_univ_eight _
theorem v4_at (i : Fin 16) (j : Fin 64) (k : Fin 16) : val_main_v4 (F := Ideal) x3 (ix4 0 i j k) = sum8 x3 i j k := by
  unfold sum8
  pointwise [val_main_v4, val_main_cst_2]
  exact Fin.sum_univ_eight _
theorem v2_at (l : Fin 2) (i : Fin 16) (j : Fin 64) (k : Fin 16) : val_main_v2 (F := Ideal) x0 x2 (ix4 l i j k) = grad x0 x2 l i j k := by
  obtain rfl | rfl : l = 0 ∨ l = 1 := by omega
  · rw [grad0, ← v0_at]
    pointwise [val_main_v2]
  · rw [grad1, ← v1_at]
    pointwise [val_main_v2]
theorem v5_at (l : Fin 2) (i : Fin 16) (j : Fin 64) (k : Fin 16) : val_main_v5 (F := Ideal) x1 x3 (ix4 l i j k) = grad x1 x3 l i j k := by
  obtain rfl | rfl : l = 0 ∨ l = 1 := by omega
  · rw [grad0, ← v3_at]
    pointwise [val_main_v5]
  · rw [grad1, ← v4_at]
    pointwise [val_main_v5]
theorem v10_at (l : Fin 2) (i : Fin 16) (j : Fin 64) (k : Fin 16) : val_main_v10 (F := Ideal) x0 x2 x6 (ix4 l i j k) = newM (grad x0 x2 l i j k) (x6 (ix4 l i j k)) := by
  rw [← v2_at]
  pointwise [newM, val_main_v6, val_main_v7, val_main_v8, val_main_v9, val_main_v10, val_main_cst_3, val_main_cst_4]
theorem v16_at (l : Fin 2) (i : Fin 16) (j : Fin 64) (k : Fin 16) : val_main_v16 (F := Ideal) x0 x2 x8 (ix4 l i j k) = newV (grad x0 x2 l i j k) (x8 (ix4 l i j k)) := by
  rw [← v2_at]
  pointwise [newV, val_main_v11, val_main_v12, val_main_v13, val_main_v14, val_main_v15, val_main_v16, val_main_cst_5, val_main_cst_6]
theorem v29_at (l : Fin 2) (i : Fin 16) (j : Fin 64) (k : Fin 16) : val_main_v29 (F := Ideal) x0 x2 x4 x6 x8 (ix4 l i j k)
    = delta (grad x0 x2 l i j k) (x4 (ix4 l i j k)) (x6 (ix4 l i j k)) (x8 (ix4 l i j k)) := by
  unfold delta
  rw [← v10_at, ← v16_at]
  pointwise [val_main_v17, val_main_v18, val_main_v19, val_main_v20, val_main_v21, val_main_v22, val_main_v23, val_main_v24, val_main_v25, val_main_v26, val_main_v27, val_main_v28, val_main_v29, val_main_cst_7, val_main_cst_8, val_main_cst_9, val_main_cst_10, val_main_cst_11]
theorem v34_at (l : Fin 2) (i : Fin 16) (j : Fin 64) (k : Fin 16) : val_main_v34 (F := Ideal) x1 x3 x7 (ix4 l i j k) = newM (grad x1 x3 l i j k) (x7 (ix4 l i j k)) := by
  rw [← v5_at]
  pointwise [newM, val_main_v30, val_main_v31, val_main_v32, val_main_v33, val_main_v34, val_main_cst_12, val_main_cst_13]
theorem v40_at (l : Fin 2) (i : Fin 16) (j : Fin 64) (k : Fin 16) : val_main_v40 (F := Ideal) x1 x3 x9 (ix4 l i j k) = newV (grad x1 x3 l i j k) (x9 (ix4 l i j k)) := by
  rw [← v5_at]
  pointwise [newV, val_main_v35, val_main_v36, val_main_v37, val_main_v38, val_main_v39, val_main_v40, val_main_cst_14, val_main_cst_15]
theorem v53_at (l : Fin 2) (i : Fin 16) (j : Fin 64) (k : Fin 16) : val_main_v53 (F := Ideal) x1 x3 x5 x7 x9 (ix4 l i j k)
    = delta (grad x1 x3 l i j k) (x5 (ix4 l i j k)) (x7 (ix4 l i j k)) (x9 (ix4 l i j k)) := by
  unfold delta
  rw [← v34_at, ← v40_at]
  pointwise [val_main_v41, val_main_v42, val_main_v43, val_main_v44, val_main_v45, val_main_v46, val_main_v47, val_main_v48, val_main_v49, val_main_v50, val_main_v51, val_main_v52, val_main_v53, val_main_cst_16, val_main_cst_17, val_main_cst_18, val_main_cst_19, val_main_cst_20]

end Reference

section Kernel
open Cert.Kernel14Ideal Cert.Kernel14Ideal.Gen Cert.Kernel14Ideal.Value

variable (x0 x1 x2 x3 : Part) (x4 x5 x6 x7 x8 x9 : Both)

theorem l0 (l : Fin 2) (z : Fin 1) (e : l.val = z.val) : l = 0 := by omega
theorem l1 (l : Fin 2) (z : Fin 1) (e : l.val = 1 + z.val) : l = 1 := by omega

theorem g10_at (l : Fin 2) (i : Fin 16) (j : Fin 64) (k : Fin 16) : G10 (F := Ideal) x0 x1 x2 x3 x4 x5 x6 x7 x8 x9 (ix4 l i j k) = grad x0 x2 l i j k := by
  rw [← out10_eq]
  unfold out0_10
  canon_tiles z h
  all_goals (idx_vars z; obtain rfl : i = z1 := Fin.ext h1; obtain rfl : j = z2 := Fin.ext h2; obtain rfl : k = z3 := Fin.ext h3)
  all_goals (first | rw [l1 l z0 h0, grad1] | rw [l0 l z0 h0, grad0])
  all_goals pointwise [k0_pay1, k0_pay2, k0_pay6, k0_pay7, k0_pay26, k0_pay27, sum8]
theorem g11_at (l : Fin 2) (i : Fin 16) (j : Fin 64) (k : Fin 16) : G11 (F := Ideal) x0 x1 x2 x3 x4 x5 x6 x7 x8 x9 (ix4 l i j k) = grad x1 x3 l i j k := by
  rw [← out11_eq]
  unfold out0_11
  canon_tiles z h
  all_goals (idx_vars z; obtain rfl : i = z1 := Fin.ext h1; obtain rfl : j = z2 := Fin.ext h2; obtain rfl : k = z3 := Fin.ext h3)
  all_goals (first | rw [l1 l z0 h0, grad1] | rw [l0 l z0 h0, grad0])
  all_goals pointwise [k0_pay13, k0_pay14, k0_pay15, k0_pay21, k0_pay22, k0_pay28, k0_pay29, k0_pay33, sum8]
theorem g12_at (l : Fin 2) (i : Fin 16) (j : Fin 64) (k : Fin 16) : G12 (F := Ideal) x0 x1 x2 x3 x4 x5 x6 x7 x8 x9 (ix4 l i j k) = delta (grad x0 x2 l i j k) (x4 (ix4 l i j k)) (x6 (ix4 l i j k)) (x8 (ix4 l i j k)) := by
  rw [← out12_eq]
  unfold out0_12
  canon_tiles z h
  all_goals (idx_vars z; obtain rfl : i = z1 := Fin.ext h1; obtain rfl : j = z2 := Fin.ext h2; obtain rfl : k = z3 := Fin.ext h3)
  all_goals (first | rw [l1 l z0 h0, grad1] | rw [l0 l z0 h0, grad0])
  all_goals pointwise [k0_pay1, k0_pay2, k0_pay3, k0_pay4, k0_pay5, k0_pay6, k0_pay7, k0_pay8, k0_pay9, k0_pay10, k0_pay11, k0_pay12, k0_pay26, k0_pay27, sum8, delta, newM, newV]
theorem g13_at (l : Fin 2) (i : Fin 16) (j : Fin 64) (k : Fin 16) : G13 (F := Ideal) x0 x1 x2 x3 x4 x5 x6 x7 x8 x9 (ix4 l i j k) = delta (grad x1 x3 l i j k) (x5 (ix4 l i j k)) (x7 (ix4 l i j k)) (x9 (ix4 l i j k)) := by
  rw [← out13_eq]
  unfold out0_13
  canon_tiles z h
  all_goals (idx_vars z; obtain rfl : i = z1 := Fin.ext h1; obtain rfl : j = z2 := Fin.ext h2; obtain rfl : k = z3 := Fin.ext h3)
  all_goals (first | rw [l1 l z0 h0, grad1] | rw [l0 l z0 h0, grad0])
  all_goals pointwise [k0_pay13, k0_pay14, k0_pay15, k0_pay16, k0_pay17, k0_pay18, k0_pay19, k0_pay20, k0_pay21, k0_pay22, k0_pay23, k0_pay24, k0_pay25, k0_pay28, k0_pay29, k0_pay30, k0_pay31, k0_pay32, k0_pay33, k0_pay34, sum8, delta, newM, newV]
theorem g14_at (l : Fin 2) (i : Fin 16) (j : Fin 64) (k : Fin 16) : G14 (F := Ideal) x0 x1 x2 x3 x4 x5 x6 x7 x8 x9 (ix4 l i j k) = newM (grad x0 x2 l i j k) (x6 (ix4 l i j k)) := by
  rw [← out14_eq]
  unfold out0_14
  canon_tiles z h
  all_goals (idx_vars z; obtain rfl : i = z1 := Fin.ext h1; obtain rfl : j = z2 := Fin.ext h2; obtain rfl : k = z3 := Fin.ext h3)
  all_goals (first | rw [l1 l z0 h0, grad1] | rw [l0 l z0 h0, grad0])
  all_goals pointwise [k0_pay1, k0_pay2, k0_pay3, k0_pay6, k0_pay7, k0_pay8, k0_pay26, k0_pay27, sum8, newM]
theorem g15_at (l : Fin 2) (i : Fin 16) (j : Fin 64) (k : Fin 16) : G15 (F := Ideal) x0 x1 x2 x3 x4 x5 x6 x7 x8 x9 (ix4 l i j k) = newM (grad x1 x3 l i j k) (x7 (ix4 l i j k)) := by
  rw [← out15_eq]
  unfold out0_15
  canon_tiles z h
  all_goals (idx_vars z; obtain rfl : i = z1 := Fin.ext h1; obtain rfl : j = z2 := Fin.ext h2; obtain rfl : k = z3 := Fin.ext h3)
  all_goals (first | rw [l1 l z0 h0, grad1] | rw [l0 l z0 h0, grad0])
  all_goals pointwise [k0_pay13, k0_pay14, k0_pay15, k0_pay16, k0_pay17, k0_pay18, k0_pay21, k0_pay22, k0_pay23, k0_pay28, k0_pay29, k0_pay31, k0_pay32, k0_pay33, k0_pay34, sum8, newM]
theorem g16_at (l : Fin 2) (i : Fin 16) (j : Fin 64) (k : Fin 16) : G16 (F := Ideal) x0 x1 x2 x3 x4 x5 x6 x7 x8 x9 (ix4 l i j k) = newV (grad x0 x2 l i j k) (x8 (ix4 l i j k)) := by
  rw [← out16_eq]
  unfold out0_16
  canon_tiles z h
  all_goals (idx_vars z; obtain rfl : i = z1 := Fin.ext h1; obtain rfl : j = z2 := Fin.ext h2; obtain rfl : k = z3 := Fin.ext h3)
  all_goals (first | rw [l1 l z0 h0, grad1] | rw [l0 l z0 h0, grad0])
  all_goals pointwise [k0_pay1, k0_pay2, k0_pay4, k0_pay6, k0_pay7, k0_pay9, k0_pay26, k0_pay27, sum8, newV]
theorem g17_at (l : Fin 2) (i : Fin 16) (j : Fin 64) (k : Fin 16) : G17 (F := Ideal) x0 x1 x2 x3 x4 x5 x6 x7 x8 x9 (ix4 l i j k) = newV (grad x1 x3 l i j k) (x9 (ix4 l i j k)) := by
  rw [← out17_eq]
  unfold out0_17
  canon_tiles z h
  all_goals (idx_vars z; obtain rfl : i = z1 := Fin.ext h1; obtain rfl : j = z2 := Fin.ext h2; obtain rfl : k = z3 := Fin.ext h3)
  all_goals (first | rw [l1 l z0 h0, grad1] | rw [l0 l z0 h0, grad0])
  all_goals pointwise [k0_pay13, k0_pay14, k0_pay15, k0_pay19, k0_pay21, k0_pay22, k0_pay24, k0_pay28, k0_pay29, k0_pay30, k0_pay33, k0_pay34, sum8, newV]

end Kernel
theorem ref10 (x0 x1 x2 x3 x4 x5 x6 x7 x8 x9 : _) : Cert.Reference14Ideal.Read.val_main_v2 (F := Ideal) x0 x2 = Cert.Kernel14Ideal.Value.G10 (F := Ideal) x0 x1 x2 x3 x4 x5 x6 x7 x8 x9 := by
  funext y
  idx_vars y
  exact (v2_at _ _ y0 y1 y2 y3).trans (g10_at x0 x1 x2 x3 x4 x5 x6 x7 x8 x9 y0 y1 y2 y3).symm
theorem ref11 (x0 x1 x2 x3 x4 x5 x6 x7 x8 x9 : _) : Cert.Reference14Ideal.Read.val_main_v5 (F := Ideal) x1 x3 = Cert.Kernel14Ideal.Value.G11 (F := Ideal) x0 x1 x2 x3 x4 x5 x6 x7 x8 x9 := by
  funext y
  idx_vars y
  exact (v5_at _ _ y0 y1 y2 y3).trans (g11_at x0 x1 x2 x3 x4 x5 x6 x7 x8 x9 y0 y1 y2 y3).symm
theorem ref12 (x0 x1 x2 x3 x4 x5 x6 x7 x8 x9 : _) : Cert.Reference14Ideal.Read.val_main_v29 (F := Ideal) x0 x2 x4 x6 x8 = Cert.Kernel14Ideal.Value.G12 (F := Ideal) x0 x1 x2 x3 x4 x5 x6 x7 x8 x9 := by
  funext y
  idx_vars y
  exact (v29_at _ _ _ _ _ y0 y1 y2 y3).trans (g12_at x0 x1 x2 x3 x4 x5 x6 x7 x8 x9 y0 y1 y2 y3).symm
theorem ref13 (x0 x1 x2 x3 x4 x5 x6 x7 x8 x9 : _) : Cert.Reference14Ideal.Read.val_main_v53 (F := Ideal) x1 x3 x5 x7 x9 = Cert.Kernel14Ideal.Value.G13 (F := Ideal) x0 x1 x2 x3 x4 x5 x6 x7 x8 x9 := by
  funext y
  idx_vars y
  exact (v53_at _ _ _ _ _ y0 y1 y2 y3).trans (g13_at x0 x1 x2 x3 x4 x5 x6 x7 x8 x9 y0 y1 y2 y3).symm
theorem ref14 (x0 x1 x2 x3 x4 x5 x6 x7 x8 x9 : _) : Cert.Reference14Ideal.Read.val_main_v10 (F := Ideal) x0 x2 x6 = Cert.Kernel14Ideal.Value.G14 (F := Ideal) x0 x1 x2 x3 x4 x5 x6 x7 x8 x9 := by
  funext y
  idx_vars y
  exact (v10_at _ _ _ y0 y1 y2 y3).trans (g14_at x0 x1 x2 x3 x4 x5 x6 x7 x8 x9 y0 y1 y2 y3).symm
theorem ref15 (x0 x1 x2 x3 x4 x5 x6 x7 x8 x9 : _) : Cert.Reference14Ideal.Read.val_main_v34 (F := Ideal) x1 x3 x7 = Cert.Kernel14Ideal.Value.G15 (F := Ideal) x0 x1 x2 x3 x4 x5 x6 x7 x8 x9 := by
  funext y
  idx_vars y
  exact (v34_at _ _ _ y0 y1 y2 y3).trans (g15_at x0 x1 x2 x3 x4 x5 x6 x7 x8 x9 y0 y1 y2 y3).symm
theorem ref16 (x0 x1 x2 x3 x4 x5 x6 x7 x8 x9 : _) : Cert.Reference14Ideal.Read.val_main_v16 (F := Ideal) x0 x2 x8 = Cert.Kernel14Ideal.Value.G16 (F := Ideal) x0 x1 x2 x3 x4 x5 x6 x7 x8 x9 := by
  funext y
  idx_vars y
  exact (v16_at _ _ _ y0 y1 y2 y3).trans (g16_at x0 x1 x2 x3 x4 x5 x6 x7 x8 x9 y0 y1 y2 y3).symm
theorem ref17 (x0 x1 x2 x3 x4 x5 x6 x7 x8 x9 : _) : Cert.Reference14Ideal.Read.val_main_v40 (F := Ideal) x1 x3 x9 = Cert.Kernel14Ideal.Value.G17 (F := Ideal) x0 x1 x2 x3 x4 x5 x6 x7 x8 x9 := by
  funext y
  idx_vars y
  exact (v40_at _ _ _ y0 y1 y2 y3).trans (g17_at x0 x1 x2 x3 x4 x5 x6 x7 x8 x9 y0 y1 y2 y3).symm

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2.2.2.2.2.2.2.2, Idealize.ShloMosaic.sem_eq_zero_of_no_sems (by decide) r.2⟩)
    (Cert.Reference14Ideal.Value.run (F := Ideal) m ρ)

theorem algebraic : Cert.algebraic_Kernel14Ideal_Reference14Ideal := by
  intro m ρ m' ρ' hpre hagree
  refine ⟨_, _, _, _, _, _, _, _, Cert.Kernel14Ideal.Value.run (F := Ideal) m ρ, ?_⟩
  refine (θ_run Cert.Reference14Ideal.defs _ _).mono (fun _ h c => ?_) (Cert.Reference14Ideal.Value.run (F := Ideal) m' ρ')
  obtain ⟨e0, e1, e2, e3, e4, e5, e6, e7, e8, e9⟩ := hagree c
  obtain ⟨r0, r1, r2, r3, r4, r5, r6, r7, rest⟩ := h c
  rw [e0, e2] at r0
  rw [e1, e3] at r1
  rw [e0, e2, e4, e6, e8] at r2
  rw [e1, e3, e5, e7, e9] at r3
  rw [e0, e2, e6] at r4
  rw [e1, e3, e7] at r5
  rw [e0, e2, e8] at r6
  rw [e1, e3, e9] at r7
  exact ⟨r0.trans (ref10 _ _ _ _ _ _ _ _ _ _), r1.trans (ref11 _ _ _ _ _ _ _ _ _ _), r2.trans (ref12 _ _ _ _ _ _ _ _ _ _), r3.trans (ref13 _ _ _ _ _ _ _ _ _ _), r4.trans (ref14 _ _ _ _ _ _ _ _ _ _), r5.trans (ref15 _ _ _ _ _ _ _ _ _ _), r6.trans (ref16 _ _ _ _ _ _ _ _ _ _), r7.trans (ref17 _ _ _ _ _ _ _ _ _ _), rest⟩

end Cert.Adam

end
-- ==== Proof.Loss.lean ====
/- The last layer's down projection with its layer norm and the loss: the residual sum, the loss's gradient and the loss, read as
   the same functions of the rows on both sides, and the claims made of them. -/
module

public import proofs.«01_k».proof.Defs
public import proofs.«01_k».proof.Proof.Gen.Kernel15.Frame
public import proofs.«01_k».proof.Proof.Gen.Kernel15Ideal.Value
public import proofs.«01_k».proof.Proof.Gen.Reference15Ideal.Read
public import proofs.«01_k».proof.Proof.DownLn
public import proofs.«01_k».proof.Proof.Acc
public import proofs.«01_k».proof.Proof.Ffn.Consts

@[expose] public section

set_option maxRecDepth 16384

noncomputable section

namespace Cert.Loss

open Idealize.ShloMosaic Idealize.ShloMosaic.TcCoe Idealize.SL.Sem

theorem ofBits_k : Ideal.ofBits .f32 0x44800000#32 = ((1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_inv : Ideal.ofBits .f32 0x3A800000#32 = ((1 / 1024 : ℝ) : EReal) := by
  simp [Ideal.ofBits, Ideal.ieee, -EReal.coe_mul]; norm_num

/-- Half of a sum is the sum of the halves. -/
theorem half_sum {n : ℕ} (f : Fin n → EReal) :
    Ideal.ofBits .f32 0x3F000000#32 * ∑ i, f i = ∑ i, Ideal.ofBits .f32 0x3F000000#32 * f i := by
  rw [Ffn.ofBits_half]
  exact map_sum (AddMonoidHom.mk ⟨fun x => ((1 / 2 : ℝ) : EReal) * x, mul_zero _⟩ fun a b =>
    EReal.left_distrib_of_nonneg_of_ne_top (EReal.coe_nonneg.mpr (by norm_num)) (EReal.coe_ne_top _) a b) f Finset.univ

/-- The chain of the loss's derivative is one factor. -/
theorem dy_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [Ffn.ofBits_half, ofBits_one, ofBits_k, ofBits_two, ofBits_inv, Ideal.div, if_neg (EReal.coe_ne_zero.mpr (by norm_num)), ← mul_assoc,
    mul_comm e, ← EReal.coe_inv, ← EReal.coe_mul, ← EReal.coe_mul, ← EReal.coe_mul]
  norm_num

/-- Half the mean of a row's squares. -/
def sq (e : Fin 1024 → EReal) : EReal :=
  Ideal.ofBits .f32 0x3F000000#32 * Ideal.div (∑ d : Fin 1024, e d * e d) (Ideal.ofBits .f32 0x44800000#32)

section Reference
open Cert.Reference15Ideal Cert.Reference15Ideal.Read

variable (x0 : FVec Ideal S4096x3072 .f32) (x1 : FVec Ideal S3072x1024 .f32) (x2 : FVec Ideal S4096x1024 .f32) (x3 x4 : FVec Ideal S1024 .f32)
  (x5 : FVec Ideal S4096x1024 .f32)

/-- The residual sum, -/
def rr : Fin 4096 → Fin 1024 → EReal := DownLn.res (fun r k => x0 (ix2 r k)) (fun k d => x1 (ix2 k d)) (fun r d => x2 (ix2 r d))
/-- and the difference of its layer norm from the target. -/
def er (r : Fin 4096) (d : Fin 1024) : EReal := DownLn.ln (rr x0 x1 x2 r) (fun d => x3 (ix1 d)) (fun d => x4 (ix1 d)) d - x5 (ix2 r d)

theorem v3_at (r : Fin 4096) (d : Fin 1024) : val_main_v3 (F := Ideal) x0 x1 x2 (ix2 r d) = rr x0 x1 x2 r d := DownLn.r_at x0 x1 x2 r d
theorem v28_at (r : Fin 4096) (d : Fin 1024) : val_main_v28 (F := Ideal) x0 x1 x2 x3 x4 x5 (ix2 r d) = er x0 x1 x2 x3 x4 x5 r d :=
  congrArg (· - x5 (ix2 r d)) (DownLn.h_at x0 x1 x2 x3 x4 r d)
theorem v42_at (r : Fin 4096) (d : Fin 1024) : val_main_v42 (F := Ideal) x0 x1 x2 x3 x4 x5 (ix2 r d)
    = er x0 x1 x2 x3 x4 x5 r d * Ideal.ofBits .f32 0x3A800000#32 := by
  refine Eq.trans ?_ (dy_eq _)
  rw [← v28_at]
  pointwise [val_main_v42, val_main_v41, val_main_v40, val_main_v39, val_main_v38, val_main_v37, val_main_v31, val_main_v30, val_main_cst_5, val_main_cst_10, val_main_cst_11, val_main_cst_12]
theorem v43_at (q : Fin 128) : val_main_v43 (F := Ideal) x0 x1 x2 x3 x4 x5 (ix2 0 q) = ∑ r : Fin 4096, sq (er x0 x1 x2 x3 x4 x5 r) := by
  refine Eq.trans ?_ (half_sum _)
  pointwise [val_main_v43, val_main_v36, val_main_v35, val_main_v34, val_main_v33, val_main_v32, val_main_v29, val_main_cst_6, val_main_cst_7, val_main_cst_8, val_main_cst_9]
  simp only [v28_at]

end Reference

section Kernel
open Cert.Kernel15Ideal Cert.Kernel15Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0]
    ∧ win0_8.index t = ![0, 0] ∧ t.val < 8 :=
  (by decide +kernel : ∀ t : Fin grid0.N, _)

/-- Row `p` of the point's rows. -/
def row (t : Fin cfg0.N) (p : Fin 512) : Fin 4096 := ⟨t.val * 512 + p.val, by have := (idx t).2.2.2.2.2.2.2.2.2; omega⟩

/-- The residual sum and the difference, of the kernel's arguments. -/
abbrev R := rr (m (c.tc.loc main_arg0)) (m (c.tc.loc main_arg1)) (m (c.tc.loc main_arg2))
abbrev E := er (m (c.tc.loc main_arg0)) (m (c.tc.loc main_arg1)) (m (c.tc.loc main_arg2)) (m (c.tc.loc main_arg3)) (m (c.tc.loc main_arg4)) (m (c.tc.loc main_arg5))

theorem b0_at (t : Fin cfg0.N) (p : Fin 512) (k : Fin 3072) : iblk (F := Ideal) m c 0 t (ix2 p k) = m (c.tc.loc main_arg0) (ix2 (row t p) k) := by
  trans V (F := Ideal) m c main_v0 (ix2 (row t p) k)
  · blk_ext [iblk, row, idx t]
  · entry_read
    rfl
theorem b1_at (t : Fin cfg0.N) (k : Fin 3072) (d : Fin 1024) : iblk (F := Ideal) m c 1 t (ix2 k d) = m (c.tc.loc main_arg1) (ix2 k d) := by
  trans V (F := Ideal) m c main_v1 (ix2 k d)
  · blk_ext [iblk, idx t]
  · entry_read
    rfl
theorem b2_at (t : Fin cfg0.N) (p : Fin 512) (d : Fin 1024) : iblk (F := Ideal) m c 2 t (ix2 p d) = m (c.tc.loc main_arg2) (ix2 (row t p) d) := by
  trans V (F := Ideal) m c main_arg2 (ix2 (row t p) d)
  · blk_ext [iblk, row, idx t]
  · entry_read
    rfl
theorem b3_at (t : Fin cfg0.N) (d : Fin 1024) : iblk (F := Ideal) m c 3 t (ix2 0 d) = m (c.tc.loc main_arg3) (ix1 d) := by
  trans V (F := Ideal) m c main_v2 (ix2 0 d)
  · blk_ext [iblk, idx t]
  · refine Eq.trans ?_ (DownLn.asRow_at (m (c.tc.loc main_arg3)) d)
    entry_read
    rfl
theorem b4_at (t : Fin cfg0.N) (d : Fin 1024) : iblk (F := Ideal) m c 4 t (ix2 0 d) = m (c.tc.loc main_arg4) (ix1 d) := by
  trans V (F := Ideal) m c main_v3 (ix2 0 d)
  · blk_ext [iblk, idx t]
  · refine Eq.trans ?_ (DownLn.asRow_at (m (c.tc.loc main_arg4)) d)
    entry_read
    rfl
theorem b5_at (t : Fin cfg0.N) (p : Fin 512) (d : Fin 1024) : iblk (F := Ideal) m c 5 t (ix2 p d) = m (c.tc.loc main_arg5) (ix2 (row t p) d) := by
  trans V (F := Ideal) m c main_arg5 (ix2 (row t p) d)
  · blk_ext [iblk, row, idx t]
  · entry_read
    rfl

/-- The residual sum and its layer norm at a point. -/
abbrev rK (t : Fin cfg0.N) := k0_pay4 (F := Ideal) (iblk m c 2 t) (iblk m c 0 t) (iblk m c 1 t)
abbrev hK (t : Fin cfg0.N) := k0_pay5 (F := Ideal) (iblk m c 2 t) (iblk m c 0 t) (iblk m c 1 t) (iblk m c 3 t) (iblk m c 4 t)

theorem r_pt (t : Fin cfg0.N) (p : Fin 512) (d : Fin 1024) : rK m c t (ix2 p d) = R m c (row t p) d := by
  refine (DownLn.pay1_at _ _ _ p d).trans (congrArg₂ (· + ·) (congrArg (_ * ·) (b2_at m c t p d)) (Finset.sum_congr rfl fun k _ => ?_))
  rw [b0_at, b1_at]
theorem e_pt (t : Fin cfg0.N) (p : Fin 512) (d : Fin 1024) : hK m c t (ix2 p d) - iblk (F := Ideal) m c 5 t (ix2 p d) = E m c (row t p) d := by
  rw [b5_at, show hK m c t (ix2 p d) = DownLn.ln (fun d => rK m c t (ix2 p d)) (fun d => iblk (F := Ideal) m c 3 t (ix2 0 d))
    (fun d => iblk (F := Ideal) m c 4 t (ix2 0 d)) d from DownLn.pay2_at _ _ _ _ _ p d]
  simp only [r_pt, b3_at, b4_at]
  rfl
theorem pay2_at (t : Fin cfg0.N) (p : Fin 512) (d : Fin 1024) :
    k0_pay2 (F := Ideal) (hK m c t) (iblk m c 5 t) (ix2 p d) = E m c (row t p) d * Ideal.ofBits .f32 0x3A800000#32 := by
  rw [← e_pt]
  pointwise [k0_pay2, k0_pay1]
theorem pay3_at (t : Fin cfg0.N) (a : FVec Ideal S1x128 .f32) (q : Fin 128) :
    k0_pay3 (F := Ideal) (hK m c t) (iblk m c 5 t) a (ix2 0 q) = a (ix2 0 q) + ∑ p : Fin 512, sq (E m c (row t p)) := by
  refine Eq.trans ?_ (congrArg (a (ix2 0 q) + ·) (half_sum _))
  have e (p : Fin 512) : E m c (row t p) = fun d => hK m c t (ix2 p d) - iblk (F := Ideal) m c 5 t (ix2 p d) := funext fun d => (e_pt m c t p d).symm
  simp only [e]
  pointwise [k0_pay3, k0_pay1]

theorem o6 (t : Fin cfg0.N) : (outsAt0 (F := Ideal) m c t.val t.isLt).1 = rK m c t := by
  by_cases h0 : t.val % 8 = 0
  · rw [outsAt0_A m c t h0]
    frame_out
  · rw [outsAt0_B m c t h0]
    frame_out
theorem o7 (t : Fin cfg0.N) : (outsAt0 (F := Ideal) m c t.val t.isLt).2.1 = k0_pay2 (F := Ideal) (hK m c t) (iblk m c 5 t) := by
  by_cases h0 : t.val % 8 = 0
  · rw [outsAt0_A m c t h0]
    frame_out
  · rw [outsAt0_B m c t h0]
    frame_out
theorem o8A (t : Fin cfg0.N) (h0 : t.val % 8 = 0) : (outsAt0 (F := Ideal) m c t.val t.isLt).2.2
    = k0_pay3 (F := Ideal) (hK m c t) (iblk m c 5 t) (k0_pay6 (F := Ideal)) := by
  rw [outsAt0_A m c t h0]
  frame_out
theorem o8B (t : Fin cfg0.N) (h0 : ¬ t.val % 8 = 0) : (outsAt0 (F := Ideal) m c t.val t.isLt).2.2
    = k0_pay3 (F := Ideal) (hK m c t) (iblk m c 5 t) (outsAt0 m c (t.val - 1) (Nat.lt_of_le_of_lt (Nat.sub_le _ _) t.isLt)).2.2 := by
  rw [outsAt0_B m c t h0]
  frame_out
theorem o8 (t : Fin cfg0.N) (h : t.val = 7) (q : Fin 128) : (outsAt0 (F := Ideal) m c t.val t.isLt).2.2 (ix2 0 q) = ∑ r : Fin 4096, sq (E m c r) := by
  obtain ⟨n, hn⟩ := t
  obtain rfl : n = 7 := h
  refine Acc.rows (fun n hn => (outsAt0 (F := Ideal) m c n hn).2.2 (ix2 0 q)) (fun r => sq (E m c r)) (fun h => ?_) (fun n h => ?_) hn
  · refine (congrFun (o8A m c ⟨0, h⟩ rfl) (ix2 0 q)).trans ((pay3_at m c ⟨0, h⟩ _ q).trans ?_)
    rw [show k0_pay6 (F := Ideal) (ix2 0 q) = 0 by pointwise [k0_pay6], zero_add]
    rfl
  · exact (congrFun (o8B m c ⟨n + 1, h⟩ (by dsimp only; omega)) (ix2 0 q)).trans (pay3_at m c ⟨n + 1, h⟩ _ q)

/-- The arrays after the run. -/
def w6 : S4096x1024.Idx → EReal := fun i => R m c ⟨(i 0).val, (i 0).isLt⟩ ⟨(i 1).val, (i 1).isLt⟩
def w7 : S4096x1024.Idx → EReal := fun i => E m c ⟨(i 0).val, (i 0).isLt⟩ ⟨(i 1).val, (i 1).isLt⟩ * Ideal.ofBits .f32 0x3A800000#32
def w8 : S1x128.Idx → EReal := fun _ => ∑ r : Fin 4096, sq (E m c r)

theorem arr6 : (dats m 0 c).arrAt 6 cfg0.N = w6 m c := by
  refine (dats m 0 c).arrAt_eq_of_covers 6 (w6 m c) (by decide +kernel) fun t hf y => ?_
  blk_simp
  rw [after0_6, o6]
  idx_vars y
  refine (r_pt m c t y0 y1).trans ?_
  refine (show _ = w6 m c (ix2 (row t y0) y1) from rfl).trans (congrArg (w6 m c) ?_)
  blk_ext [row, idx t]
theorem arr7 : (dats m 0 c).arrAt 7 cfg0.N = w7 m c := by
  refine (dats m 0 c).arrAt_eq_of_covers 7 (w7 m c) (by decide +kernel) fun t hf y => ?_
  blk_simp
  rw [after0_7, o7]
  idx_vars y
  refine (pay2_at m c t y0 y1).trans ?_
  refine (show _ = w7 m c (ix2 (row t y0) y1) from rfl).trans (congrArg (w7 m c) ?_)
  blk_ext [row, idx t]
theorem arr8 : (dats m 0 c).arrAt 8 cfg0.N = w8 m c := by
  refine (dats m 0 c).arrAt_eq_of_covers 8 (w8 m c) (by decide +kernel) fun t hf y => ?_
  blk_simp
  rw [after0_8]
  idx_vars y
  obtain rfl : y0 = 0 := Subsingleton.elim _ _
  have h8 := (idx t).2.2.2.2.2.2.2.2.2
  have h7 := (flush0_8 t).mp hf
  exact o8 m c t (by omega) y1

end Kernel

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨fun c => w6 m c, fun c => w7 m c, fun c => w8 m c, (θ_run Cert.Kernel15Ideal.defs _ _).mono
    (fun _ h c => ⟨(h c).1.trans (arr6 m c), (h c).2.1.trans (arr7 m c), (h c).2.2.1.trans (arr8 m c), (h c).2.2.2⟩)
    (Cert.Kernel15Ideal.Value.run_blocks (F := Ideal) m ρ), ?_⟩
  refine (θ_run Cert.Reference15Ideal.defs _ _).mono (fun _ h c => ?_) (Cert.Reference15Ideal.Value.run (F := Ideal) m' ρ')
  obtain ⟨e0, e1, e2, e3, e4, e5⟩ := hagree c
  refine ⟨(h c).1.trans ((Cert.Reference15Ideal.Read.val_main_v3_eq _ _ _).trans ?_),
    (h c).2.1.trans ((Cert.Reference15Ideal.Read.val_main_v42_eq _ _ _ _ _ _).trans ?_),
    (h c).2.2.1.trans ((Cert.Reference15Ideal.Read.val_main_v43_eq _ _).trans ?_), (h c).2.2.2⟩ <;> funext i <;> idx_vars i
  · rw [e0, e1, e2]
    exact v3_at _ _ _ i0 i1
  · rw [e0, e1, e2, e3, e4, e5]
    exact v42_at _ _ _ _ _ _ i0 i1
  · obtain rfl : i0 = 0 := Subsingleton.elim _ _
    rw [e0, e1, e2, e3, e4, e5]
    exact v43_at _ _ _ _ _ _ i1

end Cert.Loss

end
-- ==== Proof.lean ====
module

public import proofs.«01_k».proof.Defs
public import proofs.«01_k».proof.Proof.Ffn.Claims
public import proofs.«01_k».proof.Proof.UpDw
public import proofs.«01_k».proof.Proof.DownDw
public import proofs.«01_k».proof.Proof.DownLn
public import proofs.«01_k».proof.Proof.InDx
public import proofs.«01_k».proof.Proof.UpAct.Claims
public import proofs.«01_k».proof.Proof.InDw
public import proofs.«01_k».proof.Proof.OutDw
public import proofs.«01_k».proof.Proof.LnBwd
public import proofs.«01_k».proof.Proof.S5Out
public import proofs.«01_k».proof.Proof.MixBwd
public import proofs.«01_k».proof.Proof.ProjRope
public import proofs.«01_k».proof.Proof.S5Fwd
public import proofs.«01_k».proof.Proof.Adam
public import proofs.«01_k».proof.Proof.Loss
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.Gen.facts, Cert.Pre_finite9.Gen.facts, Cert.Pre_finite10.Gen.facts, Cert.Pre_finite11.Gen.facts,
    Cert.Ffn.frame_p, Cert.Ffn.frame_pi, Cert.Ffn.frame_pif, Cert.Ffn.frame_ri, Cert.Ffn.frame_rif,
    Cert.UpDw.frame_p, Cert.UpDw.frame_pi, Cert.UpDw.frame_ri,
    Cert.DownDw.frame_p, Cert.DownDw.frame_pi, Cert.DownDw.frame_ri,
    Cert.DownLn.frame_p, Cert.DownLn.frame_pi, Cert.DownLn.frame_ri,
    Cert.InDx.frame_p, Cert.InDx.frame_pi, Cert.InDx.frame_ri,
    Cert.UpAct.frame_p, Cert.UpAct.frame_pi, Cert.UpAct.frame_ri,
    Cert.InDw.frame_p, Cert.InDw.frame_pi, Cert.InDw.frame_ri,
    Cert.OutDw.frame_p, Cert.OutDw.frame_pi, Cert.OutDw.frame_ri,
    Cert.LnBwd.frame_p, Cert.LnBwd.frame_pi, Cert.LnBwd.frame_pif, Cert.LnBwd.frame_ri, Cert.LnBwd.frame_rif,
    Cert.S5Out.frame_p, Cert.S5Out.frame_pi, Cert.S5Out.frame_pif, Cert.S5Out.frame_ri, Cert.S5Out.frame_rif,
    Cert.MixBwd.frame_p, Cert.MixBwd.frame_pi, Cert.MixBwd.frame_pif, Cert.MixBwd.frame_ri, Cert.MixBwd.frame_rif,
    Cert.ProjRope.frame_p, Cert.ProjRope.frame_pi, Cert.ProjRope.frame_ri,
    Cert.S5Fwd.frame_p, Cert.S5Fwd.frame_pi, Cert.S5Fwd.frame_ri,
    Cert.Adam.frame_p, Cert.Adam.frame_pi, Cert.Adam.frame_ri,
    Cert.Loss.frame_p, Cert.Loss.frame_pi, Cert.Loss.frame_ri,
    Cert.Ffn.preserves, Cert.Ffn.algebraic,
    trivial, Cert.UpDw.algebraic,
    trivial, Cert.DownDw.algebraic,
    trivial, Cert.DownLn.algebraic,
    trivial, Cert.InDx.algebraic,
    Cert.UpAct.preserves, Cert.UpAct.algebraic,
    trivial, Cert.InDw.algebraic,
    trivial, Cert.OutDw.algebraic,
    trivial, Cert.LnBwd.algebraic,
    Cert.S5Out.preserves, Cert.S5Out.algebraic,
    trivial, Cert.MixBwd.algebraic,
    trivial, Cert.ProjRope.algebraic,
    Cert.S5Fwd.preserves, Cert.S5Fwd.algebraic,
    trivial, Cert.Adam.algebraic,
    trivial, Cert.Loss.algebraic⟩

end Cert.Proof

end
